-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackReferenceIdeal (m : (ℓ : Loc Cert.BackReferenceIdeal.nD Cert.BackReferenceIdeal.τ Cert.BackReferenceIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontIdeal_finite_front [hPre_finite_front : Cert.Pre_finite_front.Facts] (m : (ℓ : Loc Cert.FrontIdeal.nD Cert.FrontIdeal.τ Cert.FrontIdeal.sig) → Buf (Elt Ideal) ℓ) : Prop :=
  ∀ c : Dev Cert.FrontIdeal.nD,
    (Cert.Pre_finite_front.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6))).1 = (fun _ => 1#1)
    ∧ (Cert.Pre_finite_front.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6))).2.1 = (fun _ => 1#1)
    ∧ (Cert.Pre_finite_front.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6))).2.2.1 = (fun _ => 1#1)
    ∧ (Cert.Pre_finite_front.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6))).2.2.2.1 = (fun _ => 1#1)
    ∧ (Cert.Pre_finite_front.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6))).2.2.2.2.1 = (fun _ => 1#1)
    ∧ (Cert.Pre_finite_front.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6))).2.2.2.2.2 = (fun _ => 1#1)

def Pre_FrontReferenceIdeal (m : (ℓ : Loc Cert.FrontReferenceIdeal.nD Cert.FrontReferenceIdeal.τ Cert.FrontReferenceIdeal.sig) → Buf (Elt Ideal) ℓ) : Prop :=
  True

def Pre_FrontReferenceIdeal_finite_front [hPre_finite_front : Cert.Pre_finite_front.Facts] (m : (ℓ : Loc Cert.FrontReferenceIdeal.nD Cert.FrontReferenceIdeal.τ Cert.FrontReferenceIdeal.sig) → Buf (Elt Ideal) ℓ) : Prop :=
  ∀ c : Dev Cert.FrontReferenceIdeal.nD,
    (Cert.Pre_finite_front.fn (F := Ideal) (m ((c.tc : Thread Cert.FrontReferenceIdeal.nD Cert.FrontReferenceIdeal.τ).loc Cert.FrontReferenceIdeal.main_arg0)) (m ((c.tc : Thread Cert.FrontReferenceIdeal.nD Cert.FrontReferenceIdeal.τ).loc Cert.FrontReferenceIdeal.main_arg1)) (m ((c.tc : Thread Cert.FrontReferenceIdeal.nD Cert.FrontReferenceIdeal.τ).loc Cert.FrontReferenceIdeal.main_arg2)) (m ((c.tc : Thread Cert.FrontReferenceIdeal.nD Cert.FrontReferenceIdeal.τ).loc Cert.FrontReferenceIdeal.main_arg3)) (m ((c.tc : Thread Cert.FrontReferenceIdeal.nD Cert.FrontReferenceIdeal.τ).loc Cert.FrontReferenceIdeal.main_arg4)) (m ((c.tc : Thread Cert.FrontReferenceIdeal.nD Cert.FrontReferenceIdeal.τ).loc Cert.FrontReferenceIdeal.main_arg5)) (m ((c.tc : Thread Cert.FrontReferenceIdeal.nD Cert.FrontReferenceIdeal.τ).loc Cert.FrontReferenceIdeal.main_arg6))).1 = (fun _ => 1#1)
    ∧ (Cert.Pre_finite_front.fn (F := Ideal) (m ((c.tc : Thread Cert.FrontReferenceIdeal.nD Cert.FrontReferenceIdeal.τ).loc Cert.FrontReferenceIdeal.main_arg0)) (m ((c.tc : Thread Cert.FrontReferenceIdeal.nD Cert.FrontReferenceIdeal.τ).loc Cert.FrontReferenceIdeal.main_arg1)) (m ((c.tc : Thread Cert.FrontReferenceIdeal.nD Cert.FrontReferenceIdeal.τ).loc Cert.FrontReferenceIdeal.main_arg2)) (m ((c.tc : Thread Cert.FrontReferenceIdeal.nD Cert.FrontReferenceIdeal.τ).loc Cert.FrontReferenceIdeal.main_arg3)) (m ((c.tc : Thread Cert.FrontReferenceIdeal.nD Cert.FrontReferenceIdeal.τ).loc Cert.FrontReferenceIdeal.main_arg4)) (m ((c.tc : Thread Cert.FrontReferenceIdeal.nD Cert.FrontReferenceIdeal.τ).loc Cert.FrontReferenceIdeal.main_arg5)) (m ((c.tc : Thread Cert.FrontReferenceIdeal.nD Cert.FrontReferenceIdeal.τ).loc Cert.FrontReferenceIdeal.main_arg6))).2.1 = (fun _ => 1#1)
    ∧ (Cert.Pre_finite_front.fn (F := Ideal) (m ((c.tc : Thread Cert.FrontReferenceIdeal.nD Cert.FrontReferenceIdeal.τ).loc Cert.FrontReferenceIdeal.main_arg0)) (m ((c.tc : Thread Cert.FrontReferenceIdeal.nD Cert.FrontReferenceIdeal.τ).loc Cert.FrontReferenceIdeal.main_arg1)) (m ((c.tc : Thread Cert.FrontReferenceIdeal.nD Cert.FrontReferenceIdeal.τ).loc Cert.FrontReferenceIdeal.main_arg2)) (m ((c.tc : Thread Cert.FrontReferenceIdeal.nD Cert.FrontReferenceIdeal.τ).loc Cert.FrontReferenceIdeal.main_arg3)) (m ((c.tc : Thread Cert.FrontReferenceIdeal.nD Cert.FrontReferenceIdeal.τ).loc Cert.FrontReferenceIdeal.main_arg4)) (m ((c.tc : Thread Cert.FrontReferenceIdeal.nD Cert.FrontReferenceIdeal.τ).loc Cert.FrontReferenceIdeal.main_arg5)) (m ((c.tc : Thread Cert.FrontReferenceIdeal.nD Cert.FrontReferenceIdeal.τ).loc Cert.FrontReferenceIdeal.main_arg6))).2.2.1 = (fun _ => 1#1)
    ∧ (Cert.Pre_finite_front.fn (F := Ideal) (m ((c.tc : Thread Cert.FrontReferenceIdeal.nD Cert.FrontReferenceIdeal.τ).loc Cert.FrontReferenceIdeal.main_arg0)) (m ((c.tc : Thread Cert.FrontReferenceIdeal.nD Cert.FrontReferenceIdeal.τ).loc Cert.FrontReferenceIdeal.main_arg1)) (m ((c.tc : Thread Cert.FrontReferenceIdeal.nD Cert.FrontReferenceIdeal.τ).loc Cert.FrontReferenceIdeal.main_arg2)) (m ((c.tc : Thread Cert.FrontReferenceIdeal.nD Cert.FrontReferenceIdeal.τ).loc Cert.FrontReferenceIdeal.main_arg3)) (m ((c.tc : Thread Cert.FrontReferenceIdeal.nD Cert.FrontReferenceIdeal.τ).loc Cert.FrontReferenceIdeal.main_arg4)) (m ((c.tc : Thread Cert.FrontReferenceIdeal.nD Cert.FrontReferenceIdeal.τ).loc Cert.FrontReferenceIdeal.main_arg5)) (m ((c.tc : Thread Cert.FrontReferenceIdeal.nD Cert.FrontReferenceIdeal.τ).loc Cert.FrontReferenceIdeal.main_arg6))).2.2.2.1 = (fun _ => 1#1)
    ∧ (Cert.Pre_finite_front.fn (F := Ideal) (m ((c.tc : Thread Cert.FrontReferenceIdeal.nD Cert.FrontReferenceIdeal.τ).loc Cert.FrontReferenceIdeal.main_arg0)) (m ((c.tc : Thread Cert.FrontReferenceIdeal.nD Cert.FrontReferenceIdeal.τ).loc Cert.FrontReferenceIdeal.main_arg1)) (m ((c.tc : Thread Cert.FrontReferenceIdeal.nD Cert.FrontReferenceIdeal.τ).loc Cert.FrontReferenceIdeal.main_arg2)) (m ((c.tc : Thread Cert.FrontReferenceIdeal.nD Cert.FrontReferenceIdeal.τ).loc Cert.FrontReferenceIdeal.main_arg3)) (m ((c.tc : Thread Cert.FrontReferenceIdeal.nD Cert.FrontReferenceIdeal.τ).loc Cert.FrontReferenceIdeal.main_arg4)) (m ((c.tc : Thread Cert.FrontReferenceIdeal.nD Cert.FrontReferenceIdeal.τ).loc Cert.FrontReferenceIdeal.main_arg5)) (m ((c.tc : Thread Cert.FrontReferenceIdeal.nD Cert.FrontReferenceIdeal.τ).loc Cert.FrontReferenceIdeal.main_arg6))).2.2.2.2.1 = (fun _ => 1#1)
    ∧ (Cert.Pre_finite_front.fn (F := Ideal) (m ((c.tc : Thread Cert.FrontReferenceIdeal.nD Cert.FrontReferenceIdeal.τ).loc Cert.FrontReferenceIdeal.main_arg0)) (m ((c.tc : Thread Cert.FrontReferenceIdeal.nD Cert.FrontReferenceIdeal.τ).loc Cert.FrontReferenceIdeal.main_arg1)) (m ((c.tc : Thread Cert.FrontReferenceIdeal.nD Cert.FrontReferenceIdeal.τ).loc Cert.FrontReferenceIdeal.main_arg2)) (m ((c.tc : Thread Cert.FrontReferenceIdeal.nD Cert.FrontReferenceIdeal.τ).loc Cert.FrontReferenceIdeal.main_arg3)) (m ((c.tc : Thread Cert.FrontReferenceIdeal.nD Cert.FrontReferenceIdeal.τ).loc Cert.FrontReferenceIdeal.main_arg4)) (m ((c.tc : Thread Cert.FrontReferenceIdeal.nD Cert.FrontReferenceIdeal.τ).loc Cert.FrontReferenceIdeal.main_arg5)) (m ((c.tc : Thread Cert.FrontReferenceIdeal.nD Cert.FrontReferenceIdeal.τ).loc Cert.FrontReferenceIdeal.main_arg6))).2.2.2.2.2 = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4)
      ∧ r.2.mem ((c.tc : Thread Cert.Back.nD Cert.Back.τ).loc Cert.Back.main_arg5) = m ((c.tc : Thread Cert.Back.nD Cert.Back.τ).loc Cert.Back.main_arg5)
      ∧ r.2.mem ((c.tc : Thread Cert.Back.nD Cert.Back.τ).loc Cert.Back.main_arg6) = m ((c.tc : Thread Cert.Back.nD Cert.Back.τ).loc Cert.Back.main_arg6)
      ∧ r.2.mem ((c.tc : Thread Cert.Back.nD Cert.Back.τ).loc Cert.Back.main_arg7) = m ((c.tc : Thread Cert.Back.nD Cert.Back.τ).loc Cert.Back.main_arg7)
      ∧ r.2.mem ((c.tc : Thread Cert.Back.nD Cert.Back.τ).loc Cert.Back.main_arg8) = m ((c.tc : Thread Cert.Back.nD Cert.Back.τ).loc Cert.Back.main_arg8)
      ∧ r.2.mem ((c.tc : Thread Cert.Back.nD Cert.Back.τ).loc Cert.Back.main_arg9) = m ((c.tc : Thread Cert.Back.nD Cert.Back.τ).loc Cert.Back.main_arg9)
      ∧ r.2.mem ((c.tc : Thread Cert.Back.nD Cert.Back.τ).loc Cert.Back.main_arg10) = m ((c.tc : Thread Cert.Back.nD Cert.Back.τ).loc Cert.Back.main_arg10)
      ∧ r.2.mem ((c.tc : Thread Cert.Back.nD Cert.Back.τ).loc Cert.Back.main_arg11) = m ((c.tc : Thread Cert.Back.nD Cert.Back.τ).loc Cert.Back.main_arg11))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
      ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
      ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
      ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
      ∧ r.2.mem ((c.tc : Thread Cert.BackIdeal.nD Cert.BackIdeal.τ).loc Cert.BackIdeal.main_arg10) = m ((c.tc : Thread Cert.BackIdeal.nD Cert.BackIdeal.τ).loc Cert.BackIdeal.main_arg10)
      ∧ r.2.mem ((c.tc : Thread Cert.BackIdeal.nD Cert.BackIdeal.τ).loc Cert.BackIdeal.main_arg11) = m ((c.tc : Thread Cert.BackIdeal.nD Cert.BackIdeal.τ).loc Cert.BackIdeal.main_arg11))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1)
      ∧ r.2.mem ((c.tc : Thread Cert.BackReferenceIdeal.nD Cert.BackReferenceIdeal.τ).loc Cert.BackReferenceIdeal.main_arg2) = m ((c.tc : Thread Cert.BackReferenceIdeal.nD Cert.BackReferenceIdeal.τ).loc Cert.BackReferenceIdeal.main_arg2)
      ∧ r.2.mem ((c.tc : Thread Cert.BackReferenceIdeal.nD Cert.BackReferenceIdeal.τ).loc Cert.BackReferenceIdeal.main_arg3) = m ((c.tc : Thread Cert.BackReferenceIdeal.nD Cert.BackReferenceIdeal.τ).loc Cert.BackReferenceIdeal.main_arg3)
      ∧ r.2.mem ((c.tc : Thread Cert.BackReferenceIdeal.nD Cert.BackReferenceIdeal.τ).loc Cert.BackReferenceIdeal.main_arg4) = m ((c.tc : Thread Cert.BackReferenceIdeal.nD Cert.BackReferenceIdeal.τ).loc Cert.BackReferenceIdeal.main_arg4)
      ∧ r.2.mem ((c.tc : Thread Cert.BackReferenceIdeal.nD Cert.BackReferenceIdeal.τ).loc Cert.BackReferenceIdeal.main_arg5) = m ((c.tc : Thread Cert.BackReferenceIdeal.nD Cert.BackReferenceIdeal.τ).loc Cert.BackReferenceIdeal.main_arg5)
      ∧ r.2.mem ((c.tc : Thread Cert.BackReferenceIdeal.nD Cert.BackReferenceIdeal.τ).loc Cert.BackReferenceIdeal.main_arg6) = m ((c.tc : Thread Cert.BackReferenceIdeal.nD Cert.BackReferenceIdeal.τ).loc Cert.BackReferenceIdeal.main_arg6)
      ∧ r.2.mem ((c.tc : Thread Cert.BackReferenceIdeal.nD Cert.BackReferenceIdeal.τ).loc Cert.BackReferenceIdeal.main_arg7) = m ((c.tc : Thread Cert.BackReferenceIdeal.nD Cert.BackReferenceIdeal.τ).loc Cert.BackReferenceIdeal.main_arg7)
      ∧ r.2.mem ((c.tc : Thread Cert.BackReferenceIdeal.nD Cert.BackReferenceIdeal.τ).loc Cert.BackReferenceIdeal.main_arg8) = m ((c.tc : Thread Cert.BackReferenceIdeal.nD Cert.BackReferenceIdeal.τ).loc Cert.BackReferenceIdeal.main_arg8)
      ∧ r.2.mem ((c.tc : Thread Cert.BackReferenceIdeal.nD Cert.BackReferenceIdeal.τ).loc Cert.BackReferenceIdeal.main_arg9) = m ((c.tc : Thread Cert.BackReferenceIdeal.nD Cert.BackReferenceIdeal.τ).loc Cert.BackReferenceIdeal.main_arg9)
      ∧ r.2.mem ((c.tc : Thread Cert.BackReferenceIdeal.nD Cert.BackReferenceIdeal.τ).loc Cert.BackReferenceIdeal.main_arg10) = m ((c.tc : Thread Cert.BackReferenceIdeal.nD Cert.BackReferenceIdeal.τ).loc Cert.BackReferenceIdeal.main_arg10)
      ∧ r.2.mem ((c.tc : Thread Cert.BackReferenceIdeal.nD Cert.BackReferenceIdeal.τ).loc Cert.BackReferenceIdeal.main_arg11) = m ((c.tc : Thread Cert.BackReferenceIdeal.nD Cert.BackReferenceIdeal.τ).loc Cert.BackReferenceIdeal.main_arg11))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6))
      ∧ r.2.sem = fun _ => 0)

def quiescent_FrontIdeal_pre_finite_front [hFrontIdeal : Cert.FrontIdeal.Facts] [hPre_finite_front : Cert.Pre_finite_front.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal_finite_front m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6))
      ∧ r.2.sem = fun _ => 0)

def quiescent_FrontReferenceIdeal [hFrontReferenceIdeal : Cert.FrontReferenceIdeal.Facts] : Prop :=
  ∀ (m : (ℓ : Loc Cert.FrontReferenceIdeal.nD Cert.FrontReferenceIdeal.τ Cert.FrontReferenceIdeal.sig) → Buf (Elt Ideal) ℓ) (g : Dev Cert.FrontReferenceIdeal.nD → PrngReg), Pre_FrontReferenceIdeal m →
    θ_run (Cert.FrontReferenceIdeal.defs (F := Ideal)) (onTc (τ := Cert.FrontReferenceIdeal.τ) (Cert.FrontReferenceIdeal.main (F := Ideal))) ⟨m, fun _ => 0, g⟩ (fun r => (∀ c : Dev Cert.FrontReferenceIdeal.nD,
      r.2.mem ((c.tc : Thread Cert.FrontReferenceIdeal.nD Cert.FrontReferenceIdeal.τ).loc Cert.FrontReferenceIdeal.main_arg0) = m ((c.tc : Thread Cert.FrontReferenceIdeal.nD Cert.FrontReferenceIdeal.τ).loc Cert.FrontReferenceIdeal.main_arg0)
      ∧ r.2.mem ((c.tc : Thread Cert.FrontReferenceIdeal.nD Cert.FrontReferenceIdeal.τ).loc Cert.FrontReferenceIdeal.main_arg1) = m ((c.tc : Thread Cert.FrontReferenceIdeal.nD Cert.FrontReferenceIdeal.τ).loc Cert.FrontReferenceIdeal.main_arg1)
      ∧ r.2.mem ((c.tc : Thread Cert.FrontReferenceIdeal.nD Cert.FrontReferenceIdeal.τ).loc Cert.FrontReferenceIdeal.main_arg2) = m ((c.tc : Thread Cert.FrontReferenceIdeal.nD Cert.FrontReferenceIdeal.τ).loc Cert.FrontReferenceIdeal.main_arg2)
      ∧ r.2.mem ((c.tc : Thread Cert.FrontReferenceIdeal.nD Cert.FrontReferenceIdeal.τ).loc Cert.FrontReferenceIdeal.main_arg3) = m ((c.tc : Thread Cert.FrontReferenceIdeal.nD Cert.FrontReferenceIdeal.τ).loc Cert.FrontReferenceIdeal.main_arg3)
      ∧ r.2.mem ((c.tc : Thread Cert.FrontReferenceIdeal.nD Cert.FrontReferenceIdeal.τ).loc Cert.FrontReferenceIdeal.main_arg4) = m ((c.tc : Thread Cert.FrontReferenceIdeal.nD Cert.FrontReferenceIdeal.τ).loc Cert.FrontReferenceIdeal.main_arg4)
      ∧ r.2.mem ((c.tc : Thread Cert.FrontReferenceIdeal.nD Cert.FrontReferenceIdeal.τ).loc Cert.FrontReferenceIdeal.main_arg5) = m ((c.tc : Thread Cert.FrontReferenceIdeal.nD Cert.FrontReferenceIdeal.τ).loc Cert.FrontReferenceIdeal.main_arg5)
      ∧ r.2.mem ((c.tc : Thread Cert.FrontReferenceIdeal.nD Cert.FrontReferenceIdeal.τ).loc Cert.FrontReferenceIdeal.main_arg6) = m ((c.tc : Thread Cert.FrontReferenceIdeal.nD Cert.FrontReferenceIdeal.τ).loc Cert.FrontReferenceIdeal.main_arg6))
      ∧ r.2.sem = fun _ => 0)

def quiescent_FrontReferenceIdeal_pre_finite_front [hFrontReferenceIdeal : Cert.FrontReferenceIdeal.Facts] [hPre_finite_front : Cert.Pre_finite_front.Facts] : Prop :=
  ∀ (m : (ℓ : Loc Cert.FrontReferenceIdeal.nD Cert.FrontReferenceIdeal.τ Cert.FrontReferenceIdeal.sig) → Buf (Elt Ideal) ℓ) (g : Dev Cert.FrontReferenceIdeal.nD → PrngReg), Pre_FrontReferenceIdeal_finite_front m →
    θ_run (Cert.FrontReferenceIdeal.defs (F := Ideal)) (onTc (τ := Cert.FrontReferenceIdeal.τ) (Cert.FrontReferenceIdeal.main (F := Ideal))) ⟨m, fun _ => 0, g⟩ (fun r => (∀ c : Dev Cert.FrontReferenceIdeal.nD,
      r.2.mem ((c.tc : Thread Cert.FrontReferenceIdeal.nD Cert.FrontReferenceIdeal.τ).loc Cert.FrontReferenceIdeal.main_arg0) = m ((c.tc : Thread Cert.FrontReferenceIdeal.nD Cert.FrontReferenceIdeal.τ).loc Cert.FrontReferenceIdeal.main_arg0)
      ∧ r.2.mem ((c.tc : Thread Cert.FrontReferenceIdeal.nD Cert.FrontReferenceIdeal.τ).loc Cert.FrontReferenceIdeal.main_arg1) = m ((c.tc : Thread Cert.FrontReferenceIdeal.nD Cert.FrontReferenceIdeal.τ).loc Cert.FrontReferenceIdeal.main_arg1)
      ∧ r.2.mem ((c.tc : Thread Cert.FrontReferenceIdeal.nD Cert.FrontReferenceIdeal.τ).loc Cert.FrontReferenceIdeal.main_arg2) = m ((c.tc : Thread Cert.FrontReferenceIdeal.nD Cert.FrontReferenceIdeal.τ).loc Cert.FrontReferenceIdeal.main_arg2)
      ∧ r.2.mem ((c.tc : Thread Cert.FrontReferenceIdeal.nD Cert.FrontReferenceIdeal.τ).loc Cert.FrontReferenceIdeal.main_arg3) = m ((c.tc : Thread Cert.FrontReferenceIdeal.nD Cert.FrontReferenceIdeal.τ).loc Cert.FrontReferenceIdeal.main_arg3)
      ∧ r.2.mem ((c.tc : Thread Cert.FrontReferenceIdeal.nD Cert.FrontReferenceIdeal.τ).loc Cert.FrontReferenceIdeal.main_arg4) = m ((c.tc : Thread Cert.FrontReferenceIdeal.nD Cert.FrontReferenceIdeal.τ).loc Cert.FrontReferenceIdeal.main_arg4)
      ∧ r.2.mem ((c.tc : Thread Cert.FrontReferenceIdeal.nD Cert.FrontReferenceIdeal.τ).loc Cert.FrontReferenceIdeal.main_arg5) = m ((c.tc : Thread Cert.FrontReferenceIdeal.nD Cert.FrontReferenceIdeal.τ).loc Cert.FrontReferenceIdeal.main_arg5)
      ∧ r.2.mem ((c.tc : Thread Cert.FrontReferenceIdeal.nD Cert.FrontReferenceIdeal.τ).loc Cert.FrontReferenceIdeal.main_arg6) = m ((c.tc : Thread Cert.FrontReferenceIdeal.nD Cert.FrontReferenceIdeal.τ).loc Cert.FrontReferenceIdeal.main_arg6))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2)
      ∧ r.2.mem ((c.tc : Thread Cert.ModReferenceIdeal.nD Cert.ModReferenceIdeal.τ).loc Cert.ModReferenceIdeal.main_arg3) = m ((c.tc : Thread Cert.ModReferenceIdeal.nD Cert.ModReferenceIdeal.τ).loc Cert.ModReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Back_BackIdeal : Prop :=
  True

def algebraic_BackIdeal_BackReferenceIdeal [hBackIdeal : Cert.BackIdeal.Facts] [hBackReferenceIdeal : Cert.BackReferenceIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackIdeal m →
    (∀ c : Dev Cert.BackIdeal.nD,
      m' ((c.tc : Thread Cert.BackReferenceIdeal.nD Cert.BackReferenceIdeal.τ).loc Cert.BackReferenceIdeal.main_arg0) = m ((c.tc : Thread Cert.BackIdeal.nD Cert.BackIdeal.τ).loc Cert.BackIdeal.main_arg0)
      ∧ m' ((c.tc : Thread Cert.BackReferenceIdeal.nD Cert.BackReferenceIdeal.τ).loc Cert.BackReferenceIdeal.main_arg1) = m ((c.tc : Thread Cert.BackIdeal.nD Cert.BackIdeal.τ).loc Cert.BackIdeal.main_arg1)
      ∧ m' ((c.tc : Thread Cert.BackReferenceIdeal.nD Cert.BackReferenceIdeal.τ).loc Cert.BackReferenceIdeal.main_arg2) = m ((c.tc : Thread Cert.BackIdeal.nD Cert.BackIdeal.τ).loc Cert.BackIdeal.main_arg2)
      ∧ m' ((c.tc : Thread Cert.BackReferenceIdeal.nD Cert.BackReferenceIdeal.τ).loc Cert.BackReferenceIdeal.main_arg3) = m ((c.tc : Thread Cert.BackIdeal.nD Cert.BackIdeal.τ).loc Cert.BackIdeal.main_arg3)
      ∧ m' ((c.tc : Thread Cert.BackReferenceIdeal.nD Cert.BackReferenceIdeal.τ).loc Cert.BackReferenceIdeal.main_arg4) = m ((c.tc : Thread Cert.BackIdeal.nD Cert.BackIdeal.τ).loc Cert.BackIdeal.main_arg4)
      ∧ m' ((c.tc : Thread Cert.BackReferenceIdeal.nD Cert.BackReferenceIdeal.τ).loc Cert.BackReferenceIdeal.main_arg5) = m ((c.tc : Thread Cert.BackIdeal.nD Cert.BackIdeal.τ).loc Cert.BackIdeal.main_arg5)
      ∧ m' ((c.tc : Thread Cert.BackReferenceIdeal.nD Cert.BackReferenceIdeal.τ).loc Cert.BackReferenceIdeal.main_arg6) = m ((c.tc : Thread Cert.BackIdeal.nD Cert.BackIdeal.τ).loc Cert.BackIdeal.main_arg6)
      ∧ m' ((c.tc : Thread Cert.BackReferenceIdeal.nD Cert.BackReferenceIdeal.τ).loc Cert.BackReferenceIdeal.main_arg7) = m ((c.tc : Thread Cert.BackIdeal.nD Cert.BackIdeal.τ).loc Cert.BackIdeal.main_arg7)
      ∧ m' ((c.tc : Thread Cert.BackReferenceIdeal.nD Cert.BackReferenceIdeal.τ).loc Cert.BackReferenceIdeal.main_arg8) = m ((c.tc : Thread Cert.BackIdeal.nD Cert.BackIdeal.τ).loc Cert.BackIdeal.main_arg8)
      ∧ m' ((c.tc : Thread Cert.BackReferenceIdeal.nD Cert.BackReferenceIdeal.τ).loc Cert.BackReferenceIdeal.main_arg9) = m ((c.tc : Thread Cert.BackIdeal.nD Cert.BackIdeal.τ).loc Cert.BackIdeal.main_arg9)
      ∧ m' ((c.tc : Thread Cert.BackReferenceIdeal.nD Cert.BackReferenceIdeal.τ).loc Cert.BackReferenceIdeal.main_arg10) = m ((c.tc : Thread Cert.BackIdeal.nD Cert.BackIdeal.τ).loc Cert.BackIdeal.main_arg10)
      ∧ m' ((c.tc : Thread Cert.BackReferenceIdeal.nD Cert.BackReferenceIdeal.τ).loc Cert.BackReferenceIdeal.main_arg11) = m ((c.tc : Thread Cert.BackIdeal.nD Cert.BackIdeal.τ).loc Cert.BackIdeal.main_arg11)) →
    ∃ (v0 : (c : Dev Cert.BackIdeal.nD) → Buf (Elt Ideal) ((c.tc : Thread Cert.BackIdeal.nD Cert.BackIdeal.τ).loc Cert.BackIdeal.main_v5)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v5) = v0 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
          ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
          ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
          ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
          ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
          ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
          ∧ r.2.mem ((c.tc : Thread Cert.BackIdeal.nD Cert.BackIdeal.τ).loc Cert.BackIdeal.main_arg10) = m ((c.tc : Thread Cert.BackIdeal.nD Cert.BackIdeal.τ).loc Cert.BackIdeal.main_arg10)
          ∧ r.2.mem ((c.tc : Thread Cert.BackIdeal.nD Cert.BackIdeal.τ).loc Cert.BackIdeal.main_arg11) = m ((c.tc : Thread Cert.BackIdeal.nD Cert.BackIdeal.τ).loc Cert.BackIdeal.main_arg11))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v41) = v0 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1)
          ∧ r.2.mem ((c.tc : Thread Cert.BackReferenceIdeal.nD Cert.BackReferenceIdeal.τ).loc Cert.BackReferenceIdeal.main_arg2) = m' ((c.tc : Thread Cert.BackReferenceIdeal.nD Cert.BackReferenceIdeal.τ).loc Cert.BackReferenceIdeal.main_arg2)
          ∧ r.2.mem ((c.tc : Thread Cert.BackReferenceIdeal.nD Cert.BackReferenceIdeal.τ).loc Cert.BackReferenceIdeal.main_arg3) = m' ((c.tc : Thread Cert.BackReferenceIdeal.nD Cert.BackReferenceIdeal.τ).loc Cert.BackReferenceIdeal.main_arg3)
          ∧ r.2.mem ((c.tc : Thread Cert.BackReferenceIdeal.nD Cert.BackReferenceIdeal.τ).loc Cert.BackReferenceIdeal.main_arg4) = m' ((c.tc : Thread Cert.BackReferenceIdeal.nD Cert.BackReferenceIdeal.τ).loc Cert.BackReferenceIdeal.main_arg4)
          ∧ r.2.mem ((c.tc : Thread Cert.BackReferenceIdeal.nD Cert.BackReferenceIdeal.τ).loc Cert.BackReferenceIdeal.main_arg5) = m' ((c.tc : Thread Cert.BackReferenceIdeal.nD Cert.BackReferenceIdeal.τ).loc Cert.BackReferenceIdeal.main_arg5)
          ∧ r.2.mem ((c.tc : Thread Cert.BackReferenceIdeal.nD Cert.BackReferenceIdeal.τ).loc Cert.BackReferenceIdeal.main_arg6) = m' ((c.tc : Thread Cert.BackReferenceIdeal.nD Cert.BackReferenceIdeal.τ).loc Cert.BackReferenceIdeal.main_arg6)
          ∧ r.2.mem ((c.tc : Thread Cert.BackReferenceIdeal.nD Cert.BackReferenceIdeal.τ).loc Cert.BackReferenceIdeal.main_arg7) = m' ((c.tc : Thread Cert.BackReferenceIdeal.nD Cert.BackReferenceIdeal.τ).loc Cert.BackReferenceIdeal.main_arg7)
          ∧ r.2.mem ((c.tc : Thread Cert.BackReferenceIdeal.nD Cert.BackReferenceIdeal.τ).loc Cert.BackReferenceIdeal.main_arg8) = m' ((c.tc : Thread Cert.BackReferenceIdeal.nD Cert.BackReferenceIdeal.τ).loc Cert.BackReferenceIdeal.main_arg8)
          ∧ r.2.mem ((c.tc : Thread Cert.BackReferenceIdeal.nD Cert.BackReferenceIdeal.τ).loc Cert.BackReferenceIdeal.main_arg9) = m' ((c.tc : Thread Cert.BackReferenceIdeal.nD Cert.BackReferenceIdeal.τ).loc Cert.BackReferenceIdeal.main_arg9)
          ∧ r.2.mem ((c.tc : Thread Cert.BackReferenceIdeal.nD Cert.BackReferenceIdeal.τ).loc Cert.BackReferenceIdeal.main_arg10) = m' ((c.tc : Thread Cert.BackReferenceIdeal.nD Cert.BackReferenceIdeal.τ).loc Cert.BackReferenceIdeal.main_arg10)
          ∧ r.2.mem ((c.tc : Thread Cert.BackReferenceIdeal.nD Cert.BackReferenceIdeal.τ).loc Cert.BackReferenceIdeal.main_arg11) = m' ((c.tc : Thread Cert.BackReferenceIdeal.nD Cert.BackReferenceIdeal.τ).loc Cert.BackReferenceIdeal.main_arg11))

def preserves_Front_FrontIdeal : Prop :=
  True

def algebraic_FrontIdeal_FrontReferenceIdeal_pre_finite_front [hFrontIdeal : Cert.FrontIdeal.Facts] [hFrontReferenceIdeal : Cert.FrontReferenceIdeal.Facts] [hPre_finite_front : Cert.Pre_finite_front.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontReferenceIdeal.nD Cert.FrontReferenceIdeal.τ Cert.FrontReferenceIdeal.sig) → Buf (Elt Ideal) ℓ) (g' : Dev Cert.FrontReferenceIdeal.nD → PrngReg), Pre_FrontIdeal_finite_front m →
    (∀ c : Dev Cert.FrontIdeal.nD,
      m' ((c.tc : Thread Cert.FrontReferenceIdeal.nD Cert.FrontReferenceIdeal.τ).loc Cert.FrontReferenceIdeal.main_arg0) = m ((c.tc : Thread Cert.FrontIdeal.nD Cert.FrontIdeal.τ).loc Cert.FrontIdeal.main_arg0)
      ∧ m' ((c.tc : Thread Cert.FrontReferenceIdeal.nD Cert.FrontReferenceIdeal.τ).loc Cert.FrontReferenceIdeal.main_arg1) = m ((c.tc : Thread Cert.FrontIdeal.nD Cert.FrontIdeal.τ).loc Cert.FrontIdeal.main_arg1)
      ∧ m' ((c.tc : Thread Cert.FrontReferenceIdeal.nD Cert.FrontReferenceIdeal.τ).loc Cert.FrontReferenceIdeal.main_arg2) = m ((c.tc : Thread Cert.FrontIdeal.nD Cert.FrontIdeal.τ).loc Cert.FrontIdeal.main_arg2)
      ∧ m' ((c.tc : Thread Cert.FrontReferenceIdeal.nD Cert.FrontReferenceIdeal.τ).loc Cert.FrontReferenceIdeal.main_arg3) = m ((c.tc : Thread Cert.FrontIdeal.nD Cert.FrontIdeal.τ).loc Cert.FrontIdeal.main_arg3)
      ∧ m' ((c.tc : Thread Cert.FrontReferenceIdeal.nD Cert.FrontReferenceIdeal.τ).loc Cert.FrontReferenceIdeal.main_arg4) = m ((c.tc : Thread Cert.FrontIdeal.nD Cert.FrontIdeal.τ).loc Cert.FrontIdeal.main_arg4)
      ∧ m' ((c.tc : Thread Cert.FrontReferenceIdeal.nD Cert.FrontReferenceIdeal.τ).loc Cert.FrontReferenceIdeal.main_arg5) = m ((c.tc : Thread Cert.FrontIdeal.nD Cert.FrontIdeal.τ).loc Cert.FrontIdeal.main_arg5)
      ∧ m' ((c.tc : Thread Cert.FrontReferenceIdeal.nD Cert.FrontReferenceIdeal.τ).loc Cert.FrontReferenceIdeal.main_arg6) = m ((c.tc : Thread Cert.FrontIdeal.nD Cert.FrontIdeal.τ).loc Cert.FrontIdeal.main_arg6)) →
    ∃ (v0 : (c : Dev Cert.FrontIdeal.nD) → Buf (Elt Ideal) ((c.tc : Thread Cert.FrontIdeal.nD Cert.FrontIdeal.τ).loc Cert.FrontIdeal.main_v119_0)) (v1 : (c : Dev Cert.FrontIdeal.nD) → Buf (Elt Ideal) ((c.tc : Thread Cert.FrontIdeal.nD Cert.FrontIdeal.τ).loc Cert.FrontIdeal.main_v119_1)) (v2 : (c : Dev Cert.FrontIdeal.nD) → Buf (Elt Ideal) ((c.tc : Thread Cert.FrontIdeal.nD Cert.FrontIdeal.τ).loc Cert.FrontIdeal.main_v119_2)) (v3 : (c : Dev Cert.FrontIdeal.nD) → Buf (Elt Ideal) ((c.tc : Thread Cert.FrontIdeal.nD Cert.FrontIdeal.τ).loc Cert.FrontIdeal.main_v119_3)) (v4 : (c : Dev Cert.FrontIdeal.nD) → Buf (Elt Ideal) ((c.tc : Thread Cert.FrontIdeal.nD Cert.FrontIdeal.τ).loc Cert.FrontIdeal.main_v119_4)) (v5 : (c : Dev Cert.FrontIdeal.nD) → Buf (Elt Ideal) ((c.tc : Thread Cert.FrontIdeal.nD Cert.FrontIdeal.τ).loc Cert.FrontIdeal.main_v119_5)) (v6 : (c : Dev Cert.FrontIdeal.nD) → Buf (Elt Ideal) ((c.tc : Thread Cert.FrontIdeal.nD Cert.FrontIdeal.τ).loc Cert.FrontIdeal.main_v119_6)) (v7 : (c : Dev Cert.FrontIdeal.nD) → Buf (Elt Ideal) ((c.tc : Thread Cert.FrontIdeal.nD Cert.FrontIdeal.τ).loc Cert.FrontIdeal.main_v119_7)) (v8 : (c : Dev Cert.FrontIdeal.nD) → Buf (Elt Ideal) ((c.tc : Thread Cert.FrontIdeal.nD Cert.FrontIdeal.τ).loc Cert.FrontIdeal.main_v119_8)) (v9 : (c : Dev Cert.FrontIdeal.nD) → Buf (Elt Ideal) ((c.tc : Thread Cert.FrontIdeal.nD Cert.FrontIdeal.τ).loc Cert.FrontIdeal.main_v119_9)) (v10 : (c : Dev Cert.FrontIdeal.nD) → Buf (Elt Ideal) ((c.tc : Thread Cert.FrontIdeal.nD Cert.FrontIdeal.τ).loc Cert.FrontIdeal.main_v119_10)) (v11 : (c : Dev Cert.FrontIdeal.nD) → Buf (Elt Ideal) ((c.tc : Thread Cert.FrontIdeal.nD Cert.FrontIdeal.τ).loc Cert.FrontIdeal.main_v119_11)) (v12 : (c : Dev Cert.FrontIdeal.nD) → Buf (Elt Ideal) ((c.tc : Thread Cert.FrontIdeal.nD Cert.FrontIdeal.τ).loc Cert.FrontIdeal.main_v119_12)) (v13 : (c : Dev Cert.FrontIdeal.nD) → Buf (Elt Ideal) ((c.tc : Thread Cert.FrontIdeal.nD Cert.FrontIdeal.τ).loc Cert.FrontIdeal.main_v119_13)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v119_0) = v0 c
          ∧ r.2.mem ((c.tc : Thread Cert.FrontIdeal.nD Cert.FrontIdeal.τ).loc Cert.FrontIdeal.main_v119_1) = v1 c
          ∧ r.2.mem ((c.tc : Thread Cert.FrontIdeal.nD Cert.FrontIdeal.τ).loc Cert.FrontIdeal.main_v119_2) = v2 c
          ∧ r.2.mem ((c.tc : Thread Cert.FrontIdeal.nD Cert.FrontIdeal.τ).loc Cert.FrontIdeal.main_v119_3) = v3 c
          ∧ r.2.mem ((c.tc : Thread Cert.FrontIdeal.nD Cert.FrontIdeal.τ).loc Cert.FrontIdeal.main_v119_4) = v4 c
          ∧ r.2.mem ((c.tc : Thread Cert.FrontIdeal.nD Cert.FrontIdeal.τ).loc Cert.FrontIdeal.main_v119_5) = v5 c
          ∧ r.2.mem ((c.tc : Thread Cert.FrontIdeal.nD Cert.FrontIdeal.τ).loc Cert.FrontIdeal.main_v119_6) = v6 c
          ∧ r.2.mem ((c.tc : Thread Cert.FrontIdeal.nD Cert.FrontIdeal.τ).loc Cert.FrontIdeal.main_v119_7) = v7 c
          ∧ r.2.mem ((c.tc : Thread Cert.FrontIdeal.nD Cert.FrontIdeal.τ).loc Cert.FrontIdeal.main_v119_8) = v8 c
          ∧ r.2.mem ((c.tc : Thread Cert.FrontIdeal.nD Cert.FrontIdeal.τ).loc Cert.FrontIdeal.main_v119_9) = v9 c
          ∧ r.2.mem ((c.tc : Thread Cert.FrontIdeal.nD Cert.FrontIdeal.τ).loc Cert.FrontIdeal.main_v119_10) = v10 c
          ∧ r.2.mem ((c.tc : Thread Cert.FrontIdeal.nD Cert.FrontIdeal.τ).loc Cert.FrontIdeal.main_v119_11) = v11 c
          ∧ r.2.mem ((c.tc : Thread Cert.FrontIdeal.nD Cert.FrontIdeal.τ).loc Cert.FrontIdeal.main_v119_12) = v12 c
          ∧ r.2.mem ((c.tc : Thread Cert.FrontIdeal.nD Cert.FrontIdeal.τ).loc Cert.FrontIdeal.main_v119_13) = v13 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6))
      ∧ θ_run (Cert.FrontReferenceIdeal.defs (F := Ideal)) (onTc (τ := Cert.FrontReferenceIdeal.τ) (Cert.FrontReferenceIdeal.main (F := Ideal))) ⟨m', fun _ => 0, g'⟩ (fun r => ∀ c : Dev Cert.FrontReferenceIdeal.nD,
          r.2.mem ((c.tc : Thread Cert.FrontReferenceIdeal.nD Cert.FrontReferenceIdeal.τ).loc Cert.FrontReferenceIdeal.main_v230) = v0 c
          ∧ r.2.mem ((c.tc : Thread Cert.FrontReferenceIdeal.nD Cert.FrontReferenceIdeal.τ).loc Cert.FrontReferenceIdeal.main_v117) = v1 c
          ∧ r.2.mem ((c.tc : Thread Cert.FrontReferenceIdeal.nD Cert.FrontReferenceIdeal.τ).loc Cert.FrontReferenceIdeal.main_v231) = v2 c
          ∧ r.2.mem ((c.tc : Thread Cert.FrontReferenceIdeal.nD Cert.FrontReferenceIdeal.τ).loc Cert.FrontReferenceIdeal.main_v27) = v3 c
          ∧ r.2.mem ((c.tc : Thread Cert.FrontReferenceIdeal.nD Cert.FrontReferenceIdeal.τ).loc Cert.FrontReferenceIdeal.main_v232) = v4 c
          ∧ r.2.mem ((c.tc : Thread Cert.FrontReferenceIdeal.nD Cert.FrontReferenceIdeal.τ).loc Cert.FrontReferenceIdeal.main_v28) = v5 c
          ∧ r.2.mem ((c.tc : Thread Cert.FrontReferenceIdeal.nD Cert.FrontReferenceIdeal.τ).loc Cert.FrontReferenceIdeal.main_v234) = v6 c
          ∧ r.2.mem ((c.tc : Thread Cert.FrontReferenceIdeal.nD Cert.FrontReferenceIdeal.τ).loc Cert.FrontReferenceIdeal.main_v235) = v7 c
          ∧ r.2.mem ((c.tc : Thread Cert.FrontReferenceIdeal.nD Cert.FrontReferenceIdeal.τ).loc Cert.FrontReferenceIdeal.main_v236) = v8 c
          ∧ r.2.mem ((c.tc : Thread Cert.FrontReferenceIdeal.nD Cert.FrontReferenceIdeal.τ).loc Cert.FrontReferenceIdeal.main_v187) = v9 c
          ∧ r.2.mem ((c.tc : Thread Cert.FrontReferenceIdeal.nD Cert.FrontReferenceIdeal.τ).loc Cert.FrontReferenceIdeal.main_v237) = v10 c
          ∧ r.2.mem ((c.tc : Thread Cert.FrontReferenceIdeal.nD Cert.FrontReferenceIdeal.τ).loc Cert.FrontReferenceIdeal.main_v35) = v11 c
          ∧ r.2.mem ((c.tc : Thread Cert.FrontReferenceIdeal.nD Cert.FrontReferenceIdeal.τ).loc Cert.FrontReferenceIdeal.main_v36) = v12 c
          ∧ r.2.mem ((c.tc : Thread Cert.FrontReferenceIdeal.nD Cert.FrontReferenceIdeal.τ).loc Cert.FrontReferenceIdeal.main_v37) = v13 c
          ∧ r.2.mem ((c.tc : Thread Cert.FrontReferenceIdeal.nD Cert.FrontReferenceIdeal.τ).loc Cert.FrontReferenceIdeal.main_arg0) = m' ((c.tc : Thread Cert.FrontReferenceIdeal.nD Cert.FrontReferenceIdeal.τ).loc Cert.FrontReferenceIdeal.main_arg0)
          ∧ r.2.mem ((c.tc : Thread Cert.FrontReferenceIdeal.nD Cert.FrontReferenceIdeal.τ).loc Cert.FrontReferenceIdeal.main_arg1) = m' ((c.tc : Thread Cert.FrontReferenceIdeal.nD Cert.FrontReferenceIdeal.τ).loc Cert.FrontReferenceIdeal.main_arg1)
          ∧ r.2.mem ((c.tc : Thread Cert.FrontReferenceIdeal.nD Cert.FrontReferenceIdeal.τ).loc Cert.FrontReferenceIdeal.main_arg2) = m' ((c.tc : Thread Cert.FrontReferenceIdeal.nD Cert.FrontReferenceIdeal.τ).loc Cert.FrontReferenceIdeal.main_arg2)
          ∧ r.2.mem ((c.tc : Thread Cert.FrontReferenceIdeal.nD Cert.FrontReferenceIdeal.τ).loc Cert.FrontReferenceIdeal.main_arg3) = m' ((c.tc : Thread Cert.FrontReferenceIdeal.nD Cert.FrontReferenceIdeal.τ).loc Cert.FrontReferenceIdeal.main_arg3)
          ∧ r.2.mem ((c.tc : Thread Cert.FrontReferenceIdeal.nD Cert.FrontReferenceIdeal.τ).loc Cert.FrontReferenceIdeal.main_arg4) = m' ((c.tc : Thread Cert.FrontReferenceIdeal.nD Cert.FrontReferenceIdeal.τ).loc Cert.FrontReferenceIdeal.main_arg4)
          ∧ r.2.mem ((c.tc : Thread Cert.FrontReferenceIdeal.nD Cert.FrontReferenceIdeal.τ).loc Cert.FrontReferenceIdeal.main_arg5) = m' ((c.tc : Thread Cert.FrontReferenceIdeal.nD Cert.FrontReferenceIdeal.τ).loc Cert.FrontReferenceIdeal.main_arg5)
          ∧ r.2.mem ((c.tc : Thread Cert.FrontReferenceIdeal.nD Cert.FrontReferenceIdeal.τ).loc Cert.FrontReferenceIdeal.main_arg6) = m' ((c.tc : Thread Cert.FrontReferenceIdeal.nD Cert.FrontReferenceIdeal.τ).loc Cert.FrontReferenceIdeal.main_arg6))

def preserves_Mod_ModIdeal : Prop :=
  True

def algebraic_ModIdeal_ModReferenceIdeal [hModIdeal : Cert.ModIdeal.Facts] [hModReferenceIdeal : Cert.ModReferenceIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal m →
    (∀ c : Dev Cert.ModIdeal.nD,
      m' ((c.tc : Thread Cert.ModReferenceIdeal.nD Cert.ModReferenceIdeal.τ).loc Cert.ModReferenceIdeal.main_arg0) = m ((c.tc : Thread Cert.ModIdeal.nD Cert.ModIdeal.τ).loc Cert.ModIdeal.main_arg0)
      ∧ m' ((c.tc : Thread Cert.ModReferenceIdeal.nD Cert.ModReferenceIdeal.τ).loc Cert.ModReferenceIdeal.main_arg1) = m ((c.tc : Thread Cert.ModIdeal.nD Cert.ModIdeal.τ).loc Cert.ModIdeal.main_arg1)
      ∧ m' ((c.tc : Thread Cert.ModReferenceIdeal.nD Cert.ModReferenceIdeal.τ).loc Cert.ModReferenceIdeal.main_arg2) = m ((c.tc : Thread Cert.ModIdeal.nD Cert.ModIdeal.τ).loc Cert.ModIdeal.main_arg2)
      ∧ m' ((c.tc : Thread Cert.ModReferenceIdeal.nD Cert.ModReferenceIdeal.τ).loc Cert.ModReferenceIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v2)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v2) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v10) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2)
          ∧ r.2.mem ((c.tc : Thread Cert.ModReferenceIdeal.nD Cert.ModReferenceIdeal.τ).loc Cert.ModReferenceIdeal.main_arg3) = m' ((c.tc : Thread Cert.ModReferenceIdeal.nD Cert.ModReferenceIdeal.τ).loc Cert.ModReferenceIdeal.main_arg3))

def Claim : Prop :=
  ∃ (hKernel : Cert.Kernel.Facts) (hKernelIdeal : Cert.KernelIdeal.Facts) (hReferenceIdeal : Cert.ReferenceIdeal.Facts) (hBack : Cert.Back.Facts) (hBackIdeal : Cert.BackIdeal.Facts) (hBackReferenceIdeal : Cert.BackReferenceIdeal.Facts) (hFront : Cert.Front.Facts) (hFrontIdeal : Cert.FrontIdeal.Facts) (hFrontReferenceIdeal : Cert.FrontReferenceIdeal.Facts) (hMod : Cert.Mod.Facts) (hModIdeal : Cert.ModIdeal.Facts) (hModReferenceIdeal : Cert.ModReferenceIdeal.Facts) (hPre_finite : Cert.Pre_finite.Facts) (hPre_finite_front : Cert.Pre_finite_front.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Back (hBack := hBack)
    ∧ quiescent_BackIdeal (hBackIdeal := hBackIdeal)
    ∧ quiescent_BackReferenceIdeal (hBackReferenceIdeal := hBackReferenceIdeal)
    ∧ quiescent_Front (hFront := hFront)
    ∧ quiescent_FrontIdeal (hFrontIdeal := hFrontIdeal)
    ∧ quiescent_FrontIdeal_pre_finite_front (hFrontIdeal := hFrontIdeal) (hPre_finite_front := hPre_finite_front)
    ∧ quiescent_FrontReferenceIdeal (hFrontReferenceIdeal := hFrontReferenceIdeal)
    ∧ quiescent_FrontReferenceIdeal_pre_finite_front (hFrontReferenceIdeal := hFrontReferenceIdeal) (hPre_finite_front := hPre_finite_front)
    ∧ quiescent_Mod (hMod := hMod)
    ∧ quiescent_ModIdeal (hModIdeal := hModIdeal)
    ∧ quiescent_ModReferenceIdeal (hModReferenceIdeal := hModReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Back_BackIdeal
    ∧ algebraic_BackIdeal_BackReferenceIdeal (hBackIdeal := hBackIdeal) (hBackReferenceIdeal := hBackReferenceIdeal)
    ∧ preserves_Front_FrontIdeal
    ∧ algebraic_FrontIdeal_FrontReferenceIdeal_pre_finite_front (hFrontIdeal := hFrontIdeal) (hFrontReferenceIdeal := hFrontReferenceIdeal) (hPre_finite_front := hPre_finite_front)
    ∧ preserves_Mod_ModIdeal
    ∧ algebraic_ModIdeal_ModReferenceIdeal (hModIdeal := hModIdeal) (hModReferenceIdeal := hModReferenceIdeal)
-- ==== Pre_finite.lean ====
abbrev S8x2048x8x64 : Shape := ⟨4, ![8, 2048, 8, 64]⟩
abbrev S8x2048x8x32 : Shape := ⟨4, ![8, 2048, 8, 32]⟩
abbrev S8x2048x256 : Shape := ⟨3, ![8, 2048, 256]⟩
abbrev S8x2048x32 : Shape := ⟨3, ![8, 2048, 32]⟩
abbrev S256x8x128 : Shape := ⟨3, ![256, 8, 128]⟩
abbrev S_ : Shape := ⟨0, ![]⟩

class Facts : Prop where
  bcast_S_S8x2048x8x64 : S_.BroadcastsInDim S8x2048x8x64 (![] : Fin 0 → Fin S8x2048x8x64.rank)
  bcast_S_S8x2048x8x32 : S_.BroadcastsInDim S8x2048x8x32 (![] : Fin 0 → Fin S8x2048x8x32.rank)
  bcast_S_S8x2048x256 : S_.BroadcastsInDim S8x2048x256 (![] : Fin 0 → Fin S8x2048x256.rank)
  bcast_S_S8x2048x32 : S_.BroadcastsInDim S8x2048x32 (![] : Fin 0 → Fin S8x2048x32.rank)
  bcast_S_S256x8x128 : S_.BroadcastsInDim S256x8x128 (![] : Fin 0 → Fin S256x8x128.rank)

variable [Facts]

def fn {F : FTy → Type} [FloatOps F] (main_arg0 : FVec F S8x2048x8x64 .f32) (main_arg1 : FVec F S8x2048x8x32 .f32) (main_arg2 : FVec F S8x2048x256 .f32) (main_arg3 : FVec F S8x2048x32 .f32) (main_arg4 : FVec F S256x8x128 .f32) : IVec S8x2048x8x64 1 × IVec S8x2048x8x32 1 × IVec S8x2048x256 1 × IVec S8x2048x32 1 × IVec S256x8x128 1 :=
  let main_v0 : FVec F S8x2048x8x64 .f32 := Host.absf main_arg0
  let main_cst : FVec F S_ .f32 := constant S_ .f32 0x7F800000#32
  let main_v1 : FVec F S8x2048x8x64 .f32 := broadcastInDim S8x2048x8x64 ![] bcast_S_S8x2048x8x64 main_cst
  let main_v2 : IVec S8x2048x8x64 1 := cmpf .olt main_v0 main_v1
  let main_v3 : FVec F S8x2048x8x32 .f32 := Host.absf main_arg1
  let main_cst_0 : FVec F S_ .f32 := constant S_ .f32 0x7F800000#32
  let main_v4 : FVec F S8x2048x8x32 .f32 := broadcastInDim S8x2048x8x32 ![] bcast_S_S8x2048x8x32 main_cst_0
  let main_v5 : IVec S8x2048x8x32 1 := cmpf .olt main_v3 main_v4
  let main_v6 : FVec F S8x2048x256 .f32 := Host.absf main_arg2
  let main_cst_1 : FVec F S_ .f32 := constant S_ .f32 0x7F800000#32
  let main_v7 : FVec F S8x2048x256 .f32 := broadcastInDim S8x2048x256 ![] bcast_S_S8x2048x256 main_cst_1
  let main_v8 : IVec S8x2048x256 1 := cmpf .olt main_v6 main_v7
  let main_v9 : FVec F S8x2048x32 .f32 := Host.absf main_arg3
  let main_cst_2 : FVec F S_ .f32 := constant S_ .f32 0x7F800000#32
  let main_v10 : FVec F S8x2048x32 .f32 := broadcastInDim S8x2048x32 ![] bcast_S_S8x2048x32 main_cst_2
  let main_v11 : IVec S8x2048x32 1 := cmpf .olt main_v9 main_v10
  let main_v12 : FVec F S256x8x128 .f32 := Host.absf main_arg4
  let main_cst_3 : FVec F S_ .f32 := constant S_ .f32 0x7F800000#32
  let main_v13 : FVec F S256x8x128 .f32 := broadcastInDim S256x8x128 ![] bcast_S_S256x8x128 main_cst_3
  let main_v14 : IVec S256x8x128 1 := cmpf .olt main_v12 main_v13
  (main_v2, main_v5, main_v8, main_v11, main_v14)
-- ==== Pre_finite_front.lean ====
abbrev S8x2048x1024 : Shape := ⟨3, ![8, 2048, 1024]⟩
abbrev S8x3072 : Shape := ⟨2, ![8, 3072]⟩
abbrev S1024 : Shape := ⟨1, ![1024]⟩
abbrev S1024x5604 : Shape := ⟨2, ![1024, 5604]⟩
abbrev S384 : Shape := ⟨1, ![384]⟩
abbrev S384x768 : Shape := ⟨2, ![384, 768]⟩
abbrev S256 : Shape := ⟨1, ![256]⟩
abbrev S_ : Shape := ⟨0, ![]⟩

class Facts : Prop where
  bcast_S_S8x2048x1024 : S_.BroadcastsInDim S8x2048x1024 (![] : Fin 0 → Fin S8x2048x1024.rank)
  bcast_S_S8x3072 : S_.BroadcastsInDim S8x3072 (![] : Fin 0 → Fin S8x3072.rank)
  bcast_S_S1024 : S_.BroadcastsInDim S1024 (![] : Fin 0 → Fin S1024.rank)
  bcast_S_S1024x5604 : S_.BroadcastsInDim S1024x5604 (![] : Fin 0 → Fin S1024x5604.rank)
  bcast_S_S384 : S_.BroadcastsInDim S384 (![] : Fin 0 → Fin S384.rank)
  bcast_S_S384x768 : S_.BroadcastsInDim S384x768 (![] : Fin 0 → Fin S384x768.rank)

variable [Facts]

def fn {F : FTy → Type} [FloatOps F] (main_arg0 : FVec F S8x2048x1024 .f32) (main_arg1 : FVec F S8x3072 .f32) (main_arg2 : FVec F S1024 .f32) (main_arg3 : FVec F S1024x5604 .f32) (main_arg4 : FVec F S384 .f32) (main_arg5 : FVec F S384x768 .f32) (main_arg6 : FVec F S256 .f32) : IVec S8x2048x1024 1 × IVec S8x3072 1 × IVec S1024 1 × IVec S1024x5604 1 × IVec S384 1 × IVec S384x768 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S8x3072 .f32 := Host.absf main_arg1
  let main_cst_0 : FVec F S_ .f32 := constant S_ .f32 0x7F800000#32
  let main_v4 : FVec F S8x3072 .f32 := broadcastInDim S8x3072 ![] bcast_S_S8x3072 main_cst_0
  let main_v5 : IVec S8x3072 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x5604 .f32 := Host.absf main_arg3
  let main_cst_2 : FVec F S_ .f32 := constant S_ .f32 0x7F800000#32
  let main_v10 : FVec F S1024x5604 .f32 := broadcastInDim S1024x5604 ![] bcast_S_S1024x5604 main_cst_2
  let main_v11 : IVec S1024x5604 1 := cmpf .olt main_v9 main_v10
  let main_v12 : FVec F S384 .f32 := Host.absf main_arg4
  let main_cst_3 : FVec F S_ .f32 := constant S_ .f32 0x7F800000#32
  let main_v13 : FVec F S384 .f32 := broadcastInDim S384 ![] bcast_S_S384 main_cst_3
  let main_v14 : IVec S384 1 := cmpf .olt main_v12 main_v13
  let main_v15 : FVec F S384x768 .f32 := Host.absf main_arg5
  let main_cst_4 : FVec F S_ .f32 := constant S_ .f32 0x7F800000#32
  let main_v16 : FVec F S384x768 .f32 := broadcastInDim S384x768 ![] bcast_S_S384x768 main_cst_4
  let main_v17 : IVec S384x768 1 := cmpf .olt main_v15 main_v16
  (main_v2, main_v5, main_v8, main_v11, main_v14, main_v17)
-- ==== Kernel.lean ====
abbrev S8x2048x8x64 : Shape := ⟨4, ![8, 2048, 8, 64]⟩
abbrev S8x2048x8x32 : Shape := ⟨4, ![8, 2048, 8, 32]⟩
abbrev S8x2048x256 : Shape := ⟨3, ![8, 2048, 256]⟩
abbrev S8x2048x32 : Shape := ⟨3, ![8, 2048, 32]⟩
abbrev S256x8x128 : Shape := ⟨3, ![256, 8, 128]⟩
abbrev S256x8x64 : Shape := ⟨3, ![256, 8, 64]⟩
abbrev S256x512 : Shape := ⟨2, ![256, 512]⟩
abbrev S512x256 : Shape := ⟨2, ![512, 256]⟩
abbrev S_ : Shape := ⟨0, ![]⟩
abbrev S8x256x128 : Shape := ⟨3, ![8, 256, 128]⟩
abbrev S256x1x64 : Shape := ⟨3, ![256, 1, 64]⟩
abbrev S256x64 : Shape := ⟨2, ![256, 64]⟩
abbrev S1 : Shape := ⟨1, ![1]⟩
abbrev S2 : Shape := ⟨1, ![2]⟩
abbrev S8x2048x128 : Shape := ⟨3, ![8, 2048, 128]⟩
abbrev S8x2048x512 : Shape := ⟨3, ![8, 2048, 512]⟩
abbrev S1x128x512 : Shape := ⟨3, ![1, 128, 512]⟩
abbrev S1x128x256 : Shape := ⟨3, ![1, 128, 256]⟩
abbrev S1x2048x256 : Shape := ⟨3, ![1, 2048, 256]⟩
abbrev S1x2048x128 : Shape := ⟨3, ![1, 2048, 128]⟩
abbrev S1024x256 : Shape := ⟨2, ![1024, 256]⟩
abbrev S1024x128 : Shape := ⟨2, ![1024, 128]⟩
abbrev S8x1024x256 : Shape := ⟨3, ![8, 1024, 256]⟩
abbrev S128x128 : Shape := ⟨2, ![128, 128]⟩
abbrev S128x512 : Shape := ⟨2, ![128, 512]⟩
abbrev S128x256 : Shape := ⟨2, ![128, 256]⟩
abbrev S1x256x256 : Shape := ⟨3, ![1, 256, 256]⟩
abbrev S256x256 : Shape := ⟨2, ![256, 256]⟩
abbrev S1x256x128 : Shape := ⟨3, ![1, 256, 128]⟩
abbrev S256x128 : Shape := ⟨2, ![256, 128]⟩
abbrev S1x1024x256 : Shape := ⟨3, ![1, 1024, 256]⟩
abbrev S1024 : Shape := ⟨1, ![1024]⟩
abbrev S1024x1 : Shape := ⟨2, ![1024, 1]⟩
abbrev S1x128x128 : Shape := ⟨3, ![1, 128, 128]⟩

abbrev nBuf : Space → Nat
  | .hbm => 85
  | .vmem => 18
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x32, .f32⟩
  | .hbm, ⟨2, _⟩ => ⟨S8x2048x256, .f32⟩
  | .hbm, ⟨3, _⟩ => ⟨S8x2048x32, .f32⟩
  | .hbm, ⟨4, _⟩ => ⟨S256x8x128, .f32⟩
  | .hbm, ⟨5, _⟩ => ⟨S256x8x64, .f32⟩
  | .hbm, ⟨6, _⟩ => ⟨S256x512, .f32⟩
  | .hbm, ⟨7, _⟩ => ⟨S512x256, .f32⟩
  | .hbm, ⟨8, _⟩ => ⟨S512x256, .bf16⟩
  | .hbm, ⟨9, _⟩ => ⟨S256x8x64, .f32⟩
  | .hbm, ⟨10, _⟩ => ⟨S_, .f32⟩
  | .hbm, ⟨11, _⟩ => ⟨S8x256x128, .f32⟩
  | .hbm, ⟨12, _⟩ => ⟨S256x1x64, .f32⟩
  | .hbm, ⟨13, _⟩ => ⟨S256x64, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S8x256x128, .f32⟩
  | .hbm, ⟨20, _⟩ => ⟨S256x1x64, .f32⟩
  | .hbm, ⟨21, _⟩ => ⟨S256x64, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S8x256x128, .f32⟩
  | .hbm, ⟨28, _⟩ => ⟨S256x1x64, .f32⟩
  | .hbm, ⟨29, _⟩ => ⟨S256x64, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S8x256x128, .f32⟩
  | .hbm, ⟨36, _⟩ => ⟨S256x1x64, .f32⟩
  | .hbm, ⟨37, _⟩ => ⟨S256x64, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S8x256x128, .f32⟩
  | .hbm, ⟨44, _⟩ => ⟨S256x1x64, .f32⟩
  | .hbm, ⟨45, _⟩ => ⟨S256x64, .f32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S2, .i32⟩
  | .hbm, ⟨51, _⟩ => ⟨S8x256x128, .f32⟩
  | .hbm, ⟨52, _⟩ => ⟨S256x1x64, .f32⟩
  | .hbm, ⟨53, _⟩ => ⟨S256x64, .f32⟩
  | .hbm, ⟨54, _⟩ => ⟨S_, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S2, .i32⟩
  | .hbm, ⟨59, _⟩ => ⟨S8x256x128, .f32⟩
  | .hbm, ⟨60, _⟩ => ⟨S256x1x64, .f32⟩
  | .hbm, ⟨61, _⟩ => ⟨S256x64, .f32⟩
  | .hbm, ⟨62, _⟩ => ⟨S_, .i32⟩
  | .hbm, ⟨63, _⟩ => ⟨S1, .i32⟩
  | .hbm, ⟨64, _⟩ => ⟨S_, .i32⟩
  | .hbm, ⟨65, _⟩ => ⟨S1, .i32⟩
  | .hbm, ⟨66, _⟩ => ⟨S2, .i32⟩
  | .hbm, ⟨67, _⟩ => ⟨S8x256x128, .f32⟩
  | .hbm, ⟨68, _⟩ => ⟨S256x1x64, .f32⟩
  | .hbm, ⟨69, _⟩ => ⟨S256x64, .f32⟩
  | .hbm, ⟨70, _⟩ => ⟨S_, .i32⟩
  | .hbm, ⟨71, _⟩ => ⟨S1, .i32⟩
  | .hbm, ⟨72, _⟩ => ⟨S_, .i32⟩
  | .hbm, ⟨73, _⟩ => ⟨S1, .i32⟩
  | .hbm, ⟨74, _⟩ => ⟨S2, .i32⟩
  | .hbm, ⟨75, _⟩ => ⟨S8x256x128, .f32⟩
  | .hbm, ⟨76, _⟩ => ⟨S8x256x128, .bf16⟩
  | .hbm, ⟨77, _⟩ => ⟨S8x2048x128, .f32⟩
  | .hbm, ⟨78, _⟩ => ⟨S8x2048x128, .bf16⟩
  | .hbm, ⟨79, _⟩ => ⟨S8x2048x512, .f32⟩
  | .hbm, ⟨80, _⟩ => ⟨S8x2048x512, .bf16⟩
  | .hbm, ⟨81, _⟩ => ⟨S8x2048x256, .f32⟩
  | .hbm, ⟨82, _⟩ => ⟨S8x2048x256, .bf16⟩
  | .hbm, ⟨83, _⟩ => ⟨S8x2048x256, .bf16⟩
  | .hbm, ⟨84, _⟩ => ⟨S8x2048x512, .f32⟩
  | .local _ .vmem, ⟨0, _⟩ => ⟨S1x128x512, .bf16⟩
  | .local _ .vmem, ⟨1, _⟩ => ⟨S1x128x512, .bf16⟩
  | .local _ .vmem, ⟨2, _⟩ => ⟨S1x128x256, .bf16⟩
  | .local _ .vmem, ⟨3, _⟩ => ⟨S1x128x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x128, .bf16⟩
  | .local _ .vmem, ⟨7, _⟩ => ⟨S1x2048x128, .bf16⟩
  | .local _ .vmem, ⟨8, _⟩ => ⟨S512x256, .bf16⟩
  | .local _ .vmem, ⟨9, _⟩ => ⟨S8x256x128, .bf16⟩
  | .local _ .vmem, ⟨10, _⟩ => ⟨S1x128x512, .f32⟩
  | .local _ .vmem, ⟨11, _⟩ => ⟨S1x128x512, .f32⟩
  | .local _ .vmem, ⟨12, _⟩ => ⟨S1024x256, .bf16⟩
  | .local _ .vmem, ⟨13, _⟩ => ⟨S1024x128, .bf16⟩
  | .local _ .vmem, ⟨14, _⟩ => ⟨S8x1024x256, .f32⟩
  | .local _ .vmem, ⟨15, _⟩ => ⟨S1024x256, .f32⟩
  | .local _ .vmem, ⟨16, _⟩ => ⟨S1024x128, .f32⟩
  | .local _ .vmem, ⟨17, _⟩ => ⟨S1024x128, .f32⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_c_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_9 : Ref sig .tc := ⟨.hbm, 54, rfl⟩
abbrev main_v38 : Ref sig .tc := ⟨.hbm, 55, rfl⟩
abbrev main_c_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_11 : Ref sig .tc := ⟨.hbm, 62, rfl⟩
abbrev main_v44 : Ref sig .tc := ⟨.hbm, 63, rfl⟩
abbrev main_c_12 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_13 : Ref sig .tc := ⟨.hbm, 70, rfl⟩
abbrev main_v50 : Ref sig .tc := ⟨.hbm, 71, rfl⟩
abbrev main_c_14 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_190 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_188 : BitVec 32 := 1#32
  let v559 : BitVec 32 := Scalar.subi v20 c1_i32_188
  let v560 : BitVec 32 := Scalar.subi v559 c0_i32_190
  let c1_i32_191 : BitVec 32 := 1#32
  let v562 : BitVec 32 := Scalar.divsi v560 c1_i32_191
  let v563 : BitVec 32 := Scalar.muli v562 c1_i32_191
  let v564 : BitVec 32 := Scalar.addi c0_i32_190 v563
  let c1_i32_192 : BitVec 32 := 1#32
  ⟨c0_i32_190, v564, c1_i32_192⟩
def k0_mult1 (i : grid0.Coords) (k0_t1 : Fin (k0_t1_loop i).trips) : BitVec 32 :=
  let c0_i32_190 : BitVec 32 := 0#32
  let c1_i32_192 : BitVec 32 := 1#32
  let arg15 : BitVec 32 := Scf.iv c0_i32_190 c1_i32_192 k0_t1
  let c256_i32_275 : BitVec 32 := 256#32
  let v684 : BitVec 32 := Scalar.muli arg15 c256_i32_275
  v684
def k0_off1 (i : grid0.Coords) (k0_t1 : Fin (k0_t1_loop i).trips) : Fin 3 → Nat :=
  let c0_278 : Index := 0#32
  let c0_i32_190 : BitVec 32 := 0#32
  let c1_i32_192 : BitVec 32 := 1#32
  let arg15 : BitVec 32 := Scf.iv c0_i32_190 c1_i32_192 k0_t1
  let c256_i32_275 : BitVec 32 := 256#32
  let v684 : BitVec 32 := Scalar.muli arg15 c256_i32_275
  let v685 : BitVec 32 := v684
  let v687 : Index := Scalar.indexCast v685
  let c0_279 : Index := 0#32
  ![0, v687.toNat, 0]
def k0_off2 (i : grid0.Coords) (k0_t1 : Fin (k0_t1_loop i).trips) : Fin 3 → Nat :=
  let c0_283 : Index := 0#32
  let c0_i32_190 : BitVec 32 := 0#32
  let c1_i32_192 : BitVec 32 := 1#32
  let arg15 : BitVec 32 := Scf.iv c0_i32_190 c1_i32_192 k0_t1
  let c256_i32_275 : BitVec 32 := 256#32
  let v684 : BitVec 32 := Scalar.muli arg15 c256_i32_275
  let v685 : BitVec 32 := v684
  let v692 : Index := Scalar.indexCast v685
  let c0_284 : Index := 0#32
  ![0, v692.toNat, 0]
def k0_off3 (i : grid0.Coords) (k0_t1 : Fin (k0_t1_loop i).trips) : Fin 3 → Nat :=
  let c0_i32_190 : BitVec 32 := 0#32
  let c1_i32_192 : BitVec 32 := 1#32
  let arg15 : BitVec 32 := Scf.iv c0_i32_190 c1_i32_192 k0_t1
  let v699 : Index := Scalar.indexCast arg15
  let c0_287 : Index := 0#32
  let c0_288 : Index := 0#32
  ![v699.toNat, 0, 0]
@[reducible] def k0_t2_loop (i : grid0.Coords) : Scf.Loop 32 :=
  let c0_i32_190 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_188 : BitVec 32 := 1#32
  let v559 : BitVec 32 := Scalar.subi v20 c1_i32_188
  let v560 : BitVec 32 := Scalar.subi v559 c0_i32_190
  let c1_i32_191 : BitVec 32 := 1#32
  let v562 : BitVec 32 := Scalar.divsi v560 c1_i32_191
  let v563 : BitVec 32 := Scalar.muli v562 c1_i32_191
  let v564 : BitVec 32 := Scalar.addi c0_i32_190 v563
  let v561 : BitVec 32 := Scalar.addi c0_i32_190 v560
  let c1_i32_193 : BitVec 32 := 1#32
  ⟨v564, v561, c1_i32_193⟩
def k0_mult2 (i : grid0.Coords) (k0_t2 : Fin (k0_t2_loop i).trips) : BitVec 32 :=
  let c0_i32_190 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_188 : BitVec 32 := 1#32
  let v559 : BitVec 32 := Scalar.subi v20 c1_i32_188
  let v560 : BitVec 32 := Scalar.subi v559 c0_i32_190
  let c1_i32_191 : BitVec 32 := 1#32
  let v562 : BitVec 32 := Scalar.divsi v560 c1_i32_191
  let v563 : BitVec 32 := Scalar.muli v562 c1_i32_191
  let v564 : BitVec 32 := Scalar.addi c0_i32_190 v563
  let c1_i32_193 : BitVec 32 := 1#32
  let arg15 : BitVec 32 := Scf.iv v564 c1_i32_193 k0_t2
  let c256_i32_275 : BitVec 32 := 256#32
  let v684 : BitVec 32 := Scalar.muli arg15 c256_i32_275
  v684
def k0_off4 (i : grid0.Coords) (k0_t2 : Fin (k0_t2_loop i).trips) : Fin 3 → Nat :=
  let c0_278 : Index := 0#32
  let c0_i32_190 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_188 : BitVec 32 := 1#32
  let v559 : BitVec 32 := Scalar.subi v20 c1_i32_188
  let v560 : BitVec 32 := Scalar.subi v559 c0_i32_190
  let c1_i32_191 : BitVec 32 := 1#32
  let v562 : BitVec 32 := Scalar.divsi v560 c1_i32_191
  let v563 : BitVec 32 := Scalar.muli v562 c1_i32_191
  let v564 : BitVec 32 := Scalar.addi c0_i32_190 v563
  let c1_i32_193 : BitVec 32 := 1#32
  let arg15 : BitVec 32 := Scf.iv v564 c1_i32_193 k0_t2
  let c256_i32_275 : BitVec 32 := 256#32
  let v684 : BitVec 32 := Scalar.muli arg15 c256_i32_275
  let v685 : BitVec 32 := v684
  let v687 : Index := Scalar.indexCast v685
  let c0_279 : Index := 0#32
  ![0, v687.toNat, 0]
def k0_off5 (i : grid0.Coords) (k0_t2 : Fin (k0_t2_loop i).trips) : Fin 3 → Nat :=
  let c0_283 : Index := 0#32
  let c0_i32_190 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_188 : BitVec 32 := 1#32
  let v559 : BitVec 32 := Scalar.subi v20 c1_i32_188
  let v560 : BitVec 32 := Scalar.subi v559 c0_i32_190
  let c1_i32_191 : BitVec 32 := 1#32
  let v562 : BitVec 32 := Scalar.divsi v560 c1_i32_191
  let v563 : BitVec 32 := Scalar.muli v562 c1_i32_191
  let v564 : BitVec 32 := Scalar.addi c0_i32_190 v563
  let c1_i32_193 : BitVec 32 := 1#32
  let arg15 : BitVec 32 := Scf.iv v564 c1_i32_193 k0_t2
  let c256_i32_275 : BitVec 32 := 256#32
  let v684 : BitVec 32 := Scalar.muli arg15 c256_i32_275
  let v685 : BitVec 32 := v684
  let v692 : Index := Scalar.indexCast v685
  let c0_284 : Index := 0#32
  ![0, v692.toNat, 0]
def k0_off6 (i : grid0.Coords) (k0_t2 : Fin (k0_t2_loop i).trips) : Fin 3 → Nat :=
  let c0_i32_190 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_188 : BitVec 32 := 1#32
  let v559 : BitVec 32 := Scalar.subi v20 c1_i32_188
  let v560 : BitVec 32 := Scalar.subi v559 c0_i32_190
  let c1_i32_191 : BitVec 32 := 1#32
  let v562 : BitVec 32 := Scalar.divsi v560 c1_i32_191
  let v563 : BitVec 32 := Scalar.muli v562 c1_i32_191
  let v564 : BitVec 32 := Scalar.addi c0_i32_190 v563
  let c1_i32_193 : BitVec 32 := 1#32
  let arg15 : BitVec 32 := Scf.iv v564 c1_i32_193 k0_t2
  let v699 : Index := Scalar.indexCast arg15
  let c0_287 : Index := 0#32
  let c0_288 : Index := 0#32
  ![v699.toNat, 0, 0]
def k0_mult3 (i : grid0.Coords) : BitVec 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_194 : BitVec 32 := 1#32
  let v565 : BitVec 32 := Scalar.subi v20 c1_i32_194
  let c256_i32_197 : BitVec 32 := 256#32
  let v577 : BitVec 32 := Scalar.muli v565 c256_i32_197
  v577
def k0_off7 (i : grid0.Coords) : Fin 3 → Nat :=
  let c0_200 : Index := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_194 : BitVec 32 := 1#32
  let v565 : BitVec 32 := Scalar.subi v20 c1_i32_194
  let c256_i32_197 : BitVec 32 := 256#32
  let v577 : BitVec 32 := Scalar.muli v565 c256_i32_197
  let v578 : BitVec 32 := v577
  let v580 : Index := Scalar.indexCast v578
  let c0_201 : Index := 0#32
  ![0, v580.toNat, 0]
def k0_off8 (i : grid0.Coords) : Fin 3 → Nat :=
  let c0_205 : Index := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_194 : BitVec 32 := 1#32
  let v565 : BitVec 32 := Scalar.subi v20 c1_i32_194
  let c256_i32_197 : BitVec 32 := 256#32
  let v577 : BitVec 32 := Scalar.muli v565 c256_i32_197
  let v578 : BitVec 32 := v577
  let v585 : Index := Scalar.indexCast v578
  let c0_206 : Index := 0#32
  ![0, v585.toNat, 0]
def k0_off9 (i : grid0.Coords) : Fin 3 → Nat :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c1_i32_194 : BitVec 32 := 1#32
  let v565 : BitVec 32 := Scalar.subi v20 c1_i32_194
  let v594 : Index := Scalar.indexCast v565
  let c0_210 : Index := 0#32
  let c0_211 : Index := 0#32
  ![v594.toNat, 0, 0]
@[reducible] def k0_t3_loop (i : grid0.Coords) : Scf.Loop 32 :=
  let c0_i32_228 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v622 : BitVec 32 := Scalar.subi v20 c0_i32_228
  let c1_i32_229 : BitVec 32 := 1#32
  let v624 : BitVec 32 := Scalar.divsi v622 c1_i32_229
  let v625 : BitVec 32 := Scalar.muli v624 c1_i32_229
  let v626 : BitVec 32 := Scalar.addi c0_i32_228 v625
  let c1_i32_230 : BitVec 32 := 1#32
  ⟨c0_i32_228, v626, c1_i32_230⟩
def k0_mult4 (i : grid0.Coords) (k0_t3 : Fin (k0_t3_loop i).trips) : BitVec 32 :=
  let c0_i32_228 : BitVec 32 := 0#32
  let c1_i32_230 : BitVec 32 := 1#32
  let arg15 : BitVec 32 := Scf.iv c0_i32_228 c1_i32_230 k0_t3
  let c256_i32_275 : BitVec 32 := 256#32
  let v684 : BitVec 32 := Scalar.muli arg15 c256_i32_275
  v684
def k0_off10 (i : grid0.Coords) (k0_t3 : Fin (k0_t3_loop i).trips) : Fin 3 → Nat :=
  let c0_i32_228 : BitVec 32 := 0#32
  let c1_i32_230 : BitVec 32 := 1#32
  let arg15 : BitVec 32 := Scf.iv c0_i32_228 c1_i32_230 k0_t3
  let v686 : Index := Scalar.indexCast arg15
  let c0_276 : Index := 0#32
  let c0_277 : Index := 0#32
  ![v686.toNat, 0, 0]
def k0_off11 (i : grid0.Coords) (k0_t3 : Fin (k0_t3_loop i).trips) : Fin 3 → Nat :=
  let c0_288 : Index := 0#32
  let c0_i32_228 : BitVec 32 := 0#32
  let c1_i32_230 : BitVec 32 := 1#32
  let arg15 : BitVec 32 := Scf.iv c0_i32_228 c1_i32_230 k0_t3
  let c256_i32_275 : BitVec 32 := 256#32
  let v684 : BitVec 32 := Scalar.muli arg15 c256_i32_275
  let v685 : BitVec 32 := v684
  let v706 : Index := Scalar.indexCast v685
  let c0_289 : Index := 0#32
  ![0, v706.toNat, 0]
@[reducible] def k0_t4_loop (i : grid0.Coords) : Scf.Loop 32 :=
  let c0_i32_228 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v622 : BitVec 32 := Scalar.subi v20 c0_i32_228
  let c1_i32_229 : BitVec 32 := 1#32
  let v624 : BitVec 32 := Scalar.divsi v622 c1_i32_229
  let v625 : BitVec 32 := Scalar.muli v624 c1_i32_229
  let v626 : BitVec 32 := Scalar.addi c0_i32_228 v625
  let v623 : BitVec 32 := Scalar.addi c0_i32_228 v622
  let c1_i32_231 : BitVec 32 := 1#32
  ⟨v626, v623, c1_i32_231⟩
def k0_mult5 (i : grid0.Coords) (k0_t4 : Fin (k0_t4_loop i).trips) : BitVec 32 :=
  let c0_i32_228 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v622 : BitVec 32 := Scalar.subi v20 c0_i32_228
  let c1_i32_229 : BitVec 32 := 1#32
  let v624 : BitVec 32 := Scalar.divsi v622 c1_i32_229
  let v625 : BitVec 32 := Scalar.muli v624 c1_i32_229
  let v626 : BitVec 32 := Scalar.addi c0_i32_228 v625
  let c1_i32_231 : BitVec 32 := 1#32
  let arg15 : BitVec 32 := Scf.iv v626 c1_i32_231 k0_t4
  let c256_i32_275 : BitVec 32 := 256#32
  let v684 : BitVec 32 := Scalar.muli arg15 c256_i32_275
  v684
def k0_off12 (i : grid0.Coords) (k0_t4 : Fin (k0_t4_loop i).trips) : Fin 3 → Nat :=
  let c0_i32_228 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v622 : BitVec 32 := Scalar.subi v20 c0_i32_228
  let c1_i32_229 : BitVec 32 := 1#32
  let v624 : BitVec 32 := Scalar.divsi v622 c1_i32_229
  let v625 : BitVec 32 := Scalar.muli v624 c1_i32_229
  let v626 : BitVec 32 := Scalar.addi c0_i32_228 v625
  let c1_i32_231 : BitVec 32 := 1#32
  let arg15 : BitVec 32 := Scf.iv v626 c1_i32_231 k0_t4
  let v686 : Index := Scalar.indexCast arg15
  let c0_276 : Index := 0#32
  let c0_277 : Index := 0#32
  ![v686.toNat, 0, 0]
def k0_off13 (i : grid0.Coords) (k0_t4 : Fin (k0_t4_loop i).trips) : Fin 3 → Nat :=
  let c0_288 : Index := 0#32
  let c0_i32_228 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let v622 : BitVec 32 := Scalar.subi v20 c0_i32_228
  let c1_i32_229 : BitVec 32 := 1#32
  let v624 : BitVec 32 := Scalar.divsi v622 c1_i32_229
  let v625 : BitVec 32 := Scalar.muli v624 c1_i32_229
  let v626 : BitVec 32 := Scalar.addi c0_i32_228 v625
  let c1_i32_231 : BitVec 32 := 1#32
  let arg15 : BitVec 32 := Scf.iv v626 c1_i32_231 k0_t4
  let c256_i32_275 : BitVec 32 := 256#32
  let v684 : BitVec 32 := Scalar.muli arg15 c256_i32_275
  let v685 : BitVec 32 := v684
  let v706 : Index := Scalar.indexCast v685
  let c0_289 : Index := 0#32
  ![0, v706.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x8x64 : Shape := ⟨4, ![8, 2048, 8, 64]⟩
abbrev S8x2048x8x32 : Shape := ⟨4, ![8, 2048, 8, 32]⟩
abbrev S8x2048x256 : Shape := ⟨3, ![8, 2048, 256]⟩
abbrev S8x2048x32 : Shape := ⟨3, ![8, 2048, 32]⟩
abbrev S256x8x128 : Shape := ⟨3, ![256, 8, 128]⟩
abbrev S256x8x64 : Shape := ⟨3, ![256, 8, 64]⟩
abbrev S8x256x8x2048 : Shape := ⟨4, ![8, 256, 8, 2048]⟩
abbrev S8x2048x8x256 : Shape := ⟨4, ![8, 2048, 8, 256]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048x2048x8 : Shape := ⟨4, ![8, 2048, 2048, 8]⟩
abbrev S8x8x2048x2048 : Shape := ⟨4, ![8, 8, 2048, 2048]⟩
abbrev S_ : Shape := ⟨0, ![]⟩
abbrev S8x8x2048 : Shape := ⟨3, ![8, 8, 2048]⟩
abbrev S8x8x2048x1 : Shape := ⟨4, ![8, 8, 2048, 1]⟩
abbrev S8x64x8x2048 : Shape := ⟨4, ![8, 64, 8, 2048]⟩
abbrev S8x2048x512 : Shape := ⟨3, ![8, 2048, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x32, .f32⟩
  | .hbm, ⟨2, _⟩ => ⟨S8x2048x256, .f32⟩
  | .hbm, ⟨3, _⟩ => ⟨S8x2048x32, .f32⟩
  | .hbm, ⟨4, _⟩ => ⟨S256x8x128, .f32⟩
  | .hbm, ⟨5, _⟩ => ⟨S256x8x64, .f32⟩
  | .hbm, ⟨6, _⟩ => ⟨S8x256x8x2048, .f32⟩
  | .hbm, ⟨7, _⟩ => ⟨S8x2048x8x256, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S8x2048x2048x8, .f32⟩
  | .hbm, ⟨15, _⟩ => ⟨S8x8x2048x2048, .f32⟩
  | .hbm, ⟨16, _⟩ => ⟨S8x2048x2048x8, .f32⟩
  | .hbm, ⟨17, _⟩ => ⟨S8x8x2048x2048, .f32⟩
  | .hbm, ⟨18, _⟩ => ⟨S8x8x2048x2048, .f32⟩
  | .hbm, ⟨19, _⟩ => ⟨S_, .f32⟩
  | .hbm, ⟨20, _⟩ => ⟨S8x8x2048x2048, .f32⟩
  | .hbm, ⟨21, _⟩ => ⟨S8x8x2048x2048, .f32⟩
  | .hbm, ⟨22, _⟩ => ⟨S_, .f32⟩
  | .hbm, ⟨23, _⟩ => ⟨S_, .f32⟩
  | .hbm, ⟨24, _⟩ => ⟨S8x8x2048x2048, .i1⟩
  | .hbm, ⟨25, _⟩ => ⟨S8x8x2048x2048, .f32⟩
  | .hbm, ⟨26, _⟩ => ⟨S8x8x2048x2048, .f32⟩
  | .hbm, ⟨27, _⟩ => ⟨S_, .f32⟩
  | .hbm, ⟨28, _⟩ => ⟨S8x8x2048, .f32⟩
  | .hbm, ⟨29, _⟩ => ⟨S_, .f32⟩
  | .hbm, ⟨30, _⟩ => ⟨S8x8x2048, .f32⟩
  | .hbm, ⟨31, _⟩ => ⟨S8x8x2048, .f32⟩
  | .hbm, ⟨32, _⟩ => ⟨S8x8x2048x1, .f32⟩
  | .hbm, ⟨33, _⟩ => ⟨S8x8x2048x2048, .f32⟩
  | .hbm, ⟨34, _⟩ => ⟨S8x8x2048x2048, .f32⟩
  | .hbm, ⟨35, _⟩ => ⟨S8x8x2048x2048, .f32⟩
  | .hbm, ⟨36, _⟩ => ⟨S_, .f32⟩
  | .hbm, ⟨37, _⟩ => ⟨S8x8x2048, .f32⟩
  | .hbm, ⟨38, _⟩ => ⟨S8x8x2048x1, .f32⟩
  | .hbm, ⟨39, _⟩ => ⟨S8x8x2048x2048, .f32⟩
  | .hbm, ⟨40, _⟩ => ⟨S8x8x2048x2048, .f32⟩
  | .hbm, ⟨41, _⟩ => ⟨S8x256x8x2048, .f32⟩
  | .hbm, ⟨42, _⟩ => ⟨S8x2048x8x256, .f32⟩
  | .hbm, ⟨43, _⟩ => ⟨S256x8x64, .f32⟩
  | .hbm, ⟨44, _⟩ => ⟨S8x64x8x2048, .f32⟩
  | .hbm, ⟨45, _⟩ => ⟨S8x2048x8x64, .f32⟩
  | .hbm, ⟨46, _⟩ => ⟨S8x2048x512, .f32⟩
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Back.lean ====
abbrev S8x2048x1024 : Shape := ⟨3, ![8, 2048, 1024]⟩
abbrev S8x3072 : Shape := ⟨2, ![8, 3072]⟩
abbrev S8x2048x512 : Shape := ⟨3, ![8, 2048, 512]⟩
abbrev S512x1024 : Shape := ⟨2, ![512, 1024]⟩
abbrev S1024x1024 : Shape := ⟨2, ![1024, 1024]⟩
abbrev S1024 : Shape := ⟨1, ![1024]⟩
abbrev S8x1x3072 : Shape := ⟨3, ![8, 1, 3072]⟩
abbrev S1x1024 : Shape := ⟨2, ![1, 1024]⟩
abbrev S1x256x1024 : Shape := ⟨3, ![1, 256, 1024]⟩
abbrev S1x1x3072 : Shape := ⟨3, ![1, 1, 3072]⟩
abbrev S1x256x512 : Shape := ⟨3, ![1, 256, 512]⟩
abbrev S256x512 : Shape := ⟨2, ![256, 512]⟩
abbrev S256x1024 : Shape := ⟨2, ![256, 1024]⟩
abbrev S1x3072 : Shape := ⟨2, ![1, 3072]⟩
abbrev S256 : Shape := ⟨1, ![256]⟩
abbrev S256x1 : Shape := ⟨2, ![256, 1]⟩

abbrev nBuf : Space → Nat
  | .hbm => 18
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S8x3072, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S8x2048x512, .f32⟩
  | .hbm, ⟨6, _⟩ => ⟨S8x2048x1024, .f32⟩
  | .hbm, ⟨7, _⟩ => ⟨S8x2048x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S8x1x3072, .f32⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S1x1024, .f32⟩
  | .hbm, ⟨17, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1x1024, .f32⟩
  | .local _ .vmem, ⟨20, _⟩ => ⟨S1x256x1024, .f32⟩
  | .local _ .vmem, ⟨21, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== BackReferenceIdeal.lean ====
abbrev S8x2048x1024 : Shape := ⟨3, ![8, 2048, 1024]⟩
abbrev S8x3072 : Shape := ⟨2, ![8, 3072]⟩
abbrev S8x2048x512 : Shape := ⟨3, ![8, 2048, 512]⟩
abbrev S512x1024 : Shape := ⟨2, ![512, 1024]⟩
abbrev S1024x1024 : Shape := ⟨2, ![1024, 1024]⟩
abbrev S1024 : Shape := ⟨1, ![1024]⟩
abbrev S8x1024 : Shape := ⟨2, ![8, 1024]⟩
abbrev S_ : Shape := ⟨0, ![]⟩
abbrev S8x1x1024 : Shape := ⟨3, ![8, 1, 1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x3072, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S8x2048x512, .f32⟩
  | .hbm, ⟨6, _⟩ => ⟨S8x2048x1024, .f32⟩
  | .hbm, ⟨7, _⟩ => ⟨S8x2048x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x2048x512, .f32⟩
  | .hbm, ⟨16, _⟩ => ⟨S8x2048x512, .f32⟩
  | .hbm, ⟨17, _⟩ => ⟨S_, .f32⟩
  | .hbm, ⟨18, _⟩ => ⟨S8x2048x512, .f32⟩
  | .hbm, ⟨19, _⟩ => ⟨S8x2048x512, .f32⟩
  | .hbm, ⟨20, _⟩ => ⟨S_, .f32⟩
  | .hbm, ⟨21, _⟩ => ⟨S8x2048x512, .f32⟩
  | .hbm, ⟨22, _⟩ => ⟨S8x2048x512, .f32⟩
  | .hbm, ⟨23, _⟩ => ⟨S8x2048x512, .f32⟩
  | .hbm, ⟨24, _⟩ => ⟨S8x2048x512, .f32⟩
  | .hbm, ⟨25, _⟩ => ⟨S8x2048x1024, .f32⟩
  | .hbm, ⟨26, _⟩ => ⟨S8x2048x512, .f32⟩
  | .hbm, ⟨27, _⟩ => ⟨S8x2048x512, .f32⟩
  | .hbm, ⟨28, _⟩ => ⟨S_, .f32⟩
  | .hbm, ⟨29, _⟩ => ⟨S8x2048x512, .f32⟩
  | .hbm, ⟨30, _⟩ => ⟨S8x2048x512, .f32⟩
  | .hbm, ⟨31, _⟩ => ⟨S_, .f32⟩
  | .hbm, ⟨32, _⟩ => ⟨S8x2048x512, .f32⟩
  | .hbm, ⟨33, _⟩ => ⟨S8x2048x512, .f32⟩
  | .hbm, ⟨34, _⟩ => ⟨S8x2048x512, .f32⟩
  | .hbm, ⟨35, _⟩ => ⟨S8x2048x512, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S_, .f32⟩
  | .hbm, ⟨40, _⟩ => ⟨S8x2048x1024, .f32⟩
  | .hbm, ⟨41, _⟩ => ⟨S8x2048x1024, .f32⟩
  | .hbm, ⟨42, _⟩ => ⟨S_, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S_, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S8x1x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S_, .f32⟩
  | .hbm, ⟨63, _⟩ => ⟨S8x2048, .f32⟩
  | .hbm, ⟨64, _⟩ => ⟨S8x2048x1, .f32⟩
  | .hbm, ⟨65, _⟩ => ⟨S_, .f32⟩
  | .hbm, ⟨66, _⟩ => ⟨S8x2048x1, .f32⟩
  | .hbm, ⟨67, _⟩ => ⟨S8x2048x1, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S8x2048x1, .f32⟩
  | .hbm, ⟨72, _⟩ => ⟨S8x2048x1024, .f32⟩
  | .hbm, ⟨73, _⟩ => ⟨S8x2048x1024, .f32⟩
  | .hbm, ⟨74, _⟩ => ⟨S1x1x1024, .f32⟩
  | .hbm, ⟨75, _⟩ => ⟨S8x2048x1024, .f32⟩
  | .hbm, ⟨76, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_cst_0 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_1 : Ref sig .tc := ⟨.hbm, 48, rfl⟩
abbrev main_v18 : Ref sig .tc := ⟨.hbm, 49, rfl⟩
abbrev main_v19 : Ref sig .tc := ⟨.hbm, 50, rfl⟩
abbrev main_cst_2 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_3 : Ref sig .tc := ⟨.hbm, 62, rfl⟩
abbrev main_v30 : Ref sig .tc := ⟨.hbm, 63, rfl⟩
abbrev main_v31 : Ref sig .tc := ⟨.hbm, 64, rfl⟩
abbrev main_cst_4 : Ref sig .tc := ⟨.hbm, 65, rfl⟩
abbrev main_v32 : Ref sig .tc := ⟨.hbm, 66, rfl⟩
abbrev main_v33 : Ref sig .tc := ⟨.hbm, 67, rfl⟩
abbrev main_cst_5 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩

abbrev nD : Nat := 1
abbrev τ : Topo := Topo.v7x

variable {F : FTy → Type} [FloatOps F]
-- ==== Front.lean ====
abbrev S8x2048x1024 : Shape := ⟨3, ![8, 2048, 1024]⟩
abbrev S8x3072 : Shape := ⟨2, ![8, 3072]⟩
abbrev S1024 : Shape := ⟨1, ![1024]⟩
abbrev S1024x5604 : Shape := ⟨2, ![1024, 5604]⟩
abbrev S384 : Shape := ⟨1, ![384]⟩
abbrev S384x768 : Shape := ⟨2, ![384, 768]⟩
abbrev S256 : Shape := ⟨1, ![256]⟩
abbrev S8x1x3072 : Shape := ⟨3, ![8, 1, 3072]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S16 : Shape := ⟨1, ![16]⟩
abbrev S1x16 : Shape := ⟨2, ![1, 16]⟩
abbrev S2048x16 : Shape := ⟨2, ![2048, 16]⟩
abbrev S2048x4 : Shape := ⟨2, ![2048, 4]⟩
abbrev S2048x28 : Shape := ⟨2, ![2048, 28]⟩
abbrev S2048x128 : Shape := ⟨2, ![2048, 128]⟩
abbrev S1x2048x1x64 : Shape := ⟨4, ![1, 2048, 1, 64]⟩
abbrev S1x2048x8x64 : Shape := ⟨4, ![1, 2048, 8, 64]⟩
abbrev S2048x512 : Shape := ⟨2, ![2048, 512]⟩
abbrev S1x2048x1x32 : Shape := ⟨4, ![1, 2048, 1, 32]⟩
abbrev S1x2048x8x32 : Shape := ⟨4, ![1, 2048, 8, 32]⟩
abbrev S2048x256 : Shape := ⟨2, ![2048, 256]⟩
abbrev S2048x1792 : Shape := ⟨2, ![2048, 1792]⟩
abbrev S1x1024 : Shape := ⟨2, ![1, 1024]⟩
abbrev S1x384 : Shape := ⟨2, ![1, 384]⟩
abbrev S1x256 : Shape := ⟨2, ![1, 256]⟩
abbrev S1024x512 : Shape := ⟨2, ![1024, 512]⟩
abbrev S1024x256 : Shape := ⟨2, ![1024, 256]⟩
abbrev S1024x64 : Shape := ⟨2, ![1024, 64]⟩
abbrev S1024x4 : Shape := ⟨2, ![1024, 4]⟩
abbrev S1024x384 : Shape := ⟨2, ![1024, 384]⟩
abbrev S1024x32 : Shape := ⟨2, ![1024, 32]⟩
abbrev S1024x1024 : Shape := ⟨2, ![1024, 1024]⟩
abbrev S1024x1x2x16 : Shape := ⟨4, ![1024, 1, 2, 16]⟩
abbrev S1024x1x1x16 : Shape := ⟨4, ![1024, 1, 1, 16]⟩
abbrev S1024x1x16 : Shape := ⟨3, ![1024, 1, 16]⟩
abbrev S1024x1x32 : Shape := ⟨3, ![1024, 1, 32]⟩
abbrev S1024x8x2x32 : Shape := ⟨4, ![1024, 8, 2, 32]⟩
abbrev S1024x8x1x32 : Shape := ⟨4, ![1024, 8, 1, 32]⟩
abbrev S1024x8x32 : Shape := ⟨3, ![1024, 8, 32]⟩
abbrev S1024x8x64 : Shape := ⟨3, ![1024, 8, 64]⟩
abbrev S1024x3968 : Shape := ⟨2, ![1024, 3968]⟩
abbrev S1024x2560 : Shape := ⟨2, ![1024, 2560]⟩
abbrev S1024x6528 : Shape := ⟨2, ![1024, 6528]⟩
abbrev S384x8x96 : Shape := ⟨3, ![384, 8, 96]⟩
abbrev S384x8x64 : Shape := ⟨3, ![384, 8, 64]⟩
abbrev S384x512 : Shape := ⟨2, ![384, 512]⟩
abbrev S384x8x32 : Shape := ⟨3, ![384, 8, 32]⟩
abbrev S384x256 : Shape := ⟨2, ![384, 256]⟩
abbrev S384x8x2x16 : Shape := ⟨4, ![384, 8, 2, 16]⟩
abbrev S384x8x1x16 : Shape := ⟨4, ![384, 8, 1, 16]⟩
abbrev S384x8x16 : Shape := ⟨3, ![384, 8, 16]⟩
abbrev S384x1024 : Shape := ⟨2, ![384, 1024]⟩
abbrev S8x2048x512 : Shape := ⟨3, ![8, 2048, 512]⟩
abbrev S8x8x512x256 : Shape := ⟨4, ![8, 8, 512, 256]⟩
abbrev S8x2048x128 : Shape := ⟨3, ![8, 2048, 128]⟩
abbrev S8x2048x256 : Shape := ⟨3, ![8, 2048, 256]⟩
abbrev S1x256x1024 : Shape := ⟨3, ![1, 256, 1024]⟩
abbrev S1x1x3072 : Shape := ⟨3, ![1, 1, 3072]⟩
abbrev S256x1792 : Shape := ⟨2, ![256, 1792]⟩
abbrev S1x256x512 : Shape := ⟨3, ![1, 256, 512]⟩
abbrev S1x1x512x256 : Shape := ⟨4, ![1, 1, 512, 256]⟩
abbrev S1x256x128 : Shape := ⟨3, ![1, 256, 128]⟩
abbrev S1x256x256 : Shape := ⟨3, ![1, 256, 256]⟩
abbrev S1x3072 : Shape := ⟨2, ![1, 3072]⟩
abbrev S256x1024 : Shape := ⟨2, ![256, 1024]⟩
abbrev S256x1 : Shape := ⟨2, ![256, 1]⟩
abbrev S256x512 : Shape := ⟨2, ![256, 512]⟩
abbrev S256x256 : Shape := ⟨2, ![256, 256]⟩
abbrev S1024x2048 : Shape := ⟨2, ![1024, 2048]⟩
abbrev S256x2048 : Shape := ⟨2, ![256, 2048]⟩
abbrev S1024x1280 : Shape := ⟨2, ![1024, 1280]⟩
abbrev S256x1280 : Shape := ⟨2, ![256, 1280]⟩
abbrev S512x256 : Shape := ⟨2, ![512, 256]⟩
abbrev S256x128 : Shape := ⟨2, ![256, 128]⟩
abbrev S1024x640 : Shape := ⟨2, ![1024, 640]⟩
abbrev S256x640 : Shape := ⟨2, ![256, 640]⟩
abbrev S256x384 : Shape := ⟨2, ![256, 384]⟩
abbrev S1024x1536 : Shape := ⟨2, ![1024, 1536]⟩
abbrev S256x1536 : Shape := ⟨2, ![256, 1536]⟩

abbrev nBuf : Space → Nat
  | .hbm => 151
  | .vmem => 39
  | .smem => 0
  | _ => 0

abbrev hbmTy0_0 (i : Nat) : BufTy := match i % 128 with
  | 0 => ⟨S8x2048x1024, .f32⟩
  | 1 => ⟨S8x3072, .f32⟩
  | 2 => ⟨S1024, .f32⟩
  | 3 => ⟨S1024x5604, .f32⟩
  | 4 => ⟨S384, .f32⟩
  | 5 => ⟨S384x768, .f32⟩
  | 6 => ⟨S256, .f32⟩
  | 7 => ⟨S8x1x3072, .f32⟩
  | 8 => ⟨S2048, .i32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S2048, .f32⟩
  | 24 => ⟨S2048x1, .f32⟩
  | 25 => ⟨S1x32, .f32⟩
  | 26 => ⟨S2048x32, .f32⟩
  | 27 => ⟨S2048x32, .f32⟩
  | 28 => ⟨S2048x32, .f32⟩
  | 29 => ⟨S2048x32, .f32⟩
  | 30 => ⟨S2048x32, .f32⟩
  | 31 => ⟨S2048x64, .f32⟩
  | 32 => ⟨S2048x64, .f32⟩
  | 33 => ⟨S16, .f32⟩
  | 34 => ⟨S_, .f32⟩
  | 35 => ⟨S16, .f32⟩
  | 36 => ⟨S16, .f32⟩
  | 37 => ⟨S_, .f32⟩
  | 38 => ⟨S16, .f32⟩
  | 39 => ⟨S16, .f32⟩
  | 40 => ⟨S16, .f32⟩
  | 41 => ⟨S_, .f32⟩
  | 42 => ⟨S16, .f32⟩
  | 43 => ⟨S16, .f32⟩
  | 44 => ⟨S_, .f32⟩
  | 45 => ⟨S16, .f32⟩
  | 46 => ⟨S16, .f32⟩
  | 47 => ⟨S2048, .f32⟩
  | 48 => ⟨S2048x1, .f32⟩
  | 49 => ⟨S1x16, .f32⟩
  | 50 => ⟨S2048x16, .f32⟩
  | 51 => ⟨S2048x16, .f32⟩
  | 52 => ⟨S2048x16, .f32⟩
  | 53 => ⟨S2048x16, .f32⟩
  | 54 => ⟨S2048x16, .f32⟩
  | 55 => ⟨S2048x32, .f32⟩
  | 56 => ⟨S2048x32, .f32⟩
  | 57 => ⟨S_, .f32⟩
  | 58 => ⟨S2048x4, .f32⟩
  | 59 => ⟨S_, .f32⟩
  | 60 => ⟨S2048x28, .f32⟩
  | 61 => ⟨S2048x128, .f32⟩
  | 62 => ⟨S_, .f32⟩
  | 63 => ⟨S2048x32, .f32⟩
  | 64 => ⟨S2048x128, .f32⟩
  | 65 => ⟨S1x2048x1x64, .f32⟩
  | 66 => ⟨S1x2048x8x64, .f32⟩
  | 67 => ⟨S2048x512, .f32⟩
  | 68 => ⟨S1x2048x1x64, .f32⟩
  | 69 => ⟨S1x2048x8x64, .f32⟩
  | 70 => ⟨S2048x512, .f32⟩
  | 71 => ⟨S1x2048x1x32, .f32⟩
  | 72 => ⟨S1x2048x8x32, .f32⟩
  | 73 => ⟨S2048x256, .f32⟩
  | 74 => ⟨S1x2048x1x32, .f32⟩
  | 75 => ⟨S1x2048x8x32, .f32⟩
  | 76 => ⟨S2048x256, .f32⟩
  | 77 => ⟨S2048x1792, .f32⟩
  | 78 => ⟨S1x1024, .f32⟩
  | 79 => ⟨S1x384, .f32⟩
  | 80 => ⟨S1x256, .f32⟩
  | 81 => ⟨S1024x512, .f32⟩
  | 82 => ⟨S1024x512, .f32⟩
  | 83 => ⟨S1024x512, .f32⟩
  | 84 => ⟨S1024x512, .f32⟩
  | 85 => ⟨S1024x256, .f32⟩
  | 86 => ⟨S1024x64, .f32⟩
  | 87 => ⟨S1024x4, .f32⟩
  | 88 => ⟨S1024x384, .f32⟩
  | 89 => ⟨S1024x256, .f32⟩
  | 90 => ⟨S1024x32, .f32⟩
  | 91 => ⟨S1024x512, .f32⟩
  | 92 => ⟨S1024x1024, .f32⟩
  | 93 => ⟨S1024x1024, .f32⟩
  | 94 => ⟨S1024x1x2x16, .f32⟩
  | 95 => ⟨S1024x1x1x16, .f32⟩
  | 96 => ⟨S1024x1x16, .f32⟩
  | 97 => ⟨S1024x1x16, .f32⟩
  | 98 => ⟨S1024x1x1x16, .f32⟩
  | 99 => ⟨S1024x1x16, .f32⟩
  | 100 => ⟨S1024x1x32, .f32⟩
  | 101 => ⟨S1024x32, .f32⟩
  | 102 => ⟨S1024x8x2x32, .f32⟩
  | 103 => ⟨S1024x8x1x32, .f32⟩
  | 104 => ⟨S1024x8x32, .f32⟩
  | 105 => ⟨S1024x8x32, .f32⟩
  | 106 => ⟨S1024x8x1x32, .f32⟩
  | 107 => ⟨S1024x8x32, .f32⟩
  | 108 => ⟨S1024x8x64, .f32⟩
  | 109 => ⟨S1024x512, .f32⟩
  | 110 => ⟨S1024x8x2x32, .f32⟩
  | 111 => ⟨S1024x8x1x32, .f32⟩
  | 112 => ⟨S1024x8x32, .f32⟩
  | 113 => ⟨S1024x8x32, .f32⟩
  | 114 => ⟨S1024x8x1x32, .f32⟩
  | 115 => ⟨S1024x8x32, .f32⟩
  | 116 => ⟨S1024x8x64, .f32⟩
  | 117 => ⟨S1024x512, .f32⟩
  | 118 => ⟨S1024x3968, .f32⟩
  | 119 => ⟨S1024x2560, .f32⟩
  | 120 => ⟨S1024x6528, .f32⟩
  | 121 => ⟨S1024x6528, .bf16⟩
  | 122 => ⟨S384x8x96, .f32⟩
  | 123 => ⟨S384x8x64, .f32⟩
  | 124 => ⟨S384x512, .f32⟩
  | 125 => ⟨S384x8x32, .f32⟩
  | 126 => ⟨S384x256, .f32⟩
  | 127 => ⟨S384x8x2x16, .f32⟩
  | _ => ⟨S8x2048x1024, .f32⟩

abbrev hbmTy0_1 (i : Nat) : BufTy := match i % 128 with
  | 0 => ⟨S384x8x1x16, .f32⟩
  | 1 => ⟨S384x8x16, .f32⟩
  | 2 => ⟨S384x8x16, .f32⟩
  | 3 => ⟨S384x8x1x16, .f32⟩
  | 4 => ⟨S384x8x16, .f32⟩
  | 5 => ⟨S384x8x32, .f32⟩
  | 6 => ⟨S384x256, .f32⟩
  | 7 => ⟨S384x1024, .f32⟩
  | 8 => ⟨S384x1024, .bf16⟩
  | 9 => ⟨S8x2048x512, .bf16⟩
  | 10 => ⟨S8x2048x512, .f32⟩
  | 11 => ⟨S8x2048x512, .bf16⟩
  | 12 => ⟨S8x2048x512, .f32⟩
  | 13 => ⟨S8x8x512x256, .bf16⟩
  | 14 => ⟨S8x2048x512, .f32⟩
  | 15 => ⟨S8x2048x128, .bf16⟩
  | 16 => ⟨S8x2048x512, .bf16⟩
  | 17 => ⟨S8x2048x256, .bf16⟩
  | 18 => ⟨S8x2048x256, .f32⟩
  | 19 => ⟨S8x2048x256, .bf16⟩
  | 20 => ⟨S8x2048x512, .f32⟩
  | 21 => ⟨S8x2048x1024, .f32⟩
  | 22 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x1x3072, .f32⟩
  | .local _ .vmem, ⟨3, _⟩ => ⟨S1x1x3072, .f32⟩
  | .local _ .vmem, ⟨4, _⟩ => ⟨S256x1792, .f32⟩
  | .local _ .vmem, ⟨5, _⟩ => ⟨S256x1792, .f32⟩
  | .local _ .vmem, ⟨6, _⟩ => ⟨S1x1024, .f32⟩
  | .local _ .vmem, ⟨7, _⟩ => ⟨S1x384, .f32⟩
  | .local _ .vmem, ⟨8, _⟩ => ⟨S1x256, .f32⟩
  | .local _ .vmem, ⟨9, _⟩ => ⟨S1024x6528, .bf16⟩
  | .local _ .vmem, ⟨10, _⟩ => ⟨S384x1024, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .f32⟩
  | .local _ .vmem, ⟨14, _⟩ => ⟨S1x256x512, .f32⟩
  | .local _ .vmem, ⟨15, _⟩ => ⟨S1x256x512, .bf16⟩
  | .local _ .vmem, ⟨16, _⟩ => ⟨S1x256x512, .bf16⟩
  | .local _ .vmem, ⟨17, _⟩ => ⟨S1x256x512, .f32⟩
  | .local _ .vmem, ⟨18, _⟩ => ⟨S1x256x512, .f32⟩
  | .local _ .vmem, ⟨19, _⟩ => ⟨S1x1x512x256, .bf16⟩
  | .local _ .vmem, ⟨20, _⟩ => ⟨S1x1x512x256, .bf16⟩
  | .local _ .vmem, ⟨21, _⟩ => ⟨S1x256x512, .f32⟩
  | .local _ .vmem, ⟨22, _⟩ => ⟨S1x256x512, .f32⟩
  | .local _ .vmem, ⟨23, _⟩ => ⟨S1x256x128, .bf16⟩
  | .local _ .vmem, ⟨24, _⟩ => ⟨S1x256x128, .bf16⟩
  | .local _ .vmem, ⟨25, _⟩ => ⟨S1x256x512, .bf16⟩
  | .local _ .vmem, ⟨26, _⟩ => ⟨S1x256x512, .bf16⟩
  | .local _ .vmem, ⟨27, _⟩ => ⟨S1x256x256, .bf16⟩
  | .local _ .vmem, ⟨28, _⟩ => ⟨S1x256x256, .bf16⟩
  | .local _ .vmem, ⟨29, _⟩ => ⟨S1x256x256, .f32⟩
  | .local _ .vmem, ⟨30, _⟩ => ⟨S1x256x256, .f32⟩
  | .local _ .vmem, ⟨31, _⟩ => ⟨S1x256x256, .bf16⟩
  | .local _ .vmem, ⟨32, _⟩ => ⟨S1x256x256, .bf16⟩
  | .local _ .vmem, ⟨33, _⟩ => ⟨S1x256x512, .f32⟩
  | .local _ .vmem, ⟨34, _⟩ => ⟨S1x256x512, .f32⟩
  | .local _ .vmem, ⟨35, _⟩ => ⟨S1x256x1024, .f32⟩
  | .local _ .vmem, ⟨36, _⟩ => ⟨S1x256x1024, .f32⟩
  | .local _ .vmem, ⟨37, _⟩ => ⟨S1x256x1024, .f32⟩
  | .local _ .vmem, ⟨38, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119_0 : Ref sig .tc := ⟨.hbm, 137, rfl⟩
abbrev main_v119_1 : Ref sig .tc := ⟨.hbm, 138, rfl⟩
abbrev main_v119_2 : Ref sig .tc := ⟨.hbm, 139, rfl⟩
abbrev main_v119_3 : Ref sig .tc := ⟨.hbm, 140, rfl⟩
abbrev main_v119_4 : Ref sig .tc := ⟨.hbm, 141, rfl⟩
abbrev main_v119_5 : Ref sig .tc := ⟨.hbm, 142, rfl⟩
abbrev main_v119_6 : Ref sig .tc := ⟨.hbm, 143, rfl⟩
abbrev main_v119_7 : Ref sig .tc := ⟨.hbm, 144, rfl⟩
abbrev main_v119_8 : Ref sig .tc := ⟨.hbm, 145, rfl⟩
abbrev main_v119_9 : Ref sig .tc := ⟨.hbm, 146, rfl⟩
abbrev main_v119_10 : Ref sig .tc := ⟨.hbm, 147, rfl⟩
abbrev main_v119_11 : Ref sig .tc := ⟨.hbm, 148, rfl⟩
abbrev main_v119_12 : Ref sig .tc := ⟨.hbm, 149, rfl⟩
abbrev main_v119_13 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x6528 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== FrontReferenceIdeal.lean ====
abbrev S8x2048x1024 : Shape := ⟨3, ![8, 2048, 1024]⟩
abbrev S8x3072 : Shape := ⟨2, ![8, 3072]⟩
abbrev S1024 : Shape := ⟨1, ![1024]⟩
abbrev S1024x5604 : Shape := ⟨2, ![1024, 5604]⟩
abbrev S384 : Shape := ⟨1, ![384]⟩
abbrev S384x768 : Shape := ⟨2, ![384, 768]⟩
abbrev S256 : Shape := ⟨1, ![256]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x5604 : Shape := ⟨3, ![8, 2048, 5604]⟩
abbrev S8x2048x512 : Shape := ⟨3, ![8, 2048, 512]⟩
abbrev S8x2048x256 : Shape := ⟨3, ![8, 2048, 256]⟩
abbrev S8x2048x64 : Shape := ⟨3, ![8, 2048, 64]⟩
abbrev S8x2048x4 : Shape := ⟨3, ![8, 2048, 4]⟩
abbrev S8x2048x384 : Shape := ⟨3, ![8, 2048, 384]⟩
abbrev S8x2048x32 : Shape := ⟨3, ![8, 2048, 32]⟩
abbrev S8x2048x8x64 : Shape := ⟨4, ![8, 2048, 8, 64]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S8x2048x8x32 : Shape := ⟨4, ![8, 2048, 8, 32]⟩
abbrev S1x2048x1x32 : Shape := ⟨4, ![1, 2048, 1, 32]⟩
abbrev S1x1x384 : Shape := ⟨3, ![1, 1, 384]⟩
abbrev S8x2048x768 : Shape := ⟨3, ![8, 2048, 768]⟩
abbrev S8x2048x8x96 : Shape := ⟨4, ![8, 2048, 8, 96]⟩
abbrev S16 : Shape := ⟨1, ![16]⟩
abbrev S1x16 : Shape := ⟨2, ![1, 16]⟩
abbrev S2048x16 : Shape := ⟨2, ![2048, 16]⟩
abbrev S2048x1x16 : Shape := ⟨3, ![2048, 1, 16]⟩
abbrev S8x2048x8x16 : Shape := ⟨4, ![8, 2048, 8, 16]⟩
abbrev S1x2048x1x16 : Shape := ⟨4, ![1, 2048, 1, 16]⟩
abbrev S1x1x256 : Shape := ⟨3, ![1, 1, 256]⟩
abbrev S8x2048x1x32 : Shape := ⟨4, ![8, 2048, 1, 32]⟩
abbrev S8x2048x1x16 : Shape := ⟨4, ![8, 2048, 1, 16]⟩
abbrev S8x8x256x512 : Shape := ⟨4, ![8, 8, 256, 512]⟩
abbrev S8x8x512x256 : Shape := ⟨4, ![8, 8, 512, 256]⟩
abbrev S8x2048x128 : Shape := ⟨3, ![8, 2048, 128]⟩

abbrev nBuf : Space → Nat
  | .hbm => 271
  | .vmem => 0
  | .smem => 0
  | _ => 0

abbrev hbmTy0_0 (i : Nat) : BufTy := match i % 128 with
  | 0 => ⟨S8x2048x1024, .f32⟩
  | 1 => ⟨S8x3072, .f32⟩
  | 2 => ⟨S1024, .f32⟩
  | 3 => ⟨S1024x5604, .f32⟩
  | 4 => ⟨S384, .f32⟩
  | 5 => ⟨S384x768, .f32⟩
  | 6 => ⟨S256, .f32⟩
  | 7 => ⟨S8x1024, .f32⟩
  | 8 => ⟨S8x1024, .f32⟩
  | 9 => ⟨S8x1024, .f32⟩
  | 10 => ⟨S8x2048x1024, .f32⟩
  | 11 => ⟨S_, .f32⟩
  | 12 => ⟨S8x2048, .f32⟩
  | 13 => ⟨S8x2048x1, .f32⟩
  | 14 => ⟨S_, .f32⟩
  | 15 => ⟨S8x2048x1, .f32⟩
  | 16 => ⟨S8x2048x1, .f32⟩
  | 17 => ⟨S_, .f32⟩
  | 18 => ⟨S8x2048x1, .f32⟩
  | 19 => ⟨S8x2048x1, .f32⟩
  | 20 => ⟨S8x2048x1, .f32⟩
  | 21 => ⟨S8x2048x1024, .f32⟩
  | 22 => ⟨S8x2048x1024, .f32⟩
  | 23 => ⟨S1x1x1024, .f32⟩
  | 24 => ⟨S8x2048x1024, .f32⟩
  | 25 => ⟨S8x2048x1024, .f32⟩
  | 26 => ⟨S8x1x1024, .f32⟩
  | 27 => ⟨S_, .f32⟩
  | 28 => ⟨S8x1x1024, .f32⟩
  | 29 => ⟨S8x1x1024, .f32⟩
  | 30 => ⟨S8x2048x1024, .f32⟩
  | 31 => ⟨S8x2048x1024, .f32⟩
  | 32 => ⟨S8x1x1024, .f32⟩
  | 33 => ⟨S8x2048x1024, .f32⟩
  | 34 => ⟨S8x2048x1024, .f32⟩
  | 35 => ⟨S8x2048x5604, .f32⟩
  | 36 => ⟨S8x2048x512, .f32⟩
  | 37 => ⟨S8x2048x512, .f32⟩
  | 38 => ⟨S8x2048x512, .f32⟩
  | 39 => ⟨S8x2048x512, .f32⟩
  | 40 => ⟨S8x2048x256, .f32⟩
  | 41 => ⟨S8x2048x64, .f32⟩
  | 42 => ⟨S8x2048x4, .f32⟩
  | 43 => ⟨S8x2048x384, .f32⟩
  | 44 => ⟨S8x2048x256, .f32⟩
  | 45 => ⟨S8x2048x32, .f32⟩
  | 46 => ⟨S8x2048x512, .f32⟩
  | 47 => ⟨S8x2048x1024, .f32⟩
  | 48 => ⟨S8x2048x1024, .f32⟩
  | 49 => ⟨S8x2048x8x64, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S32, .f32⟩
  | 58 => ⟨S_, .f32⟩
  | 59 => ⟨S32, .f32⟩
  | 60 => ⟨S32, .f32⟩
  | 61 => ⟨S_, .f32⟩
  | 62 => ⟨S32, .f32⟩
  | 63 => ⟨S32, .f32⟩
  | 64 => ⟨S2048, .i32⟩
  | 65 => ⟨S2048, .f32⟩
  | 66 => ⟨S2048x1, .f32⟩
  | 67 => ⟨S1x32, .f32⟩
  | 68 => ⟨S2048x32, .f32⟩
  | 69 => ⟨S2048x32, .f32⟩
  | 70 => ⟨S2048x32, .f32⟩
  | 71 => ⟨S2048x32, .f32⟩
  | 72 => ⟨S2048x1x32, .f32⟩
  | 73 => ⟨S2048x32, .f32⟩
  | 74 => ⟨S2048x1x32, .f32⟩
  | 75 => ⟨S8x2048x8x32, .f32⟩
  | 76 => ⟨S8x2048x8x32, .f32⟩
  | 77 => ⟨S1x2048x1x32, .f32⟩
  | 78 => ⟨S8x2048x8x32, .f32⟩
  | 79 => ⟨S8x2048x8x32, .f32⟩
  | 80 => ⟨S1x2048x1x32, .f32⟩
  | 81 => ⟨S8x2048x8x32, .f32⟩
  | 82 => ⟨S8x2048x8x32, .f32⟩
  | 83 => ⟨S8x2048x8x32, .f32⟩
  | 84 => ⟨S1x2048x1x32, .f32⟩
  | 85 => ⟨S8x2048x8x32, .f32⟩
  | 86 => ⟨S8x2048x8x32, .f32⟩
  | 87 => ⟨S1x2048x1x32, .f32⟩
  | 88 => ⟨S8x2048x8x32, .f32⟩
  | 89 => ⟨S8x2048x8x32, .f32⟩
  | 90 => ⟨S8x2048x8x32, .f32⟩
  | 91 => ⟨S8x2048x8x64, .f32⟩
  | 92 => ⟨S8x2048x512, .f32⟩
  | 93 => ⟨S8x2048x8x64, .f32⟩
  | 94 => ⟨S32, .f32⟩
  | 95 => ⟨S_, .f32⟩
  | 96 => ⟨S32, .f32⟩
  | 97 => ⟨S32, .f32⟩
  | 98 => ⟨S_, .f32⟩
  | 99 => ⟨S32, .f32⟩
  | 100 => ⟨S32, .f32⟩
  | 101 => ⟨S32, .f32⟩
  | 102 => ⟨S_, .f32⟩
  | 103 => ⟨S32, .f32⟩
  | 104 => ⟨S32, .f32⟩
  | 105 => ⟨S_, .f32⟩
  | 106 => ⟨S32, .f32⟩
  | 107 => ⟨S32, .f32⟩
  | 108 => ⟨S2048, .i32⟩
  | 109 => ⟨S2048, .f32⟩
  | 110 => ⟨S2048x1, .f32⟩
  | 111 => ⟨S1x32, .f32⟩
  | 112 => ⟨S2048x32, .f32⟩
  | 113 => ⟨S2048x32, .f32⟩
  | 114 => ⟨S2048x32, .f32⟩
  | 115 => ⟨S2048x32, .f32⟩
  | 116 => ⟨S2048x1x32, .f32⟩
  | 117 => ⟨S2048x32, .f32⟩
  | 118 => ⟨S2048x1x32, .f32⟩
  | 119 => ⟨S8x2048x8x32, .f32⟩
  | 120 => ⟨S8x2048x8x32, .f32⟩
  | 121 => ⟨S1x2048x1x32, .f32⟩
  | 122 => ⟨S8x2048x8x32, .f32⟩
  | 123 => ⟨S8x2048x8x32, .f32⟩
  | 124 => ⟨S1x2048x1x32, .f32⟩
  | 125 => ⟨S8x2048x8x32, .f32⟩
  | 126 => ⟨S8x2048x8x32, .f32⟩
  | 127 => ⟨S8x2048x8x32, .f32⟩
  | _ => ⟨S8x2048x1024, .f32⟩

abbrev hbmTy0_1 (i : Nat) : BufTy := match i % 128 with
  | 0 => ⟨S1x2048x1x32, .f32⟩
  | 1 => ⟨S8x2048x8x32, .f32⟩
  | 2 => ⟨S8x2048x8x32, .f32⟩
  | 3 => ⟨S1x2048x1x32, .f32⟩
  | 4 => ⟨S8x2048x8x32, .f32⟩
  | 5 => ⟨S8x2048x8x32, .f32⟩
  | 6 => ⟨S8x2048x8x32, .f32⟩
  | 7 => ⟨S8x2048x8x64, .f32⟩
  | 8 => ⟨S8x2048x512, .f32⟩
  | 9 => ⟨S8x2048x384, .f32⟩
  | 10 => ⟨S_, .f32⟩
  | 11 => ⟨S8x2048, .f32⟩
  | 12 => ⟨S8x2048x1, .f32⟩
  | 13 => ⟨S_, .f32⟩
  | 14 => ⟨S8x2048x1, .f32⟩
  | 15 => ⟨S8x2048x1, .f32⟩
  | 16 => ⟨S_, .f32⟩
  | 17 => ⟨S8x2048x1, .f32⟩
  | 18 => ⟨S8x2048x1, .f32⟩
  | 19 => ⟨S8x2048x1, .f32⟩
  | 20 => ⟨S8x2048x384, .f32⟩
  | 21 => ⟨S8x2048x384, .f32⟩
  | 22 => ⟨S1x1x384, .f32⟩
  | 23 => ⟨S8x2048x384, .f32⟩
  | 24 => ⟨S8x2048x384, .f32⟩
  | 25 => ⟨S8x2048x768, .f32⟩
  | 26 => ⟨S8x2048x8x96, .f32⟩
  | 27 => ⟨S8x2048x8x64, .f32⟩
  | 28 => ⟨S8x2048x512, .f32⟩
  | 29 => ⟨S8x2048x8x32, .f32⟩
  | 30 => ⟨S16, .f32⟩
  | 31 => ⟨S_, .f32⟩
  | 32 => ⟨S16, .f32⟩
  | 33 => ⟨S16, .f32⟩
  | 34 => ⟨S_, .f32⟩
  | 35 => ⟨S16, .f32⟩
  | 36 => ⟨S16, .f32⟩
  | 37 => ⟨S16, .f32⟩
  | 38 => ⟨S_, .f32⟩
  | 39 => ⟨S16, .f32⟩
  | 40 => ⟨S16, .f32⟩
  | 41 => ⟨S_, .f32⟩
  | 42 => ⟨S16, .f32⟩
  | 43 => ⟨S16, .f32⟩
  | 44 => ⟨S2048, .i32⟩
  | 45 => ⟨S2048, .f32⟩
  | 46 => ⟨S2048x1, .f32⟩
  | 47 => ⟨S1x16, .f32⟩
  | 48 => ⟨S2048x16, .f32⟩
  | 49 => ⟨S2048x16, .f32⟩
  | 50 => ⟨S2048x16, .f32⟩
  | 51 => ⟨S2048x16, .f32⟩
  | 52 => ⟨S2048x1x16, .f32⟩
  | 53 => ⟨S2048x16, .f32⟩
  | 54 => ⟨S2048x1x16, .f32⟩
  | 55 => ⟨S8x2048x8x16, .f32⟩
  | 56 => ⟨S8x2048x8x16, .f32⟩
  | 57 => ⟨S1x2048x1x16, .f32⟩
  | 58 => ⟨S8x2048x8x16, .f32⟩
  | 59 => ⟨S8x2048x8x16, .f32⟩
  | 60 => ⟨S1x2048x1x16, .f32⟩
  | 61 => ⟨S8x2048x8x16, .f32⟩
  | 62 => ⟨S8x2048x8x16, .f32⟩
  | 63 => ⟨S8x2048x8x16, .f32⟩
  | 64 => ⟨S1x2048x1x16, .f32⟩
  | 65 => ⟨S8x2048x8x16, .f32⟩
  | 66 => ⟨S8x2048x8x16, .f32⟩
  | 67 => ⟨S1x2048x1x16, .f32⟩
  | 68 => ⟨S8x2048x8x16, .f32⟩
  | 69 => ⟨S8x2048x8x16, .f32⟩
  | 70 => ⟨S8x2048x8x16, .f32⟩
  | 71 => ⟨S8x2048x8x32, .f32⟩
  | 72 => ⟨S8x2048x256, .f32⟩
  | 73 => ⟨S8x2048x256, .f32⟩
  | 74 => ⟨S_, .f32⟩
  | 75 => ⟨S8x2048, .f32⟩
  | 76 => ⟨S8x2048x1, .f32⟩
  | 77 => ⟨S_, .f32⟩
  | 78 => ⟨S8x2048x1, .f32⟩
  | 79 => ⟨S8x2048x1, .f32⟩
  | 80 => ⟨S_, .f32⟩
  | 81 => ⟨S8x2048x1, .f32⟩
  | 82 => ⟨S8x2048x1, .f32⟩
  | 83 => ⟨S8x2048x1, .f32⟩
  | 84 => ⟨S8x2048x256, .f32⟩
  | 85 => ⟨S8x2048x256, .f32⟩
  | 86 => ⟨S1x1x256, .f32⟩
  | 87 => ⟨S8x2048x256, .f32⟩
  | 88 => ⟨S8x2048x256, .f32⟩
  | 89 => ⟨S8x2048x1x32, .f32⟩
  | 90 => ⟨S16, .f32⟩
  | 91 => ⟨S_, .f32⟩
  | 92 => ⟨S16, .f32⟩
  | 93 => ⟨S16, .f32⟩
  | 94 => ⟨S_, .f32⟩
  | 95 => ⟨S16, .f32⟩
  | 96 => ⟨S16, .f32⟩
  | 97 => ⟨S16, .f32⟩
  | 98 => ⟨S_, .f32⟩
  | 99 => ⟨S16, .f32⟩
  | 100 => ⟨S16, .f32⟩
  | 101 => ⟨S_, .f32⟩
  | 102 => ⟨S16, .f32⟩
  | 103 => ⟨S16, .f32⟩
  | 104 => ⟨S2048, .i32⟩
  | 105 => ⟨S2048, .f32⟩
  | 106 => ⟨S2048x1, .f32⟩
  | 107 => ⟨S1x16, .f32⟩
  | 108 => ⟨S2048x16, .f32⟩
  | 109 => ⟨S2048x16, .f32⟩
  | 110 => ⟨S2048x16, .f32⟩
  | 111 => ⟨S2048x16, .f32⟩
  | 112 => ⟨S2048x1x16, .f32⟩
  | 113 => ⟨S2048x16, .f32⟩
  | 114 => ⟨S2048x1x16, .f32⟩
  | 115 => ⟨S8x2048x1x16, .f32⟩
  | 116 => ⟨S8x2048x1x16, .f32⟩
  | 117 => ⟨S1x2048x1x16, .f32⟩
  | 118 => ⟨S8x2048x1x16, .f32⟩
  | 119 => ⟨S8x2048x1x16, .f32⟩
  | 120 => ⟨S1x2048x1x16, .f32⟩
  | 121 => ⟨S8x2048x1x16, .f32⟩
  | 122 => ⟨S8x2048x1x16, .f32⟩
  | 123 => ⟨S8x2048x1x16, .f32⟩
  | 124 => ⟨S1x2048x1x16, .f32⟩
  | 125 => ⟨S8x2048x1x16, .f32⟩
  | 126 => ⟨S8x2048x1x16, .f32⟩
  | 127 => ⟨S1x2048x1x16, .f32⟩
  | _ => ⟨S8x2048x1024, .f32⟩

abbrev hbmTy0_2 (i : Nat) : BufTy := match i % 128 with
  | 0 => ⟨S8x2048x1x16, .f32⟩
  | 1 => ⟨S8x2048x1x16, .f32⟩
  | 2 => ⟨S8x2048x1x16, .f32⟩
  | 3 => ⟨S8x2048x1x32, .f32⟩
  | 4 => ⟨S8x2048x32, .f32⟩
  | 5 => ⟨S8x8x256x512, .f32⟩
  | 6 => ⟨S8x8x512x256, .f32⟩
  | 7 => ⟨S8x2048x512, .bf16⟩
  | 8 => ⟨S8x2048x512, .bf16⟩
  | 9 => ⟨S8x8x512x256, .bf16⟩
  | 10 => ⟨S8x2048x128, .f32⟩
  | 11 => ⟨S8x2048x128, .bf16⟩
  | 12 => ⟨S8x2048x512, .bf16⟩
  | 13 => ⟨S8x2048x256, .bf16⟩
  | 14 => ⟨S8x2048x256, .bf16⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_cst_7 : Ref sig .tc := ⟨.hbm, 95, rfl⟩
abbrev main_v80 : Ref sig .tc := ⟨.hbm, 96, rfl⟩
abbrev main_v81 : Ref sig .tc := ⟨.hbm, 97, rfl⟩
abbrev main_cst_8 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_9 : Ref sig .tc := ⟨.hbm, 102, rfl⟩
abbrev main_v85 : Ref sig .tc := ⟨.hbm, 103, rfl⟩
abbrev main_v86 : Ref sig .tc := ⟨.hbm, 104, rfl⟩
abbrev main_cst_10 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_cst_11 : Ref sig .tc := ⟨.hbm, 138, rfl⟩
abbrev main_v119 : Ref sig .tc := ⟨.hbm, 139, rfl⟩
abbrev main_v120 : Ref sig .tc := ⟨.hbm, 140, rfl⟩
abbrev main_cst_12 : Ref sig .tc := ⟨.hbm, 141, rfl⟩
abbrev main_v121 : Ref sig .tc := ⟨.hbm, 142, rfl⟩
abbrev main_v122 : Ref sig .tc := ⟨.hbm, 143, rfl⟩
abbrev main_cst_13 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_cst_14 : Ref sig .tc := ⟨.hbm, 159, rfl⟩
abbrev main_v137 : Ref sig .tc := ⟨.hbm, 160, rfl⟩
abbrev main_v138 : Ref sig .tc := ⟨.hbm, 161, rfl⟩
abbrev main_cst_15 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_cst_16 : Ref sig .tc := ⟨.hbm, 166, rfl⟩
abbrev main_v142 : Ref sig .tc := ⟨.hbm, 167, rfl⟩
abbrev main_v143 : Ref sig .tc := ⟨.hbm, 168, rfl⟩
abbrev main_cst_17 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_cst_18 : Ref sig .tc := ⟨.hbm, 202, rfl⟩
abbrev main_v176 : Ref sig .tc := ⟨.hbm, 203, rfl⟩
abbrev main_v177 : Ref sig .tc := ⟨.hbm, 204, rfl⟩
abbrev main_cst_19 : Ref sig .tc := ⟨.hbm, 205, rfl⟩
abbrev main_v178 : Ref sig .tc := ⟨.hbm, 206, rfl⟩
abbrev main_v179 : Ref sig .tc := ⟨.hbm, 207, rfl⟩
abbrev main_cst_20 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_cst_21 : Ref sig .tc := ⟨.hbm, 219, rfl⟩
abbrev main_v190 : Ref sig .tc := ⟨.hbm, 220, rfl⟩
abbrev main_v191 : Ref sig .tc := ⟨.hbm, 221, rfl⟩
abbrev main_cst_22 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_cst_23 : Ref sig .tc := ⟨.hbm, 226, rfl⟩
abbrev main_v195 : Ref sig .tc := ⟨.hbm, 227, rfl⟩
abbrev main_v196 : Ref sig .tc := ⟨.hbm, 228, rfl⟩
abbrev main_cst_24 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_v227 : Ref sig .tc := ⟨.hbm, 260, rfl⟩
abbrev main_v228 : Ref sig .tc := ⟨.hbm, 261, rfl⟩
abbrev main_v229 : Ref sig .tc := ⟨.hbm, 262, rfl⟩
abbrev main_v230 : Ref sig .tc := ⟨.hbm, 263, rfl⟩
abbrev main_v231 : Ref sig .tc := ⟨.hbm, 264, rfl⟩
abbrev main_v232 : Ref sig .tc := ⟨.hbm, 265, rfl⟩
abbrev main_v233 : Ref sig .tc := ⟨.hbm, 266, rfl⟩
abbrev main_v234 : Ref sig .tc := ⟨.hbm, 267, rfl⟩
abbrev main_v235 : Ref sig .tc := ⟨.hbm, 268, rfl⟩
abbrev main_v236 : Ref sig .tc := ⟨.hbm, 269, rfl⟩
abbrev main_v237 : Ref sig .tc := ⟨.hbm, 270, rfl⟩

abbrev nD : Nat := 1
abbrev τ : Topo := Topo.v7x

variable {F : FTy → Type} [FloatOps F]
-- ==== Mod.lean ====
abbrev S8x1024 : Shape := ⟨2, ![8, 1024]⟩
abbrev S128x1024 : Shape := ⟨2, ![128, 1024]⟩
abbrev S1024x3072 : Shape := ⟨2, ![1024, 3072]⟩
abbrev S3072 : Shape := ⟨1, ![3072]⟩
abbrev S136x1024 : Shape := ⟨2, ![136, 1024]⟩
abbrev S1x3072 : Shape := ⟨2, ![1, 3072]⟩
abbrev S136x3072 : Shape := ⟨2, ![136, 3072]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S1024x3072, .f32⟩
  | .hbm, ⟨3, _⟩ => ⟨S3072, .f32⟩
  | .hbm, ⟨4, _⟩ => ⟨S136x1024, .f32⟩
  | .hbm, ⟨5, _⟩ => ⟨S1x3072, .f32⟩
  | .hbm, ⟨6, _⟩ => ⟨S136x3072, .f32⟩
  | .local _ .vmem, ⟨0, _⟩ => ⟨S136x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S136x1024, .f32⟩
  | .local _ .vmem, ⟨6, _⟩ => ⟨S136x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModReferenceIdeal.lean ====
abbrev S8x1024 : Shape := ⟨2, ![8, 1024]⟩
abbrev S128x1024 : Shape := ⟨2, ![128, 1024]⟩
abbrev S1024x3072 : Shape := ⟨2, ![1024, 3072]⟩
abbrev S3072 : Shape := ⟨1, ![3072]⟩
abbrev S_ : Shape := ⟨0, ![]⟩
abbrev S8x3072 : Shape := ⟨2, ![8, 3072]⟩
abbrev S1x3072 : Shape := ⟨2, ![1, 3072]⟩
abbrev S128x3072 : Shape := ⟨2, ![128, 3072]⟩
abbrev S136x3072 : Shape := ⟨2, ![136, 3072]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S1024x3072, .f32⟩
  | .hbm, ⟨3, _⟩ => ⟨S3072, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x3072, .f32⟩
  | .hbm, ⟨14, _⟩ => ⟨S1x3072, .f32⟩
  | .hbm, ⟨15, _⟩ => ⟨S8x3072, .f32⟩
  | .hbm, ⟨16, _⟩ => ⟨S8x3072, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S128x3072, .f32⟩
  | .hbm, ⟨27, _⟩ => ⟨S1x3072, .f32⟩
  | .hbm, ⟨28, _⟩ => ⟨S128x3072, .f32⟩
  | .hbm, ⟨29, _⟩ => ⟨S128x3072, .f32⟩
  | .hbm, ⟨30, _⟩ => ⟨S136x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Proof.PI.Vals.lean ====
/-
  What one grid point of the attention kernel computes, as functions of the blocks it is given.

  A grid point handles one batch and one block of 128 query positions; its 1024 rows are 8 heads times 128 queries. The
  definitions follow the kernel's own text through its payloads (`Gen.k0_pay…`): the queries carried into the latent
  space, head by head (`qLat`), the rotary part of the queries (`qRope`), the scores of one block of 256 keys (`score`),
  the running maxima (`maxUpTo`), the last block with its causal mask (`scoreLast`), the row maxima (`rowMax`), the
  running sums (`sumUpTo`) and weighted latents (`accUpTo`), and the output block (`outBlock`).
-/
module

public import proofs.«01_k».proof.Proof.Gen.KernelIdeal.Skeleton
public import Idealize.ShloMosaic.Lib.VecWindow
public import Idealize.ShloMosaic.Lib.Pointwise.Index

@[expose] public section

set_option maxRecDepth 16384

noncomputable section

namespace Cert.KernelIdeal.Att

open Idealize.ShloMosaic Cert.KernelIdeal Cert.KernelIdeal.Gen

variable {F : FTy → Type} [FloatOps F] [Named F]

/-- The lane numbers of a 128 × 128 tile. -/
abbrev lanes : IVec S128x128 32 := iota .tc S128x128 32 [1] iota_S128x128_d1_w32

/-- The number of key blocks that the query block `i 1` attends to. -/
def nb (i : grid0.Coords) : ℕ := (i 1).val / 2 + 1

/-- Rows `128 o …` of the transposed key projection. -/
abbrev wkRows (X6 : Vec F S512x256 .bf16) (o : ℕ) : Vec F S128x256 .bf16 :=
  fun y => X6 (ix2 ⟨(128 * o + (y 0).val) % 512, Nat.mod_lt _ (by decide)⟩ (y 1))

/-- Head `h`'s queries in the latent space, 128 rows, from the 128 rows of the key projection that hold its head. -/
def qLatHeadOf (X2 : Vec F S1x128x512 .bf16) (w : Vec F S128x256 .bf16) : ℕ → FVec F S128x256 .bf16
  | 0 => k0_pay7 lanes k0_pay2 (k0_pay3 X2) 64#32 k0_pay5 k0_pay6 0#32 w
  | 1 => k0_pay13 (k0_pay12 lanes k0_pay2 (k0_pay3 X2) w)
  | 2 => k0_pay18 lanes k0_pay2 (k0_pay3 X2) 64#32 (k0_pay15 lanes) (k0_pay16 lanes) (k0_pay17 lanes) w
  | 3 => k0_pay25 (k0_pay23 lanes k0_pay2 (k0_pay3 X2)) (k0_pay24 w)
  | 4 => k0_pay30 lanes k0_pay2 (k0_pay3 X2) 64#32 (k0_pay27 lanes) (k0_pay28 lanes) k0_pay29 w
  | 5 => k0_pay36 (k0_pay35 lanes k0_pay2 (k0_pay3 X2)) w
  | 6 => k0_pay40 lanes k0_pay2 (k0_pay3 X2) 64#32 (k0_pay38 lanes) (k0_pay39 lanes) w
  | _ => k0_pay45 (k0_pay44 lanes k0_pay2 (k0_pay3 X2)) w

/-- Head `h`'s queries in the latent space: two heads share 128 rows of the key projection. -/
def qLatHead (X2 : Vec F S1x128x512 .bf16) (X6 : Vec F S512x256 .bf16) (h : ℕ) : FVec F S128x256 .bf16 :=
  qLatHeadOf X2 (wkRows X6 (h / 2)) h

/-- Head `h`'s rotary queries in their own lanes, 128 rows. -/
def qRopeHead (X3 : Vec F S1x128x256 .bf16) : ℕ → FVec F S128x128 .bf16
  | 0 => k0_pay11 k0_pay2 (k0_pay4 X3) (k0_pay8 lanes) (k0_pay9 lanes) (k0_pay10 lanes) 0#32
  | 1 => k0_pay14 lanes k0_pay2 (k0_pay4 X3)
  | 2 => k0_pay22 lanes k0_pay2 (k0_pay4 X3) (k0_pay19 lanes) (k0_pay20 lanes) k0_pay21
  | 3 => k0_pay26 lanes k0_pay2 (k0_pay4 X3)
  | 4 => k0_pay34 lanes k0_pay2 (k0_pay4 X3) 32#32 (k0_pay31 lanes) (k0_pay32 lanes) k0_pay33
  | 5 => k0_pay37 lanes k0_pay2 (k0_pay4 X3)
  | 6 => k0_pay43 lanes k0_pay2 (k0_pay4 X3) 32#32 (k0_pay41 lanes) (k0_pay42 lanes)
      (Scalar.extui (Scalar.cmpi .sgt 32#32 0#32)) (Scalar.extui (Scalar.cmpi .slt 32#32 0#32))
  | _ => k0_pay46 lanes k0_pay2 (k0_pay4 X3)

/-- All rows' queries in the latent space: row `128 h + q` is head `h`'s row `q`. -/
def qLat (X2 : Vec F S1x128x512 .bf16) (X6 : Vec F S512x256 .bf16) : Vec F S1024x256 .bf16 :=
  fun y => qLatHead X2 X6 ((y 0).val / 128) (ix2 ⟨(y 0).val % 128, Nat.mod_lt _ (by decide)⟩ (y 1))

/-- All rows' rotary queries. -/
def qRope (X3 : Vec F S1x128x256 .bf16) : Vec F S1024x128 .bf16 :=
  fun y => qRopeHead X3 ((y 0).val / 128) (ix2 ⟨(y 0).val % 128, Nat.mod_lt _ (by decide)⟩ (y 1))

/-- Block `k` of 256 latents. -/
def latBlk (X4 : Vec F S1x2048x256 .bf16) (k : ℕ) : Vec F S1x256x256 .bf16 :=
  fun y => X4 (ix3 0 ⟨(256 * k + (y 1).val) % 2048, Nat.mod_lt _ (by decide)⟩ (y 2))

/-- Block `k` of 256 rotary keys. -/
def ropeBlk (X5 : Vec F S1x2048x128 .bf16) (k : ℕ) : Vec F S1x256x128 .bf16 :=
  fun y => X5 (ix3 0 ⟨(256 * k + (y 1).val) % 2048, Nat.mod_lt _ (by decide)⟩ (y 2))

/-- Head `h`'s value projection, in its own half of the lanes. -/
def wvBlk (X7 : Vec F S8x256x128 .bf16) (h : Fin 8) : Vec F S1x256x128 .bf16 :=
  fun y => X7 (ix3 h (y 1) (y 2))

/-- A 1024 × 256 block as a slab of the score buffer. -/
abbrev slab (s : FVec F S1024x256 .f32) : Vec F S1x1024x256 .f32 := shapeCast S1x1024x256 s shapeCasts_S1024x256_S1x1024x256

section Point

variable (i : grid0.Coords) (X4 : Vec F S1x2048x256 .bf16) (X5 : Vec F S1x2048x128 .bf16) (q : Vec F S1024x256 .bf16) (r : Vec F S1024x128 .bf16)

/-- The scores of key block `k`. -/
def score (k : ℕ) : FVec F S1024x256 .f32 := k0_pay49 q (latBlk X4 k) r (ropeBlk X5 k)

/-- The running maxima, lane by lane, over the key blocks before `k`. -/
def maxUpTo : ℕ → FVec F S1024x128 .f32
  | 0 => k0_pay48 k0_pay47
  | k + 1 => k0_pay51 q (latBlk X4 k) r (ropeBlk X5 k) (maxUpTo k)

/-- The causal mask of the last key block. -/
def causal : IVec S1024x256 1 := k0_pay55 (BitVec.ofNat 32 (i 1).val) (BitVec.ofNat 32 (nb i))

/-- The last key block's scores before the mask. -/
def scoreRaw : FVec F S1024x256 .f32 := k0_pay56 q (latBlk X4 (nb i - 1)) r (ropeBlk X5 (nb i - 1))

/-- The last key block's scores under the mask. -/
def scoreLast : FVec F S1024x256 .f32 := k0_pay57 (causal i) (scoreRaw i X4 X5 q r)

/-- What the score buffer holds of key block `k`. -/
def scoreAt (k : ℕ) : FVec F S1024x256 .f32 := if k + 1 = nb i then scoreLast i X4 X5 q r else score X4 X5 q r k

/-- The maximum of each row, on every lane. -/
def rowMax : FVec F S1024x128 .f32 := k0_pay60 (k0_pay59 (causal i) (scoreRaw i X4 X5 q r) (maxUpTo X4 X5 q r (nb i - 1)))

/-- The running sums of exponentials, lane by lane, over the key blocks before `k`. -/
def sumUpTo : ℕ → FVec F S1024x128 .f32
  | 0 => k0_pay62
  | k + 1 => k0_pay66 (slab (scoreAt i X4 X5 q r k)) (rowMax i X4 X5 q r) (rowMax i X4 X5 q r) (sumUpTo k)

/-- The running exponential-weighted sums of latents over the key blocks before `k`. -/
def accUpTo : ℕ → FVec F S1024x256 .f32
  | 0 => k0_pay61
  | k + 1 => k0_pay67 (slab (scoreAt i X4 X5 q r k)) (rowMax i X4 X5 q r) (rowMax i X4 X5 q r) (accUpTo k) (latBlk X4 k)

end Point

/-- The output block from the sums `l` and weighted latents `a`: 128 lanes for each pair of heads. -/
def outOf (X7 : Vec F S8x256x128 .bf16) (l : FVec F S1024x128 .f32) (a : FVec F S1024x256 .f32) : Vec F S1x128x512 .f32 := fun y =>
  if (y 2).val < 128 then k0_pay74 l a (wvBlk X7 0) (wvBlk X7 1) (ix3 0 (y 1) ⟨(y 2).val % 128, Nat.mod_lt _ (by decide)⟩)
  else if (y 2).val < 256 then
    k0_pay77 (k0_pay75 l a (wvBlk X7 2)) (k0_pay76 l a (wvBlk X7 3)) (ix3 0 (y 1) ⟨(y 2).val % 128, Nat.mod_lt _ (by decide)⟩)
  else if (y 2).val < 384 then
    k0_pay78 (k0_pay73 l a) (wvBlk X7 4) (wvBlk X7 5) (ix3 0 (y 1) ⟨(y 2).val % 128, Nat.mod_lt _ (by decide)⟩)
  else k0_pay1 (k0_pay79 (k0_pay73 l a) (wvBlk X7 6)) (k0_pay80 (k0_pay73 l a)) (wvBlk X7 7)
    (ix3 0 (y 1) ⟨(y 2).val % 128, Nat.mod_lt _ (by decide)⟩)

/-- The grid point's output block. -/
def outBlock (i : grid0.Coords) (X2 : Vec F S1x128x512 .bf16) (X3 : Vec F S1x128x256 .bf16) (X4 : Vec F S1x2048x256 .bf16)
    (X5 : Vec F S1x2048x128 .bf16) (X6 : Vec F S512x256 .bf16) (X7 : Vec F S8x256x128 .bf16) : Vec F S1x128x512 .f32 :=
  outOf X7 (sumUpTo i X4 X5 (qLat X2 X6) (qRope X3) (nb i)) (accUpTo i X4 X5 (qLat X2 X6) (qRope X3) (nb i))

end Cert.KernelIdeal.Att

end
-- ==== Proof.PI.Body.lean ====
/-
  The attention kernel at one grid point: from its input blocks it runs to the output block of `Vals.lean`, through its four
  loops (two of them without a trip), each by what it keeps.
-/
module

public import proofs.«01_k».proof.Proof.PI.Vals
public import proofs.«01_k».proof.Proof.Gen.KernelIdeal.Frame
public import Idealize.ShloMosaic.Lib.Claim
public import Idealize.ShloMosaic.Lib.WritesUnit
public import Idealize.ShloMosaic.Lib.LoopRemainder
public import Idealize.ShloMosaic.Lib.Pipeline.TableIdle

@[expose] public section

set_option maxRecDepth 16384

noncomputable section

namespace Cert.KernelIdeal.Att

open Idealize.ShloMosaic Cert.KernelIdeal Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem trips1 : ∀ i : grid0.Coords, (k0_t1_loop i).trips = nb i - 1 := by decide +kernel
theorem trips2 : ∀ i : grid0.Coords, (k0_t2_loop i).trips = 0 := by decide +kernel
theorem trips3 : ∀ i : grid0.Coords, (k0_t3_loop i).trips = nb i := by decide +kernel
theorem trips4 : ∀ i : grid0.Coords, (k0_t4_loop i).trips = 0 := by decide +kernel

theorem off1 : ∀ (i : grid0.Coords) (k : Fin (k0_t1_loop i).trips), k0_off1 i k = ![0, 256 * k.val, 0] := by decide +kernel
theorem off2 : ∀ (i : grid0.Coords) (k : Fin (k0_t1_loop i).trips), k0_off2 i k = ![0, 256 * k.val, 0] := by decide +kernel
theorem off3 : ∀ (i : grid0.Coords) (k : Fin (k0_t1_loop i).trips), k0_off3 i k = ![k.val, 0, 0] := by decide +kernel
theorem off7 : ∀ i : grid0.Coords, k0_off7 i = ![0, 256 * (nb i - 1), 0] := by decide +kernel
theorem off8 : ∀ i : grid0.Coords, k0_off8 i = ![0, 256 * (nb i - 1), 0] := by decide +kernel
theorem off9 : ∀ i : grid0.Coords, k0_off9 i = ![nb i - 1, 0, 0] := by decide +kernel
theorem off10 : ∀ (i : grid0.Coords) (k : Fin (k0_t3_loop i).trips), k0_off10 i k = ![k.val, 0, 0] := by decide +kernel
theorem off11 : ∀ (i : grid0.Coords) (k : Fin (k0_t3_loop i).trips), k0_off11 i k = ![0, 256 * k.val, 0] := by decide +kernel

theorem nb_pos (i : grid0.Coords) : 0 < nb i := Nat.succ_pos _
theorem nb_le (i : grid0.Coords) : nb i ≤ 8 := by
  have := (i 1).isLt
  have h : grid0.bound 1 = 16 := rfl
  unfold nb; omega

/-! ## What the loads read -/

section Loads

variable {κ : Kind} {sp : Space}

/-- A block of 256 latents read from the array's memref. -/
theorem read_lat (v : View sig κ sp S1x2048x256 .bf16) (X4 : Vec F S1x2048x256 .bf16) (off : Fin 3 → ℕ)
    (inb : ∀ a, off a + S1x256x256.size a ≤ S1x2048x256.size a) (k : ℕ) (h : off = ![0, 256 * k, 0]) :
    v.readAt (Elt F) (Rect.unit (s := S1x2048x256) off S1x256x256.size inb).toLoadRect (v.rep X4) = latBlk X4 k := by
  subst h
  rw [View.readAt_rep_unit v X4 inb rfl inb]
  funext y
  refine congrArg X4 (funext fun a => Fin.ext ?_)
  have h1 : 256 * k + 256 ≤ 2048 := inb 1
  have hy : (y 1).val < 256 := (y 1).isLt
  have hy0 : (y 0).val < 1 := (y 0).isLt
  fin_cases a
  · show 0 + 1 * (y 0).val = 0; omega
  · show 256 * k + 1 * (y 1).val = (256 * k + (y 1).val) % 2048; omega
  · show 0 + 1 * (y 2).val = (y 2).val; omega

/-- A block of 256 rotary keys read from the array's memref. -/
theorem read_rope (v : View sig κ sp S1x2048x128 .bf16) (X5 : Vec F S1x2048x128 .bf16) (off : Fin 3 → ℕ)
    (inb : ∀ a, off a + S1x256x128.size a ≤ S1x2048x128.size a) (k : ℕ) (h : off = ![0, 256 * k, 0]) :
    v.readAt (Elt F) (Rect.unit (s := S1x2048x128) off S1x256x128.size inb).toLoadRect (v.rep X5) = ropeBlk X5 k := by
  subst h
  rw [View.readAt_rep_unit v X5 inb rfl inb]
  funext y
  refine congrArg X5 (funext fun a => Fin.ext ?_)
  have h1 : 256 * k + 256 ≤ 2048 := inb 1
  have hy : (y 1).val < 256 := (y 1).isLt
  have hy0 : (y 0).val < 1 := (y 0).isLt
  fin_cases a
  · show 0 + 1 * (y 0).val = 0; omega
  · show 256 * k + 1 * (y 1).val = (256 * k + (y 1).val) % 2048; omega
  · show 0 + 1 * (y 2).val = (y 2).val; omega

/-- 128 rows of the transposed key projection. -/
theorem read_wk (v : View sig κ sp S512x256 .bf16) (X6 : Vec F S512x256 .bf16) (o : ℕ)
    (inb : ∀ a, (![128 * o, 0] : Fin 2 → ℕ) a + S128x256.size a ≤ S512x256.size a) :
    v.readAt (Elt F) (Rect.unit (s := S512x256) ![128 * o, 0] S128x256.size inb).toLoadRect (v.rep X6) = wkRows X6 o := by
  rw [View.readAt_rep_unit v X6 inb rfl inb]
  funext y
  refine congrArg X6 (funext fun a => Fin.ext ?_)
  have h1 : 128 * o + 128 ≤ 512 := inb 0
  have hy : (y 0).val < 128 := (y 0).isLt
  fin_cases a
  · show 128 * o + 1 * (y 0).val = (128 * o + (y 0).val) % 512; omega
  · show 0 + 1 * (y 1).val = (y 1).val; omega

/-- One head's value projection. -/
theorem read_wv (v : View sig κ sp S8x256x128 .bf16) (X7 : Vec F S8x256x128 .bf16) (h : Fin 8)
    (inb : ∀ a, (![h.val, 0, 0] : Fin 3 → ℕ) a + S1x256x128.size a ≤ S8x256x128.size a) :
    v.readAt (Elt F) (Rect.unit (s := S8x256x128) ![h.val, 0, 0] S1x256x128.size inb).toLoadRect (v.rep X7) = wvBlk X7 h := by
  rw [View.readAt_rep_unit v X7 inb rfl inb]
  funext y
  refine congrArg X7 (funext fun a => Fin.ext ?_)
  have hy : (y 0).val < 1 := (y 0).isLt
  fin_cases a
  · show h.val + 1 * (y 0).val = h.val; omega
  · show 0 + 1 * (y 1).val = (y 1).val; omega
  · show 0 + 1 * (y 2).val = (y 2).val; omega

/-- One slab of the score buffer. -/
theorem read_slab (v : View sig κ sp S8x1024x256 .f32) (X : Vec F S8x1024x256 .f32) (off : Fin 3 → ℕ)
    (inb : ∀ a, off a + S1x1024x256.size a ≤ S8x1024x256.size a) (k : ℕ) (h : off = ![k, 0, 0]) (w : Vec F S1x1024x256 .f32)
    (hw : ∀ b : Fin 8, b.val = k → ∀ (r : Fin 1024) (l : Fin 256), X (ix3 b r l) = w (ix3 0 r l)) :
    v.readAt (Elt F) (Rect.unit (s := S8x1024x256) off S1x1024x256.size inb).toLoadRect (v.rep X) = w := by
  subst h
  rw [View.readAt_rep_unit v X inb rfl inb]
  funext y
  have h1 : k + 1 ≤ 8 := inb 0
  have hy : (y 0).val < 1 := (y 0).isLt
  have e1 : VecWindow.window X ![k, 0, 0] S1x1024x256.size inb y = X (ix3 ⟨k, h1⟩ (y 1) (y 2)) := by
    refine congrArg X (funext fun a => Fin.ext ?_)
    fin_cases a
    · show k + 1 * (y 0).val = k; omega
    · show 0 + 1 * (y 1).val = (y 1).val; omega
    · show 0 + 1 * (y 2).val = (y 2).val; omega
  refine e1.trans ((hw ⟨k, h1⟩ rfl _ _).trans ?_)
  refine congrArg w (funext fun a => Fin.ext ?_)
  fin_cases a
  · show 0 = (y 0).val; omega
  · rfl
  · rfl

/-- The score buffer after a slab is stored: the slab there, -/
theorem put_slab_same (X : Vec F S8x1024x256 .f32) (k : ℕ) (w : Vec F S1x1024x256 .f32) (b : Fin 8) (hb : b.val = k) (r : Fin 1024) (l : Fin 256) :
    VecWindow.put X ![k, 0, 0] S1x1024x256.size w (ix3 b r l) = w (ix3 0 r l) := by
  have hm : ∀ a : Fin 3, (![k, 0, 0] : Fin 3 → ℕ) a ≤ ((ix3 b r l : S8x1024x256.Idx) a).val
      ∧ ((ix3 b r l : S8x1024x256.Idx) a).val < (![k, 0, 0] : Fin 3 → ℕ) a + S1x1024x256.size a := by
    intro a
    fin_cases a
    · show k ≤ b.val ∧ b.val < k + 1; omega
    · show 0 ≤ r.val ∧ r.val < 0 + 1024; omega
    · show 0 ≤ l.val ∧ l.val < 0 + 256; omega
  refine (dif_pos hm).trans (congrArg w (funext fun a => Fin.ext ?_))
  fin_cases a
  · show b.val - k = 0; omega
  · show r.val - 0 = r.val; omega
  · show l.val - 0 = l.val; omega

/-- and the other slabs as they were. -/
theorem put_slab_other (X : Vec F S8x1024x256 .f32) (k : ℕ) (w : Vec F S1x1024x256 .f32) (b : Fin 8) (hb : b.val ≠ k) (r : Fin 1024) (l : Fin 256) :
    VecWindow.put X ![k, 0, 0] S1x1024x256.size w (ix3 b r l) = X (ix3 b r l) := by
  refine dif_neg fun hm => ?_
  have h0 : k ≤ b.val ∧ b.val < k + 1 := hm 0
  omega

/-- Eight blocks of 128 rows stored one after the other: row `128 h + q` reads row `q` of block `h`. -/
theorem read_heads {N : ℕ} {e : EltTy} (v : View sig κ sp ⟨2, ![1024, N]⟩ e) (f : v.ty.Contents (Elt F))
    (i0 i1 i2 i3 i4 i5 i6 i7) (w0 w1 w2 w3 w4 w5 w6 w7 : (⟨2, ![128, N]⟩ : Shape).Idx → Elt F e) (g : ℕ → (⟨2, ![128, N]⟩ : Shape).Idx → Elt F e)
    (h0 : w0 = g 0) (h1 : w1 = g 1) (h2 : w2 = g 2) (h3 : w3 = g 3) (h4 : w4 = g 4) (h5 : w5 = g 5) (h6 : w6 = g 6) (h7 : w7 = g 7) :
    v.read (Elt F) (v.writes (Elt F) f
      [⟨Rect.unit ![896, 0] (⟨2, ![128, N]⟩ : Shape).size i7, w7⟩, ⟨Rect.unit ![768, 0] (⟨2, ![128, N]⟩ : Shape).size i6, w6⟩,
       ⟨Rect.unit ![640, 0] (⟨2, ![128, N]⟩ : Shape).size i5, w5⟩, ⟨Rect.unit ![512, 0] (⟨2, ![128, N]⟩ : Shape).size i4, w4⟩,
       ⟨Rect.unit ![384, 0] (⟨2, ![128, N]⟩ : Shape).size i3, w3⟩, ⟨Rect.unit ![256, 0] (⟨2, ![128, N]⟩ : Shape).size i2, w2⟩,
       ⟨Rect.unit ![128, 0] (⟨2, ![128, N]⟩ : Shape).size i1, w1⟩, ⟨Rect.unit ![0, 0] (⟨2, ![128, N]⟩ : Shape).size i0, w0⟩])
      = fun y => g ((y 0).val / 128) (ix2 ⟨(y 0).val % 128, Nat.mod_lt _ (by decide)⟩ (y 1)) := by
  subst h0 h1 h2 h3 h4 h5 h6 h7
  funext y
  have hy : (y 0).val < 1024 := (y 0).isLt
  have leaf : ∀ (o : ℕ) (j : ℕ) (hm), o = 128 * j → (o ≤ (y 0).val ∧ (y 0).val < o + 128) →
      g j (Rect.unitLocal (s := ⟨2, ![1024, N]⟩) (off := ![o, 0]) (size := (⟨2, ![128, N]⟩ : Shape).size) y hm)
        = g ((y 0).val / 128) (ix2 ⟨(y 0).val % 128, Nat.mod_lt _ (by decide)⟩ (y 1)) := by
    intro o j hm ho hr
    have hj : (y 0).val / 128 = j := by omega
    rw [hj]
    refine congrArg (g j) (funext fun a => Fin.ext ?_)
    fin_cases a
    · show (y 0).val - o = (y 0).val % 128; omega
    · show (y 1).val - 0 = (y 1).val; omega
  rw [View.read_writes_cons_rows v f i7 _ _ y rfl (W := 128) rfl rfl]
  split_ifs with c7
  · exact leaf _ 7 _ rfl c7
  rw [View.read_writes_cons_rows v f i6 _ _ y rfl (W := 128) rfl rfl]
  split_ifs with c6
  · exact leaf _ 6 _ rfl c6
  rw [View.read_writes_cons_rows v f i5 _ _ y rfl (W := 128) rfl rfl]
  split_ifs with c5
  · exact leaf _ 5 _ rfl c5
  rw [View.read_writes_cons_rows v f i4 _ _ y rfl (W := 128) rfl rfl]
  split_ifs with c4
  · exact leaf _ 4 _ rfl c4
  rw [View.read_writes_cons_rows v f i3 _ _ y rfl (W := 128) rfl rfl]
  split_ifs with c3
  · exact leaf _ 3 _ rfl c3
  rw [View.read_writes_cons_rows v f i2 _ _ y rfl (W := 128) rfl rfl]
  split_ifs with c2
  · exact leaf _ 2 _ rfl c2
  rw [View.read_writes_cons_rows v f i1 _ _ y rfl (W := 128) rfl rfl]
  split_ifs with c1
  · exact leaf _ 1 _ rfl c1
  rw [View.read_writes_cons_rows v f i0 _ _ y rfl (W := 128) rfl rfl]
  split_ifs with c0
  · exact leaf _ 0 _ rfl c0
  exact absurd hy (by omega)

/-- The output block's four stores of 128 lanes. -/
theorem read_out (v : View sig κ sp S1x128x512 .f32) (f : v.ty.Contents (Elt F)) (i0 i1 i2 i3) (p0 p1 p2 p3 : Vec F S1x128x128 .f32)
    (X7 : Vec F S8x256x128 .bf16) (l : FVec F S1024x128 .f32) (a : FVec F S1024x256 .f32)
    (h0 : p0 = k0_pay74 l a (wvBlk X7 0) (wvBlk X7 1))
    (h1 : p1 = k0_pay77 (k0_pay75 l a (wvBlk X7 2)) (k0_pay76 l a (wvBlk X7 3)))
    (h2 : p2 = k0_pay78 (k0_pay73 l a) (wvBlk X7 4) (wvBlk X7 5))
    (h3 : p3 = k0_pay1 (k0_pay79 (k0_pay73 l a) (wvBlk X7 6)) (k0_pay80 (k0_pay73 l a)) (wvBlk X7 7)) :
    v.read (Elt F) (v.writes (Elt F) f
      [⟨Rect.unit (s := S1x128x512) ![0, 0, 384] S1x128x128.size i3, p3⟩, ⟨Rect.unit (s := S1x128x512) ![0, 0, 256] S1x128x128.size i2, p2⟩,
       ⟨Rect.unit (s := S1x128x512) ![0, 0, 128] S1x128x128.size i1, p1⟩, ⟨Rect.unit (s := S1x128x512) ![0, 0, 0] S1x128x128.size i0, p0⟩])
      = outOf X7 l a := by
  subst h0 h1 h2 h3
  funext y
  have hy0 : (y 0).val < 1 := (y 0).isLt
  have hy1 : (y 1).val < 128 := (y 1).isLt
  have hy : (y 2).val < 512 := (y 2).isLt
  have hat : ∀ (o : ℕ), (∃ j, o = 128 * j) → o ≤ (y 2).val → (y 2).val < o + 128 →
      ∀ a : Fin 3, (y a).val = (![0, 0, o] : Fin 3 → ℕ) a + ((ix3 0 (y 1) ⟨(y 2).val % 128, Nat.mod_lt _ (by decide)⟩ : S1x128x128.Idx) a).val := by
    rintro o ⟨j, hj⟩ ho ho' a
    fin_cases a
    · show (y 0).val = 0 + 0; omega
    · show (y 1).val = 0 + (y 1).val; omega
    · show (y 2).val = o + (y 2).val % 128; omega
  by_cases c3 : 384 ≤ (y 2).val
  · refine (View.read_writes_cons_unit_of_mem v f i3 _ _ y _ rfl (hat 384 ⟨3, rfl⟩ c3 (by omega))).trans ?_
    unfold outOf
    rw [if_neg (by omega), if_neg (by omega), if_neg (by omega)]
  refine (View.read_writes_cons_unit_of_not_mem v f i3 _ _ y rfl 2 (.inl (show (y 2).val < 384 by omega))).trans ?_
  by_cases c2 : 256 ≤ (y 2).val
  · refine (View.read_writes_cons_unit_of_mem v f i2 _ _ y _ rfl (hat 256 ⟨2, rfl⟩ c2 (by omega))).trans ?_
    unfold outOf
    rw [if_neg (by omega), if_neg (by omega), if_pos (by omega)]
  refine (View.read_writes_cons_unit_of_not_mem v f i2 _ _ y rfl 2 (.inl (show (y 2).val < 256 by omega))).trans ?_
  by_cases c1 : 128 ≤ (y 2).val
  · refine (View.read_writes_cons_unit_of_mem v f i1 _ _ y _ rfl (hat 128 ⟨1, rfl⟩ c1 (by omega))).trans ?_
    unfold outOf
    rw [if_neg (by omega), if_pos (by omega)]
  refine (View.read_writes_cons_unit_of_not_mem v f i1 _ _ y rfl 2 (.inl (show (y 2).val < 128 by omega))).trans ?_
  refine (View.read_writes_cons_unit_of_mem v f i0 _ _ y _ rfl (hat 0 ⟨0, rfl⟩ (Nat.zero_le _) (by omega))).trans ?_
  unfold outOf
  rw [if_pos (by omega)]

end Loads

theorem score_congr {q q' : Vec F S1024x256 .bf16} {k k' : Vec F S1x256x256 .bf16} {r r' : Vec F S1024x128 .bf16} {p p' : Vec F S1x256x128 .bf16}
    (hq : q = q') (hk : k = k') (hr : r = r') (hp : p = p') : k0_pay49 q k r p = k0_pay49 q' k' r' p' := by
  rw [hq, hk, hr, hp]

theorem max_congr {q q' : Vec F S1024x256 .bf16} {k k' : Vec F S1x256x256 .bf16} {r r' : Vec F S1024x128 .bf16} {p p' : Vec F S1x256x128 .bf16}
    {m m' : Vec F S1024x128 .f32} (hq : q = q') (hk : k = k') (hr : r = r') (hp : p = p') (hm : m = m') :
    k0_pay51 q k r p m = k0_pay51 q' k' r' p' m' := by
  rw [hq, hk, hr, hp, hm]

theorem raw_congr {q q' : Vec F S1024x256 .bf16} {k k' : Vec F S1x256x256 .bf16} {r r' : Vec F S1024x128 .bf16} {p p' : Vec F S1x256x128 .bf16}
    (hq : q = q') (hk : k = k') (hr : r = r') (hp : p = p') : k0_pay56 q k r p = k0_pay56 q' k' r' p' := by
  rw [hq, hk, hr, hp]

theorem sum_congr {s s' : Vec F S1x1024x256 .f32} {m m' l l' : Vec F S1024x128 .f32} (hs : s = s') (hm : m = m') (hl : l = l') :
    k0_pay66 s m m l = k0_pay66 s' m' m' l' := by
  rw [hs, hm, hl]

theorem acc_congr {s s' : Vec F S1x1024x256 .f32} {m m' : Vec F S1024x128 .f32} {a a' : Vec F S1024x256 .f32} {k k' : Vec F S1x256x256 .bf16}
    (hs : s = s') (hm : m = m') (ha : a = a') (hk : k = k') : k0_pay67 s m m a k = k0_pay67 s' m' m' a' k' := by
  rw [hs, hm, ha, hk]

theorem out0_congr {l l' : Vec F S1024x128 .f32} {a a' : Vec F S1024x256 .f32} {w w' z z' : Vec F S1x256x128 .bf16}
    (hl : l = l') (ha : a = a') (hw : w = w') (hz : z = z') :
    k0_pay74 l a w z = k0_pay74 l' a' w' z' := by
  rw [hl, ha, hw, hz]

theorem out1_congr {l l' : Vec F S1024x128 .f32} {a a' : Vec F S1024x256 .f32} {w w' z z' : Vec F S1x256x128 .bf16}
    (hl : l = l') (ha : a = a') (hw : w = w') (hz : z = z') :
    k0_pay77 (k0_pay75 l a w) (k0_pay76 l a z) = k0_pay77 (k0_pay75 l' a' w') (k0_pay76 l' a' z') := by
  rw [hl, ha, hw, hz]

theorem out2_congr {l l' : Vec F S1024x128 .f32} {a a' : Vec F S1024x256 .f32} {w w' z z' : Vec F S1x256x128 .bf16}
    (hl : l = l') (ha : a = a') (hw : w = w') (hz : z = z') :
    k0_pay78 (k0_pay73 l a) w z = k0_pay78 (k0_pay73 l' a') w' z' := by
  rw [hl, ha, hw, hz]

theorem out3_congr {l l' : Vec F S1024x128 .f32} {a a' : Vec F S1024x256 .f32} {w w' z z' : Vec F S1x256x128 .bf16}
    (hl : l = l') (ha : a = a') (hw : w = w') (hz : z = z') :
    k0_pay1 (k0_pay79 (k0_pay73 l a) w) (k0_pay80 (k0_pay73 l a)) z = k0_pay1 (k0_pay79 (k0_pay73 l' a') w') (k0_pay80 (k0_pay73 l' a')) z' := by
  rw [hl, ha, hw, hz]

/-- What the first loop keeps: before trip `k`, the slabs of the key blocks before `k` hold their scores, and the maxima run
over those blocks. -/
def inv1 (c : Dev nD) (i : grid0.Coords) (arg4 : Memref sig .tc .vmem S1x2048x256 .bf16) (arg5 : Memref sig .tc .vmem S1x2048x128 .bf16)
    (arg9 : Memref sig .tc .vmem S1024x256 .bf16) (arg10 : Memref sig .tc .vmem S1024x128 .bf16) (arg11 : Memref sig .tc .vmem S8x1024x256 .f32)
    (arg13 : Memref sig .tc .vmem S1024x128 .f32) (X4 : Vec F S1x2048x256 .bf16) (X5 : Vec F S1x2048x128 .bf16)
    (q : Vec F S1024x256 .bf16) (r : Vec F S1024x128 .bf16) (k : ℕ) : sProp 𝕄 :=
  iprop((arg4.view.loc (c : Thread nD τ) ↦[arg4.view.set]{fullShare} arg4.view.rep X4)
    ∗ (arg5.view.loc (c : Thread nD τ) ↦[arg5.view.set]{fullShare} arg5.view.rep X5)
    ∗ (arg9.view.loc (c : Thread nD τ) ↦[arg9.view.set]{fullShare} arg9.view.rep q)
    ∗ (arg10.view.loc (c : Thread nD τ) ↦[arg10.view.set]{fullShare} arg10.view.rep r)
    ∗ (∃ X : Vec F S8x1024x256 .f32, ⌜∀ b : Fin 8, b.val < k → ∀ (r' : Fin 1024) (l : Fin 256), X (ix3 b r' l) = slab (score X4 X5 q r b.val) (ix3 0 r' l)⌝
        ∗ (arg11.view.loc (c : Thread nD τ) ↦[arg11.view.set]{fullShare} arg11.view.rep X))
    ∗ (arg13.view.loc (c : Thread nD τ) ↦[arg13.view.set]{fullShare} arg13.view.rep (maxUpTo X4 X5 q r k)))

/-- What the last loop keeps: the score buffer and the row maxima as they are, the sums and the weighted latents over the
key blocks before `k`. -/
def inv3 (c : Dev nD) (i : grid0.Coords) (arg4 : Memref sig .tc .vmem S1x2048x256 .bf16) (arg11 : Memref sig .tc .vmem S8x1024x256 .f32)
    (arg12 : Memref sig .tc .vmem S1024x256 .f32) (arg13 : Memref sig .tc .vmem S1024x128 .f32) (arg14 : Memref sig .tc .vmem S1024x128 .f32)
    (X4 : Vec F S1x2048x256 .bf16) (X5 : Vec F S1x2048x128 .bf16)
    (q : Vec F S1024x256 .bf16) (r : Vec F S1024x128 .bf16) (X : Vec F S8x1024x256 .f32) (k : ℕ) : sProp 𝕄 :=
  iprop((arg4.view.loc (c : Thread nD τ) ↦[arg4.view.set]{fullShare} arg4.view.rep X4)
    ∗ (arg11.view.loc (c : Thread nD τ) ↦[arg11.view.set]{fullShare} arg11.view.rep X)
    ∗ (arg12.view.loc (c : Thread nD τ) ↦[arg12.view.set]{fullShare} arg12.view.rep (accUpTo i X4 X5 q r k))
    ∗ (arg13.view.loc (c : Thread nD τ) ↦[arg13.view.set]{fullShare} arg13.view.rep (rowMax i X4 X5 q r))
    ∗ (arg14.view.loc (c : Thread nD τ) ↦[arg14.view.set]{fullShare} arg14.view.rep (sumUpTo i X4 X5 q r k)))

theorem body_run (c : Dev nD) (i : grid0.Coords)
    (arg2 : Memref sig .tc .vmem S1x128x512 .bf16) (harg2 : arg2.IsWhole) (arg3 : Memref sig .tc .vmem S1x128x256 .bf16) (harg3 : arg3.IsWhole)
    (arg4 : Memref sig .tc .vmem S1x2048x256 .bf16) (harg4 : arg4.IsWhole) (arg5 : Memref sig .tc .vmem S1x2048x128 .bf16) (harg5 : arg5.IsWhole)
    (arg6 : Memref sig .tc .vmem S512x256 .bf16) (harg6 : arg6.IsWhole) (arg7 : Memref sig .tc .vmem S8x256x128 .bf16) (harg7 : arg7.IsWhole)
    (arg8 : Memref sig .tc .vmem S1x128x512 .f32) (harg8 : arg8.IsWhole) (arg9 : Memref sig .tc .vmem S1024x256 .bf16) (harg9 : arg9.IsWhole)
    (arg10 : Memref sig .tc .vmem S1024x128 .bf16) (harg10 : arg10.IsWhole) (arg11 : Memref sig .tc .vmem S8x1024x256 .f32) (harg11 : arg11.IsWhole)
    (arg12 : Memref sig .tc .vmem S1024x256 .f32) (harg12 : arg12.IsWhole) (arg13 : Memref sig .tc .vmem S1024x128 .f32) (harg13 : arg13.IsWhole)
    (arg14 : Memref sig .tc .vmem S1024x128 .f32) (harg14 : arg14.IsWhole)
    (X2 : Vec F S1x128x512 .bf16) (X3 : Vec F S1x128x256 .bf16) (X4 : Vec F S1x2048x256 .bf16)
    (X5 : Vec F S1x2048x128 .bf16) (X6 : Vec F S512x256 .bf16) (X7 : Vec F S8x256x128 .bf16) (K : PUnit → sProp 𝕄) :
    iprop(owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6 ∗ owns (c : Thread nD τ) arg7 fullShare X7
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (∃ d, owns (c : Thread nD τ) arg14 fullShare d)
        ∗ (iprop(owns (c : Thread nD τ) arg2 fullShare X2 ∗ owns (c : Thread nD τ) arg3 fullShare X3 ∗ owns (c : Thread nD τ) arg4 fullShare X4
        ∗ owns (c : Thread nD τ) arg5 fullShare X5 ∗ owns (c : Thread nD τ) arg6 fullShare X6 ∗ owns (c : Thread nD τ) arg7 fullShare X7
        ∗ owns (c : Thread nD τ) arg8 fullShare (outBlock i X2 X3 X4 X5 X6 X7) ∗ (∃ d, owns (c : Thread nD τ) arg9 fullShare d)
        ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (∃ d, owns (c : Thread nD τ) arg14 fullShare d)) -∗ K ⟨⟩))
      ⊢ wp frame (wpE (defs₀ (F := F)) Variants.none c none) Set.univ
          (cc0_mla_p i arg2 harg2 arg3 harg3 arg4 harg4 arg5 harg5 arg6 harg6 arg7 harg7 arg8 harg8 arg9 harg9 arg10 harg10 arg11 harg11 arg12 harg12 arg13 harg13 arg14 harg14) K := by
  simp only [cc0_mla_p_eq_skeleton]; unfold cc0_mla_p_skel
  simp only [owns_eq_rep]
  iintro ⟨H2, H3, H4, H5, H6, H7, ⟨%d8, H8⟩, ⟨%d9, H9⟩, ⟨%d10, H10⟩, ⟨%d11, H11⟩, ⟨%d12, H12⟩, ⟨%d13, H13⟩, ⟨%d14, H14⟩, Hk⟩
  sl_exec
  have e2 : arg2.view.readAt (Elt F) (Rect.unit (s := S1x128x512) ![0, 0, 0] S1x128x512.size inb_S1x128x512_S1x128x512_0_0_0).toLoadRect (arg2.view.rep X2) = X2 :=
    View.readAt_rep_full arg2.view X2 _
  have e3 : arg3.view.readAt (Elt F) (Rect.unit (s := S1x128x256) ![0, 0, 0] S1x128x256.size inb_S1x128x256_S1x128x256_0_0_0).toLoadRect (arg3.view.rep X3) = X3 :=
    View.readAt_rep_full arg3.view X3 _
  have e60 := read_wk arg6.view X6 0 inb_S512x256_S128x256_0_0
  have e61 := read_wk arg6.view X6 1 inb_S512x256_S128x256_128_0
  have e62 := read_wk arg6.view X6 2 inb_S512x256_S128x256_256_0
  have e63 := read_wk arg6.view X6 3 inb_S512x256_S128x256_384_0
  have e9 : arg9.view.read (Elt F) (arg9.view.writes (Elt F) arg9.view.junk (body_run.sl.H9_8 arg2 arg6 X2 X6)) = qLat X2 X6 := by
    unfold body_run.sl.H9_8
    refine read_heads arg9.view _ _ _ _ _ _ _ _ _ _ _ _ _ _ _ _ _ (qLatHead X2 X6) ?_ ?_ ?_ ?_ ?_ ?_ ?_ ?_
    · exact (show _ = qLatHeadOf _ _ 0 from rfl).trans (congrArg₂ (qLatHeadOf · · 0) e2 e60)
    · exact (show _ = qLatHeadOf _ _ 1 from rfl).trans (congrArg₂ (qLatHeadOf · · 1) e2 e60)
    · exact (show _ = qLatHeadOf _ _ 2 from rfl).trans (congrArg₂ (qLatHeadOf · · 2) e2 e61)
    · exact (show _ = qLatHeadOf _ _ 3 from rfl).trans (congrArg₂ (qLatHeadOf · · 3) e2 e61)
    · exact (show _ = qLatHeadOf _ _ 4 from rfl).trans (congrArg₂ (qLatHeadOf · · 4) e2 e62)
    · exact (show _ = qLatHeadOf _ _ 5 from rfl).trans (congrArg₂ (qLatHeadOf · · 5) e2 e62)
    · exact (show _ = qLatHeadOf _ _ 6 from rfl).trans (congrArg₂ (qLatHeadOf · · 6) e2 e63)
    · exact (show _ = qLatHeadOf _ _ 7 from rfl).trans (congrArg₂ (qLatHeadOf · · 7) e2 e63)
  have e10 : arg10.view.read (Elt F) (arg10.view.writes (Elt F) arg10.view.junk (body_run.sl.H10_8 arg3 X3)) = qRope X3 := by
    unfold body_run.sl.H10_8
    refine read_heads arg10.view _ _ _ _ _ _ _ _ _ _ _ _ _ _ _ _ _ (qRopeHead X3) ?_ ?_ ?_ ?_ ?_ ?_ ?_ ?_
    · exact (show _ = qRopeHead _ 0 from rfl).trans (congrArg (qRopeHead · 0) e3)
    · exact (show _ = qRopeHead _ 1 from rfl).trans (congrArg (qRopeHead · 1) e3)
    · exact (show _ = qRopeHead _ 2 from rfl).trans (congrArg (qRopeHead · 2) e3)
    · exact (show _ = qRopeHead _ 3 from rfl).trans (congrArg (qRopeHead · 3) e3)
    · exact (show _ = qRopeHead _ 4 from rfl).trans (congrArg (qRopeHead · 4) e3)
    · exact (show _ = qRopeHead _ 5 from rfl).trans (congrArg (qRopeHead · 5) e3)
    · exact (show _ = qRopeHead _ 6 from rfl).trans (congrArg (qRopeHead · 6) e3)
    · exact (show _ = qRopeHead _ 7 from rfl).trans (congrArg (qRopeHead · 7) e3)
  have e13 : arg13.view.read (Elt F) (arg13.view.writes (Elt F) arg13.view.junk body_run.sl.H13_1) = maxUpTo X4 X5 (qLat X2 X6) (qRope X3) 0 := by
    unfold body_run.sl.H13_1
    exact View.read_writes_full arg13.view _ _ _ _
  ihave H9 := (pointsTo_rep_of_read (c : Thread nD τ) arg9 _ fullShare _ e9) $$ H9
  ihave H10 := (pointsTo_rep_of_read (c : Thread nD τ) arg10 _ fullShare _ e10) $$ H10
  ihave H13 := (pointsTo_rep_of_read (c : Thread nD τ) arg13 _ fullShare _ e13) $$ H13
  clear e2 e3 e60 e61 e62 e63 e9 e10 e13
  generalize hq : qLat X2 X6 = q
  generalize hr : qRope X3 = r
  sl_for (fun k _ => inv1 c i arg4 arg5 arg9 arg10 arg11 arg13 X4 X5 q r k) $$ [H4 H5 H9 H10 H11 H13]
  · intro k acc
    have hk : k.val < nb i - 1 := Nat.lt_of_lt_of_eq k.isLt (trips1 i)
    unfold inv1
    iintro ⟨H4, H5, H9, H10, ⟨%X, %hX, H11⟩, H13⟩
    sl_exec
    have l9 := View.readAt_rep_full arg9.view q inb_S1024x256_S1024x256_0_0
    have l4 := read_lat arg4.view X4 _ (k0_off1_inb i k) k.val (off1 i k)
    have l10 := View.readAt_rep_full arg10.view r inb_S1024x128_S1024x128_0_0
    have l5 := read_rope arg5.view X5 _ (k0_off2_inb i k) k.val (off2 i k)
    have l13 := View.readAt_rep_full (Val := Elt F) arg13.view (maxUpTo X4 X5 q r k.val) inb_S1024x128_S1024x128_0_0
    have e11 : arg11.view.read (Elt F) (arg11.view.writes (Elt F) (arg11.view.rep X)
          [⟨Rect.unit (s := S8x1024x256) (k0_off3 i k) S1x1024x256.size (k0_off3_inb i k), body_run.sl.v702 i arg4 arg5 arg9 arg10 X4 X5 q r k⟩])
        = VecWindow.put X ![k.val, 0, 0] S1x1024x256.size (slab (score X4 X5 q r k.val)) :=
      (View.read_writes_rep_unit arg11.view X _ _ (off3 i k)).trans (congrArg (VecWindow.put X ![k.val, 0, 0] S1x1024x256.size)
        ((show _ = slab (k0_pay49 _ _ _ _) from rfl).trans (congrArg slab (score_congr l9 l4 l10 l5))))
    have e13 : arg13.view.read (Elt F) (arg13.view.writes (Elt F) (arg13.view.rep (maxUpTo X4 X5 q r k.val))
          [⟨Rect.unit (s := S1024x128) ![0, 0] S1024x128.size inb_S1024x128_S1024x128_0_0, body_run.sl.v710 i arg4 arg5 arg9 arg10 arg13 X4 X5 q r k⟩])
        = maxUpTo X4 X5 q r (k.val + 1) :=
      (View.read_writes_full arg13.view _ _ _ _).trans ((show _ = k0_pay51 _ _ _ _ _ from rfl).trans (max_congr l9 l4 l10 l5 l13))
    ihave H11 := (pointsTo_rep_of_read (c : Thread nD τ) arg11 _ fullShare _ e11) $$ H11
    ihave H13 := (pointsTo_rep_of_read (c : Thread nD τ) arg13 _ fullShare _ e13) $$ H13
    sl_step
    isplitl [H4]; · iexact H4
    isplitl [H5]; · iexact H5
    isplitl [H9]; · iexact H9
    isplitl [H10]; · iexact H10
    isplitl [H11]
    · iexists _; isplitr
      swap; · iexact H11
      ipureintro
      intro b hb r' l
      by_cases h : b.val = k.val
      · rw [put_slab_same X k.val _ b h r' l, h]
      · rw [put_slab_other X k.val _ b h r' l]; exact hX b (by omega) r' l
    iexact H13
  · unfold inv1
    isplitl [H4]; · iexact H4
    isplitl [H5]; · iexact H5
    isplitl [H9]; · iexact H9
    isplitl [H10]; · iexact H10
    isplitl [H11]
    · iexists d11; isplitr
      · ipureintro; exact fun b hb => absurd hb (Nat.not_lt_zero _)
      · iexact H11
    iexact H13
  iintro %_ HI
  rw [show Scf.trips (k0_t1_loop i).lb (k0_t1_loop i).ub (k0_t1_loop i).st = nb i - 1 from trips1 i]
  unfold inv1
  icases HI with ⟨H4, H5, H9, H10, ⟨%X, %hX, H11⟩, H13⟩
  sl_exec
  have l9 := View.readAt_rep_full arg9.view q inb_S1024x256_S1024x256_0_0
  have l4 := read_lat arg4.view X4 _ (k0_off7_inb i) (nb i - 1) (off7 i)
  have l10 := View.readAt_rep_full arg10.view r inb_S1024x128_S1024x128_0_0
  have l5 := read_rope arg5.view X5 _ (k0_off8_inb i) (nb i - 1) (off8 i)
  have l13 := View.readAt_rep_full (Val := Elt F) arg13.view (maxUpTo X4 X5 q r (nb i - 1)) inb_S1024x128_S1024x128_0_0
  have em : body_run.sl.v576 i = causal i :=
    (show _ = k0_pay55 (BitVec.ofNat 32 (i 1).val) (body_run.sl.v20 i) from rfl).trans
      (congrArg (k0_pay55 (BitVec.ofNat 32 (i 1).val)) ((by decide +kernel : ∀ i : grid0.Coords, body_run.sl.v20 i = BitVec.ofNat 32 (nb i)) i))
  have er : body_run.sl.v591 i arg4 arg5 arg9 arg10 X4 X5 q r = scoreRaw i X4 X5 q r :=
    (show _ = k0_pay56 _ _ _ _ from rfl).trans (raw_congr l9 l4 l10 l5)
  have e11 : arg11.view.read (Elt F) (arg11.view.writes (Elt F) (arg11.view.rep X)
        [⟨Rect.unit (s := S8x1024x256) (k0_off9 i) S1x1024x256.size (k0_off9_inb i), k0_pay58 (body_run.sl.v576 i) (body_run.sl.v591 i arg4 arg5 arg9 arg10 X4 X5 q r)⟩])
      = VecWindow.put X ![nb i - 1, 0, 0] S1x1024x256.size (slab (scoreLast i X4 X5 q r)) :=
    (View.read_writes_rep_unit arg11.view X _ _ (off9 i)).trans (congrArg (VecWindow.put X ![nb i - 1, 0, 0] S1x1024x256.size)
      (congrArg slab (congrArg₂ k0_pay57 em er)))
  have e13 : arg13.view.read (Elt F) (arg13.view.writes (Elt F) arg13.view.junk (body_run.sl.H13_2 i arg4 arg5 arg9 arg10 arg13 X4 X5 q r))
      = rowMax i X4 X5 q r := by
    unfold body_run.sl.H13_2
    refine (View.read_writes_full arg13.view _ _ _ _).trans ?_
    unfold body_run.sl.v606 rowMax
    refine congrArg k0_pay60 ?_
    unfold body_run.sl.H13_1_1
    refine (View.readCov_full arg13.view _ _ _ _).trans ?_
    refine (show _ = k0_pay59 (body_run.sl.v576 i) (body_run.sl.v591 i arg4 arg5 arg9 arg10 X4 X5 q r) _ from rfl).trans ?_
    rw [em, er]
    exact congrArg (k0_pay59 _ _) l13
  have e12 : arg12.view.read (Elt F) (arg12.view.writes (Elt F) arg12.view.junk body_run.sl.H12_1) = accUpTo i X4 X5 q r 0 := by
    unfold body_run.sl.H12_1
    exact View.read_writes_full arg12.view _ _ _ _
  have e14 : arg14.view.read (Elt F) (arg14.view.writes (Elt F) arg14.view.junk body_run.sl.H14_1) = sumUpTo i X4 X5 q r 0 := by
    unfold body_run.sl.H14_1
    exact View.read_writes_full arg14.view _ _ _ _
  ihave H11 := (pointsTo_rep_of_read (c : Thread nD τ) arg11 _ fullShare _ e11) $$ H11
  ihave H12 := (pointsTo_rep_of_read (c : Thread nD τ) arg12 _ fullShare _ e12) $$ H12
  ihave H13 := (pointsTo_rep_of_read (c : Thread nD τ) arg13 _ fullShare _ e13) $$ H13
  ihave H14 := (pointsTo_rep_of_read (c : Thread nD τ) arg14 _ fullShare _ e14) $$ H14
  have hX' : ∀ b : Fin 8, b.val < nb i → ∀ (r' : Fin 1024) (l : Fin 256),
      VecWindow.put X ![nb i - 1, 0, 0] S1x1024x256.size (slab (scoreLast i X4 X5 q r)) (ix3 b r' l) = slab (scoreAt i X4 X5 q r b.val) (ix3 0 r' l) := by
    intro b hb r' l
    have hp := nb_pos i
    unfold scoreAt
    by_cases h : b.val = nb i - 1
    · rw [put_slab_same X _ _ b h r' l, if_pos (by omega)]
    · rw [put_slab_other X _ _ b h r' l, if_neg (by omega)]; exact hX b (by omega) r' l
  clear l9 l4 l10 l5 l13 em er e11 e12 e13 e14 hX
  generalize (VecWindow.put X ![nb i - 1, 0, 0] S1x1024x256.size (slab (scoreLast i X4 X5 q r)) : Vec F S8x1024x256 .f32) = X' at hX'
  sl_for (fun k _ => inv3 c i arg4 arg11 arg12 arg13 arg14 X4 X5 q r X' k) $$ [H4 H11 H12 H13 H14]
  · intro k acc
    have hk : k.val < nb i := Nat.lt_of_lt_of_eq k.isLt (trips3 i)
    unfold inv3
    iintro ⟨H4, H11, H12, H13, H14⟩
    sl_exec
    have l11 := read_slab arg11.view X' _ (k0_off10_inb i k) k.val (off10 i k) (slab (scoreAt i X4 X5 q r k.val))
      fun b hb r' l => by rw [← hb]; exact hX' b (by omega) r' l
    have l13 := View.readAt_rep_full (Val := Elt F) arg13.view (rowMax i X4 X5 q r) inb_S1024x128_S1024x128_0_0
    have l14 := View.readAt_rep_full (Val := Elt F) arg14.view (sumUpTo i X4 X5 q r k.val) inb_S1024x128_S1024x128_0_0
    have l12 := View.readAt_rep_full (Val := Elt F) arg12.view (accUpTo i X4 X5 q r k.val) inb_S1024x256_S1024x256_0_0
    have l4 := read_lat arg4.view X4 _ (k0_off11_inb i k) k.val (off11 i k)
    have e12 : arg12.view.read (Elt F) (arg12.view.writes (Elt F) (arg12.view.rep (accUpTo i X4 X5 q r k.val))
          [⟨Rect.unit (s := S1024x256) ![0, 0] S1024x256.size inb_S1024x256_S1024x256_0_0, body_run.sl.v713 i arg4 arg11 arg12 arg13 X4 X5 q r X' k⟩])
        = accUpTo i X4 X5 q r (k.val + 1) :=
      (View.read_writes_full arg12.view _ _ _ _).trans ((show _ = k0_pay67 _ _ _ _ _ from rfl).trans (acc_congr l11 l13 l12 l4))
    have e14 : arg14.view.read (Elt F) (arg14.view.writes (Elt F) (arg14.view.rep (sumUpTo i X4 X5 q r k.val))
          [⟨Rect.unit (s := S1024x128) ![0, 0] S1024x128.size inb_S1024x128_S1024x128_0_0, body_run.sl.v702_1 i arg11 arg13 arg14 X4 X5 q r X' k⟩])
        = sumUpTo i X4 X5 q r (k.val + 1) :=
      (View.read_writes_full arg14.view _ _ _ _).trans ((show _ = k0_pay66 _ _ _ _ from rfl).trans (sum_congr l11 l13 l14))
    ihave H12 := (pointsTo_rep_of_read (c : Thread nD τ) arg12 _ fullShare _ e12) $$ H12
    ihave H14 := (pointsTo_rep_of_read (c : Thread nD τ) arg14 _ fullShare _ e14) $$ H14
    sl_step
    isplitl [H4]; · iexact H4
    isplitl [H11]; · iexact H11
    isplitl [H12]; · iexact H12
    isplitl [H13]; · iexact H13
    iexact H14
  · unfold inv3
    isplitl [H4]; · iexact H4
    isplitl [H11]; · iexact H11
    isplitl [H12]; · iexact H12
    isplitl [H13]; · iexact H13
    iexact H14
  iintro %_ HI
  rw [show Scf.trips (k0_t3_loop i).lb (k0_t3_loop i).ub (k0_t3_loop i).st = nb i from trips3 i]
  unfold inv3
  icases HI with ⟨H4, H11, H12, H13, H14⟩
  sl_exec
  have l14 := View.readAt_rep_full (Val := Elt F) arg14.view (sumUpTo i X4 X5 q r (nb i)) inb_S1024x128_S1024x128_0_0
  have l12 := View.readAt_rep_full (Val := Elt F) arg12.view (accUpTo i X4 X5 q r (nb i)) inb_S1024x256_S1024x256_0_0
  have w0 := read_wv arg7.view X7 0 inb_S8x256x128_S1x256x128_0_0_0
  have w1 := read_wv arg7.view X7 1 inb_S8x256x128_S1x256x128_1_0_0
  have w2 := read_wv arg7.view X7 2 inb_S8x256x128_S1x256x128_2_0_0
  have w3 := read_wv arg7.view X7 3 inb_S8x256x128_S1x256x128_3_0_0
  have w4 : arg7.view.readAt (Elt F) (Rect.unit (s := S8x256x128) ![4, 0, 0] S1x256x128.size inb_S8x256x128_S1x256x128_4_0_0).toLoadRect (arg7.view.rep X7)
      = wvBlk X7 4 := read_wv arg7.view X7 4 _
  have w5 : arg7.view.readAt (Elt F) (Rect.unit (s := S8x256x128) ![5, 0, 0] S1x256x128.size inb_S8x256x128_S1x256x128_5_0_0).toLoadRect (arg7.view.rep X7)
      = wvBlk X7 5 := read_wv arg7.view X7 5 _
  have w6 := read_wv arg7.view X7 6 inb_S8x256x128_S1x256x128_6_0_0
  have w7 := read_wv arg7.view X7 7 inb_S8x256x128_S1x256x128_7_0_0
  have e8 : arg8.view.read (Elt F) (arg8.view.writes (Elt F) (arg8.view.rep d8)
      [⟨Rect.unit (s := S1x128x512) ![0, 0, 384] ![1, 128, 128] inb_S1x128x512_S1x128x128_0_0_384,
        k0_pay1 (body_run.sl.r_1 i arg7 arg12 arg14 X4 X5 X7 q r) (body_run.sl.r_2 i arg12 arg14 X4 X5 q r) (body_run.sl.v677 arg7 X7)⟩,
       ⟨Rect.unit (s := S1x128x512) ![0, 0, 256] S1x128x128.size inb_S1x128x512_S1x128x128_0_0_256,
        k0_pay78 (body_run.sl.v635 i arg12 arg14 X4 X5 q r)
          (arg7.view.readAt (Elt F) (Rect.unit (s := S8x256x128) ![4, 0, 0] S1x256x128.size inb_S8x256x128_S1x256x128_4_0_0).toLoadRect (arg7.view.rep X7))
          (arg7.view.readAt (Elt F) (Rect.unit (s := S8x256x128) ![5, 0, 0] S1x256x128.size inb_S8x256x128_S1x256x128_5_0_0).toLoadRect (arg7.view.rep X7))⟩,
       ⟨Rect.unit (s := S1x128x512) ![0, 0, 128] S1x128x128.size inb_S1x128x512_S1x128x128_0_0_128,
        k0_pay77 (body_run.sl.v651 i arg7 arg12 arg14 X4 X5 X7 q r) (body_run.sl.v655 i arg7 arg12 arg14 X4 X5 X7 q r)⟩,
       ⟨Rect.unit (s := S1x128x512) ![0, 0, 0] S1x128x128.size inb_S1x128x512_S1x128x128_0_0_0, body_run.sl.v647 i arg7 arg12 arg14 X4 X5 X7 q r⟩])
      = outOf X7 (sumUpTo i X4 X5 q r (nb i)) (accUpTo i X4 X5 q r (nb i)) := read_out arg8.view (arg8.view.rep d8) inb_S1x128x512_S1x128x128_0_0_0 inb_S1x128x512_S1x128x128_0_0_128 inb_S1x128x512_S1x128x128_0_0_256
    inb_S1x128x512_S1x128x128_0_0_384 _ _ _ _ X7 (sumUpTo i X4 X5 q r (nb i)) (accUpTo i X4 X5 q r (nb i))
    ((show body_run.sl.v647 i arg7 arg12 arg14 X4 X5 X7 q r = k0_pay74 _ _ _ _ from rfl).trans (out0_congr l14 l12 w0 w1))
    ((show k0_pay77 (body_run.sl.v651 i arg7 arg12 arg14 X4 X5 X7 q r) (body_run.sl.v655 i arg7 arg12 arg14 X4 X5 X7 q r)
      = k0_pay77 (k0_pay75 _ _ _) (k0_pay76 _ _ _) from rfl).trans (out1_congr l14 l12 w2 w3))
    ((show k0_pay78 (body_run.sl.v635 i arg12 arg14 X4 X5 q r) _ _ = k0_pay78 (k0_pay73 _ _) _ _ from rfl).trans (out2_congr l14 l12 w4 w5))
    ((show k0_pay1 (body_run.sl.r_1 i arg7 arg12 arg14 X4 X5 X7 q r) (body_run.sl.r_2 i arg12 arg14 X4 X5 q r) (body_run.sl.v677 arg7 X7)
      = k0_pay1 (k0_pay79 (k0_pay73 _ _) _) (k0_pay80 (k0_pay73 _ _)) _ from rfl).trans (out3_congr l14 l12 w6 w7))
  have eo : outOf X7 (sumUpTo i X4 X5 q r (nb i)) (accUpTo i X4 X5 q r (nb i)) = outBlock i X2 X3 X4 X5 X6 X7 := by
    rw [← hq, ← hr]; rfl
  ihave H8 := (pointsTo_rep_of_read (c : Thread nD τ) arg8 _ fullShare _ (e8.trans eo)) $$ H8
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

end Cert.KernelIdeal.Att

end
-- ==== Proof.PI.Run.lean ====
/-
  The attention kernel's run: the pipeline's proof data, the body at a generic grid point, the launch, and the frame.
-/
module

public import proofs.«01_k».proof.Proof.PI.Body
public import proofs.«01_k».proof.Proof.Gen.KernelIdeal.Frame
public import Idealize.ShloMosaic.Lib.Claim

@[expose] public section

set_option maxRecDepth 16384

noncomputable section

namespace Cert.KernelIdeal.Att

open Idealize.ShloMosaic Cert.KernelIdeal Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output block of grid point `t`, from the blocks of the six inputs. -/
def outAt (c : Dev nD) (t : Fin cfg0.N) : Vec F S1x128x512 .f32 :=
  outBlock (grid0.coords t) (iblk m c 0 t) (iblk m c 1 t) (iblk m c 2 t) (iblk m c 3 t) (iblk m c 4 t) (iblk m c 5 t)

/-- The proof data: each input's buffer keeps its block, the output's holds `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks and the scratch buffers anything, so `body_run` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6,
    show (dats m 0 c).Φ t.castSucc = Pipeline.ΦA spec0 c from rfl]
  unfold Pipeline.ΦA outAt
  rw [scopedRest0_eq]
  iintro ⟨⟨⟨⟨%s0, S0⟩, ⟨%s1, S1⟩, ⟨%s2, S2⟩, ⟨%s3, S3⟩, ⟨%s4, S4⟩, ⟨%s5, S5⟩⟩, Hp⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  simp only [owns_whole]
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  iintro ⟨H0, H1, H2, H3, H4, H5, H6, S0, S1, S2, S3, S4, S5⟩
  isplitl [S0 S1 S2 S3 S4 S5 Hp]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array of the pipeline ends at what the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Att

end
-- ==== Proof.Math.Sums.lean ====
/-
  Facts about extended reals that mention no program: constants, sums cut into lanes and blocks, the largest element of
  a finite family, and the softmax identity — mixing with exponentials and dividing at the end is mixing with the
  quotients.
-/
module

public import Idealize.ShloMosaic.Lib.Pointwise
public import Idealize.ShloMosaic.Lib.WordCmp

@[expose] public section

noncomputable section

namespace Cert.Att

open Idealize.ShloMosaic

theorem neg_inf : Ideal.ofBits .f32 0xFF800000#32 = ⊥ := by simp [Ideal.ofBits, Ideal.ieee]

theorem pos_inf : Ideal.ofBits .f32 0x7F800000#32 = ⊤ := by simp [Ideal.ofBits, Ideal.ieee]

/-- The extended real is a real number. -/
def IsReal (x : EReal) : Prop := ∃ r : ℝ, x = r

theorem scale_real : IsReal (Ideal.ofBits .f32 0x3DD105EC#32) := by
  simp [IsReal, Ideal.ofBits, Ideal.ieee]
  exact ⟨_, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- A finite sum of reals, as extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem IsReal.sum {ι : Type*} {S : Finset ι} {f : ι → EReal} (h : ∀ i ∈ S, IsReal (f i)) : IsReal (∑ i ∈ S, f i) := by
  classical
  induction S using Finset.induction_on with
  | empty => exact ⟨0, by simp⟩
  | insert a S ha ih =>
    rw [Finset.sum_insert ha]
    exact (h a (Finset.mem_insert_self _ _)).add (ih fun i hi => h i (Finset.mem_insert_of_mem hi))

theorem IsReal.of_abs_lt {x : EReal} (h : max x (-x) < ⊤) : IsReal x := by
  induction x with
  | bot => simp at h
  | top => simp at h
  | coe r => exact ⟨r, rfl⟩

/-- A signed comparison of two small numbers selects by their order. -/
theorem select_le (a b : ℕ) (ha : a < 4096) (hb : b < 4096) (x y : EReal) :
    Scalar.select (IntOp.cmpi .sle (BitVec.ofNat 32 a) (BitVec.ofNat 32 b)) x y = if a ≤ b then x else y := by
  rw [WordCmp.cmpi_sle_ofNat (by omega) (by omega)]
  by_cases h : a ≤ b <;> simp [h, Scalar.select]

/-- A sum over 128 lanes that keeps half `a` of them is a sum over that half. -/
theorem sum_half (a : ℕ) (ha : a < 2) (f : Fin 128 → EReal) :
    ∑ x : Fin 128, (if x.val / 64 = a then f x else 0) = ∑ d : Fin 64, f ⟨a * 64 + d.val, by omega⟩ := by
  rw [Fin.sum_univ_tiles 2 64 rfl]
  rw [Finset.sum_eq_single (⟨a, ha⟩ : Fin 2)]
  · refine Finset.sum_congr rfl fun d _ => if_pos ?_
    show (a * 64 + d.val) / 64 = a
    omega
  · intro j _ hj
    refine Finset.sum_eq_zero fun d _ => if_neg ?_
    intro h
    apply hj
    apply Fin.ext
    show j.val = a
    have : (j.val * 64 + d.val) / 64 = a := h
    omega
  · intro h; exact absurd (Finset.mem_univ _) h

/-- The same for a quarter of them. -/
theorem sum_quarter (a : ℕ) (ha : a < 4) (f : Fin 128 → EReal) :
    ∑ x : Fin 128, (if x.val / 32 = a then f x else 0) = ∑ d : Fin 32, f ⟨a * 32 + d.val, by omega⟩ := by
  rw [Fin.sum_univ_tiles 4 32 rfl]
  rw [Finset.sum_eq_single (⟨a, ha⟩ : Fin 4)]
  · refine Finset.sum_congr rfl fun d _ => if_pos ?_
    show (a * 32 + d.val) / 32 = a
    omega
  · intro j _ hj
    refine Finset.sum_eq_zero fun d _ => if_neg ?_
    intro h
    apply hj
    apply Fin.ext
    show j.val = a
    have : (j.val * 32 + d.val) / 32 = a := h
    omega
  · intro h; exact absurd (Finset.mem_univ _) h

/-- 256 terms in two runs of 128. -/
theorem sum_two (f : ℕ → EReal) : (∑ x : Fin 128, f x.val) + ∑ x : Fin 128, f (128 + x.val) = ∑ j ∈ Finset.range 256, f j := by
  rw [show (256 : ℕ) = 128 + 128 from rfl, Finset.sum_range_add, Finset.sum_range, Finset.sum_range]

/-- `n` blocks of 256 terms. -/
theorem sum_blocks (f : ℕ → EReal) (n : ℕ) :
    ∑ k ∈ Finset.range n, ((∑ x : Fin 128, f (256 * k + x.val)) + ∑ x : Fin 128, f (256 * k + (128 + x.val)))
      = ∑ s ∈ Finset.range (256 * n), f s := by
  induction n with
  | zero => simp
  | succ n ih =>
    rw [Finset.sum_range_succ, ih, Nat.mul_succ, Finset.sum_range_add, ← sum_two fun j => f (256 * n + j)]

/-- A host maximum along the last of four axes is at most `u` exactly when its start and every element of the line are. -/
theorem top_le {n0 n1 n2 n3 : ℕ} {w : Shape} {φ : FTy} (v : FVec Ideal ⟨4, ![n0, n1, n2, n3]⟩ φ) (init : FVec Ideal w φ)
    (h : (⟨4, ![n0, n1, n2, n3]⟩ : Shape).ReducesTo [3] ⟨3, ![n0, n1, n2]⟩) (hw : 0 < w.numel) (a : Fin n0) (b : Fin n1) (c : Fin n2) (u : EReal) :
    Host.reduce FloatOps.maximumf v init h hw (ix3 a b c) ≤ u ↔ init (Shape.Idx.first hw) ≤ u ∧ ∀ s, v (ix4 a b c s) ≤ u := by
  have e : Host.reduce FloatOps.maximumf v init h hw (ix3 a b c)
      = Finset.univ.fold max (init (Shape.Idx.first hw)) (fun s : Fin n3 => v (ix4 a b c s)) := by
    pointwise
  rw [e, Finset.fold_max_le]
  simp

/-- The same after a further maximum with −∞. -/
theorem top_max_le {n0 n1 n2 n3 : ℕ} {w : Shape} {φ : FTy} (v : FVec Ideal ⟨4, ![n0, n1, n2, n3]⟩ φ) (init : FVec Ideal w φ) (x : FVec Ideal ⟨3, ![n0, n1, n2]⟩ φ)
    (h : (⟨4, ![n0, n1, n2, n3]⟩ : Shape).ReducesTo [3] ⟨3, ![n0, n1, n2]⟩) (hw : 0 < w.numel) (a : Fin n0) (b : Fin n1) (c : Fin n2) (u : EReal)
    (hi : init (Shape.Idx.first hw) = (⊥ : EReal)) (hx : x (ix3 a b c) = (⊥ : EReal)) :
    maximumf x (Host.reduce FloatOps.maximumf v init h hw) (ix3 a b c) ≤ u ↔ ∀ s, v (ix4 a b c s) ≤ u := by
  show max (x (ix3 a b c)) (Host.reduce FloatOps.maximumf v init h hw (ix3 a b c)) ≤ u ↔ _
  rw [hx, max_le_iff, top_le, hi]
  simp

section Softmax

variable {n k : ℕ} (z : Fin n → EReal) (M : EReal)

/-- The exponentials of a row of scores less its largest are reals with a positive sum. -/
theorem exps_real (hM : ∀ u, M ≤ u ↔ ∀ s, z s ≤ u) (hz : ∀ s, z s ≠ ⊤) (s₀ : Fin n) (h₀ : z s₀ ≠ ⊥) :
    ∃ e : Fin n → ℝ, (∀ s, Ideal.exp (z s - M) = e s) ∧ ∑ s, e s ≠ 0 := by
  have hle : ∀ s, z s ≤ M := (hM M).1 le_rfl
  obtain ⟨s₁, _, h₁⟩ := Finset.exists_max_image Finset.univ z ⟨s₀, Finset.mem_univ _⟩
  have hM1 : M = z s₁ := le_antisymm ((hM _).2 fun s => h₁ s (Finset.mem_univ _)) (hle s₁)
  have htop : M ≠ ⊤ := by rw [hM1]; exact hz s₁
  have hbot : M ≠ ⊥ := fun h => h₀ (le_bot_iff.1 (h ▸ hle s₀))
  obtain ⟨r, rfl⟩ : ∃ r : ℝ, M = r := ⟨M.toReal, (EReal.coe_toReal htop hbot).symm⟩
  have he : ∀ s, ∃ x : ℝ, Ideal.exp (z s - r) = x ∧ 0 ≤ x ∧ (z s ≠ ⊥ → 0 < x) := by
    intro s
    have h := hz s
    generalize z s = y at h
    induction y with
    | bot => exact ⟨0, by simp, le_rfl, fun h => absurd rfl h⟩
    | top => exact absurd rfl h
    | coe a => exact ⟨Real.exp (a - r), by rw [← EReal.coe_sub, Ideal.exp_coe], (Real.exp_pos _).le, fun _ => Real.exp_pos _⟩
  choose e h1 h2 h3 using he
  exact ⟨e, h1, (Finset.sum_pos' (fun s _ => h2 s) ⟨s₀, Finset.mem_univ _, h3 s₀ h₀⟩).ne'⟩

/-- Mixing with the exponentials, scaling by the reciprocal of their sum and projecting is projecting the mixture with
    the quotients. -/
theorem softmax_mix (hM : ∀ u, M ≤ u ↔ ∀ s, z s ≤ u) (hz : ∀ s, z s ≠ ⊤) (s₀ : Fin n) (h₀ : z s₀ ≠ ⊥)
    (lat : Fin n → Fin k → EReal) (hl : ∀ s c, IsReal (lat s c)) (w : Fin k → EReal) (hw : ∀ c, IsReal (w c)) :
    ∑ c, (∑ s, Ideal.exp (z s - M) * lat s c) * Ideal.div 1 (∑ s, Ideal.exp (z s - M)) * w c
      = ∑ c, w c * ∑ s, lat s c * Ideal.div (Ideal.exp (z s - M)) (∑ s, Ideal.exp (z s - M)) := by
  obtain ⟨e, he, hs⟩ := exps_real z M hM hz s₀ h₀
  choose a ha using hl
  choose b hb using hw
  simp only [he, ha, hb, ← coe_sum, Ideal.div_coe hs]
  simp only [← EReal.coe_mul, ← EReal.coe_one, ← coe_sum]
  refine congrArg _ (Finset.sum_congr rfl fun c _ => ?_)
  rw [mul_comm (b c), Finset.sum_mul]
  refine congrArg (· * b c) (Finset.sum_congr rfl fun s _ => ?_)
  ring

end Softmax

end Cert.Att

end
-- ==== Proof.Math.Host.lean ====
/-
  The operands that the host line hands the kernel, read off the five arguments: reshapes, a transpose, four copies of the
  rotary keys, and the value projection written head by head into its half of the lanes of a zero array.
-/
module

public import proofs.«01_k».proof.Proof.PI.Run
public import proofs.«01_k».proof.Proof.Math.Sums
public import Idealize.ShloMosaic.Lib.Pipeline.ValueKit
public import Idealize.ShloMosaic.Lib.Routing.OpsSet
public import Idealize.ShloMosaic.Lib.Routing.OpsPair

@[expose] public section

set_option maxRecDepth 16384

noncomputable section

namespace Cert.KernelIdeal.Att

open Idealize.ShloMosaic Cert.KernelIdeal Cert.KernelIdeal.Gen Cert.Att Idealize.ShloMosaic.TcCoe Idealize.ShloMosaic.Routing

variable (m : (ℓ : Loc nD τ sig) → Buf (Elt Ideal) ℓ)

theorem V_qn (c : Dev nD) (b : Fin 8) (t : Fin 2048) (h : Fin 8) (d : Fin 64) : V m c main_v58 (ix3 b t ⟨64 * h.val + d.val, by omega⟩)
    = m ((c.tc : Thread nD τ).loc main_arg0) (ix4 b t h d) := by
  entry_read
  pointwise
  exact congrArg₂ (fun h' d' => m ((c.tc : Thread nD τ).loc main_arg0) (ix4 b t h' d')) (Fin.ext (by simp; omega)) (Fin.ext (by simp))

theorem V_qp (c : Dev nD) (b : Fin 8) (t : Fin 2048) (h : Fin 8) (d : Fin 32) : V m c main_v60 (ix3 b t ⟨32 * h.val + d.val, by omega⟩)
    = m ((c.tc : Thread nD τ).loc main_arg1) (ix4 b t h d) := by
  entry_read
  pointwise
  exact congrArg₂ (fun h' d' => m ((c.tc : Thread nD τ).loc main_arg1) (ix4 b t h' d')) (Fin.ext (by simp; omega)) (Fin.ext (by simp))

theorem V_lat (c : Dev nD) (b : Fin 8) (t : Fin 2048) (x : Fin 256) : V m c main_v61 (ix3 b t x)
    = m ((c.tc : Thread nD τ).loc main_arg2) (ix3 b t x) := by
  entry_read
  pointwise

theorem V_krr (c : Dev nD) (b : Fin 8) (t : Fin 2048) (k : Fin 4) (x : Fin 32) : V m c main_v56 (ix3 b t ⟨k.val * 32 + x.val, by omega⟩)
    = m ((c.tc : Thread nD τ).loc main_arg3) (ix3 b t x) := by
  entry_read
  pointwise
  have e : ∀ (l : Fin 32), l.val = x.val → m (c, Proc.tc.devRef main_arg3) (ix3 b t l) = m ((c.tc : Thread nD τ).loc main_arg3) (ix3 b t x) :=
    fun l hl => congrArg (fun l => m ((c.tc : Thread nD τ).loc main_arg3) (ix3 b t l)) (Fin.ext hl)
  split_ifs <;> exact e _ (by simp; omega)

theorem V_wkt (c : Dev nD) (h : Fin 8) (d : Fin 64) (x : Fin 256) : V m c main_v3 (ix2 ⟨64 * h.val + d.val, by omega⟩ x)
    = m ((c.tc : Thread nD τ).loc main_arg4) (ix3 x h ⟨d.val, by omega⟩) := by
  entry_read
  pointwise
  exact congrArg₂ (fun h' d' => m ((c.tc : Thread nD τ).loc main_arg4) (ix3 x h' d')) (Fin.ext (by simp; omega)) (Fin.ext (by simp))

/-- Where one update of the value projection lands: head `hh`, the same row, lanes from `64 p`. -/
theorem lands (idx : IVec S2 32) (hh p : ℕ) (h0 : (idx (ix1 0)).toInt = (hh : ℤ)) (h1 : (idx (ix1 1)).toInt = ((64 * p : ℕ) : ℤ))
    (k' : Fin 256) (l : Fin 64) (h : Fin 8) (k : Fin 256) (e : Fin 128) :
    scatter_S8x256x128_S2_S256x64_01_0_02_0.resultIdx? (ix2 k' l) idx = some (ix3 h k e)
      ↔ h.val = hh ∧ k' = k ∧ e.val = 64 * p + l.val := by
  have s0 : scatter_S8x256x128_S2_S256x64_01_0_02_0.siIdx (ix2 k' l) ⟨0, by decide⟩ = ix1 (0 : Fin 2) := by
    funext b; match b with | ⟨0, _⟩ => rfl
  have s1 : scatter_S8x256x128_S2_S256x64_01_0_02_0.siIdx (ix2 k' l) ⟨1, by decide⟩ = ix1 (1 : Fin 2) := by
    funext b; match b with | ⟨0, _⟩ => rfl
  have st0 : scatter_S8x256x128_S2_S256x64_01_0_02_0.start (ix2 k' l) idx 0 = (hh : ℤ) := by
    rw [← h0, ← s0]; rfl
  have st1 : scatter_S8x256x128_S2_S256x64_01_0_02_0.start (ix2 k' l) idx 1 = 0 := rfl
  have st2 : scatter_S8x256x128_S2_S256x64_01_0_02_0.start (ix2 k' l) idx 2 = ((64 * p : ℕ) : ℤ) := by
    rw [← h1, ← s1]; rfl
  have w0 : scatter_S8x256x128_S2_S256x64_01_0_02_0.window (ix2 k' l) 0 = 0 := rfl
  have w1 : scatter_S8x256x128_S2_S256x64_01_0_02_0.window (ix2 k' l) 1 = k'.val := rfl
  have w2 : scatter_S8x256x128_S2_S256x64_01_0_02_0.window (ix2 k' l) 2 = l.val := rfl
  rw [resultIdx?_eq_some]
  constructor
  · intro H
    have H0 := H 0; have H1 := H 1; have H2 := H 2
    rw [st0, w0] at H0; rw [st1, w1] at H1; rw [st2, w2] at H2
    have H0' : (hh : ℤ) + ((0 : ℕ) : ℤ) = (h.val : ℤ) := H0
    have H1' : (0 : ℤ) + (k'.val : ℤ) = (k.val : ℤ) := H1
    have H2' : ((64 * p : ℕ) : ℤ) + (l.val : ℤ) = (e.val : ℤ) := H2
    exact ⟨by omega, Fin.ext (by omega), by omega⟩
  · rintro ⟨H0, rfl, H2⟩ a
    match a with
    | ⟨0, _⟩ => exact (by rw [st0, w0]; show (hh : ℤ) + ((0 : ℕ) : ℤ) = (h.val : ℤ); omega : scatter_S8x256x128_S2_S256x64_01_0_02_0.start (ix2 k' l) idx 0 + (scatter_S8x256x128_S2_S256x64_01_0_02_0.window (ix2 k' l) 0 : ℤ) = (h.val : ℤ))
    | ⟨1, _⟩ => exact (by rw [st1, w1]; omega : scatter_S8x256x128_S2_S256x64_01_0_02_0.start (ix2 k' l) idx 1 + (scatter_S8x256x128_S2_S256x64_01_0_02_0.window (ix2 k' l) 1 : ℤ) = (k'.val : ℤ))
    | ⟨2, _⟩ => exact (by rw [st2, w2]; omega : scatter_S8x256x128_S2_S256x64_01_0_02_0.start (ix2 k' l) idx 2 + (scatter_S8x256x128_S2_S256x64_01_0_02_0.window (ix2 k' l) 2 : ℤ) = (e.val : ℤ))

/-- One head's value projection written into its half of the lanes. -/
theorem put (idx : IVec S2 32) (hh p : ℕ) (h0 : (idx (ix1 0)).toInt = (hh : ℤ)) (h1 : (idx (ix1 1)).toInt = ((64 * p : ℕ) : ℤ))
    (x : S8x256x128.Idx → EReal) (u : S256x64.Idx → EReal) (h : Fin 8) (k : Fin 256) (e : Fin 128) :
    Host.scatter scatter_S8x256x128_S2_S256x64_01_0_02_0 (fun _ b => b) x idx u (ix3 h k e)
      = if h.val = hh ∧ e.val / 64 = p then u (ix2 k ⟨e.val % 64, Nat.mod_lt _ (by decide)⟩) else x (ix3 h k e) := by
  by_cases c : h.val = hh ∧ e.val / 64 = p
  · rw [if_pos c]
    refine scatter_set_hit _ x idx u _ _ (fun j hj => ?_) (ix2 k ⟨e.val % 64, Nat.mod_lt _ (by decide)⟩)
      ((lands idx hh p h0 h1 _ _ h k e).2 ⟨c.1, rfl, by simp; omega⟩)
    rw [eq_ix2 j] at hj ⊢
    obtain ⟨_, a, b⟩ := (lands idx hh p h0 h1 _ _ h k e).1 hj
    have hl : (j 1).val < 64 := (j 1).isLt
    have b' : e.val = 64 * p + (j 1).val := b
    refine congrArg u (congrArg₂ ix2 a (Fin.ext ?_))
    show (j 1).val = e.val % 64
    omega
  · rw [if_neg c]
    refine scatter_set_miss _ x idx u _ fun j hj => c ?_
    rw [eq_ix2 j] at hj
    obtain ⟨a, _, b⟩ := (lands idx hh p h0 h1 _ _ h k e).1 hj
    have hl : (j 1).val < 64 := (j 1).isLt
    refine ⟨a, ?_⟩
    have b' : e.val = 64 * p + (j 1).val := b
    omega

theorem V_wvp (c : Dev nD) (h : Fin 8) (x : Fin 256) (e : Fin 128) : V m c main_v54 (ix3 h x e)
    = if e.val / 64 = h.val % 2 then m ((c.tc : Thread nD τ).loc main_arg4) (ix3 x h ⟨64 + e.val % 64, by omega⟩) else (0 : EReal) := by
  entry_read
  rw [show ∀ v : FVec Ideal S8x256x128 .f32, truncf .bf16 v bitsLt_bf16_f32 (ix3 h x e) = v (ix3 h x e) from fun _ => rfl]
  rw [put _ 7 1, put _ 6 0, put _ 5 1, put _ 4 0, put _ 3 1, put _ 2 0, put _ 1 1, put _ 0 0]
  · pointwise
    have he : e.val / 64 = 0 ∨ e.val / 64 = 1 := by omega
    obtain ⟨n, hn⟩ := h
    rcases he with he | he <;> interval_cases n <;> simp [he] <;> rfl
  all_goals first | rfl | decide

end Cert.KernelIdeal.Att

end
-- ==== Proof.Math.Row.lean ====
/-
  One row of a grid point: the scores of all its keys, its maximum, the sum of its exponentials and its weighted latents.
  The kernel goes through the keys in blocks of 256, lane by lane, and only as far as the causal mask reaches; the sums
  below run over all 2048 keys, where a masked key has score −∞ and so exponential 0.
-/
module

public import proofs.«01_k».proof.Proof.PI.Vals
public import proofs.«01_k».proof.Proof.Math.Sums

@[expose] public section

set_option maxRecDepth 16384

noncomputable section

namespace Cert.KernelIdeal.Att

open Idealize.ShloMosaic Cert.KernelIdeal Cert.KernelIdeal.Gen Cert.Att

theorem mask_bot : Named.named (F := Ideal) (φ := .f32) κ "mask" 4048155338#32 = (⊥ : EReal) :=
  IdealRules.named_const.ideal_named_scalar κ "mask" _ ⊥ rfl

/-- The first key of the last block, as a word. -/
theorem last_base : ∀ j : Fin 16, Scalar.muli (Scalar.subi (BitVec.ofNat 32 (j.val / 2 + 1)) 1#32) 256#32 = BitVec.ofNat 32 (256 * (j.val / 2)) := by
  decide +kernel

/-- The first query of the block, as a word. -/
theorem query_base : ∀ j : Fin 16, Scalar.muli (BitVec.ofNat 32 j.val) 128#32 = BitVec.ofNat 32 (128 * j.val) := by
  decide +kernel

/-- A row's query within the block, as a word. -/
theorem row_query : ∀ n : Fin 1024, IntOp.andi (BitVec.ofNat 32 n.val) 127#32 = BitVec.ofNat 32 (n.val % 128) := by
  decide +kernel

theorem addi_ofNat (a b : ℕ) : IntOp.addi (BitVec.ofNat 32 a) (BitVec.ofNat 32 b) = BitVec.ofNat 32 (a + b) :=
  (BitVec.ofNat_add a b).symm

variable (i : grid0.Coords) (X4 : Vec Ideal S1x2048x256 .bf16) (X5 : Vec Ideal S1x2048x128 .bf16)
variable (q : Vec Ideal S1024x256 .bf16) (r : Vec Ideal S1024x128 .bf16)

/-- A key's score before the mask. -/
def raw (n : Fin 1024) (s : ℕ) : EReal :=
  (∑ x : Fin 256, q (ix2 n x) * X4 (ix3 0 ⟨s % 2048, Nat.mod_lt _ (by decide)⟩ x)
    + ∑ x : Fin 128, r (ix2 n x) * X5 (ix3 0 ⟨s % 2048, Nat.mod_lt _ (by decide)⟩ x)) * Ideal.ofBits FTy.f32 0x3DD105EC#32

/-- A key's score under the causal mask. -/
def z (n : Fin 1024) (s : ℕ) : EReal := if s ≤ 128 * (i 1).val + n.val % 128 then raw X4 X5 q r n s else ⊥

theorem pay49_at (k : ℕ) (n : Fin 1024) (l : Fin 256) :
    k0_pay49 q (latBlk X4 k) r (ropeBlk X5 k) (ix2 n l) = raw X4 X5 q r n (256 * k + l.val) := by
  pointwise [k0_pay49, latBlk, ropeBlk]
  rfl

theorem pay56_at (k : ℕ) (n : Fin 1024) (l : Fin 256) :
    k0_pay56 q (latBlk X4 k) r (ropeBlk X5 k) (ix2 n l) = raw X4 X5 q r n (256 * k + l.val) := by
  pointwise [k0_pay56, latBlk, ropeBlk]
  rfl

theorem last_eq : nb i - 1 = (i 1).val / 2 := by simp [nb]

theorem scoreLast_at (n : Fin 1024) (l : Fin 256) : scoreLast i X4 X5 q r (ix2 n l) = z i X4 X5 q r n (256 * (nb i - 1) + l.val) := by
  pointwise [scoreLast, k0_pay57, causal, k0_pay55, scoreRaw]
  have hi : (i 1).val < 16 := (i 1).isLt
  rw [pay56_at, show BitVec.ofNat 32 (nb i) = BitVec.ofNat 32 ((i 1).val / 2 + 1) from rfl, last_base (i 1), query_base (i 1), row_query n,
    addi_ofNat, addi_ofNat, mask_bot, select_le _ _ (by omega) (by omega), last_eq]
  rfl

theorem score_at (k : ℕ) (n : Fin 1024) (l : Fin 256) : score X4 X5 q r k (ix2 n l) = raw X4 X5 q r n (256 * k + l.val) := pay49_at X4 X5 q r k n l

/-- What the score buffer holds of a block within reach. -/
theorem scoreAt_at (k : ℕ) (hk : k < nb i) (n : Fin 1024) (l : Fin 256) :
    scoreAt i X4 X5 q r k (ix2 n l) = z i X4 X5 q r n (256 * k + l.val) := by
  unfold scoreAt
  split
  case isTrue h => rw [scoreLast_at, show nb i - 1 = k by omega]
  case isFalse h =>
    rw [score_at, z, if_pos]
    have := last_eq i
    omega

/-- The running maxima of a row, over all lanes. -/
theorem maxUpTo_le (n : Fin 1024) (u : EReal) (k : ℕ) :
    (∀ l : Fin 128, maxUpTo X4 X5 q r k (ix2 n l) ≤ u) ↔ ∀ s < 256 * k, raw X4 X5 q r n s ≤ u := by
  induction k with
  | zero =>
    have e : ∀ l : Fin 128, maxUpTo X4 X5 q r 0 (ix2 n l) = ⊥ := by
      intro l
      simp only [maxUpTo]
      pointwise [k0_pay48, k0_pay47]
      exact mask_bot
    simp [e]
  | succ k ih =>
    have e : ∀ l : Fin 128, maxUpTo X4 X5 q r (k + 1) (ix2 n l) = max (maxUpTo X4 X5 q r k (ix2 n l))
        (max (raw X4 X5 q r n (256 * k + l.val)) (raw X4 X5 q r n (256 * k + (128 + l.val)))) := by
      intro l
      simp only [maxUpTo]
      pointwise [k0_pay51]
      rw [pay49_at, pay49_at]
    simp only [e, max_le_iff]
    constructor
    · intro h s hs
      rcases Nat.lt_or_ge s (256 * k) with h1 | h1
      · exact ih.1 (fun l => (h l).1) s h1
      · rcases Nat.lt_or_ge (s - 256 * k) 128 with h2 | h2
        · have := (h ⟨s - 256 * k, h2⟩).2.1
          rwa [show 256 * k + (⟨s - 256 * k, h2⟩ : Fin 128).val = s by simp; omega] at this
        · have := (h ⟨s - 256 * k - 128, by omega⟩).2.2
          rwa [show 256 * k + (128 + (⟨s - 256 * k - 128, by omega⟩ : Fin 128).val) = s by simp; omega] at this
    · intro h l
      exact ⟨ih.2 (fun s hs => h s (by omega)) l, h _ (by omega), h _ (by omega)⟩

/-- A row's maximum, on any lane. -/
theorem rowMax_le (n : Fin 1024) (l : Fin 128) (u : EReal) :
    rowMax i X4 X5 q r (ix2 n l) ≤ u ↔ ∀ s : Fin 2048, z i X4 X5 q r n s.val ≤ u := by
  have hi : (i 1).val < 16 := (i 1).isLt
  have hn := last_eq i
  have e : rowMax i X4 X5 q r (ix2 n l) = Finset.fold max ⊥ (fun x : Fin 128 => max (maxUpTo X4 X5 q r (nb i - 1) (ix2 n x))
      (max (z i X4 X5 q r n (256 * (nb i - 1) + x.val)) (z i X4 X5 q r n (256 * (nb i - 1) + (128 + x.val))))) Finset.univ := by
    have h1 := fun x : Fin 256 => scoreLast_at i X4 X5 q r n x
    unfold scoreLast at h1
    pointwise [rowMax, k0_pay60, k0_pay59]
    simp only [h1, neg_inf]
  rw [e, Finset.fold_max_le]
  simp only [bot_le, true_and, Finset.mem_univ, forall_true_left, max_le_iff]
  constructor
  · intro h s
    rcases Nat.lt_or_ge s.val (256 * (nb i - 1)) with h1 | h1
    · rw [z, if_pos (by omega)]
      exact (maxUpTo_le X4 X5 q r n u (nb i - 1)).1 (fun l => (h l).1) s h1
    · rcases Nat.lt_or_ge (s.val - 256 * (nb i - 1)) 128 with h2 | h2
      · have := (h ⟨s.val - 256 * (nb i - 1), h2⟩).2.1
        rwa [show 256 * (nb i - 1) + (⟨s.val - 256 * (nb i - 1), h2⟩ : Fin 128).val = s by simp; omega] at this
      · rcases Nat.lt_or_ge (s.val - 256 * (nb i - 1)) 256 with h3 | h3
        · have := (h ⟨s.val - 256 * (nb i - 1) - 128, by omega⟩).2.2
          rwa [show 256 * (nb i - 1) + (128 + (⟨s.val - 256 * (nb i - 1) - 128, by omega⟩ : Fin 128).val) = s by simp; omega] at this
        · rw [z, if_neg (by omega)]
          exact bot_le
  · intro h x
    refine ⟨(maxUpTo_le X4 X5 q r n u (nb i - 1)).2 (fun s hs => ?_) x, h ⟨256 * (nb i - 1) + x.val, by omega⟩,
      h ⟨256 * (nb i - 1) + (128 + x.val), by omega⟩⟩
    have := h ⟨s, by omega⟩
    rwa [z, if_pos (by simp; omega)] at this

/-- A row's maximum. -/
def top (n : Fin 1024) : EReal := rowMax i X4 X5 q r (ix2 n 0)

theorem rowMax_lane (n : Fin 1024) (l : Fin 128) : rowMax i X4 X5 q r (ix2 n l) = top i X4 X5 q r n :=
  eq_of_forall_ge_iff fun u => (rowMax_le i X4 X5 q r n l u).trans (rowMax_le i X4 X5 q r n 0 u).symm

/-- A key's exponential. -/
def ex (n : Fin 1024) (s : ℕ) : EReal := Ideal.exp (z i X4 X5 q r n s - top i X4 X5 q r n)

/-- The running sums of a row, over all lanes. -/
theorem sumUpTo_at (n : Fin 1024) (k : ℕ) (hk : k ≤ nb i) :
    ∑ l : Fin 128, sumUpTo i X4 X5 q r k (ix2 n l) = ∑ s ∈ Finset.range (256 * k), ex i X4 X5 q r n s := by
  induction k with
  | zero =>
    simp only [Nat.mul_zero, Finset.range_zero, Finset.sum_empty]
    refine Finset.sum_eq_zero fun l _ => ?_
    simp only [sumUpTo]
    pointwise [k0_pay62]
  | succ k ih =>
    have e : ∀ l : Fin 128, sumUpTo i X4 X5 q r (k + 1) (ix2 n l) = sumUpTo i X4 X5 q r k (ix2 n l)
        + (ex i X4 X5 q r n (256 * k + l.val) + ex i X4 X5 q r n (256 * k + (128 + l.val))) := by
      intro l
      simp only [sumUpTo]
      pointwise [k0_pay66, k0_pay64, k0_pay65, k0_pay63]
      rw [scoreAt_at i X4 X5 q r k hk, scoreAt_at i X4 X5 q r k hk, rowMax_lane]
      rfl
    simp only [e, Finset.sum_add_distrib]
    rw [ih (by omega), Nat.mul_succ, Finset.sum_range_add, ← sum_two fun j => ex i X4 X5 q r n (256 * k + j)]

/-- The running weighted latents of a row. -/
theorem accUpTo_at (n : Fin 1024) (c : Fin 256) (k : ℕ) (hk : k ≤ nb i) : accUpTo i X4 X5 q r k (ix2 n c)
    = ∑ s ∈ Finset.range (256 * k), ex i X4 X5 q r n s * X4 (ix3 0 ⟨s % 2048, Nat.mod_lt _ (by decide)⟩ c) := by
  induction k with
  | zero =>
    simp only [Nat.mul_zero, Finset.range_zero, Finset.sum_empty]
    simp only [accUpTo]
    pointwise [k0_pay61]
  | succ k ih =>
    have e : accUpTo i X4 X5 q r (k + 1) (ix2 n c) = accUpTo i X4 X5 q r k (ix2 n c)
        + ((∑ x : Fin 128, ex i X4 X5 q r n (256 * k + x.val) * X4 (ix3 0 ⟨(256 * k + x.val) % 2048, Nat.mod_lt _ (by decide)⟩ c))
          + ∑ x : Fin 128, ex i X4 X5 q r n (256 * k + (128 + x.val)) * X4 (ix3 0 ⟨(256 * k + (128 + x.val)) % 2048, Nat.mod_lt _ (by decide)⟩ c)) := by
      simp only [accUpTo]
      pointwise [k0_pay67, k0_pay64, k0_pay65, k0_pay63]
      simp only [scoreAt_at i X4 X5 q r k hk, rowMax_lane]
      rfl
    rw [e, ih (by omega), Nat.mul_succ, Finset.sum_range_add,
      ← sum_two fun j => ex i X4 X5 q r n (256 * k + j) * X4 (ix3 0 ⟨(256 * k + j) % 2048, Nat.mod_lt _ (by decide)⟩ c)]

theorem ex_far (n : Fin 1024) (s : ℕ) (hs : 256 * nb i ≤ s) : ex i X4 X5 q r n s = 0 := by
  have hn : nb i = (i 1).val / 2 + 1 := rfl
  rw [ex, z, if_neg (by omega), EReal.bot_sub, Ideal.exp_bot]

/-- A sum over the keys within reach is a sum over all keys. -/
theorem sum_all (n : Fin 1024) (f : ℕ → EReal) :
    ∑ s ∈ Finset.range (256 * nb i), ex i X4 X5 q r n s * f s = ∑ s : Fin 2048, ex i X4 X5 q r n s.val * f s.val := by
  have hi : (i 1).val < 16 := (i 1).isLt
  have hn : nb i = (i 1).val / 2 + 1 := rfl
  rw [← Finset.sum_range fun s => ex i X4 X5 q r n s * f s]
  refine Finset.sum_subset (Finset.range_mono (by omega)) fun s _ h => ?_
  rw [ex_far i X4 X5 q r n s (by simpa using h), zero_mul]

/-- The sum of a row's exponentials. -/
theorem sum_at (n : Fin 1024) :
    ∑ l : Fin 128, sumUpTo i X4 X5 q r (nb i) (ix2 n l) = ∑ s : Fin 2048, Ideal.exp (z i X4 X5 q r n s.val - top i X4 X5 q r n) := by
  rw [sumUpTo_at i X4 X5 q r n _ le_rfl]
  have := sum_all i X4 X5 q r n fun _ => 1
  simp only [mul_one] at this
  exact this

/-- A row's weighted latents. -/
theorem acc_at (n : Fin 1024) (c : Fin 256) : accUpTo i X4 X5 q r (nb i) (ix2 n c)
    = ∑ s : Fin 2048, Ideal.exp (z i X4 X5 q r n s.val - top i X4 X5 q r n) * X4 (ix3 0 s c) := by
  rw [accUpTo_at i X4 X5 q r n c _ le_rfl, sum_all i X4 X5 q r n fun s => X4 (ix3 0 ⟨s % 2048, Nat.mod_lt _ (by decide)⟩ c)]
  refine Finset.sum_congr rfl fun s _ => congrArg (_ * ·) (congrArg (fun k => X4 (ix3 0 k c)) (Fin.ext ?_))
  show s.val % 2048 = s.val
  omega

end Cert.KernelIdeal.Att

end
-- ==== Proof.Math.Heads.lean ====
/-
  The queries of the kernel's rows. The kernel keeps two heads (four, for the rotary part) in one tile of 128 lanes and
  picks a head's lanes by a mask on the lane number; here the masks are read as conditions on the lane, and the products
  over a masked tile as products over the head's own lanes.
-/
module

public import proofs.«01_k».proof.Proof.PI.Vals
public import proofs.«01_k».proof.Proof.Math.Sums

@[expose] public section

set_option maxRecDepth 16384

noncomputable section

namespace Cert.KernelIdeal.Att

open Idealize.ShloMosaic Cert.KernelIdeal Cert.KernelIdeal.Gen Cert.Att

/-- A selection by a condition written as a bit. -/
theorem select_bit (p : Prop) [Decidable p] (x y : EReal) : Scalar.select (if p then 1#1 else 0#1) x y = if p then x else y := by
  by_cases h : p <;> simp [h, Scalar.select]

theorem half0 : ∀ x : Fin 128, IntOp.cmpi .eq (Scalar.select (IntOp.andi (IntOp.cmpi .ne (IntOp.subi (BitVec.setWidth 32 (IntOp.cmpi .sgt (BitVec.ofNat 32 x.val) 0#32)) (BitVec.setWidth 32 (IntOp.cmpi .slt (BitVec.ofNat 32 x.val) 0#32)))
      (Scalar.subi (Scalar.extui (Scalar.cmpi .sgt 64#32 0#32)) (Scalar.extui (Scalar.cmpi .slt 64#32 0#32)))) (IntOp.cmpi .ne (IntOp.remsi ArithUnit.vector (BitVec.ofNat 32 x.val) 64#32) 0#32))
      (IntOp.subi (IntOp.divsi ArithUnit.vector (BitVec.ofNat 32 x.val) 64#32) 1#32) (IntOp.divsi ArithUnit.vector (BitVec.ofNat 32 x.val) 64#32)) 0#32
      = if x.val / 64 = 0 then 1#1 else 0#1 := by decide +kernel

theorem half1 : ∀ x : Fin 128, IntOp.cmpi .eq (Scalar.select (IntOp.andi (IntOp.cmpi .ne (IntOp.subi (BitVec.setWidth 32 (IntOp.cmpi .sgt (BitVec.ofNat 32 x.val) 0#32)) (BitVec.setWidth 32 (IntOp.cmpi .slt (BitVec.ofNat 32 x.val) 0#32)))
      (Scalar.subi (Scalar.extui (Scalar.cmpi .sgt 64#32 0#32)) (Scalar.extui (Scalar.cmpi .slt 64#32 0#32)))) (IntOp.cmpi .ne (IntOp.remsi ArithUnit.vector (BitVec.ofNat 32 x.val) 64#32) 0#32))
      (IntOp.subi (IntOp.divsi ArithUnit.vector (BitVec.ofNat 32 x.val) 64#32) 1#32) (IntOp.divsi ArithUnit.vector (BitVec.ofNat 32 x.val) 64#32)) 1#32
      = if x.val / 64 = 1 then 1#1 else 0#1 := by decide +kernel

theorem quarter0 : ∀ x : Fin 128, IntOp.cmpi .eq (Scalar.select (IntOp.andi (IntOp.cmpi .ne (IntOp.subi (BitVec.setWidth 32 (IntOp.cmpi .sgt (BitVec.ofNat 32 x.val) 0#32)) (BitVec.setWidth 32 (IntOp.cmpi .slt (BitVec.ofNat 32 x.val) 0#32)))
      (Scalar.subi (Scalar.extui (Scalar.cmpi .sgt 32#32 0#32)) (Scalar.extui (Scalar.cmpi .slt 32#32 0#32)))) (IntOp.cmpi .ne (IntOp.remsi ArithUnit.vector (BitVec.ofNat 32 x.val) 32#32) 0#32))
      (IntOp.subi (IntOp.divsi ArithUnit.vector (BitVec.ofNat 32 x.val) 32#32) 1#32) (IntOp.divsi ArithUnit.vector (BitVec.ofNat 32 x.val) 32#32)) 0#32
      = if x.val / 32 = 0 then 1#1 else 0#1 := by decide +kernel

theorem quarter1 : ∀ x : Fin 128, IntOp.cmpi .eq (Scalar.select (IntOp.andi (IntOp.cmpi .ne (IntOp.subi (BitVec.setWidth 32 (IntOp.cmpi .sgt (BitVec.ofNat 32 x.val) 0#32)) (BitVec.setWidth 32 (IntOp.cmpi .slt (BitVec.ofNat 32 x.val) 0#32)))
      (Scalar.subi (Scalar.extui (Scalar.cmpi .sgt 32#32 0#32)) (Scalar.extui (Scalar.cmpi .slt 32#32 0#32)))) (IntOp.cmpi .ne (IntOp.remsi ArithUnit.vector (BitVec.ofNat 32 x.val) 32#32) 0#32))
      (IntOp.subi (IntOp.divsi ArithUnit.vector (BitVec.ofNat 32 x.val) 32#32) 1#32) (IntOp.divsi ArithUnit.vector (BitVec.ofNat 32 x.val) 32#32)) 1#32
      = if x.val / 32 = 1 then 1#1 else 0#1 := by decide +kernel

theorem quarter2 : ∀ x : Fin 128, IntOp.cmpi .eq (Scalar.select (IntOp.andi (IntOp.cmpi .ne (IntOp.subi (BitVec.setWidth 32 (IntOp.cmpi .sgt (BitVec.ofNat 32 x.val) 0#32)) (BitVec.setWidth 32 (IntOp.cmpi .slt (BitVec.ofNat 32 x.val) 0#32)))
      (Scalar.subi (Scalar.extui (Scalar.cmpi .sgt 32#32 0#32)) (Scalar.extui (Scalar.cmpi .slt 32#32 0#32)))) (IntOp.cmpi .ne (IntOp.remsi ArithUnit.vector (BitVec.ofNat 32 x.val) 32#32) 0#32))
      (IntOp.subi (IntOp.divsi ArithUnit.vector (BitVec.ofNat 32 x.val) 32#32) 1#32) (IntOp.divsi ArithUnit.vector (BitVec.ofNat 32 x.val) 32#32)) 2#32
      = if x.val / 32 = 2 then 1#1 else 0#1 := by decide +kernel

theorem quarter3 : ∀ x : Fin 128, IntOp.cmpi .eq (Scalar.select (IntOp.andi (IntOp.cmpi .ne (IntOp.subi (BitVec.setWidth 32 (IntOp.cmpi .sgt (BitVec.ofNat 32 x.val) 0#32)) (BitVec.setWidth 32 (IntOp.cmpi .slt (BitVec.ofNat 32 x.val) 0#32)))
      (Scalar.subi (Scalar.extui (Scalar.cmpi .sgt 32#32 0#32)) (Scalar.extui (Scalar.cmpi .slt 32#32 0#32)))) (IntOp.cmpi .ne (IntOp.remsi ArithUnit.vector (BitVec.ofNat 32 x.val) 32#32) 0#32))
      (IntOp.subi (IntOp.divsi ArithUnit.vector (BitVec.ofNat 32 x.val) 32#32) 1#32) (IntOp.divsi ArithUnit.vector (BitVec.ofNat 32 x.val) 32#32)) 3#32
      = if x.val / 32 = 3 then 1#1 else 0#1 := by decide +kernel

variable (X2 : Vec Ideal S1x128x512 .bf16) (X3 : Vec Ideal S1x128x256 .bf16) (w : Vec Ideal S128x256 .bf16)

theorem lat0 (q : Fin 128) (c : Fin 256) : qLatHeadOf X2 w 0 (ix2 q c)
    = ∑ d : Fin 64, X2 (ix3 0 q ⟨64 * 0 + d.val, by omega⟩) * w (ix2 ⟨64 * (0 % 2) + d.val, by omega⟩ c) := by
  simp only [qLatHeadOf]
  pointwise [k0_pay7, k0_pay2, k0_pay3, k0_pay5, k0_pay6, lanes]
  simp only [half0, select_bit]
  refine (sum_half 0 (by decide) _).trans (Finset.sum_congr rfl fun d _ => ?_)
  exact congrArg₂ (· * ·) (congrArg (fun k => X2 (ix3 0 q k)) (Fin.ext (by simp; try omega)))
    (congrArg (fun k => w (ix2 k c)) (Fin.ext (by simp; try omega)))

theorem lat1 (q : Fin 128) (c : Fin 256) : qLatHeadOf X2 w 1 (ix2 q c)
    = ∑ d : Fin 64, X2 (ix3 0 q ⟨64 * 1 + d.val, by omega⟩) * w (ix2 ⟨64 * (1 % 2) + d.val, by omega⟩ c) := by
  simp only [qLatHeadOf]
  pointwise [k0_pay13, k0_pay12, k0_pay2, k0_pay3, k0_pay5, k0_pay6, lanes]
  simp only [half1, select_bit]
  refine (sum_half 1 (by decide) _).trans (Finset.sum_congr rfl fun d _ => ?_)
  exact congrArg₂ (· * ·) (congrArg (fun k => X2 (ix3 0 q k)) (Fin.ext (by simp; try omega)))
    (congrArg (fun k => w (ix2 k c)) (Fin.ext (by simp; try omega)))

theorem lat2 (q : Fin 128) (c : Fin 256) : qLatHeadOf X2 w 2 (ix2 q c)
    = ∑ d : Fin 64, X2 (ix3 0 q ⟨64 * 2 + d.val, by omega⟩) * w (ix2 ⟨64 * (2 % 2) + d.val, by omega⟩ c) := by
  simp only [qLatHeadOf]
  pointwise [k0_pay18, k0_pay15, k0_pay16, k0_pay17, k0_pay2, k0_pay3, k0_pay5, k0_pay6, lanes]
  simp only [half0, select_bit]
  refine (sum_half 0 (by decide) _).trans (Finset.sum_congr rfl fun d _ => ?_)
  exact congrArg₂ (· * ·) (congrArg (fun k => X2 (ix3 0 q k)) (Fin.ext (by simp; try omega)))
    (congrArg (fun k => w (ix2 k c)) (Fin.ext (by simp; try omega)))

theorem lat3 (q : Fin 128) (c : Fin 256) : qLatHeadOf X2 w 3 (ix2 q c)
    = ∑ d : Fin 64, X2 (ix3 0 q ⟨64 * 3 + d.val, by omega⟩) * w (ix2 ⟨64 * (3 % 2) + d.val, by omega⟩ c) := by
  simp only [qLatHeadOf]
  pointwise [k0_pay25, k0_pay23, k0_pay24, k0_pay2, k0_pay3, k0_pay5, k0_pay6, lanes]
  simp only [half1, select_bit]
  refine (sum_half 1 (by decide) _).trans (Finset.sum_congr rfl fun d _ => ?_)
  exact congrArg₂ (· * ·) (congrArg (fun k => X2 (ix3 0 q k)) (Fin.ext (by simp; try omega)))
    (congrArg (fun k => w (ix2 k c)) (Fin.ext (by simp; try omega)))

theorem lat4 (q : Fin 128) (c : Fin 256) : qLatHeadOf X2 w 4 (ix2 q c)
    = ∑ d : Fin 64, X2 (ix3 0 q ⟨64 * 4 + d.val, by omega⟩) * w (ix2 ⟨64 * (4 % 2) + d.val, by omega⟩ c) := by
  simp only [qLatHeadOf]
  pointwise [k0_pay30, k0_pay27, k0_pay28, k0_pay29, k0_pay2, k0_pay3, k0_pay5, k0_pay6, lanes]
  simp only [half0, select_bit]
  refine (sum_half 0 (by decide) _).trans (Finset.sum_congr rfl fun d _ => ?_)
  exact congrArg₂ (· * ·) (congrArg (fun k => X2 (ix3 0 q k)) (Fin.ext (by simp; try omega)))
    (congrArg (fun k => w (ix2 k c)) (Fin.ext (by simp; try omega)))

theorem lat5 (q : Fin 128) (c : Fin 256) : qLatHeadOf X2 w 5 (ix2 q c)
    = ∑ d : Fin 64, X2 (ix3 0 q ⟨64 * 5 + d.val, by omega⟩) * w (ix2 ⟨64 * (5 % 2) + d.val, by omega⟩ c) := by
  simp only [qLatHeadOf]
  pointwise [k0_pay36, k0_pay35, k0_pay2, k0_pay3, k0_pay5, k0_pay6, lanes]
  simp only [half1, select_bit]
  refine (sum_half 1 (by decide) _).trans (Finset.sum_congr rfl fun d _ => ?_)
  exact congrArg₂ (· * ·) (congrArg (fun k => X2 (ix3 0 q k)) (Fin.ext (by simp; try omega)))
    (congrArg (fun k => w (ix2 k c)) (Fin.ext (by simp; try omega)))

theorem lat6 (q : Fin 128) (c : Fin 256) : qLatHeadOf X2 w 6 (ix2 q c)
    = ∑ d : Fin 64, X2 (ix3 0 q ⟨64 * 6 + d.val, by omega⟩) * w (ix2 ⟨64 * (6 % 2) + d.val, by omega⟩ c) := by
  simp only [qLatHeadOf]
  pointwise [k0_pay40, k0_pay38, k0_pay39, k0_pay2, k0_pay3, k0_pay5, k0_pay6, lanes]
  simp only [half0, select_bit]
  refine (sum_half 0 (by decide) _).trans (Finset.sum_congr rfl fun d _ => ?_)
  exact congrArg₂ (· * ·) (congrArg (fun k => X2 (ix3 0 q k)) (Fin.ext (by simp; try omega)))
    (congrArg (fun k => w (ix2 k c)) (Fin.ext (by simp; try omega)))

theorem lat7 (q : Fin 128) (c : Fin 256) : qLatHeadOf X2 w 7 (ix2 q c)
    = ∑ d : Fin 64, X2 (ix3 0 q ⟨64 * 7 + d.val, by omega⟩) * w (ix2 ⟨64 * (7 % 2) + d.val, by omega⟩ c) := by
  simp only [qLatHeadOf]
  pointwise [k0_pay45, k0_pay44, k0_pay2, k0_pay3, k0_pay5, k0_pay6, lanes]
  simp only [half1, select_bit]
  refine (sum_half 1 (by decide) _).trans (Finset.sum_congr rfl fun d _ => ?_)
  exact congrArg₂ (· * ·) (congrArg (fun k => X2 (ix3 0 q k)) (Fin.ext (by simp; try omega)))
    (congrArg (fun k => w (ix2 k c)) (Fin.ext (by simp; try omega)))

theorem rope0 (q : Fin 128) (c : Fin 128) : qRopeHead X3 0 (ix2 q c)
    = if c.val / 32 = 0 % 4 then X3 (ix3 0 q ⟨128 * (0 / 4) + c.val, by omega⟩) else 0 := by
  simp only [qRopeHead]
  pointwise [k0_pay11, k0_pay8, k0_pay9, k0_pay10, k0_pay2, k0_pay4, lanes]
  simp only [quarter0, select_bit]

theorem rope1 (q : Fin 128) (c : Fin 128) : qRopeHead X3 1 (ix2 q c)
    = if c.val / 32 = 1 % 4 then X3 (ix3 0 q ⟨128 * (1 / 4) + c.val, by omega⟩) else 0 := by
  simp only [qRopeHead]
  pointwise [k0_pay14, k0_pay2, k0_pay4, lanes]
  simp only [quarter1, select_bit]

theorem rope2 (q : Fin 128) (c : Fin 128) : qRopeHead X3 2 (ix2 q c)
    = if c.val / 32 = 2 % 4 then X3 (ix3 0 q ⟨128 * (2 / 4) + c.val, by omega⟩) else 0 := by
  simp only [qRopeHead]
  pointwise [k0_pay22, k0_pay19, k0_pay20, k0_pay21, k0_pay2, k0_pay4, lanes]
  simp only [quarter2, select_bit]

theorem rope3 (q : Fin 128) (c : Fin 128) : qRopeHead X3 3 (ix2 q c)
    = if c.val / 32 = 3 % 4 then X3 (ix3 0 q ⟨128 * (3 / 4) + c.val, by omega⟩) else 0 := by
  simp only [qRopeHead]
  pointwise [k0_pay26, k0_pay2, k0_pay4, lanes]
  simp only [quarter3, select_bit]

theorem rope4 (q : Fin 128) (c : Fin 128) : qRopeHead X3 4 (ix2 q c)
    = if c.val / 32 = 4 % 4 then X3 (ix3 0 q ⟨128 * (4 / 4) + c.val, by omega⟩) else 0 := by
  simp only [qRopeHead]
  pointwise [k0_pay34, k0_pay31, k0_pay32, k0_pay33, k0_pay2, k0_pay4, lanes]
  simp only [quarter0, select_bit]

theorem rope5 (q : Fin 128) (c : Fin 128) : qRopeHead X3 5 (ix2 q c)
    = if c.val / 32 = 5 % 4 then X3 (ix3 0 q ⟨128 * (5 / 4) + c.val, by omega⟩) else 0 := by
  simp only [qRopeHead]
  pointwise [k0_pay37, k0_pay2, k0_pay4, lanes]
  simp only [quarter1, select_bit]

theorem rope6 (q : Fin 128) (c : Fin 128) : qRopeHead X3 6 (ix2 q c)
    = if c.val / 32 = 6 % 4 then X3 (ix3 0 q ⟨128 * (6 / 4) + c.val, by omega⟩) else 0 := by
  simp only [qRopeHead]
  pointwise [k0_pay43, k0_pay41, k0_pay42, k0_pay2, k0_pay4, lanes]
  simp only [quarter2, select_bit]

theorem rope7 (q : Fin 128) (c : Fin 128) : qRopeHead X3 7 (ix2 q c)
    = if c.val / 32 = 7 % 4 then X3 (ix3 0 q ⟨128 * (7 / 4) + c.val, by omega⟩) else 0 := by
  simp only [qRopeHead]
  pointwise [k0_pay46, k0_pay2, k0_pay4, lanes]
  simp only [quarter3, select_bit]

/-- Head `h`'s queries in the latent space. -/
theorem latHead_at (h : Fin 8) (q : Fin 128) (c : Fin 256) : qLatHeadOf X2 w h.val (ix2 q c)
    = ∑ d : Fin 64, X2 (ix3 0 q ⟨64 * h.val + d.val, by omega⟩) * w (ix2 ⟨64 * (h.val % 2) + d.val, by omega⟩ c) := by
  match h with
  | ⟨0, _⟩ => exact lat0 X2 w q c
  | ⟨1, _⟩ => exact lat1 X2 w q c
  | ⟨2, _⟩ => exact lat2 X2 w q c
  | ⟨3, _⟩ => exact lat3 X2 w q c
  | ⟨4, _⟩ => exact lat4 X2 w q c
  | ⟨5, _⟩ => exact lat5 X2 w q c
  | ⟨6, _⟩ => exact lat6 X2 w q c
  | ⟨7, _⟩ => exact lat7 X2 w q c

/-- Head `h`'s rotary queries. -/
theorem ropeHead_at (h : Fin 8) (q : Fin 128) (c : Fin 128) : qRopeHead X3 h.val (ix2 q c)
    = if c.val / 32 = h.val % 4 then X3 (ix3 0 q ⟨128 * (h.val / 4) + c.val, by omega⟩) else 0 := by
  match h with
  | ⟨0, _⟩ => exact rope0 X3 q c
  | ⟨1, _⟩ => exact rope1 X3 q c
  | ⟨2, _⟩ => exact rope2 X3 q c
  | ⟨3, _⟩ => exact rope3 X3 q c
  | ⟨4, _⟩ => exact rope4 X3 q c
  | ⟨5, _⟩ => exact rope5 X3 q c
  | ⟨6, _⟩ => exact rope6 X3 q c
  | ⟨7, _⟩ => exact rope7 X3 q c

/-- The row of head `h`'s query `q`. -/
abbrev row (h : Fin 8) (q : Fin 128) : Fin 1024 := ⟨128 * h.val + q.val, by omega⟩

theorem qLat_at (X6 : Vec Ideal S512x256 .bf16) (h : Fin 8) (q : Fin 128) (c : Fin 256) : qLat X2 X6 (ix2 (row h q) c)
    = ∑ d : Fin 64, X2 (ix3 0 q ⟨64 * h.val + d.val, by omega⟩) * X6 (ix2 ⟨64 * h.val + d.val, by omega⟩ c) := by
  have e1 : (128 * h.val + q.val) / 128 = h.val := by omega
  have e2 : (⟨(128 * h.val + q.val) % 128, Nat.mod_lt _ (by decide)⟩ : Fin 128) = q := Fin.ext (by simp)
  show qLatHead X2 X6 ((128 * h.val + q.val) / 128) (ix2 ⟨(128 * h.val + q.val) % 128, Nat.mod_lt _ (by decide)⟩ c) = _
  rw [e1, e2]
  refine (latHead_at X2 _ h q c).trans (Finset.sum_congr rfl fun d _ => congrArg (_ * ·) ?_)
  refine congrArg (fun k => X6 (ix2 k c)) (Fin.ext ?_)
  show (128 * (h.val / 2) + (64 * (h.val % 2) + d.val)) % 512 = 64 * h.val + d.val
  omega

theorem qRope_at (h : Fin 8) (q : Fin 128) (c : Fin 128) : qRope X3 (ix2 (row h q) c)
    = if c.val / 32 = h.val % 4 then X3 (ix3 0 q ⟨128 * (h.val / 4) + c.val, by omega⟩) else 0 := by
  have e1 : (128 * h.val + q.val) / 128 = h.val := by omega
  have e2 : (⟨(128 * h.val + q.val) % 128, Nat.mod_lt _ (by decide)⟩ : Fin 128) = q := Fin.ext (by simp)
  show qRopeHead X3 ((128 * h.val + q.val) / 128) (ix2 ⟨(128 * h.val + q.val) % 128, Nat.mod_lt _ (by decide)⟩ c) = _
  rw [e1, e2]
  exact ropeHead_at X3 h q c

/-- The rotary part of a score: only the head's own lanes count. -/
theorem rope_dot (h : Fin 8) (q : Fin 128) (k : Fin 128 → EReal) :
    ∑ x : Fin 128, qRope X3 (ix2 (row h q) x) * k x
      = ∑ r : Fin 32, X3 (ix3 0 q ⟨32 * h.val + r.val, by omega⟩) * k ⟨(h.val % 4) * 32 + r.val, by omega⟩ := by
  simp only [qRope_at, ite_mul, zero_mul]
  refine (sum_quarter (h.val % 4) (by omega) _).trans (Finset.sum_congr rfl fun r _ => congrArg (· * _) ?_)
  refine congrArg (fun k => X3 (ix3 0 q k)) (Fin.ext ?_)
  show 128 * (h.val / 4) + ((h.val % 4) * 32 + r.val) = 32 * h.val + r.val
  omega

end Cert.KernelIdeal.Att

end
-- ==== Proof.Math.Out.lean ====
/-
  The output block: head `h`'s weighted latents, divided by the row's sum, through its value projection. Two heads share
  128 lanes; each one's projection is zero on the other's lanes, so the pair's sum is the head the lane belongs to.
-/
module

public import proofs.«01_k».proof.Proof.Math.Heads

@[expose] public section

set_option maxRecDepth 16384

noncomputable section

namespace Cert.KernelIdeal.Att

open Idealize.ShloMosaic Cert.KernelIdeal Cert.KernelIdeal.Gen Cert.Att

variable (X7 : Vec Ideal S8x256x128 .bf16) (l : FVec Ideal S1024x128 .f32) (a : FVec Ideal S1024x256 .f32)

/-- Head `h`'s part of the output at query `n` and lane `e` of its pair. -/
def part (h : Fin 8) (n e : Fin 128) : EReal :=
  ∑ x : Fin 256, a (ix2 (row h n) x) * Ideal.div 1 (∑ y : Fin 128, l (ix2 (row h n) y)) * X7 (ix3 h x e)

theorem pair0 (n e : Fin 128) : k0_pay74 l a (wvBlk X7 0) (wvBlk X7 1) (ix3 0 n e) = part X7 l a 0 n e + part X7 l a 1 n e := by
  pointwise [k0_pay74, k0_pay73, wvBlk]
  simp [part, row]

theorem pair1 (n e : Fin 128) : k0_pay77 (k0_pay75 l a (wvBlk X7 2)) (k0_pay76 l a (wvBlk X7 3)) (ix3 0 n e)
    = part X7 l a 2 n e + part X7 l a 3 n e := by
  pointwise [k0_pay77, k0_pay75, k0_pay76, k0_pay73, wvBlk]
  simp [part, row]

theorem pair2 (n e : Fin 128) : k0_pay78 (k0_pay73 l a) (wvBlk X7 4) (wvBlk X7 5) (ix3 0 n e)
    = part X7 l a 4 n e + part X7 l a 5 n e := by
  pointwise [k0_pay78, k0_pay73, wvBlk]
  simp [part, row]

theorem pair3 (n e : Fin 128) : k0_pay1 (k0_pay79 (k0_pay73 l a) (wvBlk X7 6)) (k0_pay80 (k0_pay73 l a)) (wvBlk X7 7) (ix3 0 n e)
    = part X7 l a 6 n e + part X7 l a 7 n e := by
  pointwise [k0_pay1, k0_pay79, k0_pay80, k0_pay73, wvBlk]
  simp [part, row]

theorem outOf_val (n : Fin 128) (k : Fin 512) : outOf X7 l a (ix3 0 n k)
    = if k.val < 128 then k0_pay74 l a (wvBlk X7 0) (wvBlk X7 1) (ix3 0 n ⟨k.val % 128, Nat.mod_lt _ (by decide)⟩)
      else if k.val < 256 then k0_pay77 (k0_pay75 l a (wvBlk X7 2)) (k0_pay76 l a (wvBlk X7 3)) (ix3 0 n ⟨k.val % 128, Nat.mod_lt _ (by decide)⟩)
      else if k.val < 384 then k0_pay78 (k0_pay73 l a) (wvBlk X7 4) (wvBlk X7 5) (ix3 0 n ⟨k.val % 128, Nat.mod_lt _ (by decide)⟩)
      else k0_pay1 (k0_pay79 (k0_pay73 l a) (wvBlk X7 6)) (k0_pay80 (k0_pay73 l a)) (wvBlk X7 7) (ix3 0 n ⟨k.val % 128, Nat.mod_lt _ (by decide)⟩) := rfl

theorem outOf_at (p : Fin 4) (n e : Fin 128) : outOf X7 l a (ix3 0 n ⟨128 * p.val + e.val, by omega⟩)
    = part X7 l a ⟨2 * p.val, by omega⟩ n e + part X7 l a ⟨2 * p.val + 1, by omega⟩ n e := by
  have e1 : (⟨(128 * p.val + e.val) % 128, Nat.mod_lt _ (by decide)⟩ : Fin 128) = e := Fin.ext (by simp)
  rw [outOf_val, e1]
  simp only [pair0, pair1, pair2, pair3]
  match p with
  | ⟨0, _⟩ => rw [if_pos (show 128 * 0 + e.val < 128 by omega)]; rfl
  | ⟨1, _⟩ => rw [if_neg (show ¬ 128 * 1 + e.val < 128 by omega), if_pos (show 128 * 1 + e.val < 256 by omega)]; rfl
  | ⟨2, _⟩ => rw [if_neg (show ¬ 128 * 2 + e.val < 128 by omega), if_neg (show ¬ 128 * 2 + e.val < 256 by omega), if_pos (show 128 * 2 + e.val < 384 by omega)]; rfl
  | ⟨3, _⟩ => rw [if_neg (show ¬ 128 * 3 + e.val < 128 by omega), if_neg (show ¬ 128 * 3 + e.val < 256 by omega), if_neg (show ¬ 128 * 3 + e.val < 384 by omega)]; rfl

/-- The output at head `h`'s lane `d`, when a head's projection is zero off its own lanes. -/
theorem outOf_head (h7 : ∀ (h : Fin 8) (x : Fin 256) (e : Fin 128), e.val / 64 ≠ h.val % 2 → X7 (ix3 h x e) = (0 : EReal))
    (h : Fin 8) (n : Fin 128) (d : Fin 64) : outOf X7 l a (ix3 0 n ⟨64 * h.val + d.val, by omega⟩)
      = part X7 l a h n ⟨64 * (h.val % 2) + d.val, by omega⟩ := by
  have e0 : (⟨64 * h.val + d.val, by omega⟩ : Fin 512) = ⟨128 * (h.val / 2) + (64 * (h.val % 2) + d.val), by omega⟩ := Fin.ext (by simp; omega)
  rw [e0]
  refine (outOf_at X7 l a ⟨h.val / 2, by omega⟩ n ⟨64 * (h.val % 2) + d.val, by omega⟩).trans ?_
  have zero : ∀ h' : Fin 8, h'.val % 2 ≠ h.val % 2 → part X7 l a h' n ⟨64 * (h.val % 2) + d.val, by omega⟩ = 0 := by
    intro h' hh
    refine Finset.sum_eq_zero fun x _ => ?_
    rw [h7 h' x _ (by simp; omega), mul_zero]
  rcases Nat.mod_two_eq_zero_or_one h.val with hp | hp
  · rw [zero ⟨2 * (h.val / 2) + 1, by omega⟩ (by simp; omega), add_zero]
    exact congrArg (fun k => part X7 l a k n _) (Fin.ext (by simp; omega))
  · rw [zero ⟨2 * (h.val / 2), by omega⟩ (by simp; omega), zero_add]
    exact congrArg (fun k => part X7 l a k n _) (Fin.ext (by simp; omega))

end Cert.KernelIdeal.Att

end
-- ==== Proof.Math.Ref.lean ====
/-
  The reference's result at an index: the softmax of the masked scores, mixed over the latents and carried through the
  value projection. The definitions are the pieces of the reference's own composed term.
-/
module

public import proofs.«01_k».proof.Proof.Gen.ReferenceIdeal.Run
public import proofs.«01_k».proof.Proof.Math.Sums

@[expose] public section

set_option maxRecDepth 16384

noncomputable section

namespace Cert.ReferenceIdeal.Att

open Idealize.ShloMosaic Cert.ReferenceIdeal Cert.ReferenceIdeal.Gen

/-- The masked scores: a key after the query has score −∞. -/
def scores (a0 : FVec Ideal S8x2048x8x64 .f32) (a1 : FVec Ideal S8x2048x8x32 .f32) (a2 : FVec Ideal S8x2048x256 .f32) (a3 : FVec Ideal S8x2048x32 .f32) (a4 : FVec Ideal S256x8x128 .f32) :
    FVec Ideal S8x8x2048x2048 .f32 :=
  select (broadcastInDim S8x8x2048x2048 ![2, 3] bcast_S2048x2048_S8x8x2048x2048_2_3 (cmpi .sle (broadcastInDim S2048x2048 ![0, 1]
    bcast_S1x2048_S2048x2048_0_1 (broadcastInDim S1x2048 ![1] bcast_S2048_S1x2048_1 (iotaInDim S2048 32 0))) (broadcastInDim
    S2048x2048 ![0, 1] bcast_S2048x1_S2048x2048_0_1 (broadcastInDim S2048x1 ![0] bcast_S2048_S2048x1_0 (iotaInDim S2048 32 0)))))
    (mulf (addf (transpose S8x8x2048x2048 [0, 3, 2, 1] (Host.dotGeneral dot_S8x2048x256_S8x2048x8x256_S8x2048x2048x8_2_3_1_12_0_0
    none a2 (transpose S8x2048x8x256 [2, 3, 0, 1] (Host.dotGeneral dot_S256x8x64_S8x2048x8x64_S8x256x8x2048_2_3_0_01_1_2 none
    (extractStridedSlice S256x8x64 ![0, 0, 0] a4 slices_S256x8x128_S256x8x64_0_0_0) a0)
    transposes_S8x256x8x2048_S8x2048x8x256_2_3_0_1)) transposes_S8x2048x2048x8_S8x8x2048x2048_0_3_2_1) (transpose S8x8x2048x2048
    [0, 3, 2, 1] (Host.dotGeneral dot_S8x2048x32_S8x2048x8x32_S8x2048x2048x8_2_3_1_12_0_0 none a3 a1)
    transposes_S8x2048x2048x8_S8x8x2048x2048_0_3_2_1)) (broadcastInDim S8x8x2048x2048 ![] bcast_S_S8x8x2048x2048 (constant S_ .f32
    0x3DD105EC#32))) (broadcastInDim S8x8x2048x2048 ![] bcast_S_S8x8x2048x2048 (id (constant S_ .f32 0xFF800000#32)))

/-- The largest score of each row. -/
def rowTop (sc : FVec Ideal S8x8x2048x2048 .f32) : FVec Ideal S8x8x2048 .f32 :=
  maximumf (broadcastInDim S8x8x2048 ![] bcast_S_S8x8x2048 (constant S_ .f32 0xFF800000#32)) (Host.reduce FloatOps.maximumf sc
    (constant S_ .f32 0xFF800000#32) reducesTo_S8x8x2048x2048_S8x8x2048_d3 h_S_)

/-- The exponentials of the scores less the row's largest. -/
def expo (sc : FVec Ideal S8x8x2048x2048 .f32) : FVec Ideal S8x8x2048x2048 .f32 :=
  Host.exp (subf sc (broadcastInDim S8x8x2048x2048 ![0, 1, 2, 3] bcast_S8x8x2048x1_S8x8x2048x2048_0_1_2_3 (broadcastInDim
    S8x8x2048x1 ![0, 1, 2] bcast_S8x8x2048_S8x8x2048x1_0_1_2 (rowTop sc))))

/-- The softmax of the rows. -/
def probs (sc : FVec Ideal S8x8x2048x2048 .f32) : FVec Ideal S8x8x2048x2048 .f32 :=
  Host.divf (expo sc) (broadcastInDim S8x8x2048x2048 ![0, 1, 2, 3] bcast_S8x8x2048x1_S8x8x2048x2048_0_1_2_3 (broadcastInDim
    S8x8x2048x1 ![0, 1, 2] bcast_S8x8x2048_S8x8x2048x1_0_1_2 (Host.reduceAdd (expo sc) (constant S_ .f32 0x00000000#32)
    reducesTo_S8x8x2048x2048_S8x8x2048_d3 h_S_)))

/-- The result from the softmax, the latents and the projection. -/
def mixed (p : FVec Ideal S8x8x2048x2048 .f32) (a2 : FVec Ideal S8x2048x256 .f32) (a4 : FVec Ideal S256x8x128 .f32) : FVec Ideal S8x2048x512 .f32 :=
  shapeCast _ (transpose S8x2048x8x64 [2, 3, 0, 1] (Host.dotGeneral dot_S256x8x64_S8x2048x8x256_S8x64x8x2048_0_3_2_01_1_2 none
    (extractStridedSlice S256x8x64 ![0, 0, 64] a4 slices_S256x8x128_S256x8x64_0_0_64) (transpose S8x2048x8x256 [0, 3, 2, 1]
    (Host.dotGeneral dot_S8x2048x256_S8x8x2048x2048_S8x256x8x2048_1_3_2_12_0_0 none a2 p)
    transposes_S8x256x8x2048_S8x2048x8x256_0_3_2_1)) transposes_S8x64x8x2048_S8x2048x8x64_2_3_0_1)
    shapeCasts_S8x2048x8x64_S8x2048x512

variable (a0 : FVec Ideal S8x2048x8x64 .f32) (a1 : FVec Ideal S8x2048x8x32 .f32) (a2 : FVec Ideal S8x2048x256 .f32) (a3 : FVec Ideal S8x2048x32 .f32) (a4 : FVec Ideal S256x8x128 .f32)
variable (sc p : FVec Ideal S8x8x2048x2048 .f32)

theorem res_eq (m : (ℓ : Loc nD τ sig) → Buf (Elt Ideal) ℓ) (c : Dev nD) : Value.res_main_v33 m c
    = mixed (probs (scores (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))))
      (m ((c.tc : Thread nD τ).loc main_arg2)) (m ((c.tc : Thread nD τ).loc main_arg4)) := rfl

/-- One score: query position `t` of head `h` against key position `s`. -/
def scoreOf (b h : Fin 8) (t s : Fin 2048) : EReal :=
  if s.val ≤ t.val then (∑ x : Fin 256, a2 (ix3 b s x) * ∑ d : Fin 64, a4 (ix3 x h ⟨d.val, by omega⟩) * a0 (ix4 b t h d)
      + ∑ r : Fin 32, a3 (ix3 b s r) * a1 (ix4 b t h r)) * Ideal.ofBits FTy.f32 0x3DD105EC#32
  else ⊥

theorem scores_at (b h : Fin 8) (t s : Fin 2048) : scores a0 a1 a2 a3 a4 (ix4 b h t s) = scoreOf a0 a1 a2 a3 a4 b h t s := by
  pointwise [scores]
  rw [Cert.Att.select_le _ _ (by omega) (by omega)]
  simp only [scoreOf]
  rw [show id (constant (F := Ideal) S_ .f32 0xFF800000#32) ix0 = (⊥ : EReal) from Cert.Att.neg_inf]

theorem rowTop_le (b h : Fin 8) (t : Fin 2048) (u : EReal) : rowTop sc (ix3 b h t) ≤ u ↔ ∀ s, sc (ix4 b h t s) ≤ u := by
  have hx : broadcastInDim S8x8x2048 ![] bcast_S_S8x8x2048 (constant (F := Ideal) S_ .f32 0xFF800000#32) (ix3 b h t) = (⊥ : EReal) := by
    pointwise
    exact Cert.Att.neg_inf
  exact Cert.Att.top_max_le (n3 := 2048) sc _ _ reducesTo_S8x8x2048x2048_S8x8x2048_d3 h_S_ b h t u Cert.Att.neg_inf hx

theorem expo_at (b h : Fin 8) (t s : Fin 2048) : expo sc (ix4 b h t s) = Ideal.exp (sc (ix4 b h t s) - rowTop sc (ix3 b h t)) := by
  pointwise [expo]

theorem probs_at (b h : Fin 8) (t s : Fin 2048) :
    probs sc (ix4 b h t s) = Ideal.div (expo sc (ix4 b h t s)) (∑ x, expo sc (ix4 b h t x)) := by
  pointwise [probs]

theorem mixed_at (b h : Fin 8) (t : Fin 2048) (d : Fin 64) : mixed p a2 a4 (ix3 b t ⟨64 * h.val + d.val, by omega⟩)
    = ∑ x : Fin 256, a4 (ix3 x h ⟨64 + d.val, by omega⟩) * ∑ s : Fin 2048, a2 (ix3 b s x) * p (ix4 b h t s) := by
  pointwise [mixed]

end Cert.ReferenceIdeal.Att

end
-- ==== Proof.Math.Point.lean ====
/-
  A grid point computes the reference: from blocks that hold the operands of the reference at a batch and 128 query
  positions, with real entries, the kernel's output block is the reference's result there.
-/
module

public import proofs.«01_k».proof.Proof.Math.Row
public import proofs.«01_k».proof.Proof.Math.Out
public import proofs.«01_k».proof.Proof.Math.Ref

@[expose] public section

set_option maxRecDepth 16384

noncomputable section

namespace Cert.KernelIdeal.Att

open Idealize.ShloMosaic Cert.KernelIdeal Cert.KernelIdeal.Gen Cert.Att
open Cert.ReferenceIdeal.Att (scoreOf scores rowTop expo probs mixed scores_at rowTop_le expo_at probs_at mixed_at)

variable (i : grid0.Coords) (X2 : Vec Ideal S1x128x512 .bf16) (X3 : Vec Ideal S1x128x256 .bf16) (X4 : Vec Ideal S1x2048x256 .bf16)
  (X5 : Vec Ideal S1x2048x128 .bf16) (X6 : Vec Ideal S512x256 .bf16) (X7 : Vec Ideal S8x256x128 .bf16)
variable (a0 : FVec Ideal Cert.ReferenceIdeal.S8x2048x8x64 .f32) (a1 : FVec Ideal Cert.ReferenceIdeal.S8x2048x8x32 .f32)
  (a2 : FVec Ideal Cert.ReferenceIdeal.S8x2048x256 .f32) (a3 : FVec Ideal Cert.ReferenceIdeal.S8x2048x32 .f32)
  (a4 : FVec Ideal Cert.ReferenceIdeal.S256x8x128 .f32)

/-- The position of the block's query `q`. -/
def pos (q : Fin 128) : Fin 2048 := ⟨128 * (i 1).val + q.val, by have h : (i 1).val < 16 := (i 1).isLt; omega⟩

/-- The blocks hold the arguments at batch `b` and the queries of point `i`. -/
structure Holds (b : Fin 8) : Prop where
  h2 : ∀ (q : Fin 128) (h : Fin 8) (d : Fin 64), X2 (ix3 0 q ⟨64 * h.val + d.val, by omega⟩) = a0 (ix4 b (pos i q) h d)
  h3 : ∀ (q : Fin 128) (h : Fin 8) (d : Fin 32), X3 (ix3 0 q ⟨32 * h.val + d.val, by omega⟩) = a1 (ix4 b (pos i q) h d)
  h4 : ∀ (s : Fin 2048) (x : Fin 256), X4 (ix3 0 s x) = a2 (ix3 b s x)
  h5 : ∀ (s : Fin 2048) (k : Fin 4) (x : Fin 32), X5 (ix3 0 s ⟨k.val * 32 + x.val, by omega⟩) = a3 (ix3 b s x)
  h6 : ∀ (h : Fin 8) (d : Fin 64) (x : Fin 256), X6 (ix2 ⟨64 * h.val + d.val, by omega⟩ x) = a4 (ix3 x h ⟨d.val, by omega⟩)
  h7 : ∀ (h : Fin 8) (x : Fin 256) (e : Fin 128), X7 (ix3 h x e)
    = if e.val / 64 = h.val % 2 then a4 (ix3 x h ⟨64 + e.val % 64, by omega⟩) else (0 : EReal)

variable {i X2 X3 X4 X5 X6 X7 a0 a1 a2 a3 a4}

/-- The kernel's masked scores are the reference's. -/
theorem z_eq {b : Fin 8} (H : Holds i X2 X3 X4 X5 X6 X7 a0 a1 a2 a3 a4 b) (h : Fin 8) (q : Fin 128) (s : Fin 2048) :
    z i X4 X5 (qLat X2 X6) (qRope X3) (row h q) s.val = scoreOf a0 a1 a2 a3 a4 b h (pos i q) s := by
  have es : (⟨s.val % 2048, Nat.mod_lt _ (by decide)⟩ : Fin 2048) = s := Fin.ext (by simp)
  have hq : (row h q).val % 128 = q.val := by show (128 * h.val + q.val) % 128 = q.val; omega
  have hr : raw X4 X5 (qLat X2 X6) (qRope X3) (row h q) s.val
      = (∑ x : Fin 256, a2 (ix3 b s x) * ∑ d : Fin 64, a4 (ix3 x h ⟨d.val, by omega⟩) * a0 (ix4 b (pos i q) h d)
        + ∑ r : Fin 32, a3 (ix3 b s r) * a1 (ix4 b (pos i q) h r)) * Ideal.ofBits FTy.f32 0x3DD105EC#32 := by
    unfold raw
    rw [es, rope_dot X3 h q fun x => X5 (ix3 0 s x)]
    refine congrArg (· * _) (congrArg₂ (· + ·) (Finset.sum_congr rfl fun x _ => ?_) (Finset.sum_congr rfl fun r _ => ?_))
    · rw [qLat_at, H.h4, mul_comm]
      refine congrArg (_ * ·) (Finset.sum_congr rfl fun d _ => ?_)
      rw [H.h2, H.h6, mul_comm]
    · rw [H.h3, mul_comm]
      exact congrArg (· * _) (H.h5 s ⟨h.val % 4, by omega⟩ r)
  unfold z scoreOf
  rw [hr, hq]
  rfl

/-- A score is a real or −∞. -/
theorem score_cases (r0 : ∀ y, IsReal (a0 y)) (r1 : ∀ y, IsReal (a1 y)) (r2 : ∀ y, IsReal (a2 y)) (r3 : ∀ y, IsReal (a3 y)) (r4 : ∀ y, IsReal (a4 y))
    (b h : Fin 8) (t s : Fin 2048) : scoreOf a0 a1 a2 a3 a4 b h t s ≠ ⊤ ∧ (s.val ≤ t.val → scoreOf a0 a1 a2 a3 a4 b h t s ≠ ⊥) := by
  have hr : IsReal ((∑ x : Fin 256, a2 (ix3 b s x) * ∑ d : Fin 64, a4 (ix3 x h ⟨d.val, by omega⟩) * a0 (ix4 b t h d)
        + ∑ r : Fin 32, a3 (ix3 b s r) * a1 (ix4 b t h r)) * Ideal.ofBits FTy.f32 0x3DD105EC#32) :=
    ((IsReal.sum fun x _ => (r2 _).mul (IsReal.sum fun d _ => (r4 _).mul (r0 _))).add (IsReal.sum fun x _ => (r3 _).mul (r1 _))).mul scale_real
  obtain ⟨v, hv⟩ := hr
  unfold scoreOf
  rw [hv]
  split
  · exact ⟨EReal.coe_ne_top _, fun _ => EReal.coe_ne_bot _⟩
  · next hn => exact ⟨bot_ne_top, fun h => absurd h hn⟩

/-- The output block of a grid point is the reference's result. -/
theorem point_eq {b : Fin 8} (H : Holds i X2 X3 X4 X5 X6 X7 a0 a1 a2 a3 a4 b)
    (r0 : ∀ y, IsReal (a0 y)) (r1 : ∀ y, IsReal (a1 y)) (r2 : ∀ y, IsReal (a2 y)) (r3 : ∀ y, IsReal (a3 y)) (r4 : ∀ y, IsReal (a4 y))
    (q : Fin 128) (h : Fin 8) (d : Fin 64) : outBlock i X2 X3 X4 X5 X6 X7 (ix3 0 q ⟨64 * h.val + d.val, by omega⟩)
      = mixed (probs (scores a0 a1 a2 a3 a4)) a2 a4 (ix3 b (pos i q) ⟨64 * h.val + d.val, by omega⟩) := by
  have hz := z_eq H h q
  have htop : top i X4 X5 (qLat X2 X6) (qRope X3) (row h q) = rowTop (scores a0 a1 a2 a3 a4) (ix3 b h (pos i q)) :=
    eq_of_forall_ge_iff fun u => by
      refine (rowMax_le i X4 X5 _ _ (row h q) 0 u).trans ?_
      rw [rowTop_le]
      simp only [scores_at, hz]
  unfold outBlock
  rw [outOf_head X7 _ _ (fun h x e he => by rw [H.h7, if_neg he]) h q d]
  unfold part
  rw [sum_at]
  simp only [acc_at, hz, htop, H.h4]
  rw [mixed_at]
  simp only [probs_at, expo_at, scores_at]
  have hc := score_cases r0 r1 r2 r3 r4 b h (pos i q)
  have key := softmax_mix (fun s => scoreOf a0 a1 a2 a3 a4 b h (pos i q) s) (rowTop (scores a0 a1 a2 a3 a4) (ix3 b h (pos i q)))
    (fun u => by rw [rowTop_le]; simp only [scores_at]) (fun s => (hc s).1) 0 ((hc 0).2 (Nat.zero_le _))
    (fun s x => a2 (ix3 b s x)) (fun s x => r2 _) (fun x : Fin 256 => a4 (ix3 x h ⟨64 + d.val, by omega⟩)) (fun x => r4 _)
  have h7 : ∀ x : Fin 256, X7 (ix3 h x ⟨64 * (h.val % 2) + d.val, by omega⟩) = a4 (ix3 x h ⟨64 + d.val, by omega⟩) := fun x => by
    rw [H.h7, if_pos (by show (64 * (h.val % 2) + d.val) / 64 = h.val % 2; omega)]
    exact congrArg (fun l => a4 (ix3 x h l)) (Fin.ext (by show 64 + (64 * (h.val % 2) + d.val) % 64 = 64 + d.val; omega))
  simp only [h7]
  exact key

end Cert.KernelIdeal.Att

end
-- ==== Proof.Value.lean ====
/-
  The attention kernel's result array at exact arithmetic is the reference's: every block of it is a grid point's output,
  and the precondition makes every entry of the arguments a real number.
-/
module

public import proofs.«01_k».proof.Proof.Math.Host
public import proofs.«01_k».proof.Proof.Math.Point
public import proofs.«01_k».proof.Defs

@[expose] public section

set_option maxRecDepth 16384

noncomputable section

namespace Cert.KernelIdeal.Att

open Idealize.ShloMosaic Cert.KernelIdeal Cert.KernelIdeal.Gen Cert.Att Idealize.ShloMosaic.TcCoe
open Idealize.SL.Sem

/-- An array whose absolute values all compare below +∞ holds reals. -/
theorem real_of_lt {s : Shape} (a x : FVec Ideal s .f32) (hx : ∀ y, x y = (⊤ : EReal)) (h : cmpf .olt (Host.absf a) x = fun _ => 1#1) (y : s.Idx) :
    IsReal (a y) := by
  have h1 := congrFun h y
  have h2 : Ideal.cmp .olt (max (a y) (-(a y))) (x y) = 1#1 := h1
  rw [hx] at h2
  refine IsReal.of_abs_lt ?_
  by_contra hn
  simp [Ideal.cmp, hn] at h2

variable (m : (ℓ : Loc nD τ sig) → Buf (Elt Ideal) ℓ)

/-- The batch of a grid point. -/
def batch (t : Fin cfg0.N) : Fin 8 := ⟨(grid0.coords t 0).val, (grid0.coords t 0).isLt⟩

theorem idx0 : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, 0, 0] ∧ win0_3.index t = ![(grid0.coords t 0).val, 0, 0]
    ∧ win0_4.index t = ![0, 0] ∧ win0_5.index t = ![0, 0, 0]
    ∧ win0_6.index t = ![(grid0.coords t 0).val, (grid0.coords t 1).val, 0] :=
  (by decide +kernel : ∀ t : Fin grid0.N, _)

theorem emb0 (t : Fin cfg0.N) (q : Fin 128) (k : Fin 512) : (win0_0.blk t).view.emb (ix3 0 q k) = ix3 (batch t) (pos (grid0.coords t) q) k := by
  funext a
  apply Fin.ext
  fin_cases a
  · blk_simp
    rw [(idx0 t).1]
    rfl
  · blk_simp
    rw [(idx0 t).1]
    show (grid0.coords t 1).val * 128 + q.val = 128 * (grid0.coords t 1).val + q.val; omega
  · blk_simp
    rw [(idx0 t).1]
    show 0 * 512 + k.val = k.val; omega

theorem emb1 (t : Fin cfg0.N) (q : Fin 128) (k : Fin 256) : (win0_1.blk t).view.emb (ix3 0 q k) = ix3 (batch t) (pos (grid0.coords t) q) k := by
  funext a
  apply Fin.ext
  fin_cases a
  · blk_simp
    rw [(idx0 t).2.1]
    rfl
  · blk_simp
    rw [(idx0 t).2.1]
    show (grid0.coords t 1).val * 128 + q.val = 128 * (grid0.coords t 1).val + q.val; omega
  · blk_simp
    rw [(idx0 t).2.1]
    show 0 * 256 + k.val = k.val; omega

theorem emb6 (t : Fin cfg0.N) (q : Fin 128) (k : Fin 512) : (win0_6.blk t).view.emb (ix3 0 q k) = ix3 (batch t) (pos (grid0.coords t) q) k := by
  funext a
  apply Fin.ext
  fin_cases a
  · blk_simp
    rw [(idx0 t).2.2.2.2.2.2]
    rfl
  · blk_simp
    rw [(idx0 t).2.2.2.2.2.2]
    show (grid0.coords t 1).val * 128 + q.val = 128 * (grid0.coords t 1).val + q.val; omega
  · blk_simp
    rw [(idx0 t).2.2.2.2.2.2]
    show 0 * 512 + k.val = k.val; omega

theorem emb2 (t : Fin cfg0.N) (s : Fin 2048) (k : Fin 256) : (win0_2.blk t).view.emb (ix3 0 s k) = ix3 (batch t) s k := by
  funext a
  apply Fin.ext
  fin_cases a
  · blk_simp
    rw [(idx0 t).2.2.1]
    rfl
  · blk_simp
    rw [(idx0 t).2.2.1]
    show 0 * 2048 + s.val = s.val; omega
  · blk_simp
    rw [(idx0 t).2.2.1]
    show 0 * 256 + k.val = k.val; omega

theorem emb3 (t : Fin cfg0.N) (s : Fin 2048) (k : Fin 128) : (win0_3.blk t).view.emb (ix3 0 s k) = ix3 (batch t) s k := by
  funext a
  apply Fin.ext
  fin_cases a
  · blk_simp
    rw [(idx0 t).2.2.2.1]
    rfl
  · blk_simp
    rw [(idx0 t).2.2.2.1]
    show 0 * 2048 + s.val = s.val; omega
  · blk_simp
    rw [(idx0 t).2.2.2.1]
    show 0 * 128 + k.val = k.val; omega

theorem emb4 (t : Fin cfg0.N) (r : Fin 512) (k : Fin 256) : (win0_4.blk t).view.emb (ix2 r k) = ix2 r k := by
  funext a
  apply Fin.ext
  fin_cases a
  · blk_simp
    rw [(idx0 t).2.2.2.2.1]
    show 0 * 512 + r.val = r.val; omega
  · blk_simp
    rw [(idx0 t).2.2.2.2.1]
    show 0 * 256 + k.val = k.val; omega

theorem emb5 (t : Fin cfg0.N) (h : Fin 8) (r : Fin 256) (k : Fin 128) : (win0_5.blk t).view.emb (ix3 h r k) = ix3 h r k := by
  funext a
  apply Fin.ext
  fin_cases a
  · blk_simp
    rw [(idx0 t).2.2.2.2.2.1]
    show 0 * 8 + h.val = h.val; omega
  · blk_simp
    rw [(idx0 t).2.2.2.2.2.1]
    show 0 * 256 + r.val = r.val; omega
  · blk_simp
    rw [(idx0 t).2.2.2.2.2.1]
    show 0 * 128 + k.val = k.val; omega

theorem blk_qn (c : Dev nD) (t : Fin cfg0.N) (q : Fin 128) (h : Fin 8) (d : Fin 64) : iblk m c 0 t (ix3 0 q ⟨64 * h.val + d.val, by omega⟩)
    = m ((c.tc : Thread nD τ).loc main_arg0) (ix4 (batch t) (pos (grid0.coords t) q) h d) := by
  refine Eq.trans ?_ (V_qn m c (batch t) (pos (grid0.coords t) q) h d)
  unfold iblk
  exact congrArg (V m c main_v58) (emb0 t q _)

theorem blk_qp (c : Dev nD) (t : Fin cfg0.N) (q : Fin 128) (h : Fin 8) (d : Fin 32) : iblk m c 1 t (ix3 0 q ⟨32 * h.val + d.val, by omega⟩)
    = m ((c.tc : Thread nD τ).loc main_arg1) (ix4 (batch t) (pos (grid0.coords t) q) h d) := by
  refine Eq.trans ?_ (V_qp m c (batch t) (pos (grid0.coords t) q) h d)
  unfold iblk
  exact congrArg (V m c main_v60) (emb1 t q _)

theorem blk_lat (c : Dev nD) (t : Fin cfg0.N) (s : Fin 2048) (x : Fin 256) : iblk m c 2 t (ix3 0 s x)
    = m ((c.tc : Thread nD τ).loc main_arg2) (ix3 (batch t) s x) := by
  refine Eq.trans ?_ (V_lat m c (batch t) s x)
  unfold iblk
  exact congrArg (V m c main_v61) (emb2 t s x)

theorem blk_krr (c : Dev nD) (t : Fin cfg0.N) (s : Fin 2048) (k : Fin 4) (x : Fin 32) : iblk m c 3 t (ix3 0 s ⟨k.val * 32 + x.val, by omega⟩)
    = m ((c.tc : Thread nD τ).loc main_arg3) (ix3 (batch t) s x) := by
  refine Eq.trans ?_ (V_krr m c (batch t) s k x)
  unfold iblk
  exact congrArg (V m c main_v56) (emb3 t s _)

theorem blk_wkt (c : Dev nD) (t : Fin cfg0.N) (h : Fin 8) (d : Fin 64) (x : Fin 256) : iblk m c 4 t (ix2 ⟨64 * h.val + d.val, by omega⟩ x)
    = m ((c.tc : Thread nD τ).loc main_arg4) (ix3 x h ⟨d.val, by omega⟩) := by
  refine Eq.trans ?_ (V_wkt m c h d x)
  unfold iblk
  exact congrArg (V m c main_v3) (emb4 t _ x)

theorem blk_wvp (c : Dev nD) (t : Fin cfg0.N) (h : Fin 8) (x : Fin 256) (e : Fin 128) : iblk m c 5 t (ix3 h x e)
    = if e.val / 64 = h.val % 2 then m ((c.tc : Thread nD τ).loc main_arg4) (ix3 x h ⟨64 + e.val % 64, by omega⟩) else (0 : EReal) := by
  refine Eq.trans ?_ (V_wvp m c h x e)
  unfold iblk
  exact congrArg (V m c main_v54) (emb5 t h x e)

/-- The blocks of a grid point hold the arguments. -/
theorem holds (c : Dev nD) (t : Fin cfg0.N) : Holds (grid0.coords t) (iblk m c 0 t) (iblk m c 1 t) (iblk m c 2 t) (iblk m c 3 t) (iblk m c 4 t) (iblk m c 5 t)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (batch t) :=
  ⟨blk_qn m c t, blk_qp m c t, blk_lat m c t, blk_krr m c t, blk_wkt m c t, blk_wvp m c t⟩

/-- The reference's result, of the kernel's argument arrays. -/
def want (c : Dev nD) : FVec Ideal Cert.ReferenceIdeal.S8x2048x512 .f32 :=
  Cert.ReferenceIdeal.Att.mixed (Cert.ReferenceIdeal.Att.probs (Cert.ReferenceIdeal.Att.scores (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)))) (m ((c.tc : Thread nD τ).loc main_arg2)) (m ((c.tc : Thread nD τ).loc main_arg4))

/-- Every argument's entries are reals. -/
structure Finite (c : Dev nD) : Prop where
  r0 : ∀ y, IsReal (m ((c.tc : Thread nD τ).loc main_arg0) y)
  r1 : ∀ y, IsReal (m ((c.tc : Thread nD τ).loc main_arg1) y)
  r2 : ∀ y, IsReal (m ((c.tc : Thread nD τ).loc main_arg2) y)
  r3 : ∀ y, IsReal (m ((c.tc : Thread nD τ).loc main_arg3) y)
  r4 : ∀ y, IsReal (m ((c.tc : Thread nD τ).loc main_arg4) y)

theorem finite_of_pre [hP : Cert.Pre_finite.Facts] (h : Cert.Pre_KernelIdeal_finite m) (c : Dev nD) : Finite m c where
  r0 := real_of_lt _ _ (fun _ => pos_inf) (h c).1
  r1 := real_of_lt _ _ (fun _ => pos_inf) (h c).2.1
  r2 := real_of_lt _ _ (fun _ => pos_inf) (h c).2.2.1
  r3 := real_of_lt _ _ (fun _ => pos_inf) (h c).2.2.2.1
  r4 := real_of_lt _ _ (fun _ => pos_inf) (h c).2.2.2.2

/-- One element of a grid point's output block. -/
theorem outAt_eq (c : Dev nD) (R : Finite m c) (t : Fin cfg0.N) (q : Fin 128) (k : Fin 512) :
    outAt m c t (ix3 0 q k) = want m c ((win0_6.blk t).view.emb (ix3 0 q k)) := by
  rw [emb6]
  have e : k = ⟨64 * (⟨k.val / 64, by omega⟩ : Fin 8).val + (⟨k.val % 64, by omega⟩ : Fin 64).val, by simp; omega⟩ := Fin.ext (by simp; omega)
  rw [e]
  exact point_eq (holds m c t) R.r0 R.r1 R.r2 R.r3 R.r4 q ⟨k.val / 64, by omega⟩ ⟨k.val % 64, by omega⟩

/-- The result array of the launch. -/
theorem result (c : Dev nD) (R : Finite m c) : (dats m 0 c).arrAt 6 cfg0.N = want m c := by
  refine (dats m 0 c).arrAt_eq_of_covers 6 _ (by decide +kernel) fun t hf y => ?_
  blk_simp
  have hy : y = ix3 0 (y 1) (y 2) := by
    funext a
    match a with
    | ⟨0, _⟩ => exact Subsingleton.elim (α := Fin 1) _ _
    | ⟨1, _⟩ => rfl
    | ⟨2, _⟩ => rfl
  rw [after0_6, hy]
  exact outAt_eq m c R t (y 1) (y 2)

/-- The kernel's run: its result array is the reference's term of its own arguments, which end unchanged. -/
theorem run_value (g : Dev nD → PrngReg) (R : ∀ c, Finite m c) :
    θ_run defs (onTc (τ := τ) (main (F := Ideal))) ⟨m, fun _ => 0, g⟩ (fun r => ∀ c : Dev nD,
      r.2.mem ((c.tc : Thread nD τ).loc main_v62) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨((h.1 c).1 6).trans (result m c (R c)), h.2 c⟩) (θ_run_and (run_main m g) (unchanged m g))

end Cert.KernelIdeal.Att

end
-- ==== Proof.Back.Ref.lean ====
/-
  The layer's end as the reference computes it, read at an index: two gated projections, merged by sigmoid gates, an output
  projection with the residual, and the last norm. The array definitions are the pieces of the reference's own term; the
  scalar ones say the same of one row.
-/
module

public import proofs.«01_k».proof.Proof.Gen.BackReferenceIdeal.Run
public import Idealize.ShloMosaic.Lib.Pointwise

@[expose] public section

set_option maxRecDepth 16384

noncomputable section

namespace Cert.BackReferenceIdeal.End

open Idealize.ShloMosaic Cert.BackReferenceIdeal Cert.BackReferenceIdeal.Gen

/-- The logistic function. -/
def lgs (x : EReal) : EReal := Ideal.div 1 (1 + Ideal.exp (-x))

/-- One entry of a gated projection: a row `o` times the SiLU of its gate path `z`, against a column `w`. -/
def proj (o z w : Fin 512 → EReal) : EReal := ∑ k, o k * (z k * lgs (z k)) * w k

/-- One entry of the row before the last norm. -/
def hid (x gate : EReal) (ga gb ya yb w : Fin 1024 → EReal) : EReal := x + gate * ∑ k, (lgs (ga k) * ya k + lgs (gb k) * yb k) * w k

/-- One entry of the normed row. -/
def normed (h g : Fin 1024 → EReal) (n : Fin 1024) : EReal :=
  h n * Ideal.rsqrt (Ideal.div (∑ k, h k * h k) (Ideal.ofBits FTy.f32 0x44800000#32) + Ideal.ofBits FTy.f32 0x358637BD#32) * g n

/-- A gated projection of the whole batch. -/
def branch (o z : FVec Ideal S8x2048x512 .f32) (w : FVec Ideal S512x1024 .f32) : FVec Ideal S8x2048x1024 .f32 :=
  Host.dotGeneral dot_S8x2048x512_S512x1024_S8x2048x1024_2_0_01_1_n_n none (mulf o (mulf z (Host.divf (broadcastInDim S8x2048x512
    ![] bcast_S_S8x2048x512 (constant S_ .f32 0x3F800000#32)) (addf (broadcastInDim S8x2048x512 ![] bcast_S_S8x2048x512
    (constant S_ .f32 0x3F800000#32)) (Host.exp (Host.negf z)))))) w

/-- The merge gates. -/
def gates (g : FVec Ideal S8x2048x1024 .f32) : FVec Ideal S8x2048x1024 .f32 :=
  Host.divf (broadcastInDim S8x2048x1024 ![] bcast_S_S8x2048x1024 (constant S_ .f32 0x3F800000#32)) (addf (broadcastInDim
    S8x2048x1024 ![] bcast_S_S8x2048x1024 (constant S_ .f32 0x3F800000#32)) (Host.exp (Host.negf g)))

/-- The rows before the last norm. -/
def hidden (a0 : FVec Ideal S8x2048x1024 .f32) (a1 : FVec Ideal S8x3072 .f32) (a6 a7 ya yb : FVec Ideal S8x2048x1024 .f32)
    (w : FVec Ideal S1024x1024 .f32) : FVec Ideal S8x2048x1024 .f32 :=
  addf a0 (mulf (broadcastInDim S8x2048x1024 ![0, 1, 2] bcast_S8x1x1024_S8x2048x1024_0_1_2 (broadcastInDim S8x1x1024 ![0, 2]
    bcast_S8x1024_S8x1x1024_0_2 (extractStridedSlice S8x1024 ![0, 2048] a1 slices_S8x3072_S8x1024_0_2048))) (Host.dotGeneral
    dot_S8x2048x1024_S1024x1024_S8x2048x1024_2_0_01_1_n_n none (addf (mulf (gates a6) ya) (mulf (gates a7) yb)) w))

/-- The last norm. -/
def lastNorm (h : FVec Ideal S8x2048x1024 .f32) (g : FVec Ideal S1024 .f32) : FVec Ideal S8x2048x1024 .f32 :=
  mulf (mulf h (broadcastInDim S8x2048x1024 ![0, 1, 2] bcast_S8x2048x1_S8x2048x1024_0_1_2 (Host.rsqrt (addf (Host.divf
    (broadcastInDim S8x2048x1 ![0, 1] bcast_S8x2048_S8x2048x1_0_1 (Host.reduceAdd (mulf h h) (constant S_ .f32 0x00000000#32)
    reducesTo_S8x2048x1024_S8x2048_d2 h_S_)) (broadcastInDim S8x2048x1 ![] bcast_S_S8x2048x1 (constant S_ .f32 0x44800000#32)))
    (broadcastInDim S8x2048x1 ![] bcast_S_S8x2048x1 (constant S_ .f32 0x358637BD#32)))))) (broadcastInDim S8x2048x1024 ![0, 1, 2]
    bcast_S1x1x1024_S8x2048x1024_0_1_2 (broadcastInDim S1x1x1024 ![2] bcast_S1024_S1x1x1024_2 g))

theorem branch_at (o z : FVec Ideal S8x2048x512 .f32) (w : FVec Ideal S512x1024 .f32) (b : Fin 8) (t : Fin 2048) (n : Fin 1024) :
    branch o z w (ix3 b t n) = proj (fun k => o (ix3 b t k)) (fun k => z (ix3 b t k)) (fun k => w (ix2 k n)) := by
  pointwise [branch]
  rfl

theorem hidden_at (a0 : FVec Ideal S8x2048x1024 .f32) (a1 : FVec Ideal S8x3072 .f32) (a6 a7 ya yb : FVec Ideal S8x2048x1024 .f32)
    (w : FVec Ideal S1024x1024 .f32) (b : Fin 8) (t : Fin 2048) (n : Fin 1024) :
    hidden a0 a1 a6 a7 ya yb w (ix3 b t n) = hid (a0 (ix3 b t n)) (a1 (ix2 b ⟨2048 + n.val, by omega⟩)) (fun k => a6 (ix3 b t k)) (fun k => a7 (ix3 b t k))
      (fun k => ya (ix3 b t k)) (fun k => yb (ix3 b t k)) (fun k => w (ix2 k n)) := by
  pointwise [hidden, gates]
  rfl

theorem lastNorm_at (h : FVec Ideal S8x2048x1024 .f32) (g : FVec Ideal S1024 .f32) (b : Fin 8) (t : Fin 2048) (n : Fin 1024) :
    lastNorm h g (ix3 b t n) = normed (fun k => h (ix3 b t k)) (fun k => g (ix1 k)) n := by
  pointwise [lastNorm]
  rfl

theorem res_eq (m : (ℓ : Loc nD τ sig) → Buf (Elt Ideal) ℓ) (c : Dev nD) : Value.res_main_v41 m c
    = lastNorm (hidden (m ((c.tc : Thread nD τ).loc main_arg0)) (m ((c.tc : Thread nD τ).loc main_arg1)) (m ((c.tc : Thread nD τ).loc main_arg6))
        (m ((c.tc : Thread nD τ).loc main_arg7))
        (branch (m ((c.tc : Thread nD τ).loc main_arg2)) (m ((c.tc : Thread nD τ).loc main_arg3)) (m ((c.tc : Thread nD τ).loc main_arg8)))
        (branch (m ((c.tc : Thread nD τ).loc main_arg4)) (m ((c.tc : Thread nD τ).loc main_arg5)) (m ((c.tc : Thread nD τ).loc main_arg9)))
        (m ((c.tc : Thread nD τ).loc main_arg10))) (m ((c.tc : Thread nD τ).loc main_arg11)) := rfl

end Cert.BackReferenceIdeal.End

end
-- ==== Proof.Back.Block.lean ====
/-
  What one grid point of the layer's end computes: an entry of its output block, from the blocks of its operands.
-/
module

public import proofs.«01_k».proof.Proof.Gen.BackIdeal.Value
public import proofs.«01_k».proof.Proof.Back.Ref
public import Idealize.ShloMosaic.Lib.Pipeline.ValueKit

@[expose] public section

set_option maxRecDepth 16384

noncomputable section

namespace Cert.BackIdeal.End

open Idealize.ShloMosaic Cert.BackIdeal Cert.BackIdeal.Gen
open Cert.BackReferenceIdeal.End (lgs proj hid normed)

theorem pay2_at (z o : Vec Ideal S1x256x512 .f32) (w : Vec Ideal S512x1024 .bf16) (q : Fin 256) (n : Fin 1024) :
    k0_pay2 z o w (ix2 q n) = proj (fun k => o (ix3 0 q k)) (fun k => z (ix3 0 q k)) (fun k => w (ix2 k n)) := by
  pointwise [k0_pay2, proj, lgs]
  simp only [zero_sub]

theorem pay3_at (z o : Vec Ideal S1x256x512 .f32) (w : Vec Ideal S512x1024 .bf16) (q : Fin 256) (n : Fin 1024) :
    k0_pay3 z o w (ix2 q n) = proj (fun k => o (ix3 0 q k)) (fun k => z (ix3 0 q k)) (fun k => w (ix2 k n)) := by
  pointwise [k0_pay3, proj, lgs]
  simp only [zero_sub]

theorem pay4_at (ya yb : FVec Ideal S256x1024 .f32) (ga gb x : Vec Ideal S1x256x1024 .f32) (md : Vec Ideal S1x1x3072 .f32) (w : Vec Ideal S1024x1024 .bf16)
    (q : Fin 256) (n : Fin 1024) : k0_pay4 ya yb ga gb md x w (ix2 q n)
    = hid (x (ix3 0 q n)) (md (ix3 0 0 ⟨2048 + n.val, by omega⟩)) (fun k => ga (ix3 0 q k)) (fun k => gb (ix3 0 q k)) (fun k => ya (ix2 q k)) (fun k => yb (ix2 q k))
        (fun k => w (ix2 k n)) := by
  pointwise [k0_pay4, hid, lgs]
  simp only [zero_sub]

theorem pay1_at (h : FVec Ideal S256x1024 .f32) (g : Vec Ideal S1x1024 .f32) (q : Fin 256) (n : Fin 1024) :
    k0_pay1 h (k0_pay5 g) (mulf h h) (ix3 0 q n) = normed (fun k => h (ix2 q k)) (fun k => g (ix2 0 k)) n := by
  pointwise [k0_pay1, k0_pay5, normed]

/-- One element of a grid point's output block. -/
theorem out_at (x0 : Vec Ideal S1x256x1024 .f32) (x1 : Vec Ideal S1x1x3072 .f32) (x2 x3 x4 x5 : Vec Ideal S1x256x512 .f32)
    (x6 x7 : Vec Ideal S1x256x1024 .f32) (x8 x9 : Vec Ideal S512x1024 .bf16) (x10 : Vec Ideal S1024x1024 .bf16) (x11 : Vec Ideal S1x1024 .f32)
    (q : Fin 256) (n : Fin 1024) : out0_12 x0 x1 x2 x3 x4 x5 x6 x7 x8 x9 x10 x11 (ix3 0 q n)
    = normed (fun k => hid (x0 (ix3 0 q k)) (x1 (ix3 0 0 ⟨2048 + k.val, by omega⟩)) (fun j => x6 (ix3 0 q j)) (fun j => x7 (ix3 0 q j))
        (fun j => proj (fun i => x2 (ix3 0 q i)) (fun i => x3 (ix3 0 q i)) (fun i => x8 (ix2 i j)))
        (fun j => proj (fun i => x4 (ix3 0 q i)) (fun i => x5 (ix3 0 q i)) (fun i => x9 (ix2 i j)))
        (fun j => x10 (ix2 j k))) (fun k => x11 (ix2 0 k)) n := by
  unfold out0_12 k0_pay8 k0_pay7
  frame_out
  refine (pay1_at _ x11 q n).trans (congrArg (fun h => normed h _ n) (funext fun k => (pay4_at _ _ x6 x7 x0 x1 x10 q k).trans ?_))
  exact congrArg₂ (fun u v => hid _ _ _ _ u v _) (funext fun j => pay2_at x3 x2 x8 q j) (funext fun j => pay3_at x5 x4 x9 q j)

end Cert.BackIdeal.End

end
-- ==== Proof.Back.Value.lean ====
/-
  The result array of the layer's end is the reference's: every block of it is a grid point's output, whose operands' blocks
  are rows of the arguments.
-/
module

public import proofs.«01_k».proof.Proof.Back.Block

@[expose] public section

set_option maxRecDepth 16384

noncomputable section

namespace Cert.BackIdeal.End

open Idealize.ShloMosaic Cert.BackIdeal Cert.BackIdeal.Gen Idealize.ShloMosaic.TcCoe
open Idealize.SL.Sem
open Cert.BackReferenceIdeal.End (lgs proj hid normed branch hidden lastNorm branch_at hidden_at lastNorm_at)

variable (m : (ℓ : Loc nD τ sig) → Buf (Elt Ideal) ℓ)

/-- The sequence of a grid point. -/
def batch (t : Fin cfg0.N) : Fin 8 := ⟨(grid0.coords t 0).val, (grid0.coords t 0).isLt⟩

/-- The position of a grid point's row `q`. -/
def pos (t : Fin cfg0.N) (q : Fin 256) : Fin 2048 := ⟨256 * (grid0.coords t 1).val + q.val, by have h : (grid0.coords t 1).val < 8 := (grid0.coords t 1).isLt; omega⟩

theorem idx0 : ∀ t : Fin cfg0.N, win0_0.index t = ![(grid0.coords t 0).val, (grid0.coords t 1).val, 0]
    ∧ win0_1.index t = ![(grid0.coords t 0).val, 0, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0]
    ∧ win0_7.index t = ![(grid0.coords t 0).val, (grid0.coords t 1).val, 0]
    ∧ win0_8.index t = ![0, 0]
    ∧ win0_9.index t = ![0, 0]
    ∧ win0_10.index t = ![0, 0]
    ∧ win0_11.index t = ![0, 0]
    ∧ win0_12.index t = ![(grid0.coords t 0).val, (grid0.coords t 1).val, 0] :=
  (by decide +kernel : ∀ t : Fin grid0.N, _)

theorem emb0 (t : Fin cfg0.N) (q : Fin 256) (k : Fin 1024) : (win0_0.blk t).view.emb (ix3 0 q k) = ix3 (batch t) (pos t q) k := by
  funext a
  apply Fin.ext
  fin_cases a <;> blk_simp <;> rw [(idx0 t).1]
  · rfl
  · show (grid0.coords t 1).val * 256 + q.val = 256 * (grid0.coords t 1).val + q.val; omega
  · show 0 * 1024 + k.val = k.val; omega

theorem emb1 (t : Fin cfg0.N) (k : Fin 3072) : (win0_1.blk t).view.emb (ix3 0 0 k) = ix3 (batch t) 0 k := by
  funext a
  apply Fin.ext
  fin_cases a <;> blk_simp <;> rw [(idx0 t).2.1]
  · rfl
  · rfl
  · show 0 * 3072 + k.val = k.val; omega

theorem emb2 (t : Fin cfg0.N) (q : Fin 256) (k : Fin 512) : (win0_2.blk t).view.emb (ix3 0 q k) = ix3 (batch t) (pos t q) k := by
  funext a
  apply Fin.ext
  fin_cases a <;> blk_simp <;> rw [(idx0 t).2.2.1]
  · rfl
  · show (grid0.coords t 1).val * 256 + q.val = 256 * (grid0.coords t 1).val + q.val; omega
  · show 0 * 512 + k.val = k.val; omega

theorem emb3 (t : Fin cfg0.N) (q : Fin 256) (k : Fin 512) : (win0_3.blk t).view.emb (ix3 0 q k) = ix3 (batch t) (pos t q) k := by
  funext a
  apply Fin.ext
  fin_cases a <;> blk_simp <;> rw [(idx0 t).2.2.2.1]
  · rfl
  · show (grid0.coords t 1).val * 256 + q.val = 256 * (grid0.coords t 1).val + q.val; omega
  · show 0 * 512 + k.val = k.val; omega

theorem emb4 (t : Fin cfg0.N) (q : Fin 256) (k : Fin 512) : (win0_4.blk t).view.emb (ix3 0 q k) = ix3 (batch t) (pos t q) k := by
  funext a
  apply Fin.ext
  fin_cases a <;> blk_simp <;> rw [(idx0 t).2.2.2.2.1]
  · rfl
  · show (grid0.coords t 1).val * 256 + q.val = 256 * (grid0.coords t 1).val + q.val; omega
  · show 0 * 512 + k.val = k.val; omega

theorem emb5 (t : Fin cfg0.N) (q : Fin 256) (k : Fin 512) : (win0_5.blk t).view.emb (ix3 0 q k) = ix3 (batch t) (pos t q) k := by
  funext a
  apply Fin.ext
  fin_cases a <;> blk_simp <;> rw [(idx0 t).2.2.2.2.2.1]
  · rfl
  · show (grid0.coords t 1).val * 256 + q.val = 256 * (grid0.coords t 1).val + q.val; omega
  · show 0 * 512 + k.val = k.val; omega

theorem emb6 (t : Fin cfg0.N) (q : Fin 256) (k : Fin 1024) : (win0_6.blk t).view.emb (ix3 0 q k) = ix3 (batch t) (pos t q) k := by
  funext a
  apply Fin.ext
  fin_cases a <;> blk_simp <;> rw [(idx0 t).2.2.2.2.2.2.1]
  · rfl
  · show (grid0.coords t 1).val * 256 + q.val = 256 * (grid0.coords t 1).val + q.val; omega
  · show 0 * 1024 + k.val = k.val; omega

theorem emb7 (t : Fin cfg0.N) (q : Fin 256) (k : Fin 1024) : (win0_7.blk t).view.emb (ix3 0 q k) = ix3 (batch t) (pos t q) k := by
  funext a
  apply Fin.ext
  fin_cases a <;> blk_simp <;> rw [(idx0 t).2.2.2.2.2.2.2.1]
  · rfl
  · show (grid0.coords t 1).val * 256 + q.val = 256 * (grid0.coords t 1).val + q.val; omega
  · show 0 * 1024 + k.val = k.val; omega

theorem emb8 (t : Fin cfg0.N) (r : Fin 512) (k : Fin 1024) : (win0_8.blk t).view.emb (ix2 r k) = ix2 r k := by
  funext a
  apply Fin.ext
  fin_cases a <;> blk_simp <;> rw [(idx0 t).2.2.2.2.2.2.2.2.1]
  · show 0 * 512 + r.val = r.val; omega
  · show 0 * 1024 + k.val = k.val; omega

theorem emb9 (t : Fin cfg0.N) (r : Fin 512) (k : Fin 1024) : (win0_9.blk t).view.emb (ix2 r k) = ix2 r k := by
  funext a
  apply Fin.ext
  fin_cases a <;> blk_simp <;> rw [(idx0 t).2.2.2.2.2.2.2.2.2.1]
  · show 0 * 512 + r.val = r.val; omega
  · show 0 * 1024 + k.val = k.val; omega

theorem emb10 (t : Fin cfg0.N) (r : Fin 1024) (k : Fin 1024) : (win0_10.blk t).view.emb (ix2 r k) = ix2 r k := by
  funext a
  apply Fin.ext
  fin_cases a <;> blk_simp <;> rw [(idx0 t).2.2.2.2.2.2.2.2.2.2.1]
  · show 0 * 1024 + r.val = r.val; omega
  · show 0 * 1024 + k.val = k.val; omega

theorem emb11 (t : Fin cfg0.N) (r : Fin 1) (k : Fin 1024) : (win0_11.blk t).view.emb (ix2 r k) = ix2 r k := by
  funext a
  apply Fin.ext
  fin_cases a <;> blk_simp <;> rw [(idx0 t).2.2.2.2.2.2.2.2.2.2.2.1]
  · rfl
  · show 0 * 1024 + k.val = k.val; omega

theorem emb12 (t : Fin cfg0.N) (q : Fin 256) (k : Fin 1024) : (win0_12.blk t).view.emb (ix3 0 q k) = ix3 (batch t) (pos t q) k := by
  funext a
  apply Fin.ext
  fin_cases a <;> blk_simp <;> rw [(idx0 t).2.2.2.2.2.2.2.2.2.2.2.2]
  · rfl
  · show (grid0.coords t 1).val * 256 + q.val = 256 * (grid0.coords t 1).val + q.val; omega
  · show 0 * 1024 + k.val = k.val; omega

theorem blk0 (c : Dev nD) (t : Fin cfg0.N) (q : Fin 256) (k : Fin 1024) : iblk m c 0 t (ix3 0 q k) = m ((c.tc : Thread nD τ).loc main_arg0) (ix3 (batch t) (pos t q) k) := by
  refine Eq.trans ?_ (congrFun (V_main_arg0 m c) _)
  unfold iblk
  exact congrArg (V m c main_arg0) (emb0 t q k)

theorem blk2 (c : Dev nD) (t : Fin cfg0.N) (q : Fin 256) (k : Fin 512) : iblk m c 2 t (ix3 0 q k) = m ((c.tc : Thread nD τ).loc main_arg2) (ix3 (batch t) (pos t q) k) := by
  refine Eq.trans ?_ (congrFun (V_main_arg2 m c) _)
  unfold iblk
  exact congrArg (V m c main_arg2) (emb2 t q k)

theorem blk3 (c : Dev nD) (t : Fin cfg0.N) (q : Fin 256) (k : Fin 512) : iblk m c 3 t (ix3 0 q k) = m ((c.tc : Thread nD τ).loc main_arg3) (ix3 (batch t) (pos t q) k) := by
  refine Eq.trans ?_ (congrFun (V_main_arg3 m c) _)
  unfold iblk
  exact congrArg (V m c main_arg3) (emb3 t q k)

theorem blk4 (c : Dev nD) (t : Fin cfg0.N) (q : Fin 256) (k : Fin 512) : iblk m c 4 t (ix3 0 q k) = m ((c.tc : Thread nD τ).loc main_arg4) (ix3 (batch t) (pos t q) k) := by
  refine Eq.trans ?_ (congrFun (V_main_arg4 m c) _)
  unfold iblk
  exact congrArg (V m c main_arg4) (emb4 t q k)

theorem blk5 (c : Dev nD) (t : Fin cfg0.N) (q : Fin 256) (k : Fin 512) : iblk m c 5 t (ix3 0 q k) = m ((c.tc : Thread nD τ).loc main_arg5) (ix3 (batch t) (pos t q) k) := by
  refine Eq.trans ?_ (congrFun (V_main_arg5 m c) _)
  unfold iblk
  exact congrArg (V m c main_arg5) (emb5 t q k)

theorem blk6 (c : Dev nD) (t : Fin cfg0.N) (q : Fin 256) (k : Fin 1024) : iblk m c 6 t (ix3 0 q k) = m ((c.tc : Thread nD τ).loc main_arg6) (ix3 (batch t) (pos t q) k) := by
  refine Eq.trans ?_ (congrFun (V_main_arg6 m c) _)
  unfold iblk
  exact congrArg (V m c main_arg6) (emb6 t q k)

theorem blk7 (c : Dev nD) (t : Fin cfg0.N) (q : Fin 256) (k : Fin 1024) : iblk m c 7 t (ix3 0 q k) = m ((c.tc : Thread nD τ).loc main_arg7) (ix3 (batch t) (pos t q) k) := by
  refine Eq.trans ?_ (congrFun (V_main_arg7 m c) _)
  unfold iblk
  exact congrArg (V m c main_arg7) (emb7 t q k)

theorem blk8 (c : Dev nD) (t : Fin cfg0.N) (r : Fin 512) (k : Fin 1024) : iblk m c 8 t (ix2 r k) = m ((c.tc : Thread nD τ).loc main_arg8) (ix2 r k) := by
  have hV : V m c main_v1 (ix2 r k) = m ((c.tc : Thread nD τ).loc main_arg8) (ix2 r k) := by
    entry_read
    pointwise
  refine Eq.trans ?_ hV
  unfold iblk
  exact congrArg (V m c main_v1) (emb8 t r k)

theorem blk9 (c : Dev nD) (t : Fin cfg0.N) (r : Fin 512) (k : Fin 1024) : iblk m c 9 t (ix2 r k) = m ((c.tc : Thread nD τ).loc main_arg9) (ix2 r k) := by
  have hV : V m c main_v2 (ix2 r k) = m ((c.tc : Thread nD τ).loc main_arg9) (ix2 r k) := by
    entry_read
    pointwise
  refine Eq.trans ?_ hV
  unfold iblk
  exact congrArg (V m c main_v2) (emb9 t r k)

theorem blk10 (c : Dev nD) (t : Fin cfg0.N) (r : Fin 1024) (k : Fin 1024) : iblk m c 10 t (ix2 r k) = m ((c.tc : Thread nD τ).loc main_arg10) (ix2 r k) := by
  have hV : V m c main_v3 (ix2 r k) = m ((c.tc : Thread nD τ).loc main_arg10) (ix2 r k) := by
    entry_read
    pointwise
  refine Eq.trans ?_ hV
  unfold iblk
  exact congrArg (V m c main_v3) (emb10 t r k)

theorem blk1 (c : Dev nD) (t : Fin cfg0.N) (k : Fin 3072) : iblk m c 1 t (ix3 0 0 k) = m ((c.tc : Thread nD τ).loc main_arg1) (ix2 (batch t) k) := by
  have hV : V m c main_v0 (ix3 (batch t) 0 k) = m ((c.tc : Thread nD τ).loc main_arg1) (ix2 (batch t) k) := by
    entry_read
    pointwise
  refine Eq.trans ?_ hV
  unfold iblk
  exact congrArg (V m c main_v0) (emb1 t k)

theorem blk11 (c : Dev nD) (t : Fin cfg0.N) (k : Fin 1024) : iblk m c 11 t (ix2 0 k) = m ((c.tc : Thread nD τ).loc main_arg11) (ix1 k) := by
  have hV : V m c main_v4 (ix2 0 k) = m ((c.tc : Thread nD τ).loc main_arg11) (ix1 k) := by
    entry_read
    pointwise
  refine Eq.trans ?_ hV
  unfold iblk
  exact congrArg (V m c main_v4) (emb11 t 0 k)

/-- The reference's result, of the kernel's argument arrays. -/
def want (c : Dev nD) : FVec Ideal Cert.BackReferenceIdeal.S8x2048x1024 .f32 :=
  lastNorm (hidden (m ((c.tc : Thread nD τ).loc main_arg0)) (m ((c.tc : Thread nD τ).loc main_arg1)) (m ((c.tc : Thread nD τ).loc main_arg6))
    (m ((c.tc : Thread nD τ).loc main_arg7))
    (branch (m ((c.tc : Thread nD τ).loc main_arg2)) (m ((c.tc : Thread nD τ).loc main_arg3)) (m ((c.tc : Thread nD τ).loc main_arg8)))
    (branch (m ((c.tc : Thread nD τ).loc main_arg4)) (m ((c.tc : Thread nD τ).loc main_arg5)) (m ((c.tc : Thread nD τ).loc main_arg9)))
    (m ((c.tc : Thread nD τ).loc main_arg10))) (m ((c.tc : Thread nD τ).loc main_arg11))

/-- One element of a grid point's output block. -/
theorem outAt_eq (c : Dev nD) (t : Fin cfg0.N) (q : Fin 256) (n : Fin 1024) :
    out0_12 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (ix3 0 q n) = want m c ((win0_12.blk t).view.emb (ix3 0 q n)) := by
  rw [emb12, out_at]
  unfold want
  rw [lastNorm_at]
  simp only [hidden_at, branch_at, blk0, blk1, blk2, blk3, blk4, blk5, blk6, blk7, blk8, blk9, blk10, blk11]

/-- The result array of the launch. -/
theorem result (c : Dev nD) : (dats m 0 c).arrAt 12 cfg0.N = want m c := by
  refine (dats m 0 c).arrAt_eq_of_covers 12 _ (by decide +kernel) fun t hf y => ?_
  blk_simp
  have hy : y = ix3 0 (y 1) (y 2) := by
    funext a
    match a with
    | ⟨0, _⟩ => exact Subsingleton.elim (α := Fin 1) _ _
    | ⟨1, _⟩ => rfl
    | ⟨2, _⟩ => rfl
  rw [after0_12, hy]
  exact outAt_eq m c t (y 1) (y 2)

end Cert.BackIdeal.End

end
-- ==== Proof.Back.Claims.lean ====
/-
  The claims of the layer's end: its frames, and at exact arithmetic the kernel's result array is the reference's.
-/
module

public import proofs.«01_k».proof.Defs
public import proofs.«01_k».proof.Proof.Gen.Back
public import proofs.«01_k».proof.Proof.Gen.Back.Frame
public import proofs.«01_k».proof.Proof.Gen.BackReferenceIdeal
public import proofs.«01_k».proof.Proof.Back.Value
public import Idealize.ShloMosaic.Lib.Quiescent

@[expose] public section

noncomputable section

namespace Cert.BackIdeal.End

open Idealize.ShloMosaic Idealize.SL.Sem

theorem frame_kernel : Cert.quiescent_Back (hBack := Cert.Back.Gen.facts) := fun m g _ => Cert.Back.Gen.frame m g

theorem frame_ideal : Cert.quiescent_BackIdeal (hBackIdeal := Cert.BackIdeal.Gen.facts) := fun m g _ => Cert.BackIdeal.Gen.frame m g

/-- The reference has no semaphore, so its counters are at zero. -/
theorem frame_reference : Cert.quiescent_BackReferenceIdeal (hBackReferenceIdeal := Cert.BackReferenceIdeal.Gen.facts) := fun m g _ =>
  (θ_run _ _ _).mono (fun _ h => ⟨fun c => (h c).2, sem_eq_zero_of_no_sems (by decide) _⟩) (BackReferenceIdeal.Value.run m g)

/-- At exact arithmetic the kernel's result is the reference's. -/
theorem algebraic : Cert.algebraic_BackIdeal_BackReferenceIdeal (hBackIdeal := Cert.BackIdeal.Gen.facts)
    (hBackReferenceIdeal := Cert.BackReferenceIdeal.Gen.facts) := by
  intro m g m' g' _ hag
  refine ⟨want m, (θ_run _ _ _).mono (fun r h c => ⟨(h c).1.trans (result m c), (h c).2⟩) (BackIdeal.Value.run_blocks m g), ?_⟩
  refine (θ_run _ _ _).mono (fun r h c => ⟨((h c).1.trans ?_), (h c).2⟩) (BackReferenceIdeal.Value.run m' g')
  obtain ⟨h0, h1, h2, h3, h4, h5, h6, h7, h8, h9, h10, h11⟩ := hag c
  rw [BackReferenceIdeal.End.res_eq, h0, h1, h2, h3, h4, h5, h6, h7, h8, h9, h10, h11]
  rfl

end Cert.BackIdeal.End

end
-- ==== Proof.Front.Ref.lean ====
/-
  The layer's front as the reference computes it, read at an index: the modulated norm of a row, its projections, the rotary
  embedding of a head, and the two low-rank norms. The array definitions are the pieces of the reference's own term; the
  scalar ones say the same of one row.
-/
module

public import proofs.«01_k».proof.Proof.Gen.FrontReferenceIdeal.Run
public import Idealize.ShloMosaic.Lib.Pointwise

@[expose] public section

set_option maxRecDepth 16384

noncomputable section

namespace Cert.FrontReferenceIdeal.Start

open Idealize.ShloMosaic Cert.FrontReferenceIdeal Cert.FrontReferenceIdeal.Gen

/-- A row over its root mean square: `n` is the number of its entries. -/
def scaled {N : ℕ} (n : EReal) (x g : Fin N → EReal) (k : Fin N) : EReal :=
  x k * Ideal.rsqrt (Ideal.div (∑ i, x i * x i) n + Ideal.ofBits FTy.f32 0x358637BD#32) * g k

/-- One entry of the modulated norm of a row. -/
def modul (x g scale shift : Fin 1024 → EReal) (k : Fin 1024) : EReal :=
  scaled (Ideal.ofBits FTy.f32 0x44800000#32) x g k * (1 + scale k) + shift k

/-- The modulated norm of every row. -/
def mods (a0 : FVec Ideal S8x2048x1024 .f32) (a1 : FVec Ideal S8x3072 .f32) (a2 : FVec Ideal S1024 .f32) : FVec Ideal S8x2048x1024 .f32 :=
  addf (mulf (mulf (mulf a0 (broadcastInDim S8x2048x1024 ![0, 1, 2] bcast_S8x2048x1_S8x2048x1024_0_1_2 (Host.rsqrt (addf (Host.divf
    (broadcastInDim S8x2048x1 ![0, 1] bcast_S8x2048_S8x2048x1_0_1 (Host.reduceAdd (mulf a0 a0) (constant S_ .f32 0x00000000#32)
    reducesTo_S8x2048x1024_S8x2048_d2 h_S_)) (broadcastInDim S8x2048x1 ![] bcast_S_S8x2048x1 (constant S_ .f32 0x44800000#32)))
    (broadcastInDim S8x2048x1 ![] bcast_S_S8x2048x1 (constant S_ .f32 0x358637BD#32)))))) (broadcastInDim S8x2048x1024 ![0, 1, 2]
    bcast_S1x1x1024_S8x2048x1024_0_1_2 (broadcastInDim S1x1x1024 ![2] bcast_S1024_S1x1x1024_2 a2))) (broadcastInDim S8x2048x1024
    ![0, 1, 2] bcast_S8x1x1024_S8x2048x1024_0_1_2 (addf (broadcastInDim S8x1x1024 ![] bcast_S_S8x1x1024 (constant S_ .f32 0x3F800000#32))
    (broadcastInDim S8x1x1024 ![0, 2] bcast_S8x1024_S8x1x1024_0_2 (extractStridedSlice S8x1024 ![0, 1024] a1
    slices_S8x3072_S8x1024_0_1024))))) (broadcastInDim S8x2048x1024 ![0, 1, 2] bcast_S8x1x1024_S8x2048x1024_0_1_2 (broadcastInDim
    S8x1x1024 ![0, 2] bcast_S8x1024_S8x1x1024_0_2 (extractStridedSlice S8x1024 ![0, 0] a1 slices_S8x3072_S8x1024_0_0)))

/-- The first projection of every row. -/
def first (h : FVec Ideal S8x2048x1024 .f32) (w : FVec Ideal S1024x5604 .f32) : FVec Ideal S8x2048x5604 .f32 :=
  Host.dotGeneral dot_S8x2048x1024_S1024x5604_S8x2048x5604_2_0_01_1_n_n none h w

/-- The angle of a position and a frequency, for heads of 64. -/
def angA : FVec Ideal S2048x32 .f32 :=
  mulf (broadcastInDim S2048x32 ![0, 1] bcast_S2048x1_S2048x32_0_1 (broadcastInDim S2048x1 ![0] bcast_S2048_S2048x1_0 (sitofp .f32
    (iotaInDim S2048 32 0)))) (broadcastInDim S2048x32 ![0, 1] bcast_S1x32_S2048x32_0_1 (broadcastInDim S1x32 ![1] bcast_S32_S1x32_1
    (Host.powf (broadcastInDim S32 ![] bcast_S_S32 (constant S_ .f32 0x461C4000#32)) (Host.divf (Host.negf (addf (broadcastInDim S32 ![]
    bcast_S_S32 (constant S_ .f32 0x00000000#32)) (mulf (broadcastInDim S32 ![] bcast_S_S32 (constant S_ .f32 0x40000000#32)) (sitofp .f32
    (iotaInDim S32 32 0))))) (broadcastInDim S32 ![] bcast_S_S32 (constant S_ .f32 0x42800000#32))))))

/-- The angle of a position and a frequency, for heads of 32. -/
def angP : FVec Ideal S2048x16 .f32 :=
  mulf (broadcastInDim S2048x16 ![0, 1] bcast_S2048x1_S2048x16_0_1 (broadcastInDim S2048x1 ![0] bcast_S2048_S2048x1_0 (sitofp .f32
    (iotaInDim S2048 32 0)))) (broadcastInDim S2048x16 ![0, 1] bcast_S1x16_S2048x16_0_1 (broadcastInDim S1x16 ![1] bcast_S16_S1x16_1
    (Host.powf (broadcastInDim S16 ![] bcast_S_S16 (constant S_ .f32 0x461C4000#32)) (Host.divf (Host.negf (addf (broadcastInDim S16 ![]
    bcast_S_S16 (constant S_ .f32 0x00000000#32)) (mulf (broadcastInDim S16 ![] bcast_S_S16 (constant S_ .f32 0x40000000#32)) (sitofp .f32
    (iotaInDim S16 32 0))))) (broadcastInDim S16 ![] bcast_S_S16 (constant S_ .f32 0x42000000#32))))))

/-- A cosine or sine array, spread over the heads of 64. -/
def spreadA (a : FVec Ideal S2048x32 .f32) : FVec Ideal S8x2048x8x32 .f32 :=
  broadcastInDim S8x2048x8x32 ![0, 1, 2, 3] bcast_S1x2048x1x32_S8x2048x8x32_0_1_2_3 (broadcastInDim S1x2048x1x32 ![1, 2, 3]
    bcast_S2048x1x32_S1x2048x1x32_1_2_3 (broadcastInDim S2048x1x32 ![0, 2] bcast_S2048x32_S2048x1x32_0_2 a))

/-- A cosine or sine array, spread over eight heads of 32. -/
def spreadP (a : FVec Ideal S2048x16 .f32) : FVec Ideal S8x2048x8x16 .f32 :=
  broadcastInDim S8x2048x8x16 ![0, 1, 2, 3] bcast_S1x2048x1x16_S8x2048x8x16_0_1_2_3 (broadcastInDim S1x2048x1x16 ![1, 2, 3]
    bcast_S2048x1x16_S1x2048x1x16_1_2_3 (broadcastInDim S2048x1x16 ![0, 2] bcast_S2048x16_S2048x1x16_0_2 a))

/-- A cosine or sine array, spread over the one head of 32. -/
def spreadK (a : FVec Ideal S2048x16 .f32) : FVec Ideal S8x2048x1x16 .f32 :=
  broadcastInDim S8x2048x1x16 ![0, 1, 2, 3] bcast_S1x2048x1x16_S8x2048x1x16_0_1_2_3 (broadcastInDim S1x2048x1x16 ![1, 2, 3]
    bcast_S2048x1x16_S1x2048x1x16_1_2_3 (broadcastInDim S2048x1x16 ![0, 2] bcast_S2048x16_S2048x1x16_0_2 a))

/-- The rotary embedding of eight heads of 64. -/
def rotA (x : FVec Ideal S8x2048x8x64 .f32) : FVec Ideal S8x2048x512 .f32 :=
  shapeCast _ (concatenate S8x2048x8x64 3 [⟨S8x2048x8x32, (subf (mulf (extractStridedSlice S8x2048x8x32 ![0, 0, 0, 0] x
    slices_S8x2048x8x64_S8x2048x8x32_0_0_0_0) (spreadA (Host.cos angA))) (mulf (extractStridedSlice S8x2048x8x32 ![0, 0, 0, 32] x
    slices_S8x2048x8x64_S8x2048x8x32_0_0_0_32) (spreadA (Host.sin angA))))⟩, ⟨S8x2048x8x32, (addf (mulf (extractStridedSlice
    S8x2048x8x32 ![0, 0, 0, 0] x slices_S8x2048x8x64_S8x2048x8x32_0_0_0_0) (spreadA (Host.sin angA))) (mulf (extractStridedSlice
    S8x2048x8x32 ![0, 0, 0, 32] x slices_S8x2048x8x64_S8x2048x8x32_0_0_0_32) (spreadA (Host.cos angA))))⟩]
    concatenates_S8x2048x8x32_S8x2048x8x32_S8x2048x8x64_d3) shapeCasts_S8x2048x8x64_S8x2048x512

/-- The rotary embedding of eight heads of 32. -/
def rotP (x : FVec Ideal S8x2048x8x32 .f32) : FVec Ideal S8x2048x256 .f32 :=
  shapeCast _ (concatenate S8x2048x8x32 3 [⟨S8x2048x8x16, (subf (mulf (extractStridedSlice S8x2048x8x16 ![0, 0, 0, 0] x
    slices_S8x2048x8x32_S8x2048x8x16_0_0_0_0) (spreadP (Host.cos angP))) (mulf (extractStridedSlice S8x2048x8x16 ![0, 0, 0, 16] x
    slices_S8x2048x8x32_S8x2048x8x16_0_0_0_16) (spreadP (Host.sin angP))))⟩, ⟨S8x2048x8x16, (addf (mulf (extractStridedSlice
    S8x2048x8x16 ![0, 0, 0, 0] x slices_S8x2048x8x32_S8x2048x8x16_0_0_0_0) (spreadP (Host.sin angP))) (mulf (extractStridedSlice
    S8x2048x8x16 ![0, 0, 0, 16] x slices_S8x2048x8x32_S8x2048x8x16_0_0_0_16) (spreadP (Host.cos angP))))⟩]
    concatenates_S8x2048x8x16_S8x2048x8x16_S8x2048x8x32_d3) shapeCasts_S8x2048x8x32_S8x2048x256

/-- The rotary embedding of the one head of 32. -/
def rotK (x : FVec Ideal S8x2048x1x32 .f32) : FVec Ideal S8x2048x32 .f32 :=
  shapeCast _ (concatenate S8x2048x1x32 3 [⟨S8x2048x1x16, (subf (mulf (extractStridedSlice S8x2048x1x16 ![0, 0, 0, 0] x
    slices_S8x2048x1x32_S8x2048x1x16_0_0_0_0) (spreadK (Host.cos angP))) (mulf (extractStridedSlice S8x2048x1x16 ![0, 0, 0, 16] x
    slices_S8x2048x1x32_S8x2048x1x16_0_0_0_16) (spreadK (Host.sin angP))))⟩, ⟨S8x2048x1x16, (addf (mulf (extractStridedSlice
    S8x2048x1x16 ![0, 0, 0, 0] x slices_S8x2048x1x32_S8x2048x1x16_0_0_0_0) (spreadK (Host.sin angP))) (mulf (extractStridedSlice
    S8x2048x1x16 ![0, 0, 0, 16] x slices_S8x2048x1x32_S8x2048x1x16_0_0_0_16) (spreadK (Host.cos angP))))⟩]
    concatenates_S8x2048x1x16_S8x2048x1x16_S8x2048x1x32_d3) shapeCasts_S8x2048x1x32_S8x2048x32

/-- The query heads: the low-rank row normed and projected. -/
def queries (p : FVec Ideal S8x2048x5604 .f32) (g : FVec Ideal S384 .f32) (w : FVec Ideal S384x768 .f32) : FVec Ideal S8x2048x8x96 .f32 :=
  shapeCast _ (Host.dotGeneral dot_S8x2048x384_S384x768_S8x2048x768_2_0_01_1_n_n none (mulf (mulf (extractStridedSlice S8x2048x384
    ![0, 0, 2372] p slices_S8x2048x5604_S8x2048x384_0_0_2372) (broadcastInDim S8x2048x384 ![0, 1, 2] bcast_S8x2048x1_S8x2048x384_0_1_2
    (Host.rsqrt (addf (Host.divf (broadcastInDim S8x2048x1 ![0, 1] bcast_S8x2048_S8x2048x1_0_1 (Host.reduceAdd (mulf (extractStridedSlice
    S8x2048x384 ![0, 0, 2372] p slices_S8x2048x5604_S8x2048x384_0_0_2372) (extractStridedSlice S8x2048x384 ![0, 0, 2372] p
    slices_S8x2048x5604_S8x2048x384_0_0_2372)) (constant S_ .f32 0x00000000#32) reducesTo_S8x2048x384_S8x2048_d2 h_S_)) (broadcastInDim
    S8x2048x1 ![] bcast_S_S8x2048x1 (constant S_ .f32 0x43C00000#32))) (broadcastInDim S8x2048x1 ![] bcast_S_S8x2048x1 (constant S_ .f32
    0x358637BD#32)))))) (broadcastInDim S8x2048x384 ![0, 1, 2] bcast_S1x1x384_S8x2048x384_0_1_2 (broadcastInDim S1x1x384 ![2]
    bcast_S384_S1x1x384_2 g))) w) shapeCasts_S8x2048x768_S8x2048x8x96

/-- The latent rows, normed. -/
def latents (p : FVec Ideal S8x2048x5604 .f32) (g : FVec Ideal S256 .f32) : FVec Ideal S8x2048x256 .f32 :=
  mulf (mulf (extractStridedSlice S8x2048x256 ![0, 0, 2756] p slices_S8x2048x5604_S8x2048x256_0_0_2756) (broadcastInDim S8x2048x256
    ![0, 1, 2] bcast_S8x2048x1_S8x2048x256_0_1_2 (Host.rsqrt (addf (Host.divf (broadcastInDim S8x2048x1 ![0, 1]
    bcast_S8x2048_S8x2048x1_0_1 (Host.reduceAdd (mulf (extractStridedSlice S8x2048x256 ![0, 0, 2756] p
    slices_S8x2048x5604_S8x2048x256_0_0_2756) (extractStridedSlice S8x2048x256 ![0, 0, 2756] p slices_S8x2048x5604_S8x2048x256_0_0_2756))
    (constant S_ .f32 0x00000000#32) reducesTo_S8x2048x256_S8x2048_d2 h_S_)) (broadcastInDim S8x2048x1 ![] bcast_S_S8x2048x1 (constant S_
    .f32 0x43800000#32))) (broadcastInDim S8x2048x1 ![] bcast_S_S8x2048x1 (constant S_ .f32 0x358637BD#32)))))) (broadcastInDim
    S8x2048x256 ![0, 1, 2] bcast_S1x1x256_S8x2048x256_0_1_2 (broadcastInDim S1x1x256 ![2] bcast_S256_S1x1x256_2 g))

/-! ## The fourteen results, of the first projection -/

/-- The queries' heads of 64. -/
def headsQ (p : FVec Ideal S8x2048x5604 .f32) : FVec Ideal S8x2048x8x64 .f32 :=
  shapeCast _ (extractStridedSlice S8x2048x512 ![0, 0, 0] p slices_S8x2048x5604_S8x2048x512_0_0_0) shapeCasts_S8x2048x512_S8x2048x8x64

/-- The keys' heads of 64. -/
def headsK (p : FVec Ideal S8x2048x5604 .f32) : FVec Ideal S8x2048x8x64 .f32 :=
  shapeCast _ (extractStridedSlice S8x2048x512 ![0, 0, 512] p slices_S8x2048x5604_S8x2048x512_0_0_512) shapeCasts_S8x2048x512_S8x2048x8x64

def w8 (p : FVec Ideal S8x2048x5604 .f32) : FVec Ideal S8x2048x512 .bf16 := truncf .bf16 (rotA (headsQ p)) bitsLt_bf16_f32

def w9 (p : FVec Ideal S8x2048x5604 .f32) : FVec Ideal S8x2048x512 .f32 := rotA (headsK p)

def w10 (p : FVec Ideal S8x2048x5604 .f32) : FVec Ideal S8x2048x512 .bf16 := truncf .bf16 (w9 p) bitsLt_bf16_f32

def w11 (p : FVec Ideal S8x2048x5604 .f32) : FVec Ideal S8x2048x512 .f32 :=
  extractStridedSlice S8x2048x512 ![0, 0, 1024] p slices_S8x2048x5604_S8x2048x512_0_0_1024

def w12 (p : FVec Ideal S8x2048x5604 .f32) : FVec Ideal S8x8x512x256 .bf16 :=
  truncf .bf16 (transpose S8x8x512x256 [0, 1, 3, 2] (shapeCast _ (w11 p) shapeCasts_S8x2048x512_S8x8x256x512)
    transposes_S8x8x256x512_S8x8x512x256_0_1_3_2) bitsLt_bf16_f32

def w13 (p : FVec Ideal S8x2048x5604 .f32) : FVec Ideal S8x2048x512 .f32 :=
  extractStridedSlice S8x2048x512 ![0, 0, 1536] p slices_S8x2048x5604_S8x2048x512_0_0_1536

/-- The rotary keys. -/
def keyP (p : FVec Ideal S8x2048x5604 .f32) : FVec Ideal S8x2048x32 .f32 :=
  rotK (broadcastInDim S8x2048x1x32 ![0, 1, 3] bcast_S8x2048x32_S8x2048x1x32_0_1_3 (extractStridedSlice S8x2048x32 ![0, 0, 3012] p
    slices_S8x2048x5604_S8x2048x32_0_0_3012))

def w14 (p : FVec Ideal S8x2048x5604 .f32) : FVec Ideal S8x2048x128 .bf16 :=
  truncf .bf16 (concatenate S8x2048x128 2 [⟨S8x2048x32, keyP p⟩, ⟨S8x2048x32, keyP p⟩, ⟨S8x2048x32, keyP p⟩, ⟨S8x2048x32, keyP p⟩]
    concatenates_S8x2048x32_S8x2048x32_S8x2048x32_S8x2048x32_S8x2048x128_d2 : FVec Ideal S8x2048x128 .f32) bitsLt_bf16_f32

def w15 (p : FVec Ideal S8x2048x5604 .f32) (g : FVec Ideal S384 .f32) (w : FVec Ideal S384x768 .f32) : FVec Ideal S8x2048x512 .bf16 :=
  truncf .bf16 (shapeCast S8x2048x512 (extractStridedSlice S8x2048x8x64 ![0, 0, 0, 0] (queries p g w) slices_S8x2048x8x96_S8x2048x8x64_0_0_0_0)
    shapeCasts_S8x2048x8x64_S8x2048x512) bitsLt_bf16_f32

/-- The rotary part of the query heads. -/
def headsP (p : FVec Ideal S8x2048x5604 .f32) (g : FVec Ideal S384 .f32) (w : FVec Ideal S384x768 .f32) : FVec Ideal S8x2048x8x32 .f32 :=
  extractStridedSlice S8x2048x8x32 ![0, 0, 0, 64] (queries p g w) slices_S8x2048x8x96_S8x2048x8x32_0_0_0_64

def w16 (p : FVec Ideal S8x2048x5604 .f32) (g : FVec Ideal S384 .f32) (w : FVec Ideal S384x768 .f32) : FVec Ideal S8x2048x256 .bf16 :=
  truncf .bf16 (rotP (headsP p g w)) bitsLt_bf16_f32

def w18 (p : FVec Ideal S8x2048x5604 .f32) (g : FVec Ideal S256 .f32) : FVec Ideal S8x2048x256 .bf16 :=
  truncf .bf16 (latents p g) bitsLt_bf16_f32

def w19 (p : FVec Ideal S8x2048x5604 .f32) : FVec Ideal S8x2048x512 .f32 :=
  extractStridedSlice S8x2048x512 ![0, 0, 3044] p slices_S8x2048x5604_S8x2048x512_0_0_3044

def w20 (p : FVec Ideal S8x2048x5604 .f32) : FVec Ideal S8x2048x1024 .f32 :=
  extractStridedSlice S8x2048x1024 ![0, 0, 3556] p slices_S8x2048x5604_S8x2048x1024_0_0_3556

def w21 (p : FVec Ideal S8x2048x5604 .f32) : FVec Ideal S8x2048x1024 .f32 :=
  extractStridedSlice S8x2048x1024 ![0, 0, 4580] p slices_S8x2048x5604_S8x2048x1024_0_0_4580

/-! ## Their entries -/

theorem mods_at (a0 : FVec Ideal S8x2048x1024 .f32) (a1 : FVec Ideal S8x3072 .f32) (a2 : FVec Ideal S1024 .f32) (b : Fin 8) (t : Fin 2048)
    (k : Fin 1024) : mods a0 a1 a2 (ix3 b t k) = modul (fun i => a0 (ix3 b t i)) (fun i => a2 (ix1 i))
      (fun i => a1 (ix2 b ⟨1024 + i.val, by omega⟩)) (fun i => a1 (ix2 b ⟨i.val, by omega⟩)) k := by
  pointwise [mods, modul, scaled]

theorem first_at (h : FVec Ideal S8x2048x1024 .f32) (w : FVec Ideal S1024x5604 .f32) (b : Fin 8) (t : Fin 2048) (j : Fin 5604) :
    first h w (ix3 b t j) = ∑ k, h (ix3 b t k) * w (ix2 k j) := by
  pointwise [first]

theorem cosA_at (b : Fin 8) (t : Fin 2048) (h : Fin 8) (r : Fin 32) : spreadA (Host.cos angA) (ix4 b t h r) = Ideal.cos (angA (ix2 t r)) := by
  pointwise [spreadA]

theorem sinA_at (b : Fin 8) (t : Fin 2048) (h : Fin 8) (r : Fin 32) : spreadA (Host.sin angA) (ix4 b t h r) = Ideal.sin (angA (ix2 t r)) := by
  pointwise [spreadA]

theorem cosP_at (b : Fin 8) (t : Fin 2048) (h : Fin 8) (r : Fin 16) : spreadP (Host.cos angP) (ix4 b t h r) = Ideal.cos (angP (ix2 t r)) := by
  pointwise [spreadP]

theorem sinP_at (b : Fin 8) (t : Fin 2048) (h : Fin 8) (r : Fin 16) : spreadP (Host.sin angP) (ix4 b t h r) = Ideal.sin (angP (ix2 t r)) := by
  pointwise [spreadP]

theorem cosK_at (b : Fin 8) (t : Fin 2048) (r : Fin 16) : spreadK (Host.cos angP) (ix4 b t 0 r) = Ideal.cos (angP (ix2 t r)) := by
  pointwise [spreadK]

theorem sinK_at (b : Fin 8) (t : Fin 2048) (r : Fin 16) : spreadK (Host.sin angP) (ix4 b t 0 r) = Ideal.sin (angP (ix2 t r)) := by
  pointwise [spreadK]

theorem rotA_lo (x : FVec Ideal S8x2048x8x64 .f32) (b : Fin 8) (t : Fin 2048) (h : Fin 8) (r : Fin 32) :
    rotA x (ix3 b t ⟨64 * h.val + r.val, by omega⟩)
    = x (ix4 b t h ⟨r.val, by omega⟩) * Ideal.cos (angA (ix2 t r)) - x (ix4 b t h ⟨32 + r.val, by omega⟩) * Ideal.sin (angA (ix2 t r)) := by
  rw [← cosA_at b t h r, ← sinA_at b t h r]
  pointwise [rotA]
  have e : (64 * h.val + r.val) % 64 = r.val := by omega
  simp only [e]
  rw [dif_pos r.isLt]

theorem rotA_hi (x : FVec Ideal S8x2048x8x64 .f32) (b : Fin 8) (t : Fin 2048) (h : Fin 8) (r : Fin 32) :
    rotA x (ix3 b t ⟨64 * h.val + (32 + r.val), by omega⟩)
    = x (ix4 b t h ⟨r.val, by omega⟩) * Ideal.sin (angA (ix2 t r)) + x (ix4 b t h ⟨32 + r.val, by omega⟩) * Ideal.cos (angA (ix2 t r)) := by
  rw [← cosA_at b t h r, ← sinA_at b t h r]
  pointwise [rotA]
  have e : (64 * h.val + (32 + r.val)) % 64 = 32 + r.val := by omega
  have e' : 32 + r.val - 32 = r.val := by omega
  simp only [e, e']
  rw [dif_neg (by omega)]

theorem rotP_lo (x : FVec Ideal S8x2048x8x32 .f32) (b : Fin 8) (t : Fin 2048) (h : Fin 8) (r : Fin 16) :
    rotP x (ix3 b t ⟨32 * h.val + r.val, by omega⟩)
    = x (ix4 b t h ⟨r.val, by omega⟩) * Ideal.cos (angP (ix2 t r)) - x (ix4 b t h ⟨16 + r.val, by omega⟩) * Ideal.sin (angP (ix2 t r)) := by
  rw [← cosP_at b t h r, ← sinP_at b t h r]
  pointwise [rotP]
  have e : (32 * h.val + r.val) % 32 = r.val := by omega
  simp only [e]
  rw [dif_pos r.isLt]

theorem rotP_hi (x : FVec Ideal S8x2048x8x32 .f32) (b : Fin 8) (t : Fin 2048) (h : Fin 8) (r : Fin 16) :
    rotP x (ix3 b t ⟨32 * h.val + (16 + r.val), by omega⟩)
    = x (ix4 b t h ⟨r.val, by omega⟩) * Ideal.sin (angP (ix2 t r)) + x (ix4 b t h ⟨16 + r.val, by omega⟩) * Ideal.cos (angP (ix2 t r)) := by
  rw [← cosP_at b t h r, ← sinP_at b t h r]
  pointwise [rotP]
  have e : (32 * h.val + (16 + r.val)) % 32 = 16 + r.val := by omega
  have e' : 16 + r.val - 16 = r.val := by omega
  simp only [e, e']
  rw [dif_neg (by omega)]

theorem keyP_lo (p : FVec Ideal S8x2048x5604 .f32) (b : Fin 8) (t : Fin 2048) (r : Fin 16) :
    keyP p (ix3 b t ⟨r.val, by omega⟩)
    = p (ix3 b t ⟨3012 + r.val, by omega⟩) * Ideal.cos (angP (ix2 t r)) - p (ix3 b t ⟨3012 + (16 + r.val), by omega⟩) * Ideal.sin (angP (ix2 t r)) := by
  rw [← cosK_at b t r, ← sinK_at b t r]
  pointwise [keyP, rotK]

theorem keyP_hi (p : FVec Ideal S8x2048x5604 .f32) (b : Fin 8) (t : Fin 2048) (r : Fin 16) :
    keyP p (ix3 b t ⟨16 + r.val, by omega⟩)
    = p (ix3 b t ⟨3012 + r.val, by omega⟩) * Ideal.sin (angP (ix2 t r)) + p (ix3 b t ⟨3012 + (16 + r.val), by omega⟩) * Ideal.cos (angP (ix2 t r)) := by
  rw [← cosK_at b t r, ← sinK_at b t r]
  pointwise [keyP, rotK]

end Cert.FrontReferenceIdeal.Start

end
-- ==== Proof.Front.RefRun.lean ====
/-
  The reference's run, its fourteen results named: the pieces of the run's own terms are the definitions of `Front.Ref`.
-/
module

public import proofs.«01_k».proof.Proof.Front.Ref

@[expose] public section

set_option maxRecDepth 16384

noncomputable section

namespace Cert.FrontReferenceIdeal.Start

open Idealize.ShloMosaic Cert.FrontReferenceIdeal Cert.FrontReferenceIdeal.Gen Idealize.ShloMosaic.TcCoe
open Idealize.SL.Sem

variable (m : (ℓ : Loc nD τ sig) → Buf (Elt Ideal) ℓ)

/-- The first projection, of the reference's arguments. -/
def projOf (c : Dev nD) : FVec Ideal S8x2048x5604 .f32 :=
  first (mods (m ((c.tc : Thread nD τ).loc main_arg0)) (m ((c.tc : Thread nD τ).loc main_arg1)) (m ((c.tc : Thread nD τ).loc main_arg2)))
    (m ((c.tc : Thread nD τ).loc main_arg3))

abbrev argOf4 (c : Dev nD) : FVec Ideal S384 .f32 := m ((c.tc : Thread nD τ).loc main_arg4)

abbrev argOf5 (c : Dev nD) : FVec Ideal S384x768 .f32 := m ((c.tc : Thread nD τ).loc main_arg5)

abbrev argOf6 (c : Dev nD) : FVec Ideal S256 .f32 := m ((c.tc : Thread nD τ).loc main_arg6)

theorem run_named (g : Dev nD → PrngReg) :
    θ_run (defs (F := Ideal)) (onTc (τ := τ) (main (F := Ideal))) ⟨m, fun _ => 0, g⟩ fun r => ∀ c : Dev nD,
      r.2.mem ((c.tc : Thread nD τ).loc main_v230) = w8 (projOf m c)
      ∧ r.2.mem ((c.tc : Thread nD τ).loc main_v117) = w9 (projOf m c)
      ∧ r.2.mem ((c.tc : Thread nD τ).loc main_v231) = w10 (projOf m c)
      ∧ r.2.mem ((c.tc : Thread nD τ).loc main_v27) = w11 (projOf m c)
      ∧ r.2.mem ((c.tc : Thread nD τ).loc main_v232) = w12 (projOf m c)
      ∧ r.2.mem ((c.tc : Thread nD τ).loc main_v28) = w13 (projOf m c)
      ∧ r.2.mem ((c.tc : Thread nD τ).loc main_v234) = w14 (projOf m c)
      ∧ r.2.mem ((c.tc : Thread nD τ).loc main_v235) = w15 (projOf m c) (argOf4 m c) (argOf5 m c)
      ∧ r.2.mem ((c.tc : Thread nD τ).loc main_v236) = w16 (projOf m c) (argOf4 m c) (argOf5 m c)
      ∧ r.2.mem ((c.tc : Thread nD τ).loc main_v187) = latents (projOf m c) (argOf6 m c)
      ∧ r.2.mem ((c.tc : Thread nD τ).loc main_v237) = w18 (projOf m c) (argOf6 m c)
      ∧ r.2.mem ((c.tc : Thread nD τ).loc main_v35) = w19 (projOf m c)
      ∧ r.2.mem ((c.tc : Thread nD τ).loc main_v36) = w20 (projOf m c)
      ∧ r.2.mem ((c.tc : Thread nD τ).loc main_v37) = w21 (projOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun r h c => ⟨(h c).1.trans rfl,
    (h c).2.1.trans rfl,
    (h c).2.2.1.trans rfl,
    (h c).2.2.2.1.trans rfl,
    (h c).2.2.2.2.1.trans rfl,
    (h c).2.2.2.2.2.1.trans rfl,
    (h c).2.2.2.2.2.2.1.trans rfl,
    (h c).2.2.2.2.2.2.2.1.trans rfl,
    (h c).2.2.2.2.2.2.2.2.1.trans rfl,
    (h c).2.2.2.2.2.2.2.2.2.1.trans rfl,
    (h c).2.2.2.2.2.2.2.2.2.2.1.trans rfl,
    (h c).2.2.2.2.2.2.2.2.2.2.2.1.trans rfl,
    (h c).2.2.2.2.2.2.2.2.2.2.2.2.1.trans rfl,
    (h c).2.2.2.2.2.2.2.2.2.2.2.2.2.1.trans rfl,
    (h c).2.2.2.2.2.2.2.2.2.2.2.2.2.2⟩) (Value.run m g)

end Cert.FrontReferenceIdeal.Start

end
-- ==== Proof.Front.Host.lean ====
/-
  The operands that the host line hands the front's kernel, read off the arguments: reshapes, the packed weight with its
  rotated columns, the query weight with its heads regrouped, and the table of cosines and sines.
-/
module

public import proofs.«01_k».proof.Proof.Gen.FrontIdeal.Frame
public import proofs.«01_k».proof.Proof.Front.Ref
public import Idealize.ShloMosaic.Lib.Pipeline.ValueKit
public import Idealize.ShloMosaic.Lib.Routing.OpsSet
public import Idealize.ShloMosaic.Lib.Routing.OpsPair
public import Idealize.ShloMosaic.Lib.StableHlo.RunRead

@[expose] public section

set_option maxRecDepth 16384

noncomputable section

namespace Cert.FrontIdeal.Start

open Idealize.ShloMosaic Cert.FrontIdeal Cert.FrontIdeal.Gen Idealize.ShloMosaic.TcCoe Idealize.ShloMosaic.Routing
  Idealize.ShloMosaic.StableHlo
open Cert.FrontReferenceIdeal.Start (angA angP)

variable (m : (ℓ : Loc nD τ sig) → Buf (Elt Ideal) ℓ)

/-! ## How the packed operands are put together -/

/-- Each head of 64 columns with its halves exchanged, the second one negated. -/
def turnA (x : FVec Ideal S1024x512 .f32) : FVec Ideal S1024x512 .f32 :=
  shapeCast _ (concatenate S1024x8x64 2 [⟨S1024x8x32, Host.negf (shapeCast S1024x8x32 (extractStridedSlice S1024x8x1x32 ![0, 0, 1, 0]
    (shapeCast S1024x8x2x32 x shapeCasts_S1024x512_S1024x8x2x32) slices_S1024x8x2x32_S1024x8x1x32_0_0_1_0) shapeCasts_S1024x8x1x32_S1024x8x32)⟩,
    ⟨S1024x8x32, shapeCast S1024x8x32 (extractStridedSlice S1024x8x1x32 ![0, 0, 0, 0] (shapeCast S1024x8x2x32 x
    shapeCasts_S1024x512_S1024x8x2x32) slices_S1024x8x2x32_S1024x8x1x32_0_0_0_0) shapeCasts_S1024x8x1x32_S1024x8x32⟩]
    concatenates_S1024x8x32_S1024x8x32_S1024x8x64_d2) shapeCasts_S1024x8x64_S1024x512

/-- The same for the one head of 32 columns. -/
def turnK (x : FVec Ideal S1024x32 .f32) : FVec Ideal S1024x32 .f32 :=
  shapeCast _ (concatenate S1024x1x32 2 [⟨S1024x1x16, Host.negf (shapeCast S1024x1x16 (extractStridedSlice S1024x1x1x16 ![0, 0, 1, 0]
    (shapeCast S1024x1x2x16 x shapeCasts_S1024x32_S1024x1x2x16) slices_S1024x1x2x16_S1024x1x1x16_0_0_1_0) shapeCasts_S1024x1x1x16_S1024x1x16)⟩,
    ⟨S1024x1x16, shapeCast S1024x1x16 (extractStridedSlice S1024x1x1x16 ![0, 0, 0, 0] (shapeCast S1024x1x2x16 x
    shapeCasts_S1024x32_S1024x1x2x16) slices_S1024x1x2x16_S1024x1x1x16_0_0_0_0) shapeCasts_S1024x1x1x16_S1024x1x16⟩]
    concatenates_S1024x1x16_S1024x1x16_S1024x1x32_d2) shapeCasts_S1024x1x32_S1024x32

/-- The same for eight heads of 32 columns. -/
def turnQ (x : FVec Ideal S384x256 .f32) : FVec Ideal S384x256 .f32 :=
  shapeCast _ (concatenate S384x8x32 2 [⟨S384x8x16, Host.negf (shapeCast S384x8x16 (extractStridedSlice S384x8x1x16 ![0, 0, 1, 0]
    (shapeCast S384x8x2x16 x shapeCasts_S384x256_S384x8x2x16) slices_S384x8x2x16_S384x8x1x16_0_0_1_0) shapeCasts_S384x8x1x16_S384x8x16)⟩,
    ⟨S384x8x16, shapeCast S384x8x16 (extractStridedSlice S384x8x1x16 ![0, 0, 0, 0] (shapeCast S384x8x2x16 x
    shapeCasts_S384x256_S384x8x2x16) slices_S384x8x2x16_S384x8x1x16_0_0_0_0) shapeCasts_S384x8x1x16_S384x8x16⟩]
    concatenates_S384x8x16_S384x8x16_S384x8x32_d2) shapeCasts_S384x8x32_S384x256

/-- The first 3968 columns. -/
def catM (a0 a1 a2 a3 a4 a5 : FVec Ideal S1024x512 .f32) (k r : FVec Ideal S1024x32 .f32) (ql : FVec Ideal S1024x384 .f32)
    (ck : FVec Ideal S1024x256 .f32) : FVec Ideal S1024x3968 .f32 :=
  concatenate S1024x3968 1 [⟨S1024x512, a0⟩, ⟨S1024x512, a1⟩, ⟨S1024x512, a2⟩, ⟨S1024x512, a3⟩, ⟨S1024x512, a4⟩, ⟨S1024x512, a5⟩,
    ⟨S1024x32, k⟩, ⟨S1024x32, k⟩, ⟨S1024x32, k⟩, ⟨S1024x32, k⟩, ⟨S1024x32, r⟩, ⟨S1024x32, r⟩, ⟨S1024x32, r⟩, ⟨S1024x32, r⟩,
    ⟨S1024x384, ql⟩, ⟨S1024x256, ck⟩] concatenates_S1024x512_S1024x512_S1024x512_S1024x512_S1024x512_S1024x512_S1024x32_S1024x32_S1024x32_S1024x32_S1024x32_S1024x32_S1024x32_S1024x32_S1024x384_S1024x256_S1024x3968_d1

/-- The last 2560 columns. -/
def catG (z : FVec Ideal S1024x512 .f32) (ga gb : FVec Ideal S1024x1024 .f32) : FVec Ideal S1024x2560 .f32 :=
  concatenate S1024x2560 1 [⟨S1024x512, z⟩, ⟨S1024x1024, ga⟩, ⟨S1024x1024, gb⟩] concatenates_S1024x512_S1024x1024_S1024x1024_S1024x2560_d1

/-- All the columns. -/
def catW (u : FVec Ideal S1024x3968 .f32) (v : FVec Ideal S1024x2560 .f32) : FVec Ideal S1024x6528 .bf16 :=
  truncf .bf16 (concatenate S1024x6528 1 [⟨S1024x3968, u⟩, ⟨S1024x2560, v⟩] concatenates_S1024x3968_S1024x2560_S1024x6528_d1 : FVec Ideal S1024x6528 .f32)
    bitsLt_bf16_f32

/-- The query weight's columns: the plain part of the heads, the rotary part, and that part turned. -/
def catQ (n : FVec Ideal S384x512 .f32) (p r : FVec Ideal S384x256 .f32) : FVec Ideal S384x1024 .bf16 :=
  truncf .bf16 (concatenate S384x1024 1 [⟨S384x512, n⟩, ⟨S384x256, p⟩, ⟨S384x256, r⟩] concatenates_S384x512_S384x256_S384x256_S384x1024_d1 :
    FVec Ideal S384x1024 .f32) bitsLt_bf16_f32

/-- The plain part of the heads of the query weight. -/
def plainQ (w : FVec Ideal S384x768 .f32) : FVec Ideal S384x512 .f32 :=
  shapeCast _ (extractStridedSlice S384x8x64 ![0, 0, 0] (shapeCast S384x8x96 w shapeCasts_S384x768_S384x8x96) slices_S384x8x96_S384x8x64_0_0_0)
    shapeCasts_S384x8x64_S384x512

/-- The rotary part of the heads of the query weight. -/
def rotaryQ (w : FVec Ideal S384x768 .f32) : FVec Ideal S384x256 .f32 :=
  shapeCast _ (extractStridedSlice S384x8x32 ![0, 0, 64] (shapeCast S384x8x96 w shapeCasts_S384x768_S384x8x96) slices_S384x8x96_S384x8x32_0_0_64)
    shapeCasts_S384x8x32_S384x256

/-- An array of a value for each position and frequency, repeated over the two halves of eight heads of 64. -/
def tileA (x : FVec Ideal S2048x32 .f32) : FVec Ideal S2048x512 .f32 :=
  shapeCast _ (broadcastInDim S1x2048x8x64 ![0, 1, 2, 3] bcast_S1x2048x1x64_S1x2048x8x64_0_1_2_3 (shapeCast S1x2048x1x64 (concatenate
    S2048x64 1 [⟨S2048x32, x⟩, ⟨S2048x32, x⟩] concatenates_S2048x32_S2048x32_S2048x64_d1) shapeCasts_S2048x64_S1x2048x1x64))
    shapeCasts_S1x2048x8x64_S2048x512

/-- The same over eight heads of 32. -/
def tileP (x : FVec Ideal S2048x16 .f32) : FVec Ideal S2048x256 .f32 :=
  shapeCast _ (broadcastInDim S1x2048x8x32 ![0, 1, 2, 3] bcast_S1x2048x1x32_S1x2048x8x32_0_1_2_3 (shapeCast S1x2048x1x32 (concatenate
    S2048x32 1 [⟨S2048x16, x⟩, ⟨S2048x16, x⟩] concatenates_S2048x16_S2048x16_S2048x32_d1) shapeCasts_S2048x32_S1x2048x1x32))
    shapeCasts_S1x2048x8x32_S2048x256

/-- The table of cosines and sines. -/
def catT (a b : FVec Ideal S2048x512 .f32) (c d : FVec Ideal S2048x128 .f32) (e f : FVec Ideal S2048x256 .f32) : FVec Ideal S2048x1792 .f32 :=
  concatenate S2048x1792 1 [⟨S2048x512, a⟩, ⟨S2048x512, b⟩, ⟨S2048x128, c⟩, ⟨S2048x128, d⟩, ⟨S2048x256, e⟩, ⟨S2048x256, f⟩]
    concatenates_S2048x512_S2048x512_S2048x128_S2048x128_S2048x256_S2048x256_S2048x1792_d1

/-! ## The host line, read at the operations that join arrays -/

variable (σ : Valuation τ sig (Elt Ideal))

theorem l_63 : upto hostOps0 σ 111 (Proc.devRef .tc main_v63) = extractStridedSlice S1024x512 ![0, 0] (σ (Proc.devRef .tc main_arg3) : FVec Ideal S1024x5604 .f32) slices_S1024x5604_S1024x512_0_0 := by
  after_reads_simp
  try rfl

theorem l_64 : upto hostOps0 σ 111 (Proc.devRef .tc main_v64) = extractStridedSlice S1024x512 ![0, 512] (σ (Proc.devRef .tc main_arg3) : FVec Ideal S1024x5604 .f32) slices_S1024x5604_S1024x512_0_512 := by
  after_reads_simp
  try rfl

theorem l_65 : upto hostOps0 σ 111 (Proc.devRef .tc main_v65) = extractStridedSlice S1024x512 ![0, 1024] (σ (Proc.devRef .tc main_arg3) : FVec Ideal S1024x5604 .f32) slices_S1024x5604_S1024x512_0_1024 := by
  after_reads_simp
  try rfl

theorem l_66 : upto hostOps0 σ 111 (Proc.devRef .tc main_v66) = extractStridedSlice S1024x512 ![0, 1536] (σ (Proc.devRef .tc main_arg3) : FVec Ideal S1024x5604 .f32) slices_S1024x5604_S1024x512_0_1536 := by
  after_reads_simp
  try rfl

theorem l_70 : upto hostOps0 σ 111 (Proc.devRef .tc main_v70) = extractStridedSlice S1024x384 ![0, 2372] (σ (Proc.devRef .tc main_arg3) : FVec Ideal S1024x5604 .f32) slices_S1024x5604_S1024x384_0_2372 := by
  after_reads_simp
  try rfl

theorem l_71 : upto hostOps0 σ 111 (Proc.devRef .tc main_v71) = extractStridedSlice S1024x256 ![0, 2756] (σ (Proc.devRef .tc main_arg3) : FVec Ideal S1024x5604 .f32) slices_S1024x5604_S1024x256_0_2756 := by
  after_reads_simp
  try rfl

theorem l_72 : upto hostOps0 σ 111 (Proc.devRef .tc main_v72) = extractStridedSlice S1024x32 ![0, 3012] (σ (Proc.devRef .tc main_arg3) : FVec Ideal S1024x5604 .f32) slices_S1024x5604_S1024x32_0_3012 := by
  after_reads_simp
  try rfl

theorem l_73 : upto hostOps0 σ 112 (Proc.devRef .tc main_v73) = extractStridedSlice S1024x512 ![0, 3044] (σ (Proc.devRef .tc main_arg3) : FVec Ideal S1024x5604 .f32) slices_S1024x5604_S1024x512_0_3044 := by
  after_reads_simp
  try rfl

theorem l_74 : upto hostOps0 σ 112 (Proc.devRef .tc main_v74) = extractStridedSlice S1024x1024 ![0, 3556] (σ (Proc.devRef .tc main_arg3) : FVec Ideal S1024x5604 .f32) slices_S1024x5604_S1024x1024_0_3556 := by
  after_reads_simp
  try rfl

theorem l_75 : upto hostOps0 σ 112 (Proc.devRef .tc main_v75) = extractStridedSlice S1024x1024 ![0, 4580] (σ (Proc.devRef .tc main_arg3) : FVec Ideal S1024x5604 .f32) slices_S1024x5604_S1024x1024_0_4580 := by
  after_reads_simp
  try rfl

theorem h1_91 : upto hostOps0 σ 101 (Proc.devRef .tc main_v87) = (Host.negf (F := Ideal) (s := S1024x8x32) (φ := .f32) (shapeCast S1024x8x32 (extractStridedSlice S1024x8x1x32 ![0, 0, 1, 0] (shapeCast S1024x8x2x32 (extractStridedSlice S1024x512 ![0, 0] (σ (Proc.devRef .tc main_arg3) : FVec Ideal S1024x5604 .f32) slices_S1024x5604_S1024x512_0_0) shapeCasts_S1024x512_S1024x8x2x32) slices_S1024x8x2x32_S1024x8x1x32_0_0_1_0) shapeCasts_S1024x8x1x32_S1024x8x32) : FVec Ideal S1024x8x32 .f32) := by
  after_reads_simp
  try rfl

theorem h0_91 : upto hostOps0 σ 101 (Proc.devRef .tc main_v89) = shapeCast S1024x8x32 (extractStridedSlice S1024x8x1x32 ![0, 0, 0, 0] (shapeCast S1024x8x2x32 (extractStridedSlice S1024x512 ![0, 0] (σ (Proc.devRef .tc main_arg3) : FVec Ideal S1024x5604 .f32) slices_S1024x5604_S1024x512_0_0) shapeCasts_S1024x512_S1024x8x2x32) slices_S1024x8x2x32_S1024x8x1x32_0_0_0_0) shapeCasts_S1024x8x1x32_S1024x8x32 := by
  after_reads_simp
  try rfl

theorem b_91 : upto hostOps0 σ 102 (Proc.devRef .tc main_v90) = concatenate S1024x8x64 2 [⟨S1024x8x32, upto hostOps0 σ 101 (Proc.devRef .tc main_v87)⟩, ⟨S1024x8x32, upto hostOps0 σ 101 (Proc.devRef .tc main_v89)⟩] concatenates_S1024x8x32_S1024x8x32_S1024x8x64_d2 :=
  (upto_last_write (ops := hostOps0) (n := 102) (i := 101) [] (r := main_v90) rfl rfl (by decide) σ).trans (by apply binary_result')

theorem t_91 : upto hostOps0 σ 111 (Proc.devRef .tc main_v91) = turnA (extractStridedSlice S1024x512 ![0, 0] (σ (Proc.devRef .tc main_arg3) : FVec Ideal S1024x5604 .f32) slices_S1024x5604_S1024x512_0_0) := by
  refine (upto_last_write (ops := hostOps0) (n := 111) (i := 102) [main_v92, main_v93, main_v94, main_v95, main_v96, main_v97, main_v98, main_v99] (r := main_v91) rfl rfl (by decide) σ).trans ((reshape_result' _ _ _ _ _).trans ?_)
  rw [b_91, h1_91, h0_91]
  rfl

theorem h1_99 : upto hostOps0 σ 109 (Proc.devRef .tc main_v95) = (Host.negf (F := Ideal) (s := S1024x8x32) (φ := .f32) (shapeCast S1024x8x32 (extractStridedSlice S1024x8x1x32 ![0, 0, 1, 0] (shapeCast S1024x8x2x32 (extractStridedSlice S1024x512 ![0, 512] (σ (Proc.devRef .tc main_arg3) : FVec Ideal S1024x5604 .f32) slices_S1024x5604_S1024x512_0_512) shapeCasts_S1024x512_S1024x8x2x32) slices_S1024x8x2x32_S1024x8x1x32_0_0_1_0) shapeCasts_S1024x8x1x32_S1024x8x32) : FVec Ideal S1024x8x32 .f32) := by
  after_reads_simp
  try rfl

theorem h0_99 : upto hostOps0 σ 109 (Proc.devRef .tc main_v97) = shapeCast S1024x8x32 (extractStridedSlice S1024x8x1x32 ![0, 0, 0, 0] (shapeCast S1024x8x2x32 (extractStridedSlice S1024x512 ![0, 512] (σ (Proc.devRef .tc main_arg3) : FVec Ideal S1024x5604 .f32) slices_S1024x5604_S1024x512_0_512) shapeCasts_S1024x512_S1024x8x2x32) slices_S1024x8x2x32_S1024x8x1x32_0_0_0_0) shapeCasts_S1024x8x1x32_S1024x8x32 := by
  after_reads_simp
  try rfl

theorem b_99 : upto hostOps0 σ 110 (Proc.devRef .tc main_v98) = concatenate S1024x8x64 2 [⟨S1024x8x32, upto hostOps0 σ 109 (Proc.devRef .tc main_v95)⟩, ⟨S1024x8x32, upto hostOps0 σ 109 (Proc.devRef .tc main_v97)⟩] concatenates_S1024x8x32_S1024x8x32_S1024x8x64_d2 :=
  (upto_last_write (ops := hostOps0) (n := 110) (i := 109) [] (r := main_v98) rfl rfl (by decide) σ).trans (by apply binary_result')

theorem t_99 : upto hostOps0 σ 111 (Proc.devRef .tc main_v99) = turnA (extractStridedSlice S1024x512 ![0, 512] (σ (Proc.devRef .tc main_arg3) : FVec Ideal S1024x5604 .f32) slices_S1024x5604_S1024x512_0_512) := by
  refine (upto_last_write (ops := hostOps0) (n := 111) (i := 110) [] (r := main_v99) rfl rfl (by decide) σ).trans ((reshape_result' _ _ _ _ _).trans ?_)
  rw [b_99, h1_99, h0_99]
  rfl

theorem h1_83 : upto hostOps0 σ 93 (Proc.devRef .tc main_v79) = (Host.negf (F := Ideal) (s := S1024x1x16) (φ := .f32) (shapeCast S1024x1x16 (extractStridedSlice S1024x1x1x16 ![0, 0, 1, 0] (shapeCast S1024x1x2x16 (extractStridedSlice S1024x32 ![0, 3012] (σ (Proc.devRef .tc main_arg3) : FVec Ideal S1024x5604 .f32) slices_S1024x5604_S1024x32_0_3012) shapeCasts_S1024x32_S1024x1x2x16) slices_S1024x1x2x16_S1024x1x1x16_0_0_1_0) shapeCasts_S1024x1x1x16_S1024x1x16) : FVec Ideal S1024x1x16 .f32) := by
  after_reads_simp
  try rfl

theorem h0_83 : upto hostOps0 σ 93 (Proc.devRef .tc main_v81) = shapeCast S1024x1x16 (extractStridedSlice S1024x1x1x16 ![0, 0, 0, 0] (shapeCast S1024x1x2x16 (extractStridedSlice S1024x32 ![0, 3012] (σ (Proc.devRef .tc main_arg3) : FVec Ideal S1024x5604 .f32) slices_S1024x5604_S1024x32_0_3012) shapeCasts_S1024x32_S1024x1x2x16) slices_S1024x1x2x16_S1024x1x1x16_0_0_0_0) shapeCasts_S1024x1x1x16_S1024x1x16 := by
  after_reads_simp
  try rfl

theorem b_83 : upto hostOps0 σ 94 (Proc.devRef .tc main_v82) = concatenate S1024x1x32 2 [⟨S1024x1x16, upto hostOps0 σ 93 (Proc.devRef .tc main_v79)⟩, ⟨S1024x1x16, upto hostOps0 σ 93 (Proc.devRef .tc main_v81)⟩] concatenates_S1024x1x16_S1024x1x16_S1024x1x32_d2 :=
  (upto_last_write (ops := hostOps0) (n := 94) (i := 93) [] (r := main_v82) rfl rfl (by decide) σ).trans (by apply binary_result')

theorem t_83 : upto hostOps0 σ 111 (Proc.devRef .tc main_v83) = turnK (extractStridedSlice S1024x32 ![0, 3012] (σ (Proc.devRef .tc main_arg3) : FVec Ideal S1024x5604 .f32) slices_S1024x5604_S1024x32_0_3012) := by
  refine (upto_last_write (ops := hostOps0) (n := 111) (i := 94) [main_v84, main_v85, main_v86, main_v87, main_v88, main_v89, main_v90, main_v91, main_v92, main_v93, main_v94, main_v95, main_v96, main_v97, main_v98, main_v99] (r := main_v83) rfl rfl (by decide) σ).trans ((reshape_result' _ _ _ _ _).trans ?_)
  rw [b_83, h1_83, h0_83]
  rfl

theorem n_100 : upto hostOps0 σ 113 (Proc.devRef .tc main_v100) = catM (upto hostOps0 σ 111 (Proc.devRef .tc main_v63)) (upto hostOps0 σ 111 (Proc.devRef .tc main_v64)) (upto hostOps0 σ 111 (Proc.devRef .tc main_v91)) (upto hostOps0 σ 111 (Proc.devRef .tc main_v99)) (upto hostOps0 σ 111 (Proc.devRef .tc main_v65)) (upto hostOps0 σ 111 (Proc.devRef .tc main_v66)) (upto hostOps0 σ 111 (Proc.devRef .tc main_v72)) (upto hostOps0 σ 111 (Proc.devRef .tc main_v83)) (upto hostOps0 σ 111 (Proc.devRef .tc main_v70)) (upto hostOps0 σ 111 (Proc.devRef .tc main_v71)) :=
  (upto_last_write (ops := hostOps0) (n := 113) (i := 111) [main_v101] (r := main_v100) rfl rfl (by decide) σ).trans (by apply nary_result')

theorem n_101 : upto hostOps0 σ 113 (Proc.devRef .tc main_v101) = catG (upto hostOps0 σ 112 (Proc.devRef .tc main_v73)) (upto hostOps0 σ 112 (Proc.devRef .tc main_v74)) (upto hostOps0 σ 112 (Proc.devRef .tc main_v75)) :=
  (upto_last_write (ops := hostOps0) (n := 113) (i := 112) [] (r := main_v101) rfl rfl (by decide) σ).trans (by apply nary_result')

theorem b_102 : upto hostOps0 σ 114 (Proc.devRef .tc main_v102) = (concatenate S1024x6528 1 [⟨S1024x3968, upto hostOps0 σ 113 (Proc.devRef .tc main_v100)⟩, ⟨S1024x2560, upto hostOps0 σ 113 (Proc.devRef .tc main_v101)⟩] concatenates_S1024x3968_S1024x2560_S1024x6528_d1 : FVec Ideal S1024x6528 .f32) :=
  (upto_last_write (ops := hostOps0) (n := 114) (i := 113) [] (r := main_v102) rfl rfl (by decide) σ).trans (by apply binary_result')

theorem l_106 : upto hostOps0 σ 128 (Proc.devRef .tc main_v106) = plainQ (σ (Proc.devRef .tc main_arg5) : FVec Ideal S384x768 .f32) := by
  after_reads_simp []
  rfl

theorem l_108 : upto hostOps0 σ 128 (Proc.devRef .tc main_v108) = rotaryQ (σ (Proc.devRef .tc main_arg5) : FVec Ideal S384x768 .f32) := by
  after_reads_simp []
  rfl

theorem h1_116 : upto hostOps0 σ 126 (Proc.devRef .tc main_v112) = (Host.negf (F := Ideal) (s := S384x8x16) (φ := .f32) (shapeCast S384x8x16 (extractStridedSlice S384x8x1x16 ![0, 0, 1, 0] (shapeCast S384x8x2x16 (shapeCast S384x256 (extractStridedSlice S384x8x32 ![0, 0, 64] (shapeCast S384x8x96 (σ (Proc.devRef .tc main_arg5) : FVec Ideal S384x768 .f32) shapeCasts_S384x768_S384x8x96) slices_S384x8x96_S384x8x32_0_0_64) shapeCasts_S384x8x32_S384x256) shapeCasts_S384x256_S384x8x2x16) slices_S384x8x2x16_S384x8x1x16_0_0_1_0) shapeCasts_S384x8x1x16_S384x8x16) : FVec Ideal S384x8x16 .f32) := by
  after_reads_simp
  try rfl

theorem h0_116 : upto hostOps0 σ 126 (Proc.devRef .tc main_v114) = shapeCast S384x8x16 (extractStridedSlice S384x8x1x16 ![0, 0, 0, 0] (shapeCast S384x8x2x16 (shapeCast S384x256 (extractStridedSlice S384x8x32 ![0, 0, 64] (shapeCast S384x8x96 (σ (Proc.devRef .tc main_arg5) : FVec Ideal S384x768 .f32) shapeCasts_S384x768_S384x8x96) slices_S384x8x96_S384x8x32_0_0_64) shapeCasts_S384x8x32_S384x256) shapeCasts_S384x256_S384x8x2x16) slices_S384x8x2x16_S384x8x1x16_0_0_0_0) shapeCasts_S384x8x1x16_S384x8x16 := by
  after_reads_simp
  try rfl

theorem b_116 : upto hostOps0 σ 127 (Proc.devRef .tc main_v115) = concatenate S384x8x32 2 [⟨S384x8x16, upto hostOps0 σ 126 (Proc.devRef .tc main_v112)⟩, ⟨S384x8x16, upto hostOps0 σ 126 (Proc.devRef .tc main_v114)⟩] concatenates_S384x8x16_S384x8x16_S384x8x32_d2 :=
  (upto_last_write (ops := hostOps0) (n := 127) (i := 126) [] (r := main_v115) rfl rfl (by decide) σ).trans (by apply binary_result')

theorem t_116 : upto hostOps0 σ 128 (Proc.devRef .tc main_v116) = turnQ (shapeCast S384x256 (extractStridedSlice S384x8x32 ![0, 0, 64] (shapeCast S384x8x96 (σ (Proc.devRef .tc main_arg5) : FVec Ideal S384x768 .f32) shapeCasts_S384x768_S384x8x96) slices_S384x8x96_S384x8x32_0_0_64) shapeCasts_S384x8x32_S384x256) := by
  refine (upto_last_write (ops := hostOps0) (n := 128) (i := 127) [] (r := main_v116) rfl rfl (by decide) σ).trans ((reshape_result' _ _ _ _ _).trans ?_)
  rw [b_116, h1_116, h0_116]
  rfl

theorem n_117 : upto hostOps0 σ 129 (Proc.devRef .tc main_v117) = (concatenate S384x1024 1 [⟨S384x512, upto hostOps0 σ 128 (Proc.devRef .tc main_v106)⟩, ⟨S384x256, upto hostOps0 σ 128 (Proc.devRef .tc main_v108)⟩, ⟨S384x256, upto hostOps0 σ 128 (Proc.devRef .tc main_v116)⟩] concatenates_S384x512_S384x256_S384x256_S384x1024_d1 : FVec Ideal S384x1024 .f32) :=
  (upto_last_write (ops := hostOps0) (n := 129) (i := 128) [] (r := main_v117) rfl rfl (by decide) σ).trans (by apply nary_result')

theorem a_49 : upto hostOps0 σ 24 (Proc.devRef .tc main_v18) = Host.cos angA := by
  after_reads_simp
  rfl

theorem b_49 : upto hostOps0 σ 58 (Proc.devRef .tc main_v20) = concatenate S2048x64 1 [⟨S2048x32, upto hostOps0 σ 24 (Proc.devRef .tc main_v18)⟩, ⟨S2048x32, upto hostOps0 σ 24 (Proc.devRef .tc main_v18)⟩] concatenates_S2048x32_S2048x32_S2048x64_d1 :=
  (upto_last_write (ops := hostOps0) (n := 58) (i := 24) [main_v21, main_v22, main_cst_3, main_v23, main_v24, main_cst_4, main_v25, main_v26, main_v27, main_cst_5, main_v28, main_v29, main_cst_6, main_v30, main_v31, main_v32, main_v33, main_v34, main_v35, main_v36, main_v37, main_v38, main_v39, main_v40, main_v41, main_cst_7, main_v42, main_cst_8, main_v43, main_v44, main_cst_9, main_v45, main_v46] (r := main_v20) rfl rfl (by decide) σ).trans (by apply binary_result')

theorem t_49 : upto hostOps0 σ 70 (Proc.devRef .tc main_v49) = tileA (Host.cos angA) := by
  have h : upto hostOps0 σ 70 (Proc.devRef .tc main_v49) = shapeCast S2048x512 (broadcastInDim S1x2048x8x64 ![0, 1, 2, 3] bcast_S1x2048x1x64_S1x2048x8x64_0_1_2_3 (shapeCast S1x2048x1x64 (upto hostOps0 σ 58 (Proc.devRef .tc main_v20) : FVec Ideal S2048x64 .f32) shapeCasts_S2048x64_S1x2048x1x64)) shapeCasts_S1x2048x8x64_S2048x512 :=
    by
    after_reads_simp
    rfl
  rw [h, b_49, a_49]
  rfl

theorem a_52 : upto hostOps0 σ 25 (Proc.devRef .tc main_v19) = Host.sin angA := by
  after_reads_simp
  rfl

theorem b_52 : upto hostOps0 σ 61 (Proc.devRef .tc main_v21) = concatenate S2048x64 1 [⟨S2048x32, upto hostOps0 σ 25 (Proc.devRef .tc main_v19)⟩, ⟨S2048x32, upto hostOps0 σ 25 (Proc.devRef .tc main_v19)⟩] concatenates_S2048x32_S2048x32_S2048x64_d1 :=
  (upto_last_write (ops := hostOps0) (n := 61) (i := 25) [main_v22, main_cst_3, main_v23, main_v24, main_cst_4, main_v25, main_v26, main_v27, main_cst_5, main_v28, main_v29, main_cst_6, main_v30, main_v31, main_v32, main_v33, main_v34, main_v35, main_v36, main_v37, main_v38, main_v39, main_v40, main_v41, main_cst_7, main_v42, main_cst_8, main_v43, main_v44, main_cst_9, main_v45, main_v46, main_v47, main_v48, main_v49] (r := main_v21) rfl rfl (by decide) σ).trans (by apply binary_result')

theorem t_52 : upto hostOps0 σ 70 (Proc.devRef .tc main_v52) = tileA (Host.sin angA) := by
  have h : upto hostOps0 σ 70 (Proc.devRef .tc main_v52) = shapeCast S2048x512 (broadcastInDim S1x2048x8x64 ![0, 1, 2, 3] bcast_S1x2048x1x64_S1x2048x8x64_0_1_2_3 (shapeCast S1x2048x1x64 (upto hostOps0 σ 61 (Proc.devRef .tc main_v21) : FVec Ideal S2048x64 .f32) shapeCasts_S2048x64_S1x2048x1x64)) shapeCasts_S1x2048x8x64_S2048x512 :=
    by
    after_reads_simp
    rfl
  rw [h, b_52, a_52]
  rfl

theorem a_55 : upto hostOps0 σ 48 (Proc.devRef .tc main_v38) = Host.cos angP := by
  after_reads_simp
  rfl

theorem b_55 : upto hostOps0 σ 64 (Proc.devRef .tc main_v40) = concatenate S2048x32 1 [⟨S2048x16, upto hostOps0 σ 48 (Proc.devRef .tc main_v38)⟩, ⟨S2048x16, upto hostOps0 σ 48 (Proc.devRef .tc main_v38)⟩] concatenates_S2048x16_S2048x16_S2048x32_d1 :=
  (upto_last_write (ops := hostOps0) (n := 64) (i := 48) [main_v41, main_cst_7, main_v42, main_cst_8, main_v43, main_v44, main_cst_9, main_v45, main_v46, main_v47, main_v48, main_v49, main_v50, main_v51, main_v52] (r := main_v40) rfl rfl (by decide) σ).trans (by apply binary_result')

theorem t_55 : upto hostOps0 σ 70 (Proc.devRef .tc main_v55) = tileP (Host.cos angP) := by
  have h : upto hostOps0 σ 70 (Proc.devRef .tc main_v55) = shapeCast S2048x256 (broadcastInDim S1x2048x8x32 ![0, 1, 2, 3] bcast_S1x2048x1x32_S1x2048x8x32_0_1_2_3 (shapeCast S1x2048x1x32 (upto hostOps0 σ 64 (Proc.devRef .tc main_v40) : FVec Ideal S2048x32 .f32) shapeCasts_S2048x32_S1x2048x1x32)) shapeCasts_S1x2048x8x32_S2048x256 :=
    by
    after_reads_simp
    rfl
  rw [h, b_55, a_55]
  rfl

theorem a_58 : upto hostOps0 σ 49 (Proc.devRef .tc main_v39) = Host.sin angP := by
  after_reads_simp
  rfl

theorem b_58 : upto hostOps0 σ 67 (Proc.devRef .tc main_v41) = concatenate S2048x32 1 [⟨S2048x16, upto hostOps0 σ 49 (Proc.devRef .tc main_v39)⟩, ⟨S2048x16, upto hostOps0 σ 49 (Proc.devRef .tc main_v39)⟩] concatenates_S2048x16_S2048x16_S2048x32_d1 :=
  (upto_last_write (ops := hostOps0) (n := 67) (i := 49) [main_cst_7, main_v42, main_cst_8, main_v43, main_v44, main_cst_9, main_v45, main_v46, main_v47, main_v48, main_v49, main_v50, main_v51, main_v52, main_v53, main_v54, main_v55] (r := main_v41) rfl rfl (by decide) σ).trans (by apply binary_result')

theorem t_58 : upto hostOps0 σ 70 (Proc.devRef .tc main_v58) = tileP (Host.sin angP) := by
  have h : upto hostOps0 σ 70 (Proc.devRef .tc main_v58) = shapeCast S2048x256 (broadcastInDim S1x2048x8x32 ![0, 1, 2, 3] bcast_S1x2048x1x32_S1x2048x8x32_0_1_2_3 (shapeCast S1x2048x1x32 (upto hostOps0 σ 67 (Proc.devRef .tc main_v41) : FVec Ideal S2048x32 .f32) shapeCasts_S2048x32_S1x2048x1x32)) shapeCasts_S1x2048x8x32_S2048x256 :=
    by
    after_reads_simp
    rfl
  rw [h, b_58, a_58]
  rfl

theorem n_59 : after hostOps0 σ (Proc.devRef .tc main_v59) = catT (upto hostOps0 σ 70 (Proc.devRef .tc main_v49)) (upto hostOps0 σ 70 (Proc.devRef .tc main_v52)) (upto hostOps0 σ 70 (Proc.devRef .tc main_v44)) (upto hostOps0 σ 70 (Proc.devRef .tc main_v46)) (upto hostOps0 σ 70 (Proc.devRef .tc main_v55)) (upto hostOps0 σ 70 (Proc.devRef .tc main_v58)) :=
  (after_last_write (ops := hostOps0) (i := 70) [main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118] (r := main_v59) rfl rfl (by decide) σ).trans (by apply nary_result')

theorem win_eq (c : Dev nD) : V m c main_v103 = catW (catM
    (extractStridedSlice S1024x512 ![0, 0] (m ((c.tc : Thread nD τ).loc main_arg3)) slices_S1024x5604_S1024x512_0_0)
    (extractStridedSlice S1024x512 ![0, 512] (m ((c.tc : Thread nD τ).loc main_arg3)) slices_S1024x5604_S1024x512_0_512)
    (turnA (extractStridedSlice S1024x512 ![0, 0] (m ((c.tc : Thread nD τ).loc main_arg3)) slices_S1024x5604_S1024x512_0_0))
    (turnA (extractStridedSlice S1024x512 ![0, 512] (m ((c.tc : Thread nD τ).loc main_arg3)) slices_S1024x5604_S1024x512_0_512))
    (extractStridedSlice S1024x512 ![0, 1024] (m ((c.tc : Thread nD τ).loc main_arg3)) slices_S1024x5604_S1024x512_0_1024)
    (extractStridedSlice S1024x512 ![0, 1536] (m ((c.tc : Thread nD τ).loc main_arg3)) slices_S1024x5604_S1024x512_0_1536)
    (extractStridedSlice S1024x32 ![0, 3012] (m ((c.tc : Thread nD τ).loc main_arg3)) slices_S1024x5604_S1024x32_0_3012)
    (turnK (extractStridedSlice S1024x32 ![0, 3012] (m ((c.tc : Thread nD τ).loc main_arg3)) slices_S1024x5604_S1024x32_0_3012))
    (extractStridedSlice S1024x384 ![0, 2372] (m ((c.tc : Thread nD τ).loc main_arg3)) slices_S1024x5604_S1024x384_0_2372)
    (extractStridedSlice S1024x256 ![0, 2756] (m ((c.tc : Thread nD τ).loc main_arg3)) slices_S1024x5604_S1024x256_0_2756))
    (catG (extractStridedSlice S1024x512 ![0, 3044] (m ((c.tc : Thread nD τ).loc main_arg3)) slices_S1024x5604_S1024x512_0_3044)
    (extractStridedSlice S1024x1024 ![0, 3556] (m ((c.tc : Thread nD τ).loc main_arg3)) slices_S1024x5604_S1024x1024_0_3556)
    (extractStridedSlice S1024x1024 ![0, 4580] (m ((c.tc : Thread nD τ).loc main_arg3)) slices_S1024x5604_S1024x1024_0_4580)) := by
  refine (after_last_write (ops := hostOps0) (i := 114) [main_v104, main_v105, main_v106, main_v107, main_v108, main_v109, main_v110, main_v111, main_v112, main_v113, main_v114, main_v115, main_v116, main_v117, main_v118] (r := main_v103) rfl rfl (by decide) _).trans ((unary_result' _ _ _ _).trans ?_)
  rw [b_102, n_100, n_101, l_63, l_64, t_91, t_99, l_65, l_66, l_72, t_83, l_70, l_71, l_73, l_74, l_75]
  rfl

theorem wuq_eq (c : Dev nD) : V m c main_v118 = catQ (plainQ (m ((c.tc : Thread nD τ).loc main_arg5))) (rotaryQ (m ((c.tc : Thread nD τ).loc main_arg5)))
    (turnQ (rotaryQ (m ((c.tc : Thread nD τ).loc main_arg5)))) := by
  refine (after_last_write (ops := hostOps0) (i := 129) [] (r := main_v118) rfl rfl (by decide) _).trans ((unary_result' _ _ _ _).trans ?_)
  rw [n_117, l_106, l_108, t_116]
  rfl

theorem tab_eq (c : Dev nD) : ∃ u v, V m c main_v59 = catT (tileA (Host.cos angA)) (tileA (Host.sin angA)) u v (tileP (Host.cos angP))
    (tileP (Host.sin angP)) := by
  have h := n_59 fun b => m (c, b)
  rw [t_49, t_52, t_55, t_58] at h
  exact ⟨_, _, h⟩

end Cert.FrontIdeal.Start

end
-- ==== Proof.Front.Joins.lean ====
/-
  The joined operands of the front's kernel at an index: where each column of the packed weight, of the query weight and
  of the table of cosines and sines comes from.
-/
module

public import proofs.«01_k».proof.Proof.Front.Host

@[expose] public section

set_option maxRecDepth 16384

noncomputable section

namespace Cert.FrontIdeal.Start

open Idealize.ShloMosaic Cert.FrontIdeal Cert.FrontIdeal.Gen Idealize.ShloMosaic.TcCoe Idealize.ShloMosaic.Routing
open Cert.FrontReferenceIdeal.Start (angA angP)

/-! ## The joins -/

/-- Arrays laid side by side, read past the first one. -/
theorem skip {α : Type} {t s : Shape} (a : Fin t.rank) (j : t.Idx) (x : s.Idx → α) (q : (s : Shape) × (s.Idx → α))
    (xs : List ((s : Shape) × (s.Idx → α)))
    (hs : ∀ s' ∈ (⟨s, x⟩ :: q :: xs : List ((s : Shape) × (s.Idx → α))).map (·.1), s'.FitsOff t a) (c : Nat)
    (hc : c < (axisSizes t a (⟨s, x⟩ :: q :: xs)).sum) (c' : Nat) (e : c = s.size (a.cast (hs s List.mem_cons_self).rank_eq.symm) + c') :
    concatenateAt t a j (⟨s, x⟩ :: q :: xs) hs c hc
      = concatenateAt t a j (q :: xs) (fun s' h => hs s' (List.mem_cons_of_mem _ h)) c'
        (by rw [e, axisSizes_cons t a ⟨s, x⟩ (q :: xs) (hs s List.mem_cons_self), List.sum_cons] at hc
            exact Nat.lt_of_add_lt_add_left hc) := by
  subst e
  rw [concatenateAt, dif_neg (Nat.not_lt.2 (Nat.le_add_right ..))]
  congr 1
  exact Nat.add_sub_cancel_left ..

/-- Arrays laid side by side, read in the first one. -/
theorem here {α : Type} {t s : Shape} (a : Fin t.rank) (j : t.Idx) (x : s.Idx → α) (xs : List ((s : Shape) × (s.Idx → α)))
    (hs : ∀ s' ∈ (⟨s, x⟩ :: xs : List ((s : Shape) × (s.Idx → α))).map (·.1), s'.FitsOff t a) (c : Nat)
    (hc : c < (axisSizes t a (⟨s, x⟩ :: xs)).sum) (hlt : c < s.size (a.cast (hs s List.mem_cons_self).rank_eq.symm)) (i : s.Idx)
    (hi : ∀ b : Fin s.rank, (if b.val = a.val then c else (j (b.cast (hs s List.mem_cons_self).rank_eq)).val) = (i b).val) :
    concatenateAt t a j (⟨s, x⟩ :: xs) hs c hc = x i := by
  cases xs with
  | nil =>
    rw [concatenateAt, Shape.Idx.norm_def]
    exact congrArg x (funext fun b => Fin.ext (hi b))
  | cons q xs =>
    rw [concatenateAt, dif_pos hlt, Shape.Idx.norm_def]
    exact congrArg x (funext fun b => Fin.ext (hi b))

theorem catW_lo (u : FVec Ideal S1024x3968 .f32) (v : FVec Ideal S1024x2560 .f32) (k : Fin 1024) (j : Fin 3968) :
    catW u v (ix2 k ⟨j.val, by omega⟩) = u (ix2 k j) := by
  refine (concatenate_apply S1024x6528 1 [⟨S1024x3968, u⟩, ⟨S1024x2560, v⟩] concatenates_S1024x3968_S1024x2560_S1024x6528_d1 _).trans ?_
  exact here _ _ _ _ _ _ _ (by show j.val < 3968; omega) _ (by
    intro b
    match b with
    | ⟨0, _⟩ => rfl
    | ⟨1, _⟩ => first | rfl | exact Nat.zero_add _)

theorem catW_hi (u : FVec Ideal S1024x3968 .f32) (v : FVec Ideal S1024x2560 .f32) (k : Fin 1024) (j : Fin 2560) :
    catW u v (ix2 k ⟨3968 + j.val, by omega⟩) = v (ix2 k j) := by
  refine (concatenate_apply S1024x6528 1 [⟨S1024x3968, u⟩, ⟨S1024x2560, v⟩] concatenates_S1024x3968_S1024x2560_S1024x6528_d1 _).trans ?_
  refine (skip _ _ _ _ _ _ _ _ (0 + j.val) (by show 3968 + j.val = 3968 + (0 + j.val); omega)).trans ?_
  exact here _ _ _ _ _ _ _ (by show 0 + j.val < 2560; omega) _ (by
    intro b
    match b with
    | ⟨0, _⟩ => rfl
    | ⟨1, _⟩ => first | rfl | exact Nat.zero_add _)

theorem catG_0 (z : FVec Ideal S1024x512 .f32) (ga gb : FVec Ideal S1024x1024 .f32) (k : Fin 1024) (j : Fin 512) :
    catG z ga gb (ix2 k ⟨j.val, by omega⟩) = z (ix2 k j) := by
  show concatenate _ _ _ _ _ = _
  rw [concatenate_apply]
  exact here _ _ _ _ _ _ _ (by show j.val < 512; omega) _ (by
    intro b
    match b with
    | ⟨0, _⟩ => rfl
    | ⟨1, _⟩ => first | rfl | exact Nat.zero_add _)

theorem catG_1 (z : FVec Ideal S1024x512 .f32) (ga gb : FVec Ideal S1024x1024 .f32) (k : Fin 1024) (j : Fin 1024) :
    catG z ga gb (ix2 k ⟨512 + j.val, by omega⟩) = ga (ix2 k j) := by
  show concatenate _ _ _ _ _ = _
  rw [concatenate_apply]
  refine (skip _ _ _ _ _ _ _ _ (0 + j.val) (by show 512 + j.val = 512 + (0 + j.val); omega)).trans ?_
  exact here _ _ _ _ _ _ _ (by show 0 + j.val < 1024; omega) _ (by
    intro b
    match b with
    | ⟨0, _⟩ => rfl
    | ⟨1, _⟩ => first | rfl | exact Nat.zero_add _)

theorem catG_2 (z : FVec Ideal S1024x512 .f32) (ga gb : FVec Ideal S1024x1024 .f32) (k : Fin 1024) (j : Fin 1024) :
    catG z ga gb (ix2 k ⟨1536 + j.val, by omega⟩) = gb (ix2 k j) := by
  show concatenate _ _ _ _ _ = _
  rw [concatenate_apply]
  refine (skip _ _ _ _ _ _ _ _ (1024 + j.val) (by show 1536 + j.val = 512 + (1024 + j.val); omega)).trans ?_
  refine (skip _ _ _ _ _ _ _ _ (0 + j.val) (by show 1024 + j.val = 1024 + (0 + j.val); omega)).trans ?_
  exact here _ _ _ _ _ _ _ (by show 0 + j.val < 1024; omega) _ (by
    intro b
    match b with
    | ⟨0, _⟩ => rfl
    | ⟨1, _⟩ => first | rfl | exact Nat.zero_add _)

theorem catM_0 (a0 a1 a2 a3 a4 a5 : FVec Ideal S1024x512 .f32) (kr r : FVec Ideal S1024x32 .f32) (ql : FVec Ideal S1024x384 .f32) (ck : FVec Ideal S1024x256 .f32)
    (k : Fin 1024) (j : Fin 512) :
    catM a0 a1 a2 a3 a4 a5 kr r ql ck (ix2 k ⟨j.val, by omega⟩) = a0 (ix2 k j) := by
  show concatenate _ _ _ _ _ = _
  rw [concatenate_apply]
  exact here _ _ _ _ _ _ _ (by show j.val < 512; omega) _ (by
    intro b
    match b with
    | ⟨0, _⟩ => rfl
    | ⟨1, _⟩ => first | rfl | exact Nat.zero_add _)

theorem catM_1 (a0 a1 a2 a3 a4 a5 : FVec Ideal S1024x512 .f32) (kr r : FVec Ideal S1024x32 .f32) (ql : FVec Ideal S1024x384 .f32) (ck : FVec Ideal S1024x256 .f32)
    (k : Fin 1024) (j : Fin 512) :
    catM a0 a1 a2 a3 a4 a5 kr r ql ck (ix2 k ⟨512 + j.val, by omega⟩) = a1 (ix2 k j) := by
  show concatenate _ _ _ _ _ = _
  rw [concatenate_apply]
  refine (skip _ _ _ _ _ _ _ _ (0 + j.val) (by show 512 + j.val = 512 + (0 + j.val); omega)).trans ?_
  exact here _ _ _ _ _ _ _ (by show 0 + j.val < 512; omega) _ (by
    intro b
    match b with
    | ⟨0, _⟩ => rfl
    | ⟨1, _⟩ => first | rfl | exact Nat.zero_add _)

theorem catM_2 (a0 a1 a2 a3 a4 a5 : FVec Ideal S1024x512 .f32) (kr r : FVec Ideal S1024x32 .f32) (ql : FVec Ideal S1024x384 .f32) (ck : FVec Ideal S1024x256 .f32)
    (k : Fin 1024) (j : Fin 512) :
    catM a0 a1 a2 a3 a4 a5 kr r ql ck (ix2 k ⟨1024 + j.val, by omega⟩) = a2 (ix2 k j) := by
  show concatenate _ _ _ _ _ = _
  rw [concatenate_apply]
  refine (skip _ _ _ _ _ _ _ _ (512 + j.val) (by show 1024 + j.val = 512 + (512 + j.val); omega)).trans ?_
  refine (skip _ _ _ _ _ _ _ _ (0 + j.val) (by show 512 + j.val = 512 + (0 + j.val); omega)).trans ?_
  exact here _ _ _ _ _ _ _ (by show 0 + j.val < 512; omega) _ (by
    intro b
    match b with
    | ⟨0, _⟩ => rfl
    | ⟨1, _⟩ => first | rfl | exact Nat.zero_add _)

theorem catM_3 (a0 a1 a2 a3 a4 a5 : FVec Ideal S1024x512 .f32) (kr r : FVec Ideal S1024x32 .f32) (ql : FVec Ideal S1024x384 .f32) (ck : FVec Ideal S1024x256 .f32)
    (k : Fin 1024) (j : Fin 512) :
    catM a0 a1 a2 a3 a4 a5 kr r ql ck (ix2 k ⟨1536 + j.val, by omega⟩) = a3 (ix2 k j) := by
  show concatenate _ _ _ _ _ = _
  rw [concatenate_apply]
  refine (skip _ _ _ _ _ _ _ _ (1024 + j.val) (by show 1536 + j.val = 512 + (1024 + j.val); omega)).trans ?_
  refine (skip _ _ _ _ _ _ _ _ (512 + j.val) (by show 1024 + j.val = 512 + (512 + j.val); omega)).trans ?_
  refine (skip _ _ _ _ _ _ _ _ (0 + j.val) (by show 512 + j.val = 512 + (0 + j.val); omega)).trans ?_
  exact here _ _ _ _ _ _ _ (by show 0 + j.val < 512; omega) _ (by
    intro b
    match b with
    | ⟨0, _⟩ => rfl
    | ⟨1, _⟩ => first | rfl | exact Nat.zero_add _)

theorem catM_4 (a0 a1 a2 a3 a4 a5 : FVec Ideal S1024x512 .f32) (kr r : FVec Ideal S1024x32 .f32) (ql : FVec Ideal S1024x384 .f32) (ck : FVec Ideal S1024x256 .f32)
    (k : Fin 1024) (j : Fin 512) :
    catM a0 a1 a2 a3 a4 a5 kr r ql ck (ix2 k ⟨2048 + j.val, by omega⟩) = a4 (ix2 k j) := by
  show concatenate _ _ _ _ _ = _
  rw [concatenate_apply]
  refine (skip _ _ _ _ _ _ _ _ (1536 + j.val) (by show 2048 + j.val = 512 + (1536 + j.val); omega)).trans ?_
  refine (skip _ _ _ _ _ _ _ _ (1024 + j.val) (by show 1536 + j.val = 512 + (1024 + j.val); omega)).trans ?_
  refine (skip _ _ _ _ _ _ _ _ (512 + j.val) (by show 1024 + j.val = 512 + (512 + j.val); omega)).trans ?_
  refine (skip _ _ _ _ _ _ _ _ (0 + j.val) (by show 512 + j.val = 512 + (0 + j.val); omega)).trans ?_
  exact here _ _ _ _ _ _ _ (by show 0 + j.val < 512; omega) _ (by
    intro b
    match b with
    | ⟨0, _⟩ => rfl
    | ⟨1, _⟩ => first | rfl | exact Nat.zero_add _)

theorem catM_5 (a0 a1 a2 a3 a4 a5 : FVec Ideal S1024x512 .f32) (kr r : FVec Ideal S1024x32 .f32) (ql : FVec Ideal S1024x384 .f32) (ck : FVec Ideal S1024x256 .f32)
    (k : Fin 1024) (j : Fin 512) :
    catM a0 a1 a2 a3 a4 a5 kr r ql ck (ix2 k ⟨2560 + j.val, by omega⟩) = a5 (ix2 k j) := by
  show concatenate _ _ _ _ _ = _
  rw [concatenate_apply]
  refine (skip _ _ _ _ _ _ _ _ (2048 + j.val) (by show 2560 + j.val = 512 + (2048 + j.val); omega)).trans ?_
  refine (skip _ _ _ _ _ _ _ _ (1536 + j.val) (by show 2048 + j.val = 512 + (1536 + j.val); omega)).trans ?_
  refine (skip _ _ _ _ _ _ _ _ (1024 + j.val) (by show 1536 + j.val = 512 + (1024 + j.val); omega)).trans ?_
  refine (skip _ _ _ _ _ _ _ _ (512 + j.val) (by show 1024 + j.val = 512 + (512 + j.val); omega)).trans ?_
  refine (skip _ _ _ _ _ _ _ _ (0 + j.val) (by show 512 + j.val = 512 + (0 + j.val); omega)).trans ?_
  exact here _ _ _ _ _ _ _ (by show 0 + j.val < 512; omega) _ (by
    intro b
    match b with
    | ⟨0, _⟩ => rfl
    | ⟨1, _⟩ => first | rfl | exact Nat.zero_add _)

theorem catM_k0 (a0 a1 a2 a3 a4 a5 : FVec Ideal S1024x512 .f32) (kr r : FVec Ideal S1024x32 .f32) (ql : FVec Ideal S1024x384 .f32) (ck : FVec Ideal S1024x256 .f32)
    (k : Fin 1024) (j : Fin 32) :
    catM a0 a1 a2 a3 a4 a5 kr r ql ck (ix2 k ⟨3072 + j.val, by omega⟩) = kr (ix2 k j) := by
  show concatenate _ _ _ _ _ = _
  rw [concatenate_apply]
  refine (skip _ _ _ _ _ _ _ _ (2560 + j.val) (by show 3072 + j.val = 512 + (2560 + j.val); omega)).trans ?_
  refine (skip _ _ _ _ _ _ _ _ (2048 + j.val) (by show 2560 + j.val = 512 + (2048 + j.val); omega)).trans ?_
  refine (skip _ _ _ _ _ _ _ _ (1536 + j.val) (by show 2048 + j.val = 512 + (1536 + j.val); omega)).trans ?_
  refine (skip _ _ _ _ _ _ _ _ (1024 + j.val) (by show 1536 + j.val = 512 + (1024 + j.val); omega)).trans ?_
  refine (skip _ _ _ _ _ _ _ _ (512 + j.val) (by show 1024 + j.val = 512 + (512 + j.val); omega)).trans ?_
  refine (skip _ _ _ _ _ _ _ _ (0 + j.val) (by show 512 + j.val = 512 + (0 + j.val); omega)).trans ?_
  exact here _ _ _ _ _ _ _ (by show 0 + j.val < 32; omega) _ (by
    intro b
    match b with
    | ⟨0, _⟩ => rfl
    | ⟨1, _⟩ => first | rfl | exact Nat.zero_add _)

theorem catM_r0 (a0 a1 a2 a3 a4 a5 : FVec Ideal S1024x512 .f32) (kr r : FVec Ideal S1024x32 .f32) (ql : FVec Ideal S1024x384 .f32) (ck : FVec Ideal S1024x256 .f32)
    (k : Fin 1024) (j : Fin 32) :
    catM a0 a1 a2 a3 a4 a5 kr r ql ck (ix2 k ⟨3200 + j.val, by omega⟩) = r (ix2 k j) := by
  show concatenate _ _ _ _ _ = _
  rw [concatenate_apply]
  refine (skip _ _ _ _ _ _ _ _ (2688 + j.val) (by show 3200 + j.val = 512 + (2688 + j.val); omega)).trans ?_
  refine (skip _ _ _ _ _ _ _ _ (2176 + j.val) (by show 2688 + j.val = 512 + (2176 + j.val); omega)).trans ?_
  refine (skip _ _ _ _ _ _ _ _ (1664 + j.val) (by show 2176 + j.val = 512 + (1664 + j.val); omega)).trans ?_
  refine (skip _ _ _ _ _ _ _ _ (1152 + j.val) (by show 1664 + j.val = 512 + (1152 + j.val); omega)).trans ?_
  refine (skip _ _ _ _ _ _ _ _ (640 + j.val) (by show 1152 + j.val = 512 + (640 + j.val); omega)).trans ?_
  refine (skip _ _ _ _ _ _ _ _ (128 + j.val) (by show 640 + j.val = 512 + (128 + j.val); omega)).trans ?_
  refine (skip _ _ _ _ _ _ _ _ (96 + j.val) (by show 128 + j.val = 32 + (96 + j.val); omega)).trans ?_
  refine (skip _ _ _ _ _ _ _ _ (64 + j.val) (by show 96 + j.val = 32 + (64 + j.val); omega)).trans ?_
  refine (skip _ _ _ _ _ _ _ _ (32 + j.val) (by show 64 + j.val = 32 + (32 + j.val); omega)).trans ?_
  refine (skip _ _ _ _ _ _ _ _ (0 + j.val) (by show 32 + j.val = 32 + (0 + j.val); omega)).trans ?_
  exact here _ _ _ _ _ _ _ (by show 0 + j.val < 32; omega) _ (by
    intro b
    match b with
    | ⟨0, _⟩ => rfl
    | ⟨1, _⟩ => first | rfl | exact Nat.zero_add _)

theorem catM_k1 (a0 a1 a2 a3 a4 a5 : FVec Ideal S1024x512 .f32) (kr r : FVec Ideal S1024x32 .f32) (ql : FVec Ideal S1024x384 .f32) (ck : FVec Ideal S1024x256 .f32)
    (k : Fin 1024) (j : Fin 32) :
    catM a0 a1 a2 a3 a4 a5 kr r ql ck (ix2 k ⟨3104 + j.val, by omega⟩) = kr (ix2 k j) := by
  show concatenate _ _ _ _ _ = _
  rw [concatenate_apply]
  refine (skip _ _ _ _ _ _ _ _ (2592 + j.val) (by show 3104 + j.val = 512 + (2592 + j.val); omega)).trans ?_
  refine (skip _ _ _ _ _ _ _ _ (2080 + j.val) (by show 2592 + j.val = 512 + (2080 + j.val); omega)).trans ?_
  refine (skip _ _ _ _ _ _ _ _ (1568 + j.val) (by show 2080 + j.val = 512 + (1568 + j.val); omega)).trans ?_
  refine (skip _ _ _ _ _ _ _ _ (1056 + j.val) (by show 1568 + j.val = 512 + (1056 + j.val); omega)).trans ?_
  refine (skip _ _ _ _ _ _ _ _ (544 + j.val) (by show 1056 + j.val = 512 + (544 + j.val); omega)).trans ?_
  refine (skip _ _ _ _ _ _ _ _ (32 + j.val) (by show 544 + j.val = 512 + (32 + j.val); omega)).trans ?_
  refine (skip _ _ _ _ _ _ _ _ (0 + j.val) (by show 32 + j.val = 32 + (0 + j.val); omega)).trans ?_
  exact here _ _ _ _ _ _ _ (by show 0 + j.val < 32; omega) _ (by
    intro b
    match b with
    | ⟨0, _⟩ => rfl
    | ⟨1, _⟩ => first | rfl | exact Nat.zero_add _)

theorem catM_r1 (a0 a1 a2 a3 a4 a5 : FVec Ideal S1024x512 .f32) (kr r : FVec Ideal S1024x32 .f32) (ql : FVec Ideal S1024x384 .f32) (ck : FVec Ideal S1024x256 .f32)
    (k : Fin 1024) (j : Fin 32) :
    catM a0 a1 a2 a3 a4 a5 kr r ql ck (ix2 k ⟨3232 + j.val, by omega⟩) = r (ix2 k j) := by
  show concatenate _ _ _ _ _ = _
  rw [concatenate_apply]
  refine (skip _ _ _ _ _ _ _ _ (2720 + j.val) (by show 3232 + j.val = 512 + (2720 + j.val); omega)).trans ?_
  refine (skip _ _ _ _ _ _ _ _ (2208 + j.val) (by show 2720 + j.val = 512 + (2208 + j.val); omega)).trans ?_
  refine (skip _ _ _ _ _ _ _ _ (1696 + j.val) (by show 2208 + j.val = 512 + (1696 + j.val); omega)).trans ?_
  refine (skip _ _ _ _ _ _ _ _ (1184 + j.val) (by show 1696 + j.val = 512 + (1184 + j.val); omega)).trans ?_
  refine (skip _ _ _ _ _ _ _ _ (672 + j.val) (by show 1184 + j.val = 512 + (672 + j.val); omega)).trans ?_
  refine (skip _ _ _ _ _ _ _ _ (160 + j.val) (by show 672 + j.val = 512 + (160 + j.val); omega)).trans ?_
  refine (skip _ _ _ _ _ _ _ _ (128 + j.val) (by show 160 + j.val = 32 + (128 + j.val); omega)).trans ?_
  refine (skip _ _ _ _ _ _ _ _ (96 + j.val) (by show 128 + j.val = 32 + (96 + j.val); omega)).trans ?_
  refine (skip _ _ _ _ _ _ _ _ (64 + j.val) (by show 96 + j.val = 32 + (64 + j.val); omega)).trans ?_
  refine (skip _ _ _ _ _ _ _ _ (32 + j.val) (by show 64 + j.val = 32 + (32 + j.val); omega)).trans ?_
  refine (skip _ _ _ _ _ _ _ _ (0 + j.val) (by show 32 + j.val = 32 + (0 + j.val); omega)).trans ?_
  exact here _ _ _ _ _ _ _ (by show 0 + j.val < 32; omega) _ (by
    intro b
    match b with
    | ⟨0, _⟩ => rfl
    | ⟨1, _⟩ => first | rfl | exact Nat.zero_add _)

theorem catM_k2 (a0 a1 a2 a3 a4 a5 : FVec Ideal S1024x512 .f32) (kr r : FVec Ideal S1024x32 .f32) (ql : FVec Ideal S1024x384 .f32) (ck : FVec Ideal S1024x256 .f32)
    (k : Fin 1024) (j : Fin 32) :
    catM a0 a1 a2 a3 a4 a5 kr r ql ck (ix2 k ⟨3136 + j.val, by omega⟩) = kr (ix2 k j) := by
  show concatenate _ _ _ _ _ = _
  rw [concatenate_apply]
  refine (skip _ _ _ _ _ _ _ _ (2624 + j.val) (by show 3136 + j.val = 512 + (2624 + j.val); omega)).trans ?_
  refine (skip _ _ _ _ _ _ _ _ (2112 + j.val) (by show 2624 + j.val = 512 + (2112 + j.val); omega)).trans ?_
  refine (skip _ _ _ _ _ _ _ _ (1600 + j.val) (by show 2112 + j.val = 512 + (1600 + j.val); omega)).trans ?_
  refine (skip _ _ _ _ _ _ _ _ (1088 + j.val) (by show 1600 + j.val = 512 + (1088 + j.val); omega)).trans ?_
  refine (skip _ _ _ _ _ _ _ _ (576 + j.val) (by show 1088 + j.val = 512 + (576 + j.val); omega)).trans ?_
  refine (skip _ _ _ _ _ _ _ _ (64 + j.val) (by show 576 + j.val = 512 + (64 + j.val); omega)).trans ?_
  refine (skip _ _ _ _ _ _ _ _ (32 + j.val) (by show 64 + j.val = 32 + (32 + j.val); omega)).trans ?_
  refine (skip _ _ _ _ _ _ _ _ (0 + j.val) (by show 32 + j.val = 32 + (0 + j.val); omega)).trans ?_
  exact here _ _ _ _ _ _ _ (by show 0 + j.val < 32; omega) _ (by
    intro b
    match b with
    | ⟨0, _⟩ => rfl
    | ⟨1, _⟩ => first | rfl | exact Nat.zero_add _)

theorem catM_r2 (a0 a1 a2 a3 a4 a5 : FVec Ideal S1024x512 .f32) (kr r : FVec Ideal S1024x32 .f32) (ql : FVec Ideal S1024x384 .f32) (ck : FVec Ideal S1024x256 .f32)
    (k : Fin 1024) (j : Fin 32) :
    catM a0 a1 a2 a3 a4 a5 kr r ql ck (ix2 k ⟨3264 + j.val, by omega⟩) = r (ix2 k j) := by
  show concatenate _ _ _ _ _ = _
  rw [concatenate_apply]
  refine (skip _ _ _ _ _ _ _ _ (2752 + j.val) (by show 3264 + j.val = 512 + (2752 + j.val); omega)).trans ?_
  refine (skip _ _ _ _ _ _ _ _ (2240 + j.val) (by show 2752 + j.val = 512 + (2240 + j.val); omega)).trans ?_
  refine (skip _ _ _ _ _ _ _ _ (1728 + j.val) (by show 2240 + j.val = 512 + (1728 + j.val); omega)).trans ?_
  refine (skip _ _ _ _ _ _ _ _ (1216 + j.val) (by show 1728 + j.val = 512 + (1216 + j.val); omega)).trans ?_
  refine (skip _ _ _ _ _ _ _ _ (704 + j.val) (by show 1216 + j.val = 512 + (704 + j.val); omega)).trans ?_
  refine (skip _ _ _ _ _ _ _ _ (192 + j.val) (by show 704 + j.val = 512 + (192 + j.val); omega)).trans ?_
  refine (skip _ _ _ _ _ _ _ _ (160 + j.val) (by show 192 + j.val = 32 + (160 + j.val); omega)).trans ?_
  refine (skip _ _ _ _ _ _ _ _ (128 + j.val) (by show 160 + j.val = 32 + (128 + j.val); omega)).trans ?_
  refine (skip _ _ _ _ _ _ _ _ (96 + j.val) (by show 128 + j.val = 32 + (96 + j.val); omega)).trans ?_
  refine (skip _ _ _ _ _ _ _ _ (64 + j.val) (by show 96 + j.val = 32 + (64 + j.val); omega)).trans ?_
  refine (skip _ _ _ _ _ _ _ _ (32 + j.val) (by show 64 + j.val = 32 + (32 + j.val); omega)).trans ?_
  refine (skip _ _ _ _ _ _ _ _ (0 + j.val) (by show 32 + j.val = 32 + (0 + j.val); omega)).trans ?_
  exact here _ _ _ _ _ _ _ (by show 0 + j.val < 32; omega) _ (by
    intro b
    match b with
    | ⟨0, _⟩ => rfl
    | ⟨1, _⟩ => first | rfl | exact Nat.zero_add _)

theorem catM_k3 (a0 a1 a2 a3 a4 a5 : FVec Ideal S1024x512 .f32) (kr r : FVec Ideal S1024x32 .f32) (ql : FVec Ideal S1024x384 .f32) (ck : FVec Ideal S1024x256 .f32)
    (k : Fin 1024) (j : Fin 32) :
    catM a0 a1 a2 a3 a4 a5 kr r ql ck (ix2 k ⟨3168 + j.val, by omega⟩) = kr (ix2 k j) := by
  show concatenate _ _ _ _ _ = _
  rw [concatenate_apply]
  refine (skip _ _ _ _ _ _ _ _ (2656 + j.val) (by show 3168 + j.val = 512 + (2656 + j.val); omega)).trans ?_
  refine (skip _ _ _ _ _ _ _ _ (2144 + j.val) (by show 2656 + j.val = 512 + (2144 + j.val); omega)).trans ?_
  refine (skip _ _ _ _ _ _ _ _ (1632 + j.val) (by show 2144 + j.val = 512 + (1632 + j.val); omega)).trans ?_
  refine (skip _ _ _ _ _ _ _ _ (1120 + j.val) (by show 1632 + j.val = 512 + (1120 + j.val); omega)).trans ?_
  refine (skip _ _ _ _ _ _ _ _ (608 + j.val) (by show 1120 + j.val = 512 + (608 + j.val); omega)).trans ?_
  refine (skip _ _ _ _ _ _ _ _ (96 + j.val) (by show 608 + j.val = 512 + (96 + j.val); omega)).trans ?_
  refine (skip _ _ _ _ _ _ _ _ (64 + j.val) (by show 96 + j.val = 32 + (64 + j.val); omega)).trans ?_
  refine (skip _ _ _ _ _ _ _ _ (32 + j.val) (by show 64 + j.val = 32 + (32 + j.val); omega)).trans ?_
  refine (skip _ _ _ _ _ _ _ _ (0 + j.val) (by show 32 + j.val = 32 + (0 + j.val); omega)).trans ?_
  exact here _ _ _ _ _ _ _ (by show 0 + j.val < 32; omega) _ (by
    intro b
    match b with
    | ⟨0, _⟩ => rfl
    | ⟨1, _⟩ => first | rfl | exact Nat.zero_add _)

theorem catM_r3 (a0 a1 a2 a3 a4 a5 : FVec Ideal S1024x512 .f32) (kr r : FVec Ideal S1024x32 .f32) (ql : FVec Ideal S1024x384 .f32) (ck : FVec Ideal S1024x256 .f32)
    (k : Fin 1024) (j : Fin 32) :
    catM a0 a1 a2 a3 a4 a5 kr r ql ck (ix2 k ⟨3296 + j.val, by omega⟩) = r (ix2 k j) := by
  show concatenate _ _ _ _ _ = _
  rw [concatenate_apply]
  refine (skip _ _ _ _ _ _ _ _ (2784 + j.val) (by show 3296 + j.val = 512 + (2784 + j.val); omega)).trans ?_
  refine (skip _ _ _ _ _ _ _ _ (2272 + j.val) (by show 2784 + j.val = 512 + (2272 + j.val); omega)).trans ?_
  refine (skip _ _ _ _ _ _ _ _ (1760 + j.val) (by show 2272 + j.val = 512 + (1760 + j.val); omega)).trans ?_
  refine (skip _ _ _ _ _ _ _ _ (1248 + j.val) (by show 1760 + j.val = 512 + (1248 + j.val); omega)).trans ?_
  refine (skip _ _ _ _ _ _ _ _ (736 + j.val) (by show 1248 + j.val = 512 + (736 + j.val); omega)).trans ?_
  refine (skip _ _ _ _ _ _ _ _ (224 + j.val) (by show 736 + j.val = 512 + (224 + j.val); omega)).trans ?_
  refine (skip _ _ _ _ _ _ _ _ (192 + j.val) (by show 224 + j.val = 32 + (192 + j.val); omega)).trans ?_
  refine (skip _ _ _ _ _ _ _ _ (160 + j.val) (by show 192 + j.val = 32 + (160 + j.val); omega)).trans ?_
  refine (skip _ _ _ _ _ _ _ _ (128 + j.val) (by show 160 + j.val = 32 + (128 + j.val); omega)).trans ?_
  refine (skip _ _ _ _ _ _ _ _ (96 + j.val) (by show 128 + j.val = 32 + (96 + j.val); omega)).trans ?_
  refine (skip _ _ _ _ _ _ _ _ (64 + j.val) (by show 96 + j.val = 32 + (64 + j.val); omega)).trans ?_
  refine (skip _ _ _ _ _ _ _ _ (32 + j.val) (by show 64 + j.val = 32 + (32 + j.val); omega)).trans ?_
  refine (skip _ _ _ _ _ _ _ _ (0 + j.val) (by show 32 + j.val = 32 + (0 + j.val); omega)).trans ?_
  exact here _ _ _ _ _ _ _ (by show 0 + j.val < 32; omega) _ (by
    intro b
    match b with
    | ⟨0, _⟩ => rfl
    | ⟨1, _⟩ => first | rfl | exact Nat.zero_add _)

theorem catM_ql (a0 a1 a2 a3 a4 a5 : FVec Ideal S1024x512 .f32) (kr r : FVec Ideal S1024x32 .f32) (ql : FVec Ideal S1024x384 .f32) (ck : FVec Ideal S1024x256 .f32)
    (k : Fin 1024) (j : Fin 384) :
    catM a0 a1 a2 a3 a4 a5 kr r ql ck (ix2 k ⟨3328 + j.val, by omega⟩) = ql (ix2 k j) := by
  show concatenate _ _ _ _ _ = _
  rw [concatenate_apply]
  refine (skip _ _ _ _ _ _ _ _ (2816 + j.val) (by show 3328 + j.val = 512 + (2816 + j.val); omega)).trans ?_
  refine (skip _ _ _ _ _ _ _ _ (2304 + j.val) (by show 2816 + j.val = 512 + (2304 + j.val); omega)).trans ?_
  refine (skip _ _ _ _ _ _ _ _ (1792 + j.val) (by show 2304 + j.val = 512 + (1792 + j.val); omega)).trans ?_
  refine (skip _ _ _ _ _ _ _ _ (1280 + j.val) (by show 1792 + j.val = 512 + (1280 + j.val); omega)).trans ?_
  refine (skip _ _ _ _ _ _ _ _ (768 + j.val) (by show 1280 + j.val = 512 + (768 + j.val); omega)).trans ?_
  refine (skip _ _ _ _ _ _ _ _ (256 + j.val) (by show 768 + j.val = 512 + (256 + j.val); omega)).trans ?_
  refine (skip _ _ _ _ _ _ _ _ (224 + j.val) (by show 256 + j.val = 32 + (224 + j.val); omega)).trans ?_
  refine (skip _ _ _ _ _ _ _ _ (192 + j.val) (by show 224 + j.val = 32 + (192 + j.val); omega)).trans ?_
  refine (skip _ _ _ _ _ _ _ _ (160 + j.val) (by show 192 + j.val = 32 + (160 + j.val); omega)).trans ?_
  refine (skip _ _ _ _ _ _ _ _ (128 + j.val) (by show 160 + j.val = 32 + (128 + j.val); omega)).trans ?_
  refine (skip _ _ _ _ _ _ _ _ (96 + j.val) (by show 128 + j.val = 32 + (96 + j.val); omega)).trans ?_
  refine (skip _ _ _ _ _ _ _ _ (64 + j.val) (by show 96 + j.val = 32 + (64 + j.val); omega)).trans ?_
  refine (skip _ _ _ _ _ _ _ _ (32 + j.val) (by show 64 + j.val = 32 + (32 + j.val); omega)).trans ?_
  refine (skip _ _ _ _ _ _ _ _ (0 + j.val) (by show 32 + j.val = 32 + (0 + j.val); omega)).trans ?_
  exact here _ _ _ _ _ _ _ (by show 0 + j.val < 384; omega) _ (by
    intro b
    match b with
    | ⟨0, _⟩ => rfl
    | ⟨1, _⟩ => first | rfl | exact Nat.zero_add _)

theorem catM_ck (a0 a1 a2 a3 a4 a5 : FVec Ideal S1024x512 .f32) (kr r : FVec Ideal S1024x32 .f32) (ql : FVec Ideal S1024x384 .f32) (ck : FVec Ideal S1024x256 .f32)
    (k : Fin 1024) (j : Fin 256) :
    catM a0 a1 a2 a3 a4 a5 kr r ql ck (ix2 k ⟨3712 + j.val, by omega⟩) = ck (ix2 k j) := by
  show concatenate _ _ _ _ _ = _
  rw [concatenate_apply]
  refine (skip _ _ _ _ _ _ _ _ (3200 + j.val) (by show 3712 + j.val = 512 + (3200 + j.val); omega)).trans ?_
  refine (skip _ _ _ _ _ _ _ _ (2688 + j.val) (by show 3200 + j.val = 512 + (2688 + j.val); omega)).trans ?_
  refine (skip _ _ _ _ _ _ _ _ (2176 + j.val) (by show 2688 + j.val = 512 + (2176 + j.val); omega)).trans ?_
  refine (skip _ _ _ _ _ _ _ _ (1664 + j.val) (by show 2176 + j.val = 512 + (1664 + j.val); omega)).trans ?_
  refine (skip _ _ _ _ _ _ _ _ (1152 + j.val) (by show 1664 + j.val = 512 + (1152 + j.val); omega)).trans ?_
  refine (skip _ _ _ _ _ _ _ _ (640 + j.val) (by show 1152 + j.val = 512 + (640 + j.val); omega)).trans ?_
  refine (skip _ _ _ _ _ _ _ _ (608 + j.val) (by show 640 + j.val = 32 + (608 + j.val); omega)).trans ?_
  refine (skip _ _ _ _ _ _ _ _ (576 + j.val) (by show 608 + j.val = 32 + (576 + j.val); omega)).trans ?_
  refine (skip _ _ _ _ _ _ _ _ (544 + j.val) (by show 576 + j.val = 32 + (544 + j.val); omega)).trans ?_
  refine (skip _ _ _ _ _ _ _ _ (512 + j.val) (by show 544 + j.val = 32 + (512 + j.val); omega)).trans ?_
  refine (skip _ _ _ _ _ _ _ _ (480 + j.val) (by show 512 + j.val = 32 + (480 + j.val); omega)).trans ?_
  refine (skip _ _ _ _ _ _ _ _ (448 + j.val) (by show 480 + j.val = 32 + (448 + j.val); omega)).trans ?_
  refine (skip _ _ _ _ _ _ _ _ (416 + j.val) (by show 448 + j.val = 32 + (416 + j.val); omega)).trans ?_
  refine (skip _ _ _ _ _ _ _ _ (384 + j.val) (by show 416 + j.val = 32 + (384 + j.val); omega)).trans ?_
  refine (skip _ _ _ _ _ _ _ _ (0 + j.val) (by show 384 + j.val = 384 + (0 + j.val); omega)).trans ?_
  exact here _ _ _ _ _ _ _ (by show 0 + j.val < 256; omega) _ (by
    intro b
    match b with
    | ⟨0, _⟩ => rfl
    | ⟨1, _⟩ => first | rfl | exact Nat.zero_add _)

theorem catQ_0 (n : FVec Ideal S384x512 .f32) (p r : FVec Ideal S384x256 .f32) (k : Fin 384) (j : Fin 512) :
    catQ n p r (ix2 k ⟨j.val, by omega⟩) = n (ix2 k j) := by
  refine (concatenate_apply S384x1024 1 [⟨S384x512, n⟩, ⟨S384x256, p⟩, ⟨S384x256, r⟩] concatenates_S384x512_S384x256_S384x256_S384x1024_d1 _).trans ?_
  exact here _ _ _ _ _ _ _ (by show j.val < 512; omega) _ (by
    intro b
    match b with
    | ⟨0, _⟩ => rfl
    | ⟨1, _⟩ => first | rfl | exact Nat.zero_add _)

theorem catQ_1 (n : FVec Ideal S384x512 .f32) (p r : FVec Ideal S384x256 .f32) (k : Fin 384) (j : Fin 256) :
    catQ n p r (ix2 k ⟨512 + j.val, by omega⟩) = p (ix2 k j) := by
  refine (concatenate_apply S384x1024 1 [⟨S384x512, n⟩, ⟨S384x256, p⟩, ⟨S384x256, r⟩] concatenates_S384x512_S384x256_S384x256_S384x1024_d1 _).trans ?_
  refine (skip _ _ _ _ _ _ _ _ (0 + j.val) (by show 512 + j.val = 512 + (0 + j.val); omega)).trans ?_
  exact here _ _ _ _ _ _ _ (by show 0 + j.val < 256; omega) _ (by
    intro b
    match b with
    | ⟨0, _⟩ => rfl
    | ⟨1, _⟩ => first | rfl | exact Nat.zero_add _)

theorem catQ_2 (n : FVec Ideal S384x512 .f32) (p r : FVec Ideal S384x256 .f32) (k : Fin 384) (j : Fin 256) :
    catQ n p r (ix2 k ⟨768 + j.val, by omega⟩) = r (ix2 k j) := by
  refine (concatenate_apply S384x1024 1 [⟨S384x512, n⟩, ⟨S384x256, p⟩, ⟨S384x256, r⟩] concatenates_S384x512_S384x256_S384x256_S384x1024_d1 _).trans ?_
  refine (skip _ _ _ _ _ _ _ _ (256 + j.val) (by show 768 + j.val = 512 + (256 + j.val); omega)).trans ?_
  refine (skip _ _ _ _ _ _ _ _ (0 + j.val) (by show 256 + j.val = 256 + (0 + j.val); omega)).trans ?_
  exact here _ _ _ _ _ _ _ (by show 0 + j.val < 256; omega) _ (by
    intro b
    match b with
    | ⟨0, _⟩ => rfl
    | ⟨1, _⟩ => first | rfl | exact Nat.zero_add _)

theorem catT_0 (a b : FVec Ideal S2048x512 .f32) (c d : FVec Ideal S2048x128 .f32) (e f : FVec Ideal S2048x256 .f32) (k : Fin 2048) (j : Fin 512) :
    catT a b c d e f (ix2 k ⟨j.val, by omega⟩) = a (ix2 k j) := by
  show concatenate _ _ _ _ _ = _
  rw [concatenate_apply]
  exact here _ _ _ _ _ _ _ (by show j.val < 512; omega) _ (by
    intro b
    match b with
    | ⟨0, _⟩ => rfl
    | ⟨1, _⟩ => first | rfl | exact Nat.zero_add _)

theorem catT_1 (a b : FVec Ideal S2048x512 .f32) (c d : FVec Ideal S2048x128 .f32) (e f : FVec Ideal S2048x256 .f32) (k : Fin 2048) (j : Fin 512) :
    catT a b c d e f (ix2 k ⟨512 + j.val, by omega⟩) = b (ix2 k j) := by
  show concatenate _ _ _ _ _ = _
  rw [concatenate_apply]
  refine (skip _ _ _ _ _ _ _ _ (0 + j.val) (by show 512 + j.val = 512 + (0 + j.val); omega)).trans ?_
  exact here _ _ _ _ _ _ _ (by show 0 + j.val < 512; omega) _ (by
    intro b
    match b with
    | ⟨0, _⟩ => rfl
    | ⟨1, _⟩ => first | rfl | exact Nat.zero_add _)

theorem catT_2 (a b : FVec Ideal S2048x512 .f32) (c d : FVec Ideal S2048x128 .f32) (e f : FVec Ideal S2048x256 .f32) (k : Fin 2048) (j : Fin 256) :
    catT a b c d e f (ix2 k ⟨1280 + j.val, by omega⟩) = e (ix2 k j) := by
  show concatenate _ _ _ _ _ = _
  rw [concatenate_apply]
  refine (skip _ _ _ _ _ _ _ _ (768 + j.val) (by show 1280 + j.val = 512 + (768 + j.val); omega)).trans ?_
  refine (skip _ _ _ _ _ _ _ _ (256 + j.val) (by show 768 + j.val = 512 + (256 + j.val); omega)).trans ?_
  refine (skip _ _ _ _ _ _ _ _ (128 + j.val) (by show 256 + j.val = 128 + (128 + j.val); omega)).trans ?_
  refine (skip _ _ _ _ _ _ _ _ (0 + j.val) (by show 128 + j.val = 128 + (0 + j.val); omega)).trans ?_
  exact here _ _ _ _ _ _ _ (by show 0 + j.val < 256; omega) _ (by
    intro b
    match b with
    | ⟨0, _⟩ => rfl
    | ⟨1, _⟩ => first | rfl | exact Nat.zero_add _)

theorem catT_3 (a b : FVec Ideal S2048x512 .f32) (c d : FVec Ideal S2048x128 .f32) (e f : FVec Ideal S2048x256 .f32) (k : Fin 2048) (j : Fin 256) :
    catT a b c d e f (ix2 k ⟨1536 + j.val, by omega⟩) = f (ix2 k j) := by
  show concatenate _ _ _ _ _ = _
  rw [concatenate_apply]
  refine (skip _ _ _ _ _ _ _ _ (1024 + j.val) (by show 1536 + j.val = 512 + (1024 + j.val); omega)).trans ?_
  refine (skip _ _ _ _ _ _ _ _ (512 + j.val) (by show 1024 + j.val = 512 + (512 + j.val); omega)).trans ?_
  refine (skip _ _ _ _ _ _ _ _ (384 + j.val) (by show 512 + j.val = 128 + (384 + j.val); omega)).trans ?_
  refine (skip _ _ _ _ _ _ _ _ (256 + j.val) (by show 384 + j.val = 128 + (256 + j.val); omega)).trans ?_
  refine (skip _ _ _ _ _ _ _ _ (0 + j.val) (by show 256 + j.val = 256 + (0 + j.val); omega)).trans ?_
  exact here _ _ _ _ _ _ _ (by show 0 + j.val < 256; omega) _ (by
    intro b
    match b with
    | ⟨0, _⟩ => rfl
    | ⟨1, _⟩ => first | rfl | exact Nat.zero_add _)

/-! ## The turned heads and the tiles -/

theorem turnA_lo (x : FVec Ideal S1024x512 .f32) (k : Fin 1024) (h : Fin 8) (r : Fin 32) :
    turnA x (ix2 k ⟨64 * h.val + r.val, by omega⟩) = -x (ix2 k ⟨64 * h.val + (32 + r.val), by omega⟩) := by
  pointwise [turnA]
  have e : (64 * h.val + r.val) % 64 = r.val := by omega
  rw [dif_pos (by omega)]
  exact congrArg (fun z => -x (ix2 k z)) (Fin.ext (by show h.val * 64 + 32 + (64 * h.val + r.val) % 64 = 64 * h.val + (32 + r.val); omega))

theorem turnA_hi (x : FVec Ideal S1024x512 .f32) (k : Fin 1024) (h : Fin 8) (r : Fin 32) :
    turnA x (ix2 k ⟨64 * h.val + (32 + r.val), by omega⟩) = x (ix2 k ⟨64 * h.val + r.val, by omega⟩) := by
  pointwise [turnA]
  rw [dif_neg (by omega)]
  exact congrArg (fun z => x (ix2 k z)) (Fin.ext (by show h.val * 64 + ((64 * h.val + (32 + r.val)) % 64 - 32) = 64 * h.val + r.val; omega))

theorem turnQ_lo (x : FVec Ideal S384x256 .f32) (k : Fin 384) (h : Fin 8) (r : Fin 16) :
    turnQ x (ix2 k ⟨32 * h.val + r.val, by omega⟩) = -x (ix2 k ⟨32 * h.val + (16 + r.val), by omega⟩) := by
  pointwise [turnQ]
  have e : (32 * h.val + r.val) % 32 = r.val := by omega
  rw [dif_pos (by omega)]
  exact congrArg (fun z => -x (ix2 k z)) (Fin.ext (by show h.val * 32 + 16 + (32 * h.val + r.val) % 32 = 32 * h.val + (16 + r.val); omega))

theorem turnQ_hi (x : FVec Ideal S384x256 .f32) (k : Fin 384) (h : Fin 8) (r : Fin 16) :
    turnQ x (ix2 k ⟨32 * h.val + (16 + r.val), by omega⟩) = x (ix2 k ⟨32 * h.val + r.val, by omega⟩) := by
  pointwise [turnQ]
  rw [dif_neg (by omega)]
  exact congrArg (fun z => x (ix2 k z)) (Fin.ext (by show h.val * 32 + ((32 * h.val + (16 + r.val)) % 32 - 16) = 32 * h.val + r.val; omega))

theorem turnK_lo (x : FVec Ideal S1024x32 .f32) (k : Fin 1024) (r : Fin 16) :
    turnK x (ix2 k ⟨r.val, by omega⟩) = -x (ix2 k ⟨16 + r.val, by omega⟩) := by
  pointwise [turnK]

theorem turnK_hi (x : FVec Ideal S1024x32 .f32) (k : Fin 1024) (r : Fin 16) :
    turnK x (ix2 k ⟨16 + r.val, by omega⟩) = x (ix2 k ⟨r.val, by omega⟩) := by
  pointwise [turnK]

theorem plainQ_at (w : FVec Ideal S384x768 .f32) (k : Fin 384) (h : Fin 8) (d : Fin 64) :
    plainQ w (ix2 k ⟨64 * h.val + d.val, by omega⟩) = w (ix2 k ⟨h.val * 96 + d.val, by omega⟩) := by
  pointwise [plainQ]

theorem rotaryQ_at (w : FVec Ideal S384x768 .f32) (k : Fin 384) (h : Fin 8) (d : Fin 32) :
    rotaryQ w (ix2 k ⟨32 * h.val + d.val, by omega⟩) = w (ix2 k ⟨h.val * 96 + (64 + d.val), by omega⟩) := by
  pointwise [rotaryQ]

theorem tileA_lo (x : FVec Ideal S2048x32 .f32) (t : Fin 2048) (h : Fin 8) (r : Fin 32) :
    tileA x (ix2 t ⟨64 * h.val + r.val, by omega⟩) = x (ix2 t r) := by
  pointwise [tileA]
  rw [dif_pos (by omega)]
  exact congrArg (fun z => x (ix2 t z)) (Fin.ext (by show (64 * h.val + r.val) % 64 = r.val; omega))

theorem tileA_hi (x : FVec Ideal S2048x32 .f32) (t : Fin 2048) (h : Fin 8) (r : Fin 32) :
    tileA x (ix2 t ⟨64 * h.val + (32 + r.val), by omega⟩) = x (ix2 t r) := by
  pointwise [tileA]
  rw [dif_neg (by omega)]
  exact congrArg (fun z => x (ix2 t z)) (Fin.ext (by show (64 * h.val + (32 + r.val)) % 64 - 32 = r.val; omega))

theorem tileP_lo (x : FVec Ideal S2048x16 .f32) (t : Fin 2048) (h : Fin 8) (r : Fin 16) :
    tileP x (ix2 t ⟨32 * h.val + r.val, by omega⟩) = x (ix2 t r) := by
  pointwise [tileP]
  rw [dif_pos (by omega)]
  exact congrArg (fun z => x (ix2 t z)) (Fin.ext (by show (32 * h.val + r.val) % 32 = r.val; omega))

theorem tileP_hi (x : FVec Ideal S2048x16 .f32) (t : Fin 2048) (h : Fin 8) (r : Fin 16) :
    tileP x (ix2 t ⟨32 * h.val + (16 + r.val), by omega⟩) = x (ix2 t r) := by
  pointwise [tileP]
  rw [dif_neg (by omega)]
  exact congrArg (fun z => x (ix2 t z)) (Fin.ext (by show (32 * h.val + (16 + r.val)) % 32 - 16 = r.val; omega))

end Cert.FrontIdeal.Start

end
-- ==== Proof.Front.Operands.lean ====
/-
  The columns of the front's packed operands as entries of the arguments: the plain and the turned columns of the two
  weights, and the cosine and sine tables.
-/
module

public import proofs.«01_k».proof.Proof.Front.Joins

@[expose] public section

set_option maxRecDepth 16384

noncomputable section

namespace Cert.FrontIdeal.Start

open Idealize.ShloMosaic Cert.FrontIdeal Cert.FrontIdeal.Gen Idealize.ShloMosaic.TcCoe
open Cert.FrontReferenceIdeal.Start (angA angP)

variable (m : (ℓ : Loc nD τ sig) → Buf (Elt Ideal) ℓ)

/-- The first projection's weight. -/
abbrev wIn (c : Dev nD) : FVec Ideal S1024x5604 .f32 := m ((c.tc : Thread nD τ).loc main_arg3)

/-- The query projection's weight. -/
abbrev wUq (c : Dev nD) : FVec Ideal S384x768 .f32 := m ((c.tc : Thread nD τ).loc main_arg5)

theorem win_a0 (c : Dev nD) (k : Fin 1024) (j : Fin 512) :
    V m c main_v103 (ix2 k ⟨j.val, by omega⟩) = wIn m c (ix2 k ⟨j.val, by omega⟩) := by
  rw [win_eq]
  refine (catW_lo _ _ k ⟨j.val, by omega⟩).trans ((catM_0 _ _ _ _ _ _ _ _ _ _ k j).trans ?_)
  pointwise

theorem win_a1 (c : Dev nD) (k : Fin 1024) (j : Fin 512) :
    V m c main_v103 (ix2 k ⟨512 + j.val, by omega⟩) = wIn m c (ix2 k ⟨512 + j.val, by omega⟩) := by
  rw [win_eq]
  refine (catW_lo _ _ k ⟨512 + j.val, by omega⟩).trans ((catM_1 _ _ _ _ _ _ _ _ _ _ k j).trans ?_)
  pointwise

theorem win_v0 (c : Dev nD) (k : Fin 1024) (j : Fin 512) :
    V m c main_v103 (ix2 k ⟨2048 + j.val, by omega⟩) = wIn m c (ix2 k ⟨1024 + j.val, by omega⟩) := by
  rw [win_eq]
  refine (catW_lo _ _ k ⟨2048 + j.val, by omega⟩).trans ((catM_4 _ _ _ _ _ _ _ _ _ _ k j).trans ?_)
  pointwise

theorem win_v1 (c : Dev nD) (k : Fin 1024) (j : Fin 512) :
    V m c main_v103 (ix2 k ⟨2560 + j.val, by omega⟩) = wIn m c (ix2 k ⟨1536 + j.val, by omega⟩) := by
  rw [win_eq]
  refine (catW_lo _ _ k ⟨2560 + j.val, by omega⟩).trans ((catM_5 _ _ _ _ _ _ _ _ _ _ k j).trans ?_)
  pointwise

theorem win_ql (c : Dev nD) (k : Fin 1024) (j : Fin 384) :
    V m c main_v103 (ix2 k ⟨3328 + j.val, by omega⟩) = wIn m c (ix2 k ⟨2372 + j.val, by omega⟩) := by
  rw [win_eq]
  refine (catW_lo _ _ k ⟨3328 + j.val, by omega⟩).trans ((catM_ql _ _ _ _ _ _ _ _ _ _ k j).trans ?_)
  pointwise

theorem win_ck (c : Dev nD) (k : Fin 1024) (j : Fin 256) :
    V m c main_v103 (ix2 k ⟨3712 + j.val, by omega⟩) = wIn m c (ix2 k ⟨2756 + j.val, by omega⟩) := by
  rw [win_eq]
  refine (catW_lo _ _ k ⟨3712 + j.val, by omega⟩).trans ((catM_ck _ _ _ _ _ _ _ _ _ _ k j).trans ?_)
  pointwise

theorem win_z (c : Dev nD) (k : Fin 1024) (j : Fin 512) :
    V m c main_v103 (ix2 k ⟨3968 + j.val, by omega⟩) = wIn m c (ix2 k ⟨3044 + j.val, by omega⟩) := by
  rw [win_eq]
  have e : (⟨3968 + j.val, by omega⟩ : Fin 6528) = ⟨3968 + (⟨j.val, by omega⟩ : Fin 2560).val, by show 3968 + (j.val) < 6528; omega⟩ :=
    Fin.ext (by show 3968 + j.val = 3968 + (j.val); omega)
  rw [e]
  refine (catW_hi _ _ k ⟨j.val, by omega⟩).trans ((catG_0 _ _ _ k j).trans ?_)
  pointwise

theorem win_ga (c : Dev nD) (k : Fin 1024) (j : Fin 1024) :
    V m c main_v103 (ix2 k ⟨4480 + j.val, by omega⟩) = wIn m c (ix2 k ⟨3556 + j.val, by omega⟩) := by
  rw [win_eq]
  have e : (⟨4480 + j.val, by omega⟩ : Fin 6528) = ⟨3968 + (⟨512 + j.val, by omega⟩ : Fin 2560).val, by show 3968 + (512 + j.val) < 6528; omega⟩ :=
    Fin.ext (by show 4480 + j.val = 3968 + (512 + j.val); omega)
  rw [e]
  refine (catW_hi _ _ k ⟨512 + j.val, by omega⟩).trans ((catG_1 _ _ _ k j).trans ?_)
  pointwise

theorem win_gb (c : Dev nD) (k : Fin 1024) (j : Fin 1024) :
    V m c main_v103 (ix2 k ⟨5504 + j.val, by omega⟩) = wIn m c (ix2 k ⟨4580 + j.val, by omega⟩) := by
  rw [win_eq]
  have e : (⟨5504 + j.val, by omega⟩ : Fin 6528) = ⟨3968 + (⟨1536 + j.val, by omega⟩ : Fin 2560).val, by show 3968 + (1536 + j.val) < 6528; omega⟩ :=
    Fin.ext (by show 5504 + j.val = 3968 + (1536 + j.val); omega)
  rw [e]
  refine (catW_hi _ _ k ⟨1536 + j.val, by omega⟩).trans ((catG_2 _ _ _ k j).trans ?_)
  pointwise

theorem win_t0_lo (c : Dev nD) (k : Fin 1024) (h : Fin 8) (r : Fin 32) :
    V m c main_v103 (ix2 k ⟨1024 + (64 * h.val + r.val), by omega⟩) = -(wIn m c (ix2 k ⟨64 * h.val + (32 + r.val), by omega⟩)) := by
  rw [win_eq]
  refine (catW_lo _ _ k ⟨1024 + (64 * h.val + r.val), by omega⟩).trans ((catM_2 _ _ _ _ _ _ _ _ _ _ k ⟨64 * h.val + r.val, by omega⟩).trans ((turnA_lo _ k h r).trans ?_))
  pointwise

theorem win_t0_hi (c : Dev nD) (k : Fin 1024) (h : Fin 8) (r : Fin 32) :
    V m c main_v103 (ix2 k ⟨1024 + (64 * h.val + (32 + r.val)), by omega⟩) = wIn m c (ix2 k ⟨64 * h.val + r.val, by omega⟩) := by
  rw [win_eq]
  refine (catW_lo _ _ k ⟨1024 + (64 * h.val + (32 + r.val)), by omega⟩).trans ((catM_2 _ _ _ _ _ _ _ _ _ _ k ⟨64 * h.val + (32 + r.val), by omega⟩).trans ((turnA_hi _ k h r).trans ?_))
  pointwise

theorem win_t1_lo (c : Dev nD) (k : Fin 1024) (h : Fin 8) (r : Fin 32) :
    V m c main_v103 (ix2 k ⟨1536 + (64 * h.val + r.val), by omega⟩) = -(wIn m c (ix2 k ⟨512 + (64 * h.val + (32 + r.val)), by omega⟩)) := by
  rw [win_eq]
  refine (catW_lo _ _ k ⟨1536 + (64 * h.val + r.val), by omega⟩).trans ((catM_3 _ _ _ _ _ _ _ _ _ _ k ⟨64 * h.val + r.val, by omega⟩).trans ((turnA_lo _ k h r).trans ?_))
  pointwise

theorem win_t1_hi (c : Dev nD) (k : Fin 1024) (h : Fin 8) (r : Fin 32) :
    V m c main_v103 (ix2 k ⟨1536 + (64 * h.val + (32 + r.val)), by omega⟩) = wIn m c (ix2 k ⟨512 + (64 * h.val + r.val), by omega⟩) := by
  rw [win_eq]
  refine (catW_lo _ _ k ⟨1536 + (64 * h.val + (32 + r.val)), by omega⟩).trans ((catM_3 _ _ _ _ _ _ _ _ _ _ k ⟨64 * h.val + (32 + r.val), by omega⟩).trans ((turnA_hi _ k h r).trans ?_))
  pointwise

theorem win_key (c : Dev nD) (k : Fin 1024) (q : Fin 4) (x : Fin 32) :
    V m c main_v103 (ix2 k ⟨3072 + (32 * q.val + x.val), by omega⟩) = wIn m c (ix2 k ⟨3012 + x.val, by omega⟩) := by
  rw [win_eq]
  match q with
  | ⟨0, _⟩ =>
    have e : (⟨3072 + (32 * 0 + x.val), by omega⟩ : Fin 6528) = ⟨(⟨3072 + x.val, by omega⟩ : Fin 3968).val, by show 3072 + x.val < 6528; omega⟩ :=
      Fin.ext (by show 3072 + (32 * 0 + x.val) = 3072 + x.val; omega)
    refine (congrArg (fun j => catW _ _ (ix2 k j)) e).trans ((catW_lo _ _ k ⟨3072 + x.val, by omega⟩).trans ((catM_k0 _ _ _ _ _ _ _ _ _ _ k x).trans ?_))
    pointwise
  | ⟨1, _⟩ =>
    have e : (⟨3072 + (32 * 1 + x.val), by omega⟩ : Fin 6528) = ⟨(⟨3104 + x.val, by omega⟩ : Fin 3968).val, by show 3104 + x.val < 6528; omega⟩ :=
      Fin.ext (by show 3072 + (32 * 1 + x.val) = 3104 + x.val; omega)
    refine (congrArg (fun j => catW _ _ (ix2 k j)) e).trans ((catW_lo _ _ k ⟨3104 + x.val, by omega⟩).trans ((catM_k1 _ _ _ _ _ _ _ _ _ _ k x).trans ?_))
    pointwise
  | ⟨2, _⟩ =>
    have e : (⟨3072 + (32 * 2 + x.val), by omega⟩ : Fin 6528) = ⟨(⟨3136 + x.val, by omega⟩ : Fin 3968).val, by show 3136 + x.val < 6528; omega⟩ :=
      Fin.ext (by show 3072 + (32 * 2 + x.val) = 3136 + x.val; omega)
    refine (congrArg (fun j => catW _ _ (ix2 k j)) e).trans ((catW_lo _ _ k ⟨3136 + x.val, by omega⟩).trans ((catM_k2 _ _ _ _ _ _ _ _ _ _ k x).trans ?_))
    pointwise
  | ⟨3, _⟩ =>
    have e : (⟨3072 + (32 * 3 + x.val), by omega⟩ : Fin 6528) = ⟨(⟨3168 + x.val, by omega⟩ : Fin 3968).val, by show 3168 + x.val < 6528; omega⟩ :=
      Fin.ext (by show 3072 + (32 * 3 + x.val) = 3168 + x.val; omega)
    refine (congrArg (fun j => catW _ _ (ix2 k j)) e).trans ((catW_lo _ _ k ⟨3168 + x.val, by omega⟩).trans ((catM_k3 _ _ _ _ _ _ _ _ _ _ k x).trans ?_))
    pointwise

theorem win_turn_lo (c : Dev nD) (k : Fin 1024) (q : Fin 4) (r : Fin 16) :
    V m c main_v103 (ix2 k ⟨3200 + (32 * q.val + r.val), by omega⟩) = -(wIn m c (ix2 k ⟨3012 + (16 + r.val), by omega⟩)) := by
  rw [win_eq]
  match q with
  | ⟨0, _⟩ =>
    have e : (⟨3200 + (32 * 0 + r.val), by omega⟩ : Fin 6528) = ⟨(⟨3200 + r.val, by omega⟩ : Fin 3968).val, by show 3200 + r.val < 6528; omega⟩ :=
      Fin.ext (by show 3200 + (32 * 0 + r.val) = 3200 + r.val; omega)
    refine (congrArg (fun j => catW _ _ (ix2 k j)) e).trans ((catW_lo _ _ k ⟨3200 + r.val, by omega⟩).trans ((catM_r0 _ _ _ _ _ _ _ _ _ _ k ⟨r.val, by omega⟩).trans ((turnK_lo _ k r).trans ?_)))
    pointwise
  | ⟨1, _⟩ =>
    have e : (⟨3200 + (32 * 1 + r.val), by omega⟩ : Fin 6528) = ⟨(⟨3232 + r.val, by omega⟩ : Fin 3968).val, by show 3232 + r.val < 6528; omega⟩ :=
      Fin.ext (by show 3200 + (32 * 1 + r.val) = 3232 + r.val; omega)
    refine (congrArg (fun j => catW _ _ (ix2 k j)) e).trans ((catW_lo _ _ k ⟨3232 + r.val, by omega⟩).trans ((catM_r1 _ _ _ _ _ _ _ _ _ _ k ⟨r.val, by omega⟩).trans ((turnK_lo _ k r).trans ?_)))
    pointwise
  | ⟨2, _⟩ =>
    have e : (⟨3200 + (32 * 2 + r.val), by omega⟩ : Fin 6528) = ⟨(⟨3264 + r.val, by omega⟩ : Fin 3968).val, by show 3264 + r.val < 6528; omega⟩ :=
      Fin.ext (by show 3200 + (32 * 2 + r.val) = 3264 + r.val; omega)
    refine (congrArg (fun j => catW _ _ (ix2 k j)) e).trans ((catW_lo _ _ k ⟨3264 + r.val, by omega⟩).trans ((catM_r2 _ _ _ _ _ _ _ _ _ _ k ⟨r.val, by omega⟩).trans ((turnK_lo _ k r).trans ?_)))
    pointwise
  | ⟨3, _⟩ =>
    have e : (⟨3200 + (32 * 3 + r.val), by omega⟩ : Fin 6528) = ⟨(⟨3296 + r.val, by omega⟩ : Fin 3968).val, by show 3296 + r.val < 6528; omega⟩ :=
      Fin.ext (by show 3200 + (32 * 3 + r.val) = 3296 + r.val; omega)
    refine (congrArg (fun j => catW _ _ (ix2 k j)) e).trans ((catW_lo _ _ k ⟨3296 + r.val, by omega⟩).trans ((catM_r3 _ _ _ _ _ _ _ _ _ _ k ⟨r.val, by omega⟩).trans ((turnK_lo _ k r).trans ?_)))
    pointwise

theorem win_turn_hi (c : Dev nD) (k : Fin 1024) (q : Fin 4) (r : Fin 16) :
    V m c main_v103 (ix2 k ⟨3200 + (32 * q.val + (16 + r.val)), by omega⟩) = wIn m c (ix2 k ⟨3012 + r.val, by omega⟩) := by
  rw [win_eq]
  match q with
  | ⟨0, _⟩ =>
    have e : (⟨3200 + (32 * 0 + (16 + r.val)), by omega⟩ : Fin 6528) = ⟨(⟨3200 + (16 + r.val), by omega⟩ : Fin 3968).val, by show 3200 + (16 + r.val) < 6528; omega⟩ :=
      Fin.ext (by show 3200 + (32 * 0 + (16 + r.val)) = 3200 + (16 + r.val); omega)
    refine (congrArg (fun j => catW _ _ (ix2 k j)) e).trans ((catW_lo _ _ k ⟨3200 + (16 + r.val), by omega⟩).trans ((catM_r0 _ _ _ _ _ _ _ _ _ _ k ⟨16 + r.val, by omega⟩).trans ((turnK_hi _ k r).trans ?_)))
    pointwise
  | ⟨1, _⟩ =>
    have e : (⟨3200 + (32 * 1 + (16 + r.val)), by omega⟩ : Fin 6528) = ⟨(⟨3232 + (16 + r.val), by omega⟩ : Fin 3968).val, by show 3232 + (16 + r.val) < 6528; omega⟩ :=
      Fin.ext (by show 3200 + (32 * 1 + (16 + r.val)) = 3232 + (16 + r.val); omega)
    refine (congrArg (fun j => catW _ _ (ix2 k j)) e).trans ((catW_lo _ _ k ⟨3232 + (16 + r.val), by omega⟩).trans ((catM_r1 _ _ _ _ _ _ _ _ _ _ k ⟨16 + r.val, by omega⟩).trans ((turnK_hi _ k r).trans ?_)))
    pointwise
  | ⟨2, _⟩ =>
    have e : (⟨3200 + (32 * 2 + (16 + r.val)), by omega⟩ : Fin 6528) = ⟨(⟨3264 + (16 + r.val), by omega⟩ : Fin 3968).val, by show 3264 + (16 + r.val) < 6528; omega⟩ :=
      Fin.ext (by show 3200 + (32 * 2 + (16 + r.val)) = 3264 + (16 + r.val); omega)
    refine (congrArg (fun j => catW _ _ (ix2 k j)) e).trans ((catW_lo _ _ k ⟨3264 + (16 + r.val), by omega⟩).trans ((catM_r2 _ _ _ _ _ _ _ _ _ _ k ⟨16 + r.val, by omega⟩).trans ((turnK_hi _ k r).trans ?_)))
    pointwise
  | ⟨3, _⟩ =>
    have e : (⟨3200 + (32 * 3 + (16 + r.val)), by omega⟩ : Fin 6528) = ⟨(⟨3296 + (16 + r.val), by omega⟩ : Fin 3968).val, by show 3296 + (16 + r.val) < 6528; omega⟩ :=
      Fin.ext (by show 3200 + (32 * 3 + (16 + r.val)) = 3296 + (16 + r.val); omega)
    refine (congrArg (fun j => catW _ _ (ix2 k j)) e).trans ((catW_lo _ _ k ⟨3296 + (16 + r.val), by omega⟩).trans ((catM_r3 _ _ _ _ _ _ _ _ _ _ k ⟨16 + r.val, by omega⟩).trans ((turnK_hi _ k r).trans ?_)))
    pointwise

theorem wuq_n (c : Dev nD) (i : Fin 384) (h : Fin 8) (d : Fin 64) :
    V m c main_v118 (ix2 i ⟨64 * h.val + d.val, by omega⟩) = wUq m c (ix2 i ⟨h.val * 96 + d.val, by omega⟩) := by
  rw [wuq_eq]
  exact (catQ_0 _ _ _ i ⟨64 * h.val + d.val, by omega⟩).trans (plainQ_at _ i h d)

theorem wuq_p (c : Dev nD) (i : Fin 384) (h : Fin 8) (d : Fin 32) :
    V m c main_v118 (ix2 i ⟨512 + (32 * h.val + d.val), by omega⟩) = wUq m c (ix2 i ⟨h.val * 96 + (64 + d.val), by omega⟩) := by
  rw [wuq_eq]
  exact (catQ_1 _ _ _ i ⟨32 * h.val + d.val, by omega⟩).trans (rotaryQ_at _ i h d)

theorem wuq_t_lo (c : Dev nD) (i : Fin 384) (h : Fin 8) (r : Fin 16) :
    V m c main_v118 (ix2 i ⟨768 + (32 * h.val + r.val), by omega⟩) = -(wUq m c (ix2 i ⟨h.val * 96 + (64 + (16 + r.val)), by omega⟩)) := by
  rw [wuq_eq]
  exact (catQ_2 _ _ _ i ⟨32 * h.val + r.val, by omega⟩).trans ((turnQ_lo _ i h r).trans
    (congrArg (fun x : EReal => -x) (rotaryQ_at _ i h ⟨16 + r.val, by omega⟩)))

theorem wuq_t_hi (c : Dev nD) (i : Fin 384) (h : Fin 8) (r : Fin 16) :
    V m c main_v118 (ix2 i ⟨768 + (32 * h.val + (16 + r.val)), by omega⟩) = wUq m c (ix2 i ⟨h.val * 96 + (64 + r.val), by omega⟩) := by
  rw [wuq_eq]
  exact (catQ_2 _ _ _ i ⟨32 * h.val + (16 + r.val), by omega⟩).trans ((turnQ_hi _ i h r).trans (rotaryQ_at _ i h ⟨r.val, by omega⟩))

theorem tab_cosA_lo (c : Dev nD) (t : Fin 2048) (h : Fin 8) (r : Fin 32) :
    V m c main_v59 (ix2 t ⟨64 * h.val + r.val, by omega⟩) = Ideal.cos (angA (ix2 t r)) := by
  obtain ⟨u, v, e⟩ := tab_eq m c
  rw [e]
  exact (catT_0 _ _ _ _ _ _ t ⟨64 * h.val + r.val, by omega⟩).trans (tileA_lo _ t h r)

theorem tab_cosP_lo (c : Dev nD) (t : Fin 2048) (h : Fin 8) (r : Fin 16) :
    V m c main_v59 (ix2 t ⟨1280 + (32 * h.val + r.val), by omega⟩) = Ideal.cos (angP (ix2 t r)) := by
  obtain ⟨u, v, e⟩ := tab_eq m c
  rw [e]
  exact (catT_2 _ _ _ _ _ _ t ⟨32 * h.val + r.val, by omega⟩).trans (tileP_lo _ t h r)

theorem tab_cosA_hi (c : Dev nD) (t : Fin 2048) (h : Fin 8) (r : Fin 32) :
    V m c main_v59 (ix2 t ⟨64 * h.val + (32 + r.val), by omega⟩) = Ideal.cos (angA (ix2 t r)) := by
  obtain ⟨u, v, e⟩ := tab_eq m c
  rw [e]
  exact (catT_0 _ _ _ _ _ _ t ⟨64 * h.val + (32 + r.val), by omega⟩).trans (tileA_hi _ t h r)

theorem tab_cosP_hi (c : Dev nD) (t : Fin 2048) (h : Fin 8) (r : Fin 16) :
    V m c main_v59 (ix2 t ⟨1280 + (32 * h.val + (16 + r.val)), by omega⟩) = Ideal.cos (angP (ix2 t r)) := by
  obtain ⟨u, v, e⟩ := tab_eq m c
  rw [e]
  exact (catT_2 _ _ _ _ _ _ t ⟨32 * h.val + (16 + r.val), by omega⟩).trans (tileP_hi _ t h r)

theorem tab_sinA_lo (c : Dev nD) (t : Fin 2048) (h : Fin 8) (r : Fin 32) :
    V m c main_v59 (ix2 t ⟨512 + (64 * h.val + r.val), by omega⟩) = Ideal.sin (angA (ix2 t r)) := by
  obtain ⟨u, v, e⟩ := tab_eq m c
  rw [e]
  exact (catT_1 _ _ _ _ _ _ t ⟨64 * h.val + r.val, by omega⟩).trans (tileA_lo _ t h r)

theorem tab_sinP_lo (c : Dev nD) (t : Fin 2048) (h : Fin 8) (r : Fin 16) :
    V m c main_v59 (ix2 t ⟨1536 + (32 * h.val + r.val), by omega⟩) = Ideal.sin (angP (ix2 t r)) := by
  obtain ⟨u, v, e⟩ := tab_eq m c
  rw [e]
  exact (catT_3 _ _ _ _ _ _ t ⟨32 * h.val + r.val, by omega⟩).trans (tileP_lo _ t h r)

theorem tab_sinA_hi (c : Dev nD) (t : Fin 2048) (h : Fin 8) (r : Fin 32) :
    V m c main_v59 (ix2 t ⟨512 + (64 * h.val + (32 + r.val)), by omega⟩) = Ideal.sin (angA (ix2 t r)) := by
  obtain ⟨u, v, e⟩ := tab_eq m c
  rw [e]
  exact (catT_1 _ _ _ _ _ _ t ⟨64 * h.val + (32 + r.val), by omega⟩).trans (tileA_hi _ t h r)

theorem tab_sinP_hi (c : Dev nD) (t : Fin 2048) (h : Fin 8) (r : Fin 16) :
    V m c main_v59 (ix2 t ⟨1536 + (32 * h.val + (16 + r.val)), by omega⟩) = Ideal.sin (angP (ix2 t r)) := by
  obtain ⟨u, v, e⟩ := tab_eq m c
  rw [e]
  exact (catT_3 _ _ _ _ _ _ t ⟨32 * h.val + (16 + r.val), by omega⟩).trans (tileP_hi _ t h r)

end Cert.FrontIdeal.Start

end
-- ==== Proof.Front.Block.lean ====
/-
  What one grid point of the layer's front computes: an entry of each of its output blocks, from the blocks of its operands.
-/
module

public import proofs.«01_k».proof.Proof.Gen.FrontIdeal.Frame
public import proofs.«01_k».proof.Proof.Front.Ref
public import Idealize.ShloMosaic.Lib.Pipeline.ValueKit

@[expose] public section

set_option maxRecDepth 16384

noncomputable section

namespace Cert.FrontIdeal.Start

open Idealize.ShloMosaic Cert.FrontIdeal Cert.FrontIdeal.Gen
open Cert.FrontReferenceIdeal.Start (scaled modul)

/-- A row against a column of the packed weight. -/
def col (h : Fin 1024 → EReal) (w : Vec Ideal S1024x6528 .bf16) (j : Fin 6528) : EReal := ∑ k, h k * w (ix2 k j)

/-- The row of the grid point's block after the modulated norm. -/
def hrow (x0 : Vec Ideal S1x256x1024 .f32) (x1 : Vec Ideal S1x1x3072 .f32) (x3 : Vec Ideal S1x1024 .f32) (q : Fin 256) : Fin 1024 → EReal :=
  modul (fun i => x0 (ix3 0 q i)) (fun i => x3 (ix2 0 i)) (fun i => x1 (ix3 0 0 ⟨1024 + i.val, by omega⟩)) (fun i => x1 (ix3 0 0 ⟨i.val, by omega⟩))

/-- An entry of the query projection. -/
def qcol (h : Fin 1024 → EReal) (w : Vec Ideal S1024x6528 .bf16) (g : Vec Ideal S1x384 .f32) (u : Vec Ideal S384x1024 .bf16) (j : Fin 1024) : EReal :=
  ∑ i, scaled (Ideal.ofBits FTy.f32 0x43C00000#32) (fun i : Fin 384 => col h w ⟨3328 + i.val, by omega⟩) (fun i => g (ix2 0 i)) i * u (ix2 i j)

theorem pay4_at (x1 : Vec Ideal S1x1x3072 .f32) (x0 : Vec Ideal S1x256x1024 .f32) (x3 : Vec Ideal S1x1024 .f32) (q : Fin 256) (k : Fin 1024) :
    k0_pay4 x1 x0 x3 (ix2 q k) = hrow x0 x1 x3 q k := by
  pointwise [k0_pay4, hrow, modul, scaled]

theorem pay9_at (h : FVec Ideal S256x1024 .bf16) (w : Vec Ideal S1024x2048 .bf16) (q : Fin 256) (j : Fin 2048) :
    k0_pay9 h w (ix2 q j) = ∑ k, h (ix2 q k) * w (ix2 k j) := by
  pointwise [k0_pay9]

theorem pay14_at (h : FVec Ideal S256x1024 .bf16) (w : Vec Ideal S1024x1280 .bf16) (q : Fin 256) (j : Fin 1280) :
    k0_pay14 h w (ix2 q j) = ∑ k, h (ix2 q k) * w (ix2 k j) := by
  pointwise [k0_pay14]

theorem pay20_at (h : FVec Ideal S256x1024 .bf16) (w : Vec Ideal S1024x640 .bf16) (q : Fin 256) (j : Fin 640) :
    k0_pay20 h w (ix2 q j) = ∑ k, h (ix2 q k) * w (ix2 k j) := by
  pointwise [k0_pay20]

theorem pay28_at (h : FVec Ideal S256x1024 .bf16) (w : Vec Ideal S1024x1536 .bf16) (q : Fin 256) (j : Fin 1536) :
    k0_pay28 h w (ix2 q j) = ∑ k, h (ix2 q k) * w (ix2 k j) := by
  pointwise [k0_pay28]

theorem pay21_at (h : FVec Ideal S256x1024 .bf16) (w : Vec Ideal S1024x640 .bf16) (g : Vec Ideal S1x384 .f32) (u : Vec Ideal S384x1024 .bf16)
    (q : Fin 256) (j : Fin 1024) : k0_pay21 h w g u (ix2 q j) = ∑ i, scaled (Ideal.ofBits FTy.f32 0x43C00000#32)
      (fun i : Fin 384 => ∑ k, h (ix2 q k) * w (ix2 k ⟨i.val, by omega⟩)) (fun i => g (ix2 0 i)) i * u (ix2 i j) := by
  pointwise [k0_pay21, scaled]
  simp only [pay20_at]

theorem out8_at (x0 : Vec Ideal S1x256x1024 .f32) (x1 : Vec Ideal S1x1x3072 .f32) (x2 : Vec Ideal S256x1792 .f32) (x3 : Vec Ideal S1x1024 .f32)
    (x4 : Vec Ideal S1x384 .f32) (x5 : Vec Ideal S1x256 .f32) (x6 : Vec Ideal S1024x6528 .bf16) (x7 : Vec Ideal S384x1024 .bf16)
    (q : Fin 256) (j : Fin 512) : out0_8 x0 x1 x2 x3 x4 x5 x6 x7 (ix3 0 q j)
    = col (hrow x0 x1 x3 q) x6 ⟨j.val, by omega⟩ * x2 (ix2 q ⟨j.val, by omega⟩)
      + col (hrow x0 x1 x3 q) x6 ⟨1024 + j.val, by omega⟩ * x2 (ix2 q ⟨512 + j.val, by omega⟩) := by
  unfold_out out0_8
  frame_out
  pointwise [k0_pay10, k0_pay5, k0_pay6]
  simp only [pay9_at, pay4_at, col]
  pointwise

theorem out9_at (x0 : Vec Ideal S1x256x1024 .f32) (x1 : Vec Ideal S1x1x3072 .f32) (x2 : Vec Ideal S256x1792 .f32) (x3 : Vec Ideal S1x1024 .f32)
    (x4 : Vec Ideal S1x384 .f32) (x5 : Vec Ideal S1x256 .f32) (x6 : Vec Ideal S1024x6528 .bf16) (x7 : Vec Ideal S384x1024 .bf16)
    (q : Fin 256) (j : Fin 512) : out0_9 x0 x1 x2 x3 x4 x5 x6 x7 (ix3 0 q j)
    = col (hrow x0 x1 x3 q) x6 ⟨512 + j.val, by omega⟩ * x2 (ix2 q ⟨j.val, by omega⟩)
      + col (hrow x0 x1 x3 q) x6 ⟨1536 + j.val, by omega⟩ * x2 (ix2 q ⟨512 + j.val, by omega⟩) := by
  unfold_out out0_9
  frame_out
  pointwise [k0_pay12, k0_pay11, k0_pay5, k0_pay6]
  simp only [pay9_at, pay4_at, col]
  pointwise

theorem out10_at (x0 : Vec Ideal S1x256x1024 .f32) (x1 : Vec Ideal S1x1x3072 .f32) (x2 : Vec Ideal S256x1792 .f32) (x3 : Vec Ideal S1x1024 .f32)
    (x4 : Vec Ideal S1x384 .f32) (x5 : Vec Ideal S1x256 .f32) (x6 : Vec Ideal S1024x6528 .bf16) (x7 : Vec Ideal S384x1024 .bf16)
    (q : Fin 256) (j : Fin 512) : out0_10 x0 x1 x2 x3 x4 x5 x6 x7 (ix3 0 q j)
    = col (hrow x0 x1 x3 q) x6 ⟨512 + j.val, by omega⟩ * x2 (ix2 q ⟨j.val, by omega⟩)
      + col (hrow x0 x1 x3 q) x6 ⟨1536 + j.val, by omega⟩ * x2 (ix2 q ⟨512 + j.val, by omega⟩) := by
  unfold_out out0_10
  frame_out
  pointwise [k0_pay13, k0_pay11, k0_pay5, k0_pay6]
  simp only [pay9_at, pay4_at, col]
  pointwise

theorem out11_at (x0 : Vec Ideal S1x256x1024 .f32) (x1 : Vec Ideal S1x1x3072 .f32) (x2 : Vec Ideal S256x1792 .f32) (x3 : Vec Ideal S1x1024 .f32)
    (x4 : Vec Ideal S1x384 .f32) (x5 : Vec Ideal S1x256 .f32) (x6 : Vec Ideal S1024x6528 .bf16) (x7 : Vec Ideal S384x1024 .bf16)
    (q : Fin 256) (j : Fin 512) : out0_11 x0 x1 x2 x3 x4 x5 x6 x7 (ix3 0 q j)
    = col (hrow x0 x1 x3 q) x6 ⟨2048 + j.val, by omega⟩ := by
  unfold_out out0_11
  frame_out
  pointwise [k0_pay16, k0_pay15]
  simp only [pay14_at, pay4_at, col]
  pointwise

theorem out12_at (x0 : Vec Ideal S1x256x1024 .f32) (x1 : Vec Ideal S1x1x3072 .f32) (x2 : Vec Ideal S256x1792 .f32) (x3 : Vec Ideal S1x1024 .f32)
    (x4 : Vec Ideal S1x384 .f32) (x5 : Vec Ideal S1x256 .f32) (x6 : Vec Ideal S1024x6528 .bf16) (x7 : Vec Ideal S384x1024 .bf16)
    (q : Fin 256) (j : Fin 512) : out0_12 x0 x1 x2 x3 x4 x5 x6 x7 (ix4 0 0 j q)
    = col (hrow x0 x1 x3 q) x6 ⟨2048 + j.val, by omega⟩ := by
  unfold_out out0_12
  frame_out
  pointwise [k0_pay17, k0_pay15]
  simp only [pay14_at, pay4_at, col]
  pointwise

theorem out13_at (x0 : Vec Ideal S1x256x1024 .f32) (x1 : Vec Ideal S1x1x3072 .f32) (x2 : Vec Ideal S256x1792 .f32) (x3 : Vec Ideal S1x1024 .f32)
    (x4 : Vec Ideal S1x384 .f32) (x5 : Vec Ideal S1x256 .f32) (x6 : Vec Ideal S1024x6528 .bf16) (x7 : Vec Ideal S384x1024 .bf16)
    (q : Fin 256) (j : Fin 512) : out0_13 x0 x1 x2 x3 x4 x5 x6 x7 (ix3 0 q j)
    = col (hrow x0 x1 x3 q) x6 ⟨2560 + j.val, by omega⟩ := by
  unfold_out out0_13
  frame_out
  pointwise [k0_pay18]
  simp only [pay14_at, pay4_at, col]
  pointwise
  have e0 : ∀ n : ℕ, 2048 + (512 + n) = 2560 + n := fun n => by omega
  simp only [e0]

theorem out14_at (x0 : Vec Ideal S1x256x1024 .f32) (x1 : Vec Ideal S1x1x3072 .f32) (x2 : Vec Ideal S256x1792 .f32) (x3 : Vec Ideal S1x1024 .f32)
    (x4 : Vec Ideal S1x384 .f32) (x5 : Vec Ideal S1x256 .f32) (x6 : Vec Ideal S1024x6528 .bf16) (x7 : Vec Ideal S384x1024 .bf16)
    (q : Fin 256) (j : Fin 128) : out0_14 x0 x1 x2 x3 x4 x5 x6 x7 (ix3 0 q j)
    = col (hrow x0 x1 x3 q) x6 ⟨3072 + j.val, by omega⟩ * x2 (ix2 q ⟨1280 + j.val, by omega⟩)
      + col (hrow x0 x1 x3 q) x6 ⟨3200 + j.val, by omega⟩ * x2 (ix2 q ⟨1536 + j.val, by omega⟩) := by
  unfold_out out0_14
  frame_out
  pointwise [k0_pay19, k0_pay7, k0_pay8]
  simp only [pay14_at, pay4_at, col]
  pointwise
  have e0 : ∀ n : ℕ, 2048 + (1024 + n) = 3072 + n := fun n => by omega
  have e1 : ∀ n : ℕ, 2048 + (1152 + n) = 3200 + n := fun n => by omega
  simp only [e0, e1]

theorem out15_at (x0 : Vec Ideal S1x256x1024 .f32) (x1 : Vec Ideal S1x1x3072 .f32) (x2 : Vec Ideal S256x1792 .f32) (x3 : Vec Ideal S1x1024 .f32)
    (x4 : Vec Ideal S1x384 .f32) (x5 : Vec Ideal S1x256 .f32) (x6 : Vec Ideal S1024x6528 .bf16) (x7 : Vec Ideal S384x1024 .bf16)
    (q : Fin 256) (j : Fin 512) : out0_15 x0 x1 x2 x3 x4 x5 x6 x7 (ix3 0 q j)
    = qcol (hrow x0 x1 x3 q) x6 x4 x7 ⟨j.val, by omega⟩ := by
  unfold_out out0_15
  frame_out
  pointwise [k0_pay23, k0_pay22]
  simp only [pay21_at, pay4_at, col, qcol]
  pointwise

theorem out16_at (x0 : Vec Ideal S1x256x1024 .f32) (x1 : Vec Ideal S1x1x3072 .f32) (x2 : Vec Ideal S256x1792 .f32) (x3 : Vec Ideal S1x1024 .f32)
    (x4 : Vec Ideal S1x384 .f32) (x5 : Vec Ideal S1x256 .f32) (x6 : Vec Ideal S1024x6528 .bf16) (x7 : Vec Ideal S384x1024 .bf16)
    (q : Fin 256) (j : Fin 256) : out0_16 x0 x1 x2 x3 x4 x5 x6 x7 (ix3 0 q j)
    = qcol (hrow x0 x1 x3 q) x6 x4 x7 ⟨512 + j.val, by omega⟩ * x2 (ix2 q ⟨1280 + j.val, by omega⟩)
      + qcol (hrow x0 x1 x3 q) x6 x4 x7 ⟨768 + j.val, by omega⟩ * x2 (ix2 q ⟨1536 + j.val, by omega⟩) := by
  unfold_out out0_16
  frame_out
  pointwise [k0_pay24, k0_pay7, k0_pay8]
  simp only [pay21_at, pay4_at, col, qcol]
  pointwise

theorem out17_at (x0 : Vec Ideal S1x256x1024 .f32) (x1 : Vec Ideal S1x1x3072 .f32) (x2 : Vec Ideal S256x1792 .f32) (x3 : Vec Ideal S1x1024 .f32)
    (x4 : Vec Ideal S1x384 .f32) (x5 : Vec Ideal S1x256 .f32) (x6 : Vec Ideal S1024x6528 .bf16) (x7 : Vec Ideal S384x1024 .bf16)
    (q : Fin 256) (j : Fin 256) : out0_17 x0 x1 x2 x3 x4 x5 x6 x7 (ix3 0 q j)
    = scaled (Ideal.ofBits FTy.f32 0x43800000#32) (fun i : Fin 256 => col (hrow x0 x1 x3 q) x6 ⟨3712 + i.val, by omega⟩) (fun i => x5 (ix2 0 i)) j := by
  unfold_out out0_17
  frame_out
  pointwise [k0_pay26, k0_pay25, scaled]
  simp only [pay20_at, pay4_at, col, scaled]
  pointwise
  have e0 : ∀ n : ℕ, 3328 + (384 + n) = 3712 + n := fun n => by omega
  simp only [e0]

theorem out18_at (x0 : Vec Ideal S1x256x1024 .f32) (x1 : Vec Ideal S1x1x3072 .f32) (x2 : Vec Ideal S256x1792 .f32) (x3 : Vec Ideal S1x1024 .f32)
    (x4 : Vec Ideal S1x384 .f32) (x5 : Vec Ideal S1x256 .f32) (x6 : Vec Ideal S1024x6528 .bf16) (x7 : Vec Ideal S384x1024 .bf16)
    (q : Fin 256) (j : Fin 256) : out0_18 x0 x1 x2 x3 x4 x5 x6 x7 (ix3 0 q j)
    = scaled (Ideal.ofBits FTy.f32 0x43800000#32) (fun i : Fin 256 => col (hrow x0 x1 x3 q) x6 ⟨3712 + i.val, by omega⟩) (fun i => x5 (ix2 0 i)) j := by
  unfold_out out0_18
  frame_out
  pointwise [k0_pay27, k0_pay25, scaled]
  simp only [pay20_at, pay4_at, col, scaled]
  pointwise
  have e0 : ∀ n : ℕ, 3328 + (384 + n) = 3712 + n := fun n => by omega
  simp only [e0]

theorem out19_at (x0 : Vec Ideal S1x256x1024 .f32) (x1 : Vec Ideal S1x1x3072 .f32) (x2 : Vec Ideal S256x1792 .f32) (x3 : Vec Ideal S1x1024 .f32)
    (x4 : Vec Ideal S1x384 .f32) (x5 : Vec Ideal S1x256 .f32) (x6 : Vec Ideal S1024x6528 .bf16) (x7 : Vec Ideal S384x1024 .bf16)
    (q : Fin 256) (j : Fin 512) : out0_19 x0 x1 x2 x3 x4 x5 x6 x7 (ix3 0 q j)
    = col (hrow x0 x1 x3 q) x6 ⟨3968 + j.val, by omega⟩ := by
  unfold_out out0_19
  frame_out
  pointwise [k0_pay1, k0_pay29]
  simp only [pay28_at, pay4_at, col]
  pointwise

theorem out20_at (x0 : Vec Ideal S1x256x1024 .f32) (x1 : Vec Ideal S1x1x3072 .f32) (x2 : Vec Ideal S256x1792 .f32) (x3 : Vec Ideal S1x1024 .f32)
    (x4 : Vec Ideal S1x384 .f32) (x5 : Vec Ideal S1x256 .f32) (x6 : Vec Ideal S1024x6528 .bf16) (x7 : Vec Ideal S384x1024 .bf16)
    (q : Fin 256) (j : Fin 1024) : out0_20 x0 x1 x2 x3 x4 x5 x6 x7 (ix3 0 q j)
    = col (hrow x0 x1 x3 q) x6 ⟨4480 + j.val, by omega⟩ := by
  unfold_out out0_20
  frame_out
  pointwise [k0_pay2]
  simp only [pay28_at, pay4_at, col]
  pointwise
  have e0 : ∀ n : ℕ, 3968 + (512 + n) = 4480 + n := fun n => by omega
  simp only [e0]

theorem out21_at (x0 : Vec Ideal S1x256x1024 .f32) (x1 : Vec Ideal S1x1x3072 .f32) (x2 : Vec Ideal S256x1792 .f32) (x3 : Vec Ideal S1x1024 .f32)
    (x4 : Vec Ideal S1x384 .f32) (x5 : Vec Ideal S1x256 .f32) (x6 : Vec Ideal S1024x6528 .bf16) (x7 : Vec Ideal S384x1024 .bf16)
    (q : Fin 256) (j : Fin 1024) : out0_21 x0 x1 x2 x3 x4 x5 x6 x7 (ix3 0 q j)
    = col (hrow x0 x1 x3 q) x6 ⟨5504 + j.val, by omega⟩ := by
  unfold_out out0_21
  frame_out
  pointwise [k0_pay3]
  simp only [pay4_at, col]

end Cert.FrontIdeal.Start

end
-- ==== Proof.Front.Rows.lean ====
/-
  Where the blocks of the front's grid points lie in their arrays, and the operands' blocks as entries of the arguments.
-/
module

public import proofs.«01_k».proof.Proof.Front.Operands
public import proofs.«01_k».proof.Proof.Front.Block

@[expose] public section

set_option maxRecDepth 16384

noncomputable section

namespace Cert.FrontIdeal.Start

open Idealize.ShloMosaic Cert.FrontIdeal Cert.FrontIdeal.Gen Idealize.ShloMosaic.TcCoe
open Idealize.SL.Sem
open Cert.FrontReferenceIdeal.Start (scaled modul mods mods_at)

variable (m : (ℓ : Loc nD τ sig) → Buf (Elt Ideal) ℓ)

/-- The sequence of a grid point. -/
def batch (t : Fin cfg0.N) : Fin 8 := ⟨(grid0.coords t 0).val, (grid0.coords t 0).isLt⟩

/-- The row block of a grid point. -/
def rows (t : Fin cfg0.N) : Fin 8 := ⟨(grid0.coords t 1).val, (grid0.coords t 1).isLt⟩

/-- The position of a grid point's row `q`. -/
def pos (t : Fin cfg0.N) (q : Fin 256) : Fin 2048 := ⟨256 * (grid0.coords t 1).val + q.val, by have h : (grid0.coords t 1).val < 8 := (grid0.coords t 1).isLt; omega⟩

theorem idx0 : ∀ t : Fin cfg0.N, win0_0.index t = ![(grid0.coords t 0).val, (grid0.coords t 1).val, 0]
    ∧ win0_1.index t = ![(grid0.coords t 0).val, 0, 0]
    ∧ win0_2.index t = ![(grid0.coords t 1).val, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![(grid0.coords t 0).val, (grid0.coords t 1).val, 0]
    ∧ win0_9.index t = ![(grid0.coords t 0).val, (grid0.coords t 1).val, 0]
    ∧ win0_10.index t = ![(grid0.coords t 0).val, (grid0.coords t 1).val, 0]
    ∧ win0_11.index t = ![(grid0.coords t 0).val, (grid0.coords t 1).val, 0]
    ∧ win0_12.index t = ![(grid0.coords t 0).val, (grid0.coords t 1).val, 0, 0]
    ∧ win0_13.index t = ![(grid0.coords t 0).val, (grid0.coords t 1).val, 0]
    ∧ win0_14.index t = ![(grid0.coords t 0).val, (grid0.coords t 1).val, 0]
    ∧ win0_15.index t = ![(grid0.coords t 0).val, (grid0.coords t 1).val, 0]
    ∧ win0_16.index t = ![(grid0.coords t 0).val, (grid0.coords t 1).val, 0]
    ∧ win0_17.index t = ![(grid0.coords t 0).val, (grid0.coords t 1).val, 0]
    ∧ win0_18.index t = ![(grid0.coords t 0).val, (grid0.coords t 1).val, 0]
    ∧ win0_19.index t = ![(grid0.coords t 0).val, (grid0.coords t 1).val, 0]
    ∧ win0_20.index t = ![(grid0.coords t 0).val, (grid0.coords t 1).val, 0]
    ∧ win0_21.index t = ![(grid0.coords t 0).val, (grid0.coords t 1).val, 0] :=
  (by decide +kernel : ∀ t : Fin grid0.N, _)

theorem emb0 (t : Fin cfg0.N) (q : Fin 256) (k : Fin 1024) : (win0_0.blk t).view.emb (ix3 0 q k) = ix3 (batch t) (pos t q) k := by
  funext a
  apply Fin.ext
  fin_cases a <;> blk_simp <;> rw [(idx0 t).1]
  · rfl
  · show (grid0.coords t 1).val * 256 + q.val = 256 * (grid0.coords t 1).val + q.val; omega
  · show 0 * 1024 + k.val = k.val; omega

theorem emb1 (t : Fin cfg0.N) (k : Fin 3072) : (win0_1.blk t).view.emb (ix3 0 0 k) = ix3 (batch t) 0 k := by
  funext a
  apply Fin.ext
  fin_cases a <;> blk_simp <;> rw [(idx0 t).2.1]
  · rfl
  · rfl
  · show 0 * 3072 + k.val = k.val; omega

theorem emb2 (t : Fin cfg0.N) (q : Fin 256) (k : Fin 1792) : (win0_2.blk t).view.emb (ix2 q k) = ix2 (pos t q) k := by
  funext a
  apply Fin.ext
  fin_cases a <;> blk_simp <;> rw [(idx0 t).2.2.1]
  · show (grid0.coords t 1).val * 256 + q.val = 256 * (grid0.coords t 1).val + q.val; omega
  · show 0 * 1792 + k.val = k.val; omega

theorem emb3 (t : Fin cfg0.N) (r : Fin 1) (k : Fin 1024) : (win0_3.blk t).view.emb (ix2 r k) = ix2 r k := by
  funext a
  apply Fin.ext
  fin_cases a <;> blk_simp <;> rw [(idx0 t).2.2.2.1]
  · rfl
  · show 0 * 1024 + k.val = k.val; omega

theorem emb4 (t : Fin cfg0.N) (r : Fin 1) (k : Fin 384) : (win0_4.blk t).view.emb (ix2 r k) = ix2 r k := by
  funext a
  apply Fin.ext
  fin_cases a <;> blk_simp <;> rw [(idx0 t).2.2.2.2.1]
  · rfl
  · show 0 * 384 + k.val = k.val; omega

theorem emb5 (t : Fin cfg0.N) (r : Fin 1) (k : Fin 256) : (win0_5.blk t).view.emb (ix2 r k) = ix2 r k := by
  funext a
  apply Fin.ext
  fin_cases a <;> blk_simp <;> rw [(idx0 t).2.2.2.2.2.1]
  · rfl
  · show 0 * 256 + k.val = k.val; omega

theorem emb6 (t : Fin cfg0.N) (r : Fin 1024) (k : Fin 6528) : (win0_6.blk t).view.emb (ix2 r k) = ix2 r k := by
  funext a
  apply Fin.ext
  fin_cases a <;> blk_simp <;> rw [(idx0 t).2.2.2.2.2.2.1]
  · show 0 * 1024 + r.val = r.val; omega
  · show 0 * 6528 + k.val = k.val; omega

theorem emb7 (t : Fin cfg0.N) (r : Fin 384) (k : Fin 1024) : (win0_7.blk t).view.emb (ix2 r k) = ix2 r k := by
  funext a
  apply Fin.ext
  fin_cases a <;> blk_simp <;> rw [(idx0 t).2.2.2.2.2.2.2.1]
  · show 0 * 384 + r.val = r.val; omega
  · show 0 * 1024 + k.val = k.val; omega

theorem emb8 (t : Fin cfg0.N) (q : Fin 256) (k : Fin 512) : (win0_8.blk t).view.emb (ix3 0 q k) = ix3 (batch t) (pos t q) k := by
  funext a
  apply Fin.ext
  fin_cases a <;> blk_simp <;> rw [(idx0 t).2.2.2.2.2.2.2.2.1]
  · rfl
  · show (grid0.coords t 1).val * 256 + q.val = 256 * (grid0.coords t 1).val + q.val; omega
  · show 0 * 512 + k.val = k.val; omega

theorem emb9 (t : Fin cfg0.N) (q : Fin 256) (k : Fin 512) : (win0_9.blk t).view.emb (ix3 0 q k) = ix3 (batch t) (pos t q) k := by
  funext a
  apply Fin.ext
  fin_cases a <;> blk_simp <;> rw [(idx0 t).2.2.2.2.2.2.2.2.2.1]
  · rfl
  · show (grid0.coords t 1).val * 256 + q.val = 256 * (grid0.coords t 1).val + q.val; omega
  · show 0 * 512 + k.val = k.val; omega

theorem emb10 (t : Fin cfg0.N) (q : Fin 256) (k : Fin 512) : (win0_10.blk t).view.emb (ix3 0 q k) = ix3 (batch t) (pos t q) k := by
  funext a
  apply Fin.ext
  fin_cases a <;> blk_simp <;> rw [(idx0 t).2.2.2.2.2.2.2.2.2.2.1]
  · rfl
  · show (grid0.coords t 1).val * 256 + q.val = 256 * (grid0.coords t 1).val + q.val; omega
  · show 0 * 512 + k.val = k.val; omega

theorem emb11 (t : Fin cfg0.N) (q : Fin 256) (k : Fin 512) : (win0_11.blk t).view.emb (ix3 0 q k) = ix3 (batch t) (pos t q) k := by
  funext a
  apply Fin.ext
  fin_cases a <;> blk_simp <;> rw [(idx0 t).2.2.2.2.2.2.2.2.2.2.2.1]
  · rfl
  · show (grid0.coords t 1).val * 256 + q.val = 256 * (grid0.coords t 1).val + q.val; omega
  · show 0 * 512 + k.val = k.val; omega

theorem emb12 (t : Fin cfg0.N) (j : Fin 512) (q : Fin 256) : (win0_12.blk t).view.emb (ix4 0 0 j q) = ix4 (batch t) (rows t) j q := by
  funext a
  apply Fin.ext
  fin_cases a <;> blk_simp <;> rw [(idx0 t).2.2.2.2.2.2.2.2.2.2.2.2.1]
  · rfl
  · rfl
  · show 0 * 512 + j.val = j.val; omega
  · show 0 * 256 + q.val = q.val; omega

theorem emb13 (t : Fin cfg0.N) (q : Fin 256) (k : Fin 512) : (win0_13.blk t).view.emb (ix3 0 q k) = ix3 (batch t) (pos t q) k := by
  funext a
  apply Fin.ext
  fin_cases a <;> blk_simp <;> rw [(idx0 t).2.2.2.2.2.2.2.2.2.2.2.2.2.1]
  · rfl
  · show (grid0.coords t 1).val * 256 + q.val = 256 * (grid0.coords t 1).val + q.val; omega
  · show 0 * 512 + k.val = k.val; omega

theorem emb14 (t : Fin cfg0.N) (q : Fin 256) (k : Fin 128) : (win0_14.blk t).view.emb (ix3 0 q k) = ix3 (batch t) (pos t q) k := by
  funext a
  apply Fin.ext
  fin_cases a <;> blk_simp <;> rw [(idx0 t).2.2.2.2.2.2.2.2.2.2.2.2.2.2.1]
  · rfl
  · show (grid0.coords t 1).val * 256 + q.val = 256 * (grid0.coords t 1).val + q.val; omega
  · show 0 * 128 + k.val = k.val; omega

theorem emb15 (t : Fin cfg0.N) (q : Fin 256) (k : Fin 512) : (win0_15.blk t).view.emb (ix3 0 q k) = ix3 (batch t) (pos t q) k := by
  funext a
  apply Fin.ext
  fin_cases a <;> blk_simp <;> rw [(idx0 t).2.2.2.2.2.2.2.2.2.2.2.2.2.2.2.1]
  · rfl
  · show (grid0.coords t 1).val * 256 + q.val = 256 * (grid0.coords t 1).val + q.val; omega
  · show 0 * 512 + k.val = k.val; omega

theorem emb16 (t : Fin cfg0.N) (q : Fin 256) (k : Fin 256) : (win0_16.blk t).view.emb (ix3 0 q k) = ix3 (batch t) (pos t q) k := by
  funext a
  apply Fin.ext
  fin_cases a <;> blk_simp <;> rw [(idx0 t).2.2.2.2.2.2.2.2.2.2.2.2.2.2.2.2.1]
  · rfl
  · show (grid0.coords t 1).val * 256 + q.val = 256 * (grid0.coords t 1).val + q.val; omega
  · show 0 * 256 + k.val = k.val; omega

theorem emb17 (t : Fin cfg0.N) (q : Fin 256) (k : Fin 256) : (win0_17.blk t).view.emb (ix3 0 q k) = ix3 (batch t) (pos t q) k := by
  funext a
  apply Fin.ext
  fin_cases a <;> blk_simp <;> rw [(idx0 t).2.2.2.2.2.2.2.2.2.2.2.2.2.2.2.2.2.1]
  · rfl
  · show (grid0.coords t 1).val * 256 + q.val = 256 * (grid0.coords t 1).val + q.val; omega
  · show 0 * 256 + k.val = k.val; omega

theorem emb18 (t : Fin cfg0.N) (q : Fin 256) (k : Fin 256) : (win0_18.blk t).view.emb (ix3 0 q k) = ix3 (batch t) (pos t q) k := by
  funext a
  apply Fin.ext
  fin_cases a <;> blk_simp <;> rw [(idx0 t).2.2.2.2.2.2.2.2.2.2.2.2.2.2.2.2.2.2.1]
  · rfl
  · show (grid0.coords t 1).val * 256 + q.val = 256 * (grid0.coords t 1).val + q.val; omega
  · show 0 * 256 + k.val = k.val; omega

theorem emb19 (t : Fin cfg0.N) (q : Fin 256) (k : Fin 512) : (win0_19.blk t).view.emb (ix3 0 q k) = ix3 (batch t) (pos t q) k := by
  funext a
  apply Fin.ext
  fin_cases a <;> blk_simp <;> rw [(idx0 t).2.2.2.2.2.2.2.2.2.2.2.2.2.2.2.2.2.2.2.1]
  · rfl
  · show (grid0.coords t 1).val * 256 + q.val = 256 * (grid0.coords t 1).val + q.val; omega
  · show 0 * 512 + k.val = k.val; omega

theorem emb20 (t : Fin cfg0.N) (q : Fin 256) (k : Fin 1024) : (win0_20.blk t).view.emb (ix3 0 q k) = ix3 (batch t) (pos t q) k := by
  funext a
  apply Fin.ext
  fin_cases a <;> blk_simp <;> rw [(idx0 t).2.2.2.2.2.2.2.2.2.2.2.2.2.2.2.2.2.2.2.2.1]
  · rfl
  · show (grid0.coords t 1).val * 256 + q.val = 256 * (grid0.coords t 1).val + q.val; omega
  · show 0 * 1024 + k.val = k.val; omega

theorem emb21 (t : Fin cfg0.N) (q : Fin 256) (k : Fin 1024) : (win0_21.blk t).view.emb (ix3 0 q k) = ix3 (batch t) (pos t q) k := by
  funext a
  apply Fin.ext
  fin_cases a <;> blk_simp <;> rw [(idx0 t).2.2.2.2.2.2.2.2.2.2.2.2.2.2.2.2.2.2.2.2.2]
  · rfl
  · show (grid0.coords t 1).val * 256 + q.val = 256 * (grid0.coords t 1).val + q.val; omega
  · show 0 * 1024 + k.val = k.val; omega

theorem blk0 (c : Dev nD) (t : Fin cfg0.N) (q : Fin 256) (k : Fin 1024) :
    iblk m c 0 t (ix3 0 q k) = m ((c.tc : Thread nD τ).loc main_arg0) (ix3 (batch t) (pos t q) k) := by
  refine Eq.trans ?_ (congrFun (V_main_arg0 m c) _)
  unfold iblk
  exact congrArg (V m c main_arg0) (emb0 t q k)

theorem blk1 (c : Dev nD) (t : Fin cfg0.N) (k : Fin 3072) : iblk m c 1 t (ix3 0 0 k) = m ((c.tc : Thread nD τ).loc main_arg1) (ix2 (batch t) k) := by
  have hV : V m c main_v0 (ix3 (batch t) 0 k) = m ((c.tc : Thread nD τ).loc main_arg1) (ix2 (batch t) k) := by
    entry_read
    pointwise
  refine Eq.trans ?_ hV
  unfold iblk
  exact congrArg (V m c main_v0) (emb1 t k)

theorem blk3 (c : Dev nD) (t : Fin cfg0.N) (k : Fin 1024) : iblk m c 3 t (ix2 0 k) = m ((c.tc : Thread nD τ).loc main_arg2) (ix1 k) := by
  have hV : V m c main_v60 (ix2 0 k) = m ((c.tc : Thread nD τ).loc main_arg2) (ix1 k) := by
    entry_read
    pointwise
  refine Eq.trans ?_ hV
  unfold iblk
  exact congrArg (V m c main_v60) (emb3 t 0 k)

theorem blk4 (c : Dev nD) (t : Fin cfg0.N) (k : Fin 384) : iblk m c 4 t (ix2 0 k) = m ((c.tc : Thread nD τ).loc main_arg4) (ix1 k) := by
  have hV : V m c main_v61 (ix2 0 k) = m ((c.tc : Thread nD τ).loc main_arg4) (ix1 k) := by
    entry_read
    pointwise
  refine Eq.trans ?_ hV
  unfold iblk
  exact congrArg (V m c main_v61) (emb4 t 0 k)

theorem blk5 (c : Dev nD) (t : Fin cfg0.N) (k : Fin 256) : iblk m c 5 t (ix2 0 k) = m ((c.tc : Thread nD τ).loc main_arg6) (ix1 k) := by
  have hV : V m c main_v62 (ix2 0 k) = m ((c.tc : Thread nD τ).loc main_arg6) (ix1 k) := by
    entry_read
    pointwise
  refine Eq.trans ?_ hV
  unfold iblk
  exact congrArg (V m c main_v62) (emb5 t 0 k)

theorem blk2 (c : Dev nD) (t : Fin cfg0.N) (q : Fin 256) (k : Fin 1792) : iblk m c 2 t (ix2 q k) = V m c main_v59 (ix2 (pos t q) k) := by
  unfold iblk
  exact congrArg (V m c main_v59) (emb2 t q k)

theorem blk6 (c : Dev nD) (t : Fin cfg0.N) (r : Fin 1024) (k : Fin 6528) : iblk m c 6 t (ix2 r k) = V m c main_v103 (ix2 r k) := by
  unfold iblk
  exact congrArg (V m c main_v103) (emb6 t r k)

theorem blk7 (c : Dev nD) (t : Fin cfg0.N) (r : Fin 384) (k : Fin 1024) : iblk m c 7 t (ix2 r k) = V m c main_v118 (ix2 r k) := by
  unfold iblk
  exact congrArg (V m c main_v118) (emb7 t r k)

/-- The modulated norm of the rows, of the kernel's arguments. -/
def rowsOf (c : Dev nD) : FVec Ideal Cert.FrontReferenceIdeal.S8x2048x1024 .f32 :=
  mods (m ((c.tc : Thread nD τ).loc main_arg0)) (m ((c.tc : Thread nD τ).loc main_arg1)) (m ((c.tc : Thread nD τ).loc main_arg2))

/-- A grid point's row after the norm is the array's. -/
theorem hrow_eq (c : Dev nD) (t : Fin cfg0.N) (q : Fin 256) :
    hrow (iblk m c 0 t) (iblk m c 1 t) (iblk m c 3 t) q = fun k => rowsOf m c (ix3 (batch t) (pos t q) k) := by
  funext k
  unfold hrow rowsOf
  rw [mods_at]
  simp only [blk0, blk1, blk3]

end Cert.FrontIdeal.Start

end
-- ==== Proof.Front.Results.lean ====
/-
  The fourteen results of the layer's front as the reference computes them, read at an index.
-/
module

public import proofs.«01_k».proof.Proof.Front.Ref

@[expose] public section

set_option maxRecDepth 16384

noncomputable section

namespace Cert.FrontReferenceIdeal.Start

open Idealize.ShloMosaic Cert.FrontReferenceIdeal Cert.FrontReferenceIdeal.Gen

/-- Over the reals a cast is the identity. -/
theorem cast_at {s : Shape} (x : FVec Ideal s .f32) (h : FTy.bits .bf16 < FTy.bits .f32) (i : s.Idx) : truncf .bf16 x h i = x i := rfl

theorem w8_lo (p : FVec Ideal S8x2048x5604 .f32) (b : Fin 8) (t : Fin 2048) (h : Fin 8) (r : Fin 32) :
    w8 p (ix3 b t ⟨64 * h.val + r.val, by omega⟩) = p (ix3 b t ⟨h.val * 64 + r.val, by omega⟩) * Ideal.cos (angA (ix2 t r))
      - p (ix3 b t ⟨h.val * 64 + (32 + r.val), by omega⟩) * Ideal.sin (angA (ix2 t r)) := by
  unfold w8
  rw [cast_at, rotA_lo]
  pointwise [headsQ]

theorem w8_hi (p : FVec Ideal S8x2048x5604 .f32) (b : Fin 8) (t : Fin 2048) (h : Fin 8) (r : Fin 32) :
    w8 p (ix3 b t ⟨64 * h.val + (32 + r.val), by omega⟩) = p (ix3 b t ⟨h.val * 64 + r.val, by omega⟩) * Ideal.sin (angA (ix2 t r))
      + p (ix3 b t ⟨h.val * 64 + (32 + r.val), by omega⟩) * Ideal.cos (angA (ix2 t r)) := by
  unfold w8
  rw [cast_at, rotA_hi]
  pointwise [headsQ]

theorem w9_lo (p : FVec Ideal S8x2048x5604 .f32) (b : Fin 8) (t : Fin 2048) (h : Fin 8) (r : Fin 32) :
    w9 p (ix3 b t ⟨64 * h.val + r.val, by omega⟩) = p (ix3 b t ⟨512 + (h.val * 64 + r.val), by omega⟩) * Ideal.cos (angA (ix2 t r))
      - p (ix3 b t ⟨512 + (h.val * 64 + (32 + r.val)), by omega⟩) * Ideal.sin (angA (ix2 t r)) := by
  unfold w9
  rw [rotA_lo]
  pointwise [headsK]

theorem w9_hi (p : FVec Ideal S8x2048x5604 .f32) (b : Fin 8) (t : Fin 2048) (h : Fin 8) (r : Fin 32) :
    w9 p (ix3 b t ⟨64 * h.val + (32 + r.val), by omega⟩) = p (ix3 b t ⟨512 + (h.val * 64 + r.val), by omega⟩) * Ideal.sin (angA (ix2 t r))
      + p (ix3 b t ⟨512 + (h.val * 64 + (32 + r.val)), by omega⟩) * Ideal.cos (angA (ix2 t r)) := by
  unfold w9
  rw [rotA_hi]
  pointwise [headsK]

theorem w11_at (p : FVec Ideal S8x2048x5604 .f32) (b : Fin 8) (t : Fin 2048) (j : Fin 512) : w11 p (ix3 b t j) = p (ix3 b t ⟨1024 + j.val, by omega⟩) := by
  pointwise [w11]

theorem w12_at (p : FVec Ideal S8x2048x5604 .f32) (b : Fin 8) (tb : Fin 8) (j : Fin 512) (q : Fin 256) :
    w12 p (ix4 b tb j q) = p (ix3 b ⟨tb.val * 256 + q.val, by omega⟩ ⟨1024 + j.val, by omega⟩) := by
  pointwise [w12, w11]

theorem w13_at (p : FVec Ideal S8x2048x5604 .f32) (b : Fin 8) (t : Fin 2048) (j : Fin 512) : w13 p (ix3 b t j) = p (ix3 b t ⟨1536 + j.val, by omega⟩) := by
  pointwise [w13]

theorem w14_at (p : FVec Ideal S8x2048x5604 .f32) (b : Fin 8) (t : Fin 2048) (k : Fin 4) (x : Fin 32) :
    w14 p (ix3 b t ⟨32 * k.val + x.val, by omega⟩) = keyP p (ix3 b t x) := by
  pointwise [w14]
  have e : ∀ (l : Fin 32), l.val = x.val → keyP p (ix3 b t l) = keyP p (ix3 b t x) := fun l hl => congrArg (fun l => keyP p (ix3 b t l)) (Fin.ext hl)
  split_ifs <;> exact e _ (by simp; omega)

theorem queries_at (p : FVec Ideal S8x2048x5604 .f32) (g : FVec Ideal S384 .f32) (w : FVec Ideal S384x768 .f32) (b : Fin 8) (t : Fin 2048)
    (h : Fin 8) (d : Fin 96) : queries p g w (ix4 b t h d) = ∑ i, scaled (Ideal.ofBits FTy.f32 0x43C00000#32)
      (fun i : Fin 384 => p (ix3 b t ⟨2372 + i.val, by omega⟩)) (fun i => g (ix1 i)) i * w (ix2 i ⟨h.val * 96 + d.val, by omega⟩) := by
  pointwise [queries, scaled]

theorem latents_at (p : FVec Ideal S8x2048x5604 .f32) (g : FVec Ideal S256 .f32) (b : Fin 8) (t : Fin 2048) (j : Fin 256) :
    latents p g (ix3 b t j) = scaled (Ideal.ofBits FTy.f32 0x43800000#32) (fun i : Fin 256 => p (ix3 b t ⟨2756 + i.val, by omega⟩))
      (fun i => g (ix1 i)) j := by
  pointwise [latents, scaled]

theorem w15_at (p : FVec Ideal S8x2048x5604 .f32) (g : FVec Ideal S384 .f32) (w : FVec Ideal S384x768 .f32) (b : Fin 8) (t : Fin 2048)
    (h : Fin 8) (d : Fin 64) : w15 p g w (ix3 b t ⟨64 * h.val + d.val, by omega⟩) = queries p g w (ix4 b t h ⟨d.val, by omega⟩) := by
  pointwise [w15]

theorem w16_lo (p : FVec Ideal S8x2048x5604 .f32) (g : FVec Ideal S384 .f32) (w : FVec Ideal S384x768 .f32) (b : Fin 8) (t : Fin 2048)
    (h : Fin 8) (r : Fin 16) : w16 p g w (ix3 b t ⟨32 * h.val + r.val, by omega⟩)
    = queries p g w (ix4 b t h ⟨64 + r.val, by omega⟩) * Ideal.cos (angP (ix2 t r))
      - queries p g w (ix4 b t h ⟨64 + (16 + r.val), by omega⟩) * Ideal.sin (angP (ix2 t r)) := by
  unfold w16
  rw [cast_at, rotP_lo]
  pointwise [headsP]

theorem w16_hi (p : FVec Ideal S8x2048x5604 .f32) (g : FVec Ideal S384 .f32) (w : FVec Ideal S384x768 .f32) (b : Fin 8) (t : Fin 2048)
    (h : Fin 8) (r : Fin 16) : w16 p g w (ix3 b t ⟨32 * h.val + (16 + r.val), by omega⟩)
    = queries p g w (ix4 b t h ⟨64 + r.val, by omega⟩) * Ideal.sin (angP (ix2 t r))
      + queries p g w (ix4 b t h ⟨64 + (16 + r.val), by omega⟩) * Ideal.cos (angP (ix2 t r)) := by
  unfold w16
  rw [cast_at, rotP_hi]
  pointwise [headsP]

theorem w18_at (p : FVec Ideal S8x2048x5604 .f32) (g : FVec Ideal S256 .f32) (b : Fin 8) (t : Fin 2048) (j : Fin 256) :
    w18 p g (ix3 b t j) = latents p g (ix3 b t j) := by
  pointwise [w18]

theorem w19_at (p : FVec Ideal S8x2048x5604 .f32) (b : Fin 8) (t : Fin 2048) (j : Fin 512) : w19 p (ix3 b t j) = p (ix3 b t ⟨3044 + j.val, by omega⟩) := by
  pointwise [w19]

theorem w20_at (p : FVec Ideal S8x2048x5604 .f32) (b : Fin 8) (t : Fin 2048) (j : Fin 1024) : w20 p (ix3 b t j) = p (ix3 b t ⟨3556 + j.val, by omega⟩) := by
  pointwise [w20]

theorem w21_at (p : FVec Ideal S8x2048x5604 .f32) (b : Fin 8) (t : Fin 2048) (j : Fin 1024) : w21 p (ix3 b t j) = p (ix3 b t ⟨4580 + j.val, by omega⟩) := by
  pointwise [w21]

end Cert.FrontReferenceIdeal.Start

end
-- ==== Proof.Front.Real.lean ====
/-
  Real inputs make the front's rows real: the modulated norm, its first projection and the normed low-rank rows. Of real
  rows, a projection by the opposite of a column is the opposite of the projection.
-/
module

public import proofs.«01_k».proof.Proof.Front.Ref
public import proofs.«01_k».proof.Proof.Math.Sums

@[expose] public section

noncomputable section

namespace Cert.FrontReferenceIdeal.Start

open Idealize.ShloMosaic Cert.FrontReferenceIdeal Cert.FrontReferenceIdeal.Gen
open Cert.Att (IsReal coe_sum)

/-- The extended real is a positive real number. -/
def IsPos (x : EReal) : Prop := ∃ r : ℝ, 0 < r ∧ x = r

theorem eps_pos : IsPos (Ideal.ofBits FTy.f32 0x358637BD#32) := by
  simp [IsPos, Ideal.ofBits, Ideal.ieee]
  refine ⟨_, ?_, rfl⟩
  positivity

theorem n1024_pos : IsPos (Ideal.ofBits FTy.f32 0x44800000#32) := by
  simp [IsPos, Ideal.ofBits, Ideal.ieee]
  refine ⟨_, ?_, rfl⟩
  positivity

theorem n384_pos : IsPos (Ideal.ofBits FTy.f32 0x43C00000#32) := by
  simp [IsPos, Ideal.ofBits, Ideal.ieee]
  refine ⟨_, ?_, rfl⟩
  positivity

/-- A real row over its root mean square is real: the number under the root is positive. -/
theorem scaled_real {N : ℕ} {n : EReal} (hn : IsPos n) {x g : Fin N → EReal} (hx : ∀ i, IsReal (x i)) (hg : ∀ i, IsReal (g i)) (k : Fin N) :
    IsReal (scaled n x g k) := by
  obtain ⟨r, hr, rfl⟩ := hn
  obtain ⟨e, he, ee⟩ := eps_pos
  unfold scaled
  refine ((hx k).mul ?_).mul (hg k)
  choose X hX using hx
  have hs : ∑ i, x i * x i = ((∑ i, X i * X i : ℝ) : EReal) := by
    rw [coe_sum]
    exact Finset.sum_congr rfl fun i _ => by rw [hX, EReal.coe_mul]
  have h0 : 0 ≤ ∑ i, X i * X i := Finset.sum_nonneg fun i _ => mul_self_nonneg _
  have h1 : 0 < (∑ i, X i * X i) * (1 / r) + e := by positivity
  rw [hs, ee, Ideal.div_coe hr.ne', ← EReal.coe_mul, ← EReal.coe_add, Ideal.rsqrt_coe, if_neg (not_lt.2 h1.le), if_neg h1.ne']
  exact ⟨_, rfl⟩

theorem modul_real {x g scale shift : Fin 1024 → EReal} (hx : ∀ i, IsReal (x i)) (hg : ∀ i, IsReal (g i)) (hs : ∀ i, IsReal (scale i))
    (ht : ∀ i, IsReal (shift i)) (k : Fin 1024) : IsReal (modul x g scale shift k) := by
  unfold modul
  exact ((scaled_real n1024_pos hx hg k).mul (IsReal.add ⟨1, by simp⟩ (hs k))).add (ht k)

/-- The modulated norm of real rows is real. -/
theorem mods_real {a0 : FVec Ideal S8x2048x1024 .f32} {a1 : FVec Ideal S8x3072 .f32} {a2 : FVec Ideal S1024 .f32} (h0 : ∀ y, IsReal (a0 y))
    (h1 : ∀ y, IsReal (a1 y)) (h2 : ∀ y, IsReal (a2 y)) (b : Fin 8) (t : Fin 2048) (k : Fin 1024) : IsReal (mods a0 a1 a2 (ix3 b t k)) := by
  rw [mods_at]
  exact modul_real (fun _ => h0 _) (fun _ => h2 _) (fun _ => h1 _) (fun _ => h1 _) k

theorem first_real {h : FVec Ideal S8x2048x1024 .f32} {w : FVec Ideal S1024x5604 .f32} (hh : ∀ b t k, IsReal (h (ix3 b t k)))
    (hw : ∀ y, IsReal (w y)) (b : Fin 8) (t : Fin 2048) (j : Fin 5604) : IsReal (first h w (ix3 b t j)) := by
  rw [first_at]
  exact IsReal.sum fun k _ => (hh b t k).mul (hw _)

/-- A real row against the opposite of a real column is the opposite of its product with the column. -/
theorem sum_turned {ι : Type} [Fintype ι] {h w : ι → EReal} (hh : ∀ i, IsReal (h i)) (hw : ∀ i, IsReal (w i)) :
    ∑ i, h i * -w i = -∑ i, h i * w i := by
  choose H hH using hh
  choose W hW using hw
  have e1 : ∑ i, h i * w i = ((∑ i, H i * W i : ℝ) : EReal) := by
    rw [coe_sum]
    exact Finset.sum_congr rfl fun i _ => by rw [hH, hW, EReal.coe_mul]
  have e2 : ∑ i, h i * -w i = ((∑ i, H i * -W i : ℝ) : EReal) := by
    rw [coe_sum]
    exact Finset.sum_congr rfl fun i _ => by rw [hH, hW, EReal.coe_mul, EReal.coe_neg]
  rw [e1, e2, ← EReal.coe_neg]
  congr 1
  simp only [mul_neg, Finset.sum_neg_distrib]

end Cert.FrontReferenceIdeal.Start

end
-- ==== Proof.Front.Entries.lean ====
/-
  An entry of each output block of the front is the reference's, given what its columns are: plain columns give entries of
  the first projection, turned ones their opposites, which with the tables make the rotary embedding.
-/
module

public import proofs.«01_k».proof.Proof.Front.Rows
public import proofs.«01_k».proof.Proof.Front.Results
public import proofs.«01_k».proof.Proof.Front.Real

@[expose] public section

set_option maxRecDepth 16384

noncomputable section

namespace Cert.FrontIdeal.Start

open Idealize.ShloMosaic Cert.FrontIdeal Cert.FrontIdeal.Gen Idealize.ShloMosaic.TcCoe
open Idealize.SL.Sem
open Cert.Att (IsReal)
open Cert.FrontReferenceIdeal.Start (scaled modul mods first first_at mods_real first_real scaled_real sum_turned n384_pos angA angP queries
  queries_at latents latents_at keyP keyP_lo keyP_hi w8 w9 w10 w11 w12 w13 w14 w15 w16 w18 w19 w20 w21 w8_lo w8_hi w9_lo w9_hi w11_at w12_at
  w13_at w14_at w15_at w16_lo w16_hi w18_at w19_at w20_at w21_at cast_at)

variable (m : (ℓ : Loc nD τ sig) → Buf (Elt Ideal) ℓ)

/-- What the turned columns need: every entry of the arguments they are computed from is real. -/
structure Finite (c : Dev nD) : Prop where
  r0 : ∀ y, IsReal (m ((c.tc : Thread nD τ).loc main_arg0) y)
  r1 : ∀ y, IsReal (m ((c.tc : Thread nD τ).loc main_arg1) y)
  r2 : ∀ y, IsReal (m ((c.tc : Thread nD τ).loc main_arg2) y)
  r3 : ∀ y, IsReal (m ((c.tc : Thread nD τ).loc main_arg3) y)
  r4 : ∀ y, IsReal (m ((c.tc : Thread nD τ).loc main_arg4) y)
  r5 : ∀ y, IsReal (m ((c.tc : Thread nD τ).loc main_arg5) y)

/-- The first projection, of the kernel's arguments. -/
def proj (c : Dev nD) : FVec Ideal Cert.FrontReferenceIdeal.S8x2048x5604 .f32 := first (rowsOf m c) (wIn m c)

/-- The query norm's gain. -/
abbrev gQ (c : Dev nD) : FVec Ideal S384 .f32 := m ((c.tc : Thread nD τ).loc main_arg4)

/-- The latent norm's gain. -/
abbrev gKv (c : Dev nD) : FVec Ideal S256 .f32 := m ((c.tc : Thread nD τ).loc main_arg6)

/-- A column of a grid point's projection. -/
abbrev colAt (c : Dev nD) (t : Fin cfg0.N) (q : Fin 256) (j : Fin 6528) : EReal :=
  col (hrow (iblk m c 0 t) (iblk m c 1 t) (iblk m c 3 t) q) (iblk m c 6 t) j

/-- A column of a grid point's query projection. -/
abbrev qcolAt (c : Dev nD) (t : Fin cfg0.N) (q : Fin 256) (j : Fin 1024) : EReal :=
  qcol (hrow (iblk m c 0 t) (iblk m c 1 t) (iblk m c 3 t) q) (iblk m c 6 t) (iblk m c 4 t) (iblk m c 7 t) j

variable {m}

theorem rows_real {c : Dev nD} (hf : Finite m c) (b : Fin 8) (t : Fin 2048) (k : Fin 1024) : IsReal (rowsOf m c (ix3 b t k)) :=
  mods_real hf.r0 hf.r1 hf.r2 b t k

theorem proj_real {c : Dev nD} (hf : Finite m c) (b : Fin 8) (t : Fin 2048) (j : Fin 5604) : IsReal (proj m c (ix3 b t j)) :=
  first_real (rows_real hf) hf.r3 b t j

variable (m)

/-- A column that is one of the weight's gives an entry of the first projection. -/
theorem col_plain (c : Dev nD) (t : Fin cfg0.N) (q : Fin 256) {J : Fin 6528} {s' s : Fin 5604}
    (e : ∀ k, V m c main_v103 (ix2 k J) = wIn m c (ix2 k s')) (hs : s'.val = s.val) :
    colAt m c t q J = proj m c (ix3 (batch t) (pos t q) s) := by
  obtain rfl : s' = s := Fin.ext hs
  unfold colAt col proj
  rw [hrow_eq, first_at]
  exact Finset.sum_congr rfl fun k _ => congrArg (fun x : EReal => rowsOf m c (ix3 (batch t) (pos t q) k) * x) ((blk6 m c t k J).trans (e k))

/-- A column that is the opposite of one of the weight's gives the opposite of an entry. -/
theorem col_turned (c : Dev nD) (hf : Finite m c) (t : Fin cfg0.N) (q : Fin 256) {J : Fin 6528} {s' s : Fin 5604}
    (e : ∀ k, V m c main_v103 (ix2 k J) = -(wIn m c (ix2 k s'))) (hs : s'.val = s.val) :
    colAt m c t q J = -(proj m c (ix3 (batch t) (pos t q) s)) := by
  obtain rfl : s' = s := Fin.ext hs
  unfold colAt col proj
  rw [hrow_eq, first_at]
  refine Eq.trans (Finset.sum_congr rfl fun k _ => congrArg (fun x : EReal => rowsOf m c (ix3 (batch t) (pos t q) k) * x)
    ((blk6 m c t k J).trans (e k))) ?_
  exact sum_turned (fun k => rows_real hf _ _ k) (fun k => hf.r3 _)

/-- The normed low-rank query row. -/
def qrow (c : Dev nD) (t : Fin cfg0.N) (q : Fin 256) : Fin 384 → EReal :=
  scaled (Ideal.ofBits FTy.f32 0x43C00000#32) (fun i : Fin 384 => proj m c (ix3 (batch t) (pos t q) ⟨2372 + i.val, by omega⟩)) (fun i => gQ m c (ix1 i))

theorem qcol_eq (c : Dev nD) (t : Fin cfg0.N) (q : Fin 256) (J : Fin 1024) :
    qcolAt m c t q J = ∑ i, qrow m c t q i * V m c main_v118 (ix2 i J) := by
  have e1 : (fun i : Fin 384 => colAt m c t q ⟨3328 + i.val, by omega⟩) = fun i : Fin 384 => proj m c (ix3 (batch t) (pos t q) ⟨2372 + i.val, by omega⟩) :=
    funext fun i => col_plain m c t q (fun k => win_ql m c k i) rfl
  have e2 : (fun i : Fin 384 => (iblk m c 4 t (ix2 0 i) : EReal)) = fun i => gQ m c (ix1 i) := funext fun i => blk4 m c t i
  have e3 : ∀ i : Fin 384, iblk m c 7 t (ix2 i J) = V m c main_v118 (ix2 i J) := fun i => blk7 m c t i J
  unfold qcolAt qcol
  exact Finset.sum_congr rfl fun i _ => congrArg₂ (fun x y : EReal => x * y)
    (congrArg₂ (fun a b => scaled (Ideal.ofBits FTy.f32 0x43C00000#32) a b i) e1 e2) (e3 i)

theorem queries_eq (c : Dev nD) (t : Fin cfg0.N) (q : Fin 256) (h : Fin 8) (d : Fin 96) :
    queries (proj m c) (gQ m c) (wUq m c) (ix4 (batch t) (pos t q) h d) = ∑ i, qrow m c t q i * wUq m c (ix2 i ⟨h.val * 96 + d.val, by omega⟩) :=
  queries_at _ _ _ _ _ _ _

theorem qcol_plain (c : Dev nD) (t : Fin cfg0.N) (q : Fin 256) {J : Fin 1024} (h : Fin 8) (d : Fin 96)
    (e : ∀ i, V m c main_v118 (ix2 i J) = wUq m c (ix2 i ⟨h.val * 96 + d.val, by omega⟩)) :
    qcolAt m c t q J = queries (proj m c) (gQ m c) (wUq m c) (ix4 (batch t) (pos t q) h d) := by
  rw [qcol_eq, queries_eq]
  exact Finset.sum_congr rfl fun i _ => congrArg (fun x : EReal => qrow m c t q i * x) (e i)

theorem qcol_turned (c : Dev nD) (hf : Finite m c) (t : Fin cfg0.N) (q : Fin 256) {J : Fin 1024} (h : Fin 8) (d : Fin 96)
    (e : ∀ i, V m c main_v118 (ix2 i J) = -(wUq m c (ix2 i ⟨h.val * 96 + d.val, by omega⟩))) :
    qcolAt m c t q J = -(queries (proj m c) (gQ m c) (wUq m c) (ix4 (batch t) (pos t q) h d)) := by
  rw [qcol_eq, queries_eq]
  refine Eq.trans (Finset.sum_congr rfl fun i _ => congrArg (fun x : EReal => qrow m c t q i * x) (e i)) ?_
  exact sum_turned (fun i => scaled_real n384_pos (fun _ => proj_real hf _ _ _) (fun _ => hf.r4 _) i) (fun i => hf.r5 _)

/-- An entry of the table's block. -/
theorem tab_at (c : Dev nD) (t : Fin cfg0.N) (q : Fin 256) {j : Fin 1792} {x : EReal} (e : V m c main_v59 (ix2 (pos t q) j) = x) :
    iblk m c 2 t (ix2 q j) = x := (blk2 m c t q j).trans e

/-- The first half of a turned pair. -/
theorem turn_lo {A B C D x y a b : EReal} (hA : A = x) (hB : B = a) (hC : C = -y) (hD : D = b) : A * B + C * D = x * a - y * b := by
  subst hA hB hC hD
  rw [EReal.neg_mul, sub_eq_add_neg]

/-- The second half of a turned pair. -/
theorem turn_hi {A B C D x y a b : EReal} (hA : A = y) (hB : B = a) (hC : C = x) (hD : D = b) : A * B + C * D = x * b + y * a := by
  subst hA hB hC hD
  exact add_comm _ _

/-- A lane of eight heads of 64 is in the first or the second half of a head. -/
theorem lane64 (j : Fin 512) : ∃ (h : Fin 8) (r : Fin 32), j = ⟨64 * h.val + r.val, by omega⟩ ∨ j = ⟨64 * h.val + (32 + r.val), by omega⟩ := by
  by_cases hj : j.val % 64 < 32
  · exact ⟨⟨j.val / 64, by omega⟩, ⟨j.val % 64, hj⟩, Or.inl (Fin.ext (by show j.val = 64 * (j.val / 64) + j.val % 64; omega))⟩
  · exact ⟨⟨j.val / 64, by omega⟩, ⟨j.val % 64 - 32, by omega⟩,
      Or.inr (Fin.ext (by show j.val = 64 * (j.val / 64) + (32 + (j.val % 64 - 32)); omega))⟩

/-- A lane of eight heads of 32 is in the first or the second half of a head. -/
theorem lane32 (j : Fin 256) : ∃ (h : Fin 8) (r : Fin 16), j = ⟨32 * h.val + r.val, by omega⟩ ∨ j = ⟨32 * h.val + (16 + r.val), by omega⟩ := by
  by_cases hj : j.val % 32 < 16
  · exact ⟨⟨j.val / 32, by omega⟩, ⟨j.val % 32, hj⟩, Or.inl (Fin.ext (by show j.val = 32 * (j.val / 32) + j.val % 32; omega))⟩
  · exact ⟨⟨j.val / 32, by omega⟩, ⟨j.val % 32 - 16, by omega⟩,
      Or.inr (Fin.ext (by show j.val = 32 * (j.val / 32) + (16 + (j.val % 32 - 16)); omega))⟩

/-- The same for four heads of 32. -/
theorem lane4 (j : Fin 128) : ∃ (h : Fin 4) (r : Fin 16), j = ⟨32 * h.val + r.val, by omega⟩ ∨ j = ⟨32 * h.val + (16 + r.val), by omega⟩ := by
  by_cases hj : j.val % 32 < 16
  · exact ⟨⟨j.val / 32, by omega⟩, ⟨j.val % 32, hj⟩, Or.inl (Fin.ext (by show j.val = 32 * (j.val / 32) + j.val % 32; omega))⟩
  · exact ⟨⟨j.val / 32, by omega⟩, ⟨j.val % 32 - 16, by omega⟩,
      Or.inr (Fin.ext (by show j.val = 32 * (j.val / 32) + (16 + (j.val % 32 - 16)); omega))⟩

theorem at8 (c : Dev nD) (hf : Finite m c) (t : Fin cfg0.N) (q : Fin 256) (j : Fin 512) :
    out0_8 (iblk m c 0 t) (iblk m c 1 t) (iblk m c 2 t) (iblk m c 3 t) (iblk m c 4 t) (iblk m c 5 t) (iblk m c 6 t) (iblk m c 7 t) (ix3 0 q j)
      = w8 (proj m c) (ix3 (batch t) (pos t q) j) := by
  obtain ⟨h, r, rfl | rfl⟩ := lane64 j
  · rw [w8_lo]
    exact (out8_at _ _ _ _ _ _ _ _ q _).trans (turn_lo
      (col_plain m c t q (fun k => win_a0 m c k ⟨64 * h.val + r.val, by omega⟩) (by dsimp only; omega))
      (tab_at m c t q (tab_cosA_lo m c _ h r)) (col_turned m c hf t q (fun k => win_t0_lo m c k h r) (by dsimp only; omega))
      (tab_at m c t q (tab_sinA_lo m c _ h r)))
  · rw [w8_hi]
    exact (out8_at _ _ _ _ _ _ _ _ q _).trans (turn_hi
      (col_plain m c t q (fun k => win_a0 m c k ⟨64 * h.val + (32 + r.val), by omega⟩) (by dsimp only; omega))
      (tab_at m c t q (tab_cosA_hi m c _ h r)) (col_plain m c t q (fun k => win_t0_hi m c k h r) (by dsimp only; omega))
      (tab_at m c t q (tab_sinA_hi m c _ h r)))

theorem at9 (c : Dev nD) (hf : Finite m c) (t : Fin cfg0.N) (q : Fin 256) (j : Fin 512) :
    out0_9 (iblk m c 0 t) (iblk m c 1 t) (iblk m c 2 t) (iblk m c 3 t) (iblk m c 4 t) (iblk m c 5 t) (iblk m c 6 t) (iblk m c 7 t) (ix3 0 q j)
      = w9 (proj m c) (ix3 (batch t) (pos t q) j) := by
  obtain ⟨h, r, rfl | rfl⟩ := lane64 j
  · rw [w9_lo]
    exact (out9_at _ _ _ _ _ _ _ _ q _).trans (turn_lo
      (col_plain m c t q (fun k => win_a1 m c k ⟨64 * h.val + r.val, by omega⟩) (by dsimp only; omega))
      (tab_at m c t q (tab_cosA_lo m c _ h r)) (col_turned m c hf t q (fun k => win_t1_lo m c k h r) (by dsimp only; omega))
      (tab_at m c t q (tab_sinA_lo m c _ h r)))
  · rw [w9_hi]
    exact (out9_at _ _ _ _ _ _ _ _ q _).trans (turn_hi
      (col_plain m c t q (fun k => win_a1 m c k ⟨64 * h.val + (32 + r.val), by omega⟩) (by dsimp only; omega))
      (tab_at m c t q (tab_cosA_hi m c _ h r)) (col_plain m c t q (fun k => win_t1_hi m c k h r) (by dsimp only; omega))
      (tab_at m c t q (tab_sinA_hi m c _ h r)))

theorem at10 (c : Dev nD) (hf : Finite m c) (t : Fin cfg0.N) (q : Fin 256) (j : Fin 512) :
    out0_10 (iblk m c 0 t) (iblk m c 1 t) (iblk m c 2 t) (iblk m c 3 t) (iblk m c 4 t) (iblk m c 5 t) (iblk m c 6 t) (iblk m c 7 t) (ix3 0 q j)
      = w10 (proj m c) (ix3 (batch t) (pos t q) j) := by
  unfold w10
  rw [cast_at]
  obtain ⟨h, r, rfl | rfl⟩ := lane64 j
  · rw [w9_lo]
    exact (out10_at _ _ _ _ _ _ _ _ q _).trans (turn_lo
      (col_plain m c t q (fun k => win_a1 m c k ⟨64 * h.val + r.val, by omega⟩) (by dsimp only; omega))
      (tab_at m c t q (tab_cosA_lo m c _ h r)) (col_turned m c hf t q (fun k => win_t1_lo m c k h r) (by dsimp only; omega))
      (tab_at m c t q (tab_sinA_lo m c _ h r)))
  · rw [w9_hi]
    exact (out10_at _ _ _ _ _ _ _ _ q _).trans (turn_hi
      (col_plain m c t q (fun k => win_a1 m c k ⟨64 * h.val + (32 + r.val), by omega⟩) (by dsimp only; omega))
      (tab_at m c t q (tab_cosA_hi m c _ h r)) (col_plain m c t q (fun k => win_t1_hi m c k h r) (by dsimp only; omega))
      (tab_at m c t q (tab_sinA_hi m c _ h r)))

theorem at11 (c : Dev nD) (t : Fin cfg0.N) (q : Fin 256) (j : Fin 512) :
    out0_11 (iblk m c 0 t) (iblk m c 1 t) (iblk m c 2 t) (iblk m c 3 t) (iblk m c 4 t) (iblk m c 5 t) (iblk m c 6 t) (iblk m c 7 t) (ix3 0 q j)
      = w11 (proj m c) (ix3 (batch t) (pos t q) j) := by
  rw [w11_at]
  exact (out11_at _ _ _ _ _ _ _ _ q j).trans (col_plain m c t q (fun k => win_v0 m c k j) rfl)

theorem at13 (c : Dev nD) (t : Fin cfg0.N) (q : Fin 256) (j : Fin 512) :
    out0_13 (iblk m c 0 t) (iblk m c 1 t) (iblk m c 2 t) (iblk m c 3 t) (iblk m c 4 t) (iblk m c 5 t) (iblk m c 6 t) (iblk m c 7 t) (ix3 0 q j)
      = w13 (proj m c) (ix3 (batch t) (pos t q) j) := by
  rw [w13_at]
  exact (out13_at _ _ _ _ _ _ _ _ q j).trans (col_plain m c t q (fun k => win_v1 m c k j) rfl)

theorem at19 (c : Dev nD) (t : Fin cfg0.N) (q : Fin 256) (j : Fin 512) :
    out0_19 (iblk m c 0 t) (iblk m c 1 t) (iblk m c 2 t) (iblk m c 3 t) (iblk m c 4 t) (iblk m c 5 t) (iblk m c 6 t) (iblk m c 7 t) (ix3 0 q j)
      = w19 (proj m c) (ix3 (batch t) (pos t q) j) := by
  rw [w19_at]
  exact (out19_at _ _ _ _ _ _ _ _ q j).trans (col_plain m c t q (fun k => win_z m c k j) rfl)

theorem at20 (c : Dev nD) (t : Fin cfg0.N) (q : Fin 256) (j : Fin 1024) :
    out0_20 (iblk m c 0 t) (iblk m c 1 t) (iblk m c 2 t) (iblk m c 3 t) (iblk m c 4 t) (iblk m c 5 t) (iblk m c 6 t) (iblk m c 7 t) (ix3 0 q j)
      = w20 (proj m c) (ix3 (batch t) (pos t q) j) := by
  rw [w20_at]
  exact (out20_at _ _ _ _ _ _ _ _ q j).trans (col_plain m c t q (fun k => win_ga m c k j) rfl)

theorem at21 (c : Dev nD) (t : Fin cfg0.N) (q : Fin 256) (j : Fin 1024) :
    out0_21 (iblk m c 0 t) (iblk m c 1 t) (iblk m c 2 t) (iblk m c 3 t) (iblk m c 4 t) (iblk m c 5 t) (iblk m c 6 t) (iblk m c 7 t) (ix3 0 q j)
      = w21 (proj m c) (ix3 (batch t) (pos t q) j) := by
  rw [w21_at]
  exact (out21_at _ _ _ _ _ _ _ _ q j).trans (col_plain m c t q (fun k => win_gb m c k j) rfl)

theorem at12 (c : Dev nD) (t : Fin cfg0.N) (q : Fin 256) (j : Fin 512) :
    out0_12 (iblk m c 0 t) (iblk m c 1 t) (iblk m c 2 t) (iblk m c 3 t) (iblk m c 4 t) (iblk m c 5 t) (iblk m c 6 t) (iblk m c 7 t) (ix4 0 0 j q)
      = w12 (proj m c) (ix4 (batch t) (rows t) j q) := by
  rw [w12_at]
  have e : (⟨(rows t).val * 256 + q.val, by omega⟩ : Fin 2048) = pos t q := Fin.ext (by
    show (grid0.coords t 1).val * 256 + q.val = 256 * (grid0.coords t 1).val + q.val; omega)
  rw [e]
  exact (out12_at _ _ _ _ _ _ _ _ q j).trans (col_plain m c t q (fun k => win_v0 m c k j) rfl)

theorem at14 (c : Dev nD) (hf : Finite m c) (t : Fin cfg0.N) (q : Fin 256) (j : Fin 128) :
    out0_14 (iblk m c 0 t) (iblk m c 1 t) (iblk m c 2 t) (iblk m c 3 t) (iblk m c 4 t) (iblk m c 5 t) (iblk m c 6 t) (iblk m c 7 t) (ix3 0 q j)
      = w14 (proj m c) (ix3 (batch t) (pos t q) j) := by
  obtain ⟨h, r, rfl | rfl⟩ := lane4 j
  · refine Eq.trans ?_ ((w14_at (proj m c) (batch t) (pos t q) h ⟨r.val, by omega⟩).trans (keyP_lo _ _ _ r)).symm
    exact (out14_at _ _ _ _ _ _ _ _ q _).trans (turn_lo
      (col_plain m c t q (fun k => win_key m c k h ⟨r.val, by omega⟩) rfl)
      (tab_at m c t q (tab_cosP_lo m c _ ⟨h.val, by omega⟩ r)) (col_turned m c hf t q (fun k => win_turn_lo m c k h r) rfl)
      (tab_at m c t q (tab_sinP_lo m c _ ⟨h.val, by omega⟩ r)))
  · refine Eq.trans ?_ ((w14_at (proj m c) (batch t) (pos t q) h ⟨16 + r.val, by omega⟩).trans (keyP_hi _ _ _ r)).symm
    exact (out14_at _ _ _ _ _ _ _ _ q _).trans (turn_hi
      (col_plain m c t q (fun k => win_key m c k h ⟨16 + r.val, by omega⟩) rfl)
      (tab_at m c t q (tab_cosP_hi m c _ ⟨h.val, by omega⟩ r)) (col_plain m c t q (fun k => win_turn_hi m c k h r) rfl)
      (tab_at m c t q (tab_sinP_hi m c _ ⟨h.val, by omega⟩ r)))

theorem at15 (c : Dev nD) (t : Fin cfg0.N) (q : Fin 256) (j : Fin 512) :
    out0_15 (iblk m c 0 t) (iblk m c 1 t) (iblk m c 2 t) (iblk m c 3 t) (iblk m c 4 t) (iblk m c 5 t) (iblk m c 6 t) (iblk m c 7 t) (ix3 0 q j)
      = w15 (proj m c) (gQ m c) (wUq m c) (ix3 (batch t) (pos t q) j) := by
  obtain ⟨h, d, rfl⟩ : ∃ (h : Fin 8) (d : Fin 64), j = ⟨64 * h.val + d.val, by omega⟩ :=
    ⟨⟨j.val / 64, by omega⟩, ⟨j.val % 64, by omega⟩, Fin.ext (by show j.val = 64 * (j.val / 64) + j.val % 64; omega)⟩
  rw [w15_at]
  exact (out15_at _ _ _ _ _ _ _ _ q _).trans (qcol_plain m c t q h ⟨d.val, by omega⟩ (fun i => wuq_n m c i h d))

theorem at16 (c : Dev nD) (hf : Finite m c) (t : Fin cfg0.N) (q : Fin 256) (j : Fin 256) :
    out0_16 (iblk m c 0 t) (iblk m c 1 t) (iblk m c 2 t) (iblk m c 3 t) (iblk m c 4 t) (iblk m c 5 t) (iblk m c 6 t) (iblk m c 7 t) (ix3 0 q j)
      = w16 (proj m c) (gQ m c) (wUq m c) (ix3 (batch t) (pos t q) j) := by
  obtain ⟨h, r, rfl | rfl⟩ := lane32 j
  · rw [w16_lo]
    exact (out16_at _ _ _ _ _ _ _ _ q _).trans (turn_lo
      (qcol_plain m c t q h ⟨64 + r.val, by omega⟩ (fun i => wuq_p m c i h ⟨r.val, by omega⟩))
      (tab_at m c t q (tab_cosP_lo m c _ h r))
      (qcol_turned m c hf t q h ⟨64 + (16 + r.val), by omega⟩ (fun i => wuq_t_lo m c i h r))
      (tab_at m c t q (tab_sinP_lo m c _ h r)))
  · rw [w16_hi]
    exact (out16_at _ _ _ _ _ _ _ _ q _).trans (turn_hi
      (qcol_plain m c t q h ⟨64 + (16 + r.val), by omega⟩ (fun i => wuq_p m c i h ⟨16 + r.val, by omega⟩))
      (tab_at m c t q (tab_cosP_hi m c _ h r))
      (qcol_plain m c t q h ⟨64 + r.val, by omega⟩ (fun i => wuq_t_hi m c i h r))
      (tab_at m c t q (tab_sinP_hi m c _ h r)))

/-- The normed latent row of a grid point. -/
theorem latent_eq (c : Dev nD) (t : Fin cfg0.N) (q : Fin 256) (j : Fin 256) :
    scaled (Ideal.ofBits FTy.f32 0x43800000#32) (fun i : Fin 256 => colAt m c t q ⟨3712 + i.val, by omega⟩) (fun i => iblk m c 5 t (ix2 0 i)) j
      = latents (proj m c) (gKv m c) (ix3 (batch t) (pos t q) j) := by
  have e1 : (fun i : Fin 256 => colAt m c t q ⟨3712 + i.val, by omega⟩) = fun i : Fin 256 => proj m c (ix3 (batch t) (pos t q) ⟨2756 + i.val, by omega⟩) :=
    funext fun i => col_plain m c t q (fun k => win_ck m c k i) rfl
  have e2 : (fun i : Fin 256 => (iblk m c 5 t (ix2 0 i) : EReal)) = fun i => gKv m c (ix1 i) := funext fun i => blk5 m c t i
  rw [latents_at]
  exact congrArg₂ (fun a b => scaled (Ideal.ofBits FTy.f32 0x43800000#32) a b j) e1 e2

theorem at17 (c : Dev nD) (t : Fin cfg0.N) (q : Fin 256) (j : Fin 256) :
    out0_17 (iblk m c 0 t) (iblk m c 1 t) (iblk m c 2 t) (iblk m c 3 t) (iblk m c 4 t) (iblk m c 5 t) (iblk m c 6 t) (iblk m c 7 t) (ix3 0 q j)
      = latents (proj m c) (gKv m c) (ix3 (batch t) (pos t q) j) := by
  exact (out17_at _ _ _ _ _ _ _ _ q j).trans (latent_eq m c t q j)

theorem at18 (c : Dev nD) (t : Fin cfg0.N) (q : Fin 256) (j : Fin 256) :
    out0_18 (iblk m c 0 t) (iblk m c 1 t) (iblk m c 2 t) (iblk m c 3 t) (iblk m c 4 t) (iblk m c 5 t) (iblk m c 6 t) (iblk m c 7 t) (ix3 0 q j)
      = w18 (proj m c) (gKv m c) (ix3 (batch t) (pos t q) j) := by
  rw [w18_at]
  exact (out18_at _ _ _ _ _ _ _ _ q j).trans (latent_eq m c t q j)

end Cert.FrontIdeal.Start

end
-- ==== Proof.Front.Value.lean ====
/-
  The front's fourteen result arrays are the reference's: every block of each is a grid point's output.
-/
module

public import proofs.«01_k».proof.Proof.Front.Entries

@[expose] public section

set_option maxRecDepth 16384

noncomputable section

namespace Cert.FrontIdeal.Start

open Idealize.ShloMosaic Cert.FrontIdeal Cert.FrontIdeal.Gen Idealize.ShloMosaic.TcCoe
open Idealize.SL.Sem
open Cert.FrontReferenceIdeal.Start (latents w8 w9 w10 w11 w12 w13 w14 w15 w16 w18 w19 w20 w21)

variable (m : (ℓ : Loc nD τ sig) → Buf (Elt Ideal) ℓ)

theorem result8 (c : Dev nD) (hf : Finite m c) : (dats m 0 c).arrAt 8 cfg0.N = w8 (proj m c) := by
  refine (dats m 0 c).arrAt_eq_of_covers 8 _ (by decide +kernel) fun t hf' y => ?_
  blk_simp
  have hy : y = ix3 0 (y 1) (y 2) := by
    funext a
    match a with
    | ⟨0, _⟩ => exact Subsingleton.elim (α := Fin 1) _ _
    | ⟨1, _⟩ => rfl
    | ⟨2, _⟩ => rfl
  rw [after0_8, hy]
  exact (at8 m c hf t (y 1) (y 2)).trans (congrArg (w8 (proj m c)) (emb8 t (y 1) (y 2)).symm)

theorem result9 (c : Dev nD) (hf : Finite m c) : (dats m 0 c).arrAt 9 cfg0.N = w9 (proj m c) := by
  refine (dats m 0 c).arrAt_eq_of_covers 9 _ (by decide +kernel) fun t hf' y => ?_
  blk_simp
  have hy : y = ix3 0 (y 1) (y 2) := by
    funext a
    match a with
    | ⟨0, _⟩ => exact Subsingleton.elim (α := Fin 1) _ _
    | ⟨1, _⟩ => rfl
    | ⟨2, _⟩ => rfl
  rw [after0_9, hy]
  exact (at9 m c hf t (y 1) (y 2)).trans (congrArg (w9 (proj m c)) (emb9 t (y 1) (y 2)).symm)

theorem result10 (c : Dev nD) (hf : Finite m c) : (dats m 0 c).arrAt 10 cfg0.N = w10 (proj m c) := by
  refine (dats m 0 c).arrAt_eq_of_covers 10 _ (by decide +kernel) fun t hf' y => ?_
  blk_simp
  have hy : y = ix3 0 (y 1) (y 2) := by
    funext a
    match a with
    | ⟨0, _⟩ => exact Subsingleton.elim (α := Fin 1) _ _
    | ⟨1, _⟩ => rfl
    | ⟨2, _⟩ => rfl
  rw [after0_10, hy]
  exact (at10 m c hf t (y 1) (y 2)).trans (congrArg (w10 (proj m c)) (emb10 t (y 1) (y 2)).symm)

theorem result11 (c : Dev nD) : (dats m 0 c).arrAt 11 cfg0.N = w11 (proj m c) := by
  refine (dats m 0 c).arrAt_eq_of_covers 11 _ (by decide +kernel) fun t hf' y => ?_
  blk_simp
  have hy : y = ix3 0 (y 1) (y 2) := by
    funext a
    match a with
    | ⟨0, _⟩ => exact Subsingleton.elim (α := Fin 1) _ _
    | ⟨1, _⟩ => rfl
    | ⟨2, _⟩ => rfl
  rw [after0_11, hy]
  exact (at11 m c t (y 1) (y 2)).trans (congrArg (w11 (proj m c)) (emb11 t (y 1) (y 2)).symm)

theorem result12 (c : Dev nD) : (dats m 0 c).arrAt 12 cfg0.N = w12 (proj m c) := by
  refine (dats m 0 c).arrAt_eq_of_covers 12 _ (by decide +kernel) fun t hf' y => ?_
  blk_simp
  have hy : y = ix4 0 0 (y 2) (y 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  rw [after0_12, hy]
  exact (at12 m c t (y 3) (y 2)).trans (congrArg (w12 (proj m c)) (emb12 t (y 2) (y 3)).symm)

theorem result13 (c : Dev nD) : (dats m 0 c).arrAt 13 cfg0.N = w13 (proj m c) := by
  refine (dats m 0 c).arrAt_eq_of_covers 13 _ (by decide +kernel) fun t hf' y => ?_
  blk_simp
  have hy : y = ix3 0 (y 1) (y 2) := by
    funext a
    match a with
    | ⟨0, _⟩ => exact Subsingleton.elim (α := Fin 1) _ _
    | ⟨1, _⟩ => rfl
    | ⟨2, _⟩ => rfl
  rw [after0_13, hy]
  exact (at13 m c t (y 1) (y 2)).trans (congrArg (w13 (proj m c)) (emb13 t (y 1) (y 2)).symm)

theorem result14 (c : Dev nD) (hf : Finite m c) : (dats m 0 c).arrAt 14 cfg0.N = w14 (proj m c) := by
  refine (dats m 0 c).arrAt_eq_of_covers 14 _ (by decide +kernel) fun t hf' y => ?_
  blk_simp
  have hy : y = ix3 0 (y 1) (y 2) := by
    funext a
    match a with
    | ⟨0, _⟩ => exact Subsingleton.elim (α := Fin 1) _ _
    | ⟨1, _⟩ => rfl
    | ⟨2, _⟩ => rfl
  rw [after0_14, hy]
  exact (at14 m c hf t (y 1) (y 2)).trans (congrArg (w14 (proj m c)) (emb14 t (y 1) (y 2)).symm)

theorem result15 (c : Dev nD) : (dats m 0 c).arrAt 15 cfg0.N = w15 (proj m c) (gQ m c) (wUq m c) := by
  refine (dats m 0 c).arrAt_eq_of_covers 15 _ (by decide +kernel) fun t hf' y => ?_
  blk_simp
  have hy : y = ix3 0 (y 1) (y 2) := by
    funext a
    match a with
    | ⟨0, _⟩ => exact Subsingleton.elim (α := Fin 1) _ _
    | ⟨1, _⟩ => rfl
    | ⟨2, _⟩ => rfl
  rw [after0_15, hy]
  exact (at15 m c t (y 1) (y 2)).trans (congrArg (w15 (proj m c) (gQ m c) (wUq m c)) (emb15 t (y 1) (y 2)).symm)

theorem result16 (c : Dev nD) (hf : Finite m c) : (dats m 0 c).arrAt 16 cfg0.N = w16 (proj m c) (gQ m c) (wUq m c) := by
  refine (dats m 0 c).arrAt_eq_of_covers 16 _ (by decide +kernel) fun t hf' y => ?_
  blk_simp
  have hy : y = ix3 0 (y 1) (y 2) := by
    funext a
    match a with
    | ⟨0, _⟩ => exact Subsingleton.elim (α := Fin 1) _ _
    | ⟨1, _⟩ => rfl
    | ⟨2, _⟩ => rfl
  rw [after0_16, hy]
  exact (at16 m c hf t (y 1) (y 2)).trans (congrArg (w16 (proj m c) (gQ m c) (wUq m c)) (emb16 t (y 1) (y 2)).symm)

theorem result17 (c : Dev nD) : (dats m 0 c).arrAt 17 cfg0.N = latents (proj m c) (gKv m c) := by
  refine (dats m 0 c).arrAt_eq_of_covers 17 _ (by decide +kernel) fun t hf' y => ?_
  blk_simp
  have hy : y = ix3 0 (y 1) (y 2) := by
    funext a
    match a with
    | ⟨0, _⟩ => exact Subsingleton.elim (α := Fin 1) _ _
    | ⟨1, _⟩ => rfl
    | ⟨2, _⟩ => rfl
  rw [after0_17, hy]
  exact (at17 m c t (y 1) (y 2)).trans (congrArg (latents (proj m c) (gKv m c)) (emb17 t (y 1) (y 2)).symm)

theorem result18 (c : Dev nD) : (dats m 0 c).arrAt 18 cfg0.N = w18 (proj m c) (gKv m c) := by
  refine (dats m 0 c).arrAt_eq_of_covers 18 _ (by decide +kernel) fun t hf' y => ?_
  blk_simp
  have hy : y = ix3 0 (y 1) (y 2) := by
    funext a
    match a with
    | ⟨0, _⟩ => exact Subsingleton.elim (α := Fin 1) _ _
    | ⟨1, _⟩ => rfl
    | ⟨2, _⟩ => rfl
  rw [after0_18, hy]
  exact (at18 m c t (y 1) (y 2)).trans (congrArg (w18 (proj m c) (gKv m c)) (emb18 t (y 1) (y 2)).symm)

theorem result19 (c : Dev nD) : (dats m 0 c).arrAt 19 cfg0.N = w19 (proj m c) := by
  refine (dats m 0 c).arrAt_eq_of_covers 19 _ (by decide +kernel) fun t hf' y => ?_
  blk_simp
  have hy : y = ix3 0 (y 1) (y 2) := by
    funext a
    match a with
    | ⟨0, _⟩ => exact Subsingleton.elim (α := Fin 1) _ _
    | ⟨1, _⟩ => rfl
    | ⟨2, _⟩ => rfl
  rw [after0_19, hy]
  exact (at19 m c t (y 1) (y 2)).trans (congrArg (w19 (proj m c)) (emb19 t (y 1) (y 2)).symm)

theorem result20 (c : Dev nD) : (dats m 0 c).arrAt 20 cfg0.N = w20 (proj m c) := by
  refine (dats m 0 c).arrAt_eq_of_covers 20 _ (by decide +kernel) fun t hf' y => ?_
  blk_simp
  have hy : y = ix3 0 (y 1) (y 2) := by
    funext a
    match a with
    | ⟨0, _⟩ => exact Subsingleton.elim (α := Fin 1) _ _
    | ⟨1, _⟩ => rfl
    | ⟨2, _⟩ => rfl
  rw [after0_20, hy]
  exact (at20 m c t (y 1) (y 2)).trans (congrArg (w20 (proj m c)) (emb20 t (y 1) (y 2)).symm)

theorem result21 (c : Dev nD) : (dats m 0 c).arrAt 21 cfg0.N = w21 (proj m c) := by
  refine (dats m 0 c).arrAt_eq_of_covers 21 _ (by decide +kernel) fun t hf' y => ?_
  blk_simp
  have hy : y = ix3 0 (y 1) (y 2) := by
    funext a
    match a with
    | ⟨0, _⟩ => exact Subsingleton.elim (α := Fin 1) _ _
    | ⟨1, _⟩ => rfl
    | ⟨2, _⟩ => rfl
  rw [after0_21, hy]
  exact (at21 m c t (y 1) (y 2)).trans (congrArg (w21 (proj m c)) (emb21 t (y 1) (y 2)).symm)

end Cert.FrontIdeal.Start

end
-- ==== Proof.Front.Claims.lean ====
/-
  The claims of the layer's front: its frames, and at exact arithmetic the kernel's fourteen result arrays are the
  reference's, given that the arguments the turned columns are made from are finite.
-/
module

public import proofs.«01_k».proof.Defs
public import proofs.«01_k».proof.Proof.Gen.Front
public import proofs.«01_k».proof.Proof.Gen.Front.Frame
public import proofs.«01_k».proof.Proof.Gen.FrontIdeal.Value
public import proofs.«01_k».proof.Proof.Gen.FrontReferenceIdeal
public import proofs.«01_k».proof.Proof.Front.RefRun
public import proofs.«01_k».proof.Proof.Front.Value
public import Idealize.ShloMosaic.Lib.Quiescent

@[expose] public section

noncomputable section

namespace Cert.FrontIdeal.Start

open Idealize.ShloMosaic Idealize.SL.Sem Cert.FrontIdeal Idealize.ShloMosaic.TcCoe
open Cert.Att (IsReal pos_inf)
open Cert.FrontReferenceIdeal.Start (projOf argOf4 argOf5 argOf6 run_named latents w8 w9 w10 w11 w12 w13 w14 w15 w16 w18 w19 w20 w21)

/-- The precondition's side conditions. -/
theorem finite_front_facts : Cert.Pre_finite_front.Facts := ⟨by decide, by decide, by decide, by decide, by decide, by decide⟩

/-- An array whose magnitudes are all below infinity is real everywhere. -/
theorem real_of_below {s : Shape} (a x : FVec Ideal s .f32) (hx : ∀ y, x y = ⊤) (h : cmpf .olt (Host.absf a) x = fun _ => 1#1) (y : s.Idx) :
    IsReal (a y) := by
  have e : Ideal.cmp .olt (max (a y) (-(a y))) (x y) = 1#1 := congrFun h y
  refine IsReal.of_abs_lt (lt_of_not_ge fun hn => ?_)
  rw [hx, top_le_iff.1 hn] at e
  simp [Ideal.cmp] at e

theorem finite_of_pre (m : (ℓ : Loc nD τ sig) → Buf (Elt Ideal) ℓ) (h : Cert.Pre_FrontIdeal_finite_front (hPre_finite_front := finite_front_facts) m)
    (c : Dev nD) : Finite m c where
  r0 := real_of_below _ _ (fun _ => pos_inf) (h c).1
  r1 := real_of_below _ _ (fun _ => pos_inf) (h c).2.1
  r2 := real_of_below _ _ (fun _ => pos_inf) (h c).2.2.1
  r3 := real_of_below _ _ (fun _ => pos_inf) (h c).2.2.2.1
  r4 := real_of_below _ _ (fun _ => pos_inf) (h c).2.2.2.2.1
  r5 := real_of_below _ _ (fun _ => pos_inf) (h c).2.2.2.2.2

theorem frame_kernel : Cert.quiescent_Front (hFront := Cert.Front.Gen.facts) := fun m g _ => Cert.Front.Gen.frame m g

theorem frame_ideal : Cert.quiescent_FrontIdeal (hFrontIdeal := Cert.FrontIdeal.Gen.facts) := fun m g _ => Cert.FrontIdeal.Gen.frame m g

theorem frame_ideal_pre : Cert.quiescent_FrontIdeal_pre_finite_front (hFrontIdeal := Cert.FrontIdeal.Gen.facts)
    (hPre_finite_front := finite_front_facts) := fun m g _ => Cert.FrontIdeal.Gen.frame m g

/-- The reference has no semaphore, so its counters are at zero. -/
theorem frame_reference : Cert.quiescent_FrontReferenceIdeal (hFrontReferenceIdeal := Cert.FrontReferenceIdeal.Gen.facts) := fun m g _ =>
  (θ_run _ _ _).mono (fun _ h => ⟨fun c => (h c).2.2.2.2.2.2.2.2.2.2.2.2.2.2, sem_eq_zero_of_no_sems (by decide) _⟩) (run_named m g)

theorem frame_reference_pre : Cert.quiescent_FrontReferenceIdeal_pre_finite_front (hFrontReferenceIdeal := Cert.FrontReferenceIdeal.Gen.facts)
    (hPre_finite_front := finite_front_facts) := fun m g _ => frame_reference m g trivial

/-- The kernel's run, its result arrays named. -/
theorem run_kernel (m : (ℓ : Loc nD τ sig) → Buf (Elt Ideal) ℓ) (g : Dev nD → PrngReg)
    (hpre : Cert.Pre_FrontIdeal_finite_front (hPre_finite_front := finite_front_facts) m) :
    θ_run (defs (F := Ideal)) (onTc (τ := τ) (main (F := Ideal))) ⟨m, fun _ => 0, g⟩ fun r => ∀ c : Dev nD,
      r.2.mem ((c.tc : Thread nD τ).loc main_v119_0) = w8 (proj m c)
      ∧ r.2.mem ((c.tc : Thread nD τ).loc main_v119_1) = w9 (proj m c)
      ∧ r.2.mem ((c.tc : Thread nD τ).loc main_v119_2) = w10 (proj m c)
      ∧ r.2.mem ((c.tc : Thread nD τ).loc main_v119_3) = w11 (proj m c)
      ∧ r.2.mem ((c.tc : Thread nD τ).loc main_v119_4) = w12 (proj m c)
      ∧ r.2.mem ((c.tc : Thread nD τ).loc main_v119_5) = w13 (proj m c)
      ∧ r.2.mem ((c.tc : Thread nD τ).loc main_v119_6) = w14 (proj m c)
      ∧ r.2.mem ((c.tc : Thread nD τ).loc main_v119_7) = w15 (proj m c) (gQ m c) (wUq m c)
      ∧ r.2.mem ((c.tc : Thread nD τ).loc main_v119_8) = w16 (proj m c) (gQ m c) (wUq m c)
      ∧ r.2.mem ((c.tc : Thread nD τ).loc main_v119_9) = latents (proj m c) (gKv m c)
      ∧ r.2.mem ((c.tc : Thread nD τ).loc main_v119_10) = w18 (proj m c) (gKv m c)
      ∧ r.2.mem ((c.tc : Thread nD τ).loc main_v119_11) = w19 (proj m c)
      ∧ r.2.mem ((c.tc : Thread nD τ).loc main_v119_12) = w20 (proj m c)
      ∧ r.2.mem ((c.tc : Thread nD τ).loc main_v119_13) = w21 (proj m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun r h c => ⟨(h c).1.trans (result8 m c (finite_of_pre m hpre c)),
    (h c).2.1.trans (result9 m c (finite_of_pre m hpre c)),
    (h c).2.2.1.trans (result10 m c (finite_of_pre m hpre c)),
    (h c).2.2.2.1.trans (result11 m c),
    (h c).2.2.2.2.1.trans (result12 m c),
    (h c).2.2.2.2.2.1.trans (result13 m c),
    (h c).2.2.2.2.2.2.1.trans (result14 m c (finite_of_pre m hpre c)),
    (h c).2.2.2.2.2.2.2.1.trans (result15 m c),
    (h c).2.2.2.2.2.2.2.2.1.trans (result16 m c (finite_of_pre m hpre c)),
    (h c).2.2.2.2.2.2.2.2.2.1.trans (result17 m c),
    (h c).2.2.2.2.2.2.2.2.2.2.1.trans (result18 m c),
    (h c).2.2.2.2.2.2.2.2.2.2.2.1.trans (result19 m c),
    (h c).2.2.2.2.2.2.2.2.2.2.2.2.1.trans (result20 m c),
    (h c).2.2.2.2.2.2.2.2.2.2.2.2.2.1.trans (result21 m c),
    (h c).2.2.2.2.2.2.2.2.2.2.2.2.2.2⟩) (FrontIdeal.Value.run_blocks m g)

/-- At exact arithmetic the kernel's results are the reference's. -/
theorem algebraic : Cert.algebraic_FrontIdeal_FrontReferenceIdeal_pre_finite_front (hFrontIdeal := Cert.FrontIdeal.Gen.facts)
    (hFrontReferenceIdeal := Cert.FrontReferenceIdeal.Gen.facts) (hPre_finite_front := finite_front_facts) := by
  intro m g m' g' hpre hag
  refine ⟨fun c => w8 (proj m c), fun c => w9 (proj m c), fun c => w10 (proj m c), fun c => w11 (proj m c), fun c => w12 (proj m c), fun c => w13 (proj m c), fun c => w14 (proj m c), fun c => w15 (proj m c) (gQ m c) (wUq m c), fun c => w16 (proj m c) (gQ m c) (wUq m c), fun c => latents (proj m c) (gKv m c), fun c => w18 (proj m c) (gKv m c), fun c => w19 (proj m c), fun c => w20 (proj m c), fun c => w21 (proj m c), run_kernel m g hpre, ?_⟩
  refine (θ_run _ _ _).mono (fun r h c => ?_) (run_named m' g')
  obtain ⟨h0, h1, h2, h3, e4, e5, e6⟩ := hag c
  replace e4 : argOf4 m' c = gQ m c := e4
  replace e5 : argOf5 m' c = wUq m c := e5
  replace e6 : argOf6 m' c = gKv m c := e6
  have ep : projOf m' c = proj m c := by
    unfold projOf
    rw [h0, h1, h2, h3]
    rfl
  exact ⟨(h c).1.trans (by rw [ep]),
    (h c).2.1.trans (by rw [ep]),
    (h c).2.2.1.trans (by rw [ep]),
    (h c).2.2.2.1.trans (by rw [ep]),
    (h c).2.2.2.2.1.trans (by rw [ep]),
    (h c).2.2.2.2.2.1.trans (by rw [ep]),
    (h c).2.2.2.2.2.2.1.trans (by rw [ep]),
    (h c).2.2.2.2.2.2.2.1.trans (by rw [ep, e4, e5]),
    (h c).2.2.2.2.2.2.2.2.1.trans (by rw [ep, e4, e5]),
    (h c).2.2.2.2.2.2.2.2.2.1.trans (by rw [ep, e6]),
    (h c).2.2.2.2.2.2.2.2.2.2.1.trans (by rw [ep, e6]),
    (h c).2.2.2.2.2.2.2.2.2.2.2.1.trans (by rw [ep]),
    (h c).2.2.2.2.2.2.2.2.2.2.2.2.1.trans (by rw [ep]),
    (h c).2.2.2.2.2.2.2.2.2.2.2.2.2.1.trans (by rw [ep]),
    (h c).2.2.2.2.2.2.2.2.2.2.2.2.2.2⟩

end Cert.FrontIdeal.Start

end
-- ==== Proof.Mod.Ref.lean ====
/-
  The modulation as the reference computes it, read at an index: the SiLU of a sequence's conditioning against the weight,
  plus the bias. The prompts' rows come first, then the samples'.
-/
module

public import proofs.«01_k».proof.Proof.Gen.ModReferenceIdeal.Run
public import Idealize.ShloMosaic.Lib.Pointwise

@[expose] public section

set_option maxRecDepth 16384

noncomputable section

namespace Cert.ModReferenceIdeal.Cond

open Idealize.ShloMosaic Cert.ModReferenceIdeal Cert.ModReferenceIdeal.Gen

/-- The logistic function. -/
def lgs (x : EReal) : EReal := Ideal.div 1 (1 + Ideal.exp (-x))

/-- One entry of the modulation: the SiLU of a row `x` against a column `w`, plus the bias `b`. -/
def entry (x w : Fin 1024 → EReal) (b : EReal) : EReal := (∑ k, x k * lgs (x k) * w k) + b

/-- The conditioning of sequence `r`: the eight prompts, then the samples. -/
def condAt (p : FVec Ideal S8x1024 .f32) (s : FVec Ideal S128x1024 .f32) (r : Fin 136) (k : Fin 1024) : EReal :=
  if h : r.val < 8 then p (ix2 ⟨r.val, h⟩ k) else s (ix2 ⟨r.val - 8, by omega⟩ k)

/-- Arrays laid side by side, read past the first one. -/
theorem skip {α : Type} {t s : Shape} (a : Fin t.rank) (j : t.Idx) (x : s.Idx → α) (q : (s : Shape) × (s.Idx → α))
    (xs : List ((s : Shape) × (s.Idx → α)))
    (hs : ∀ s' ∈ (⟨s, x⟩ :: q :: xs : List ((s : Shape) × (s.Idx → α))).map (·.1), s'.FitsOff t a) (c : Nat)
    (hc : c < (axisSizes t a (⟨s, x⟩ :: q :: xs)).sum) (c' : Nat) (e : c = s.size (a.cast (hs s List.mem_cons_self).rank_eq.symm) + c') :
    concatenateAt t a j (⟨s, x⟩ :: q :: xs) hs c hc
      = concatenateAt t a j (q :: xs) (fun s' h => hs s' (List.mem_cons_of_mem _ h)) c'
        (by rw [e, axisSizes_cons t a ⟨s, x⟩ (q :: xs) (hs s List.mem_cons_self), List.sum_cons] at hc
            exact Nat.lt_of_add_lt_add_left hc) := by
  subst e
  rw [concatenateAt, dif_neg (Nat.not_lt.2 (Nat.le_add_right ..))]
  congr 1
  exact Nat.add_sub_cancel_left ..

/-- Arrays laid side by side, read in the first one. -/
theorem here {α : Type} {t s : Shape} (a : Fin t.rank) (j : t.Idx) (x : s.Idx → α) (xs : List ((s : Shape) × (s.Idx → α)))
    (hs : ∀ s' ∈ (⟨s, x⟩ :: xs : List ((s : Shape) × (s.Idx → α))).map (·.1), s'.FitsOff t a) (c : Nat)
    (hc : c < (axisSizes t a (⟨s, x⟩ :: xs)).sum) (hlt : c < s.size (a.cast (hs s List.mem_cons_self).rank_eq.symm)) (i : s.Idx)
    (hi : ∀ b : Fin s.rank, (if b.val = a.val then c else (j (b.cast (hs s List.mem_cons_self).rank_eq)).val) = (i b).val) :
    concatenateAt t a j (⟨s, x⟩ :: xs) hs c hc = x i := by
  cases xs with
  | nil =>
    rw [concatenateAt, Shape.Idx.norm_def]
    exact congrArg x (funext fun b => Fin.ext (hi b))
  | cons q xs =>
    rw [concatenateAt, dif_pos hlt, Shape.Idx.norm_def]
    exact congrArg x (funext fun b => Fin.ext (hi b))

/-- The prompts' modulation. -/
def modP (x : FVec Ideal S8x1024 .f32) (w : FVec Ideal S1024x3072 .f32) (b : FVec Ideal S3072 .f32) : FVec Ideal S8x3072 .f32 :=
  addf (Host.dotGeneral dot_S8x1024_S1024x3072_S8x3072_1_0_0_1_n_n none (mulf x (Host.divf (broadcastInDim S8x1024 ![] bcast_S_S8x1024
    (constant S_ .f32 0x3F800000#32)) (addf (broadcastInDim S8x1024 ![] bcast_S_S8x1024 (constant S_ .f32 0x3F800000#32)) (Host.exp
    (Host.negf x))))) w) (broadcastInDim S8x3072 ![0, 1] bcast_S1x3072_S8x3072_0_1 (broadcastInDim S1x3072 ![1] bcast_S3072_S1x3072_1 b))

theorem modP_at (x : FVec Ideal S8x1024 .f32) (w : FVec Ideal S1024x3072 .f32) (b : FVec Ideal S3072 .f32) (r : Fin 8) (n : Fin 3072) :
    modP x w b (ix2 r n) = entry (fun k => x (ix2 r k)) (fun k => w (ix2 k n)) (b (ix1 n)) := by
  pointwise [modP]
  rfl

/-- The samples' modulation. -/
def modS (x : FVec Ideal S128x1024 .f32) (w : FVec Ideal S1024x3072 .f32) (b : FVec Ideal S3072 .f32) : FVec Ideal S128x3072 .f32 :=
  addf (Host.dotGeneral dot_S128x1024_S1024x3072_S128x3072_1_0_0_1_n_n none (mulf x (Host.divf (broadcastInDim S128x1024 ![] bcast_S_S128x1024
    (constant S_ .f32 0x3F800000#32)) (addf (broadcastInDim S128x1024 ![] bcast_S_S128x1024 (constant S_ .f32 0x3F800000#32)) (Host.exp
    (Host.negf x))))) w) (broadcastInDim S128x3072 ![0, 1] bcast_S1x3072_S128x3072_0_1 (broadcastInDim S1x3072 ![1] bcast_S3072_S1x3072_1 b))

theorem modS_at (x : FVec Ideal S128x1024 .f32) (w : FVec Ideal S1024x3072 .f32) (b : FVec Ideal S3072 .f32) (r : Fin 128) (n : Fin 3072) :
    modS x w b (ix2 r n) = entry (fun k => x (ix2 r k)) (fun k => w (ix2 k n)) (b (ix1 n)) := by
  pointwise [modS]
  rfl

theorem cat_lo (u : FVec Ideal S8x3072 .f32) (v : FVec Ideal S128x3072 .f32) (r : Fin 136) (h : r.val < 8) (n : Fin 3072) :
    concatenate S136x3072 0 [⟨S8x3072, u⟩, ⟨S128x3072, v⟩] concatenates_S8x3072_S128x3072_S136x3072_d0 (ix2 r n) = u (ix2 ⟨r.val, h⟩ n) := by
  refine (concatenate_apply S136x3072 0 [⟨S8x3072, u⟩, ⟨S128x3072, v⟩] concatenates_S8x3072_S128x3072_S136x3072_d0 _).trans ?_
  exact here _ _ _ _ _ _ _ h _ (by
    intro b
    match b with
    | ⟨0, _⟩ => rfl
    | ⟨1, _⟩ => rfl)

theorem cat_hi (u : FVec Ideal S8x3072 .f32) (v : FVec Ideal S128x3072 .f32) (r : Fin 136) (h : ¬ r.val < 8) (n : Fin 3072) :
    concatenate S136x3072 0 [⟨S8x3072, u⟩, ⟨S128x3072, v⟩] concatenates_S8x3072_S128x3072_S136x3072_d0 (ix2 r n) = v (ix2 ⟨r.val - 8, by omega⟩ n) := by
  refine (concatenate_apply S136x3072 0 [⟨S8x3072, u⟩, ⟨S128x3072, v⟩] concatenates_S8x3072_S128x3072_S136x3072_d0 _).trans ?_
  refine (skip _ _ _ _ _ _ _ _ (r.val - 8) (by show r.val = 8 + (r.val - 8); omega)).trans ?_
  exact here _ _ _ _ _ _ _ (by show r.val - 8 < 128; omega) _ (by
    intro b
    match b with
    | ⟨0, _⟩ => rfl
    | ⟨1, _⟩ => rfl)

/-- The whole modulation. -/
def modAll (p : FVec Ideal S8x1024 .f32) (s : FVec Ideal S128x1024 .f32) (w : FVec Ideal S1024x3072 .f32) (b : FVec Ideal S3072 .f32) :
    FVec Ideal S136x3072 .f32 :=
  concatenate S136x3072 0 [⟨S8x3072, modP p w b⟩, ⟨S128x3072, modS s w b⟩] concatenates_S8x3072_S128x3072_S136x3072_d0

theorem modAll_at (p : FVec Ideal S8x1024 .f32) (s : FVec Ideal S128x1024 .f32) (w : FVec Ideal S1024x3072 .f32) (b : FVec Ideal S3072 .f32)
    (r : Fin 136) (n : Fin 3072) : modAll p s w b (ix2 r n) = entry (condAt p s r) (fun k => w (ix2 k n)) (b (ix1 n)) := by
  unfold modAll
  by_cases h : r.val < 8
  · rw [cat_lo _ _ r h n, modP_at]
    exact congrArg (fun f => entry f _ _) (funext fun k => by unfold condAt; rw [dif_pos h])
  · rw [cat_hi _ _ r h n, modS_at]
    exact congrArg (fun f => entry f _ _) (funext fun k => by unfold condAt; rw [dif_neg h])

end Cert.ModReferenceIdeal.Cond

end
-- ==== Proof.Mod.Value.lean ====
/-
  The modulation the kernel computes is the reference's: every block of the result is a grid point's output, a third of the
  columns for every sequence.
-/
module

public import proofs.«01_k».proof.Proof.Gen.ModIdeal.Value
public import proofs.«01_k».proof.Proof.Mod.Ref
public import Idealize.ShloMosaic.Lib.Pipeline.ValueKit

@[expose] public section

set_option maxRecDepth 16384

noncomputable section

namespace Cert.ModIdeal.Cond

open Idealize.ShloMosaic Cert.ModIdeal Cert.ModIdeal.Gen Idealize.ShloMosaic.TcCoe
open Idealize.SL.Sem
open Cert.ModReferenceIdeal.Cond (lgs entry condAt skip here modAll modAll_at)

variable (m : (ℓ : Loc nD τ sig) → Buf (Elt Ideal) ℓ)

/-- One element of a grid point's output block. -/
theorem out_at (x0 : Vec Ideal S136x1024 .f32) (x1 : Vec Ideal S1024x1024 .f32) (x2 : Vec Ideal S1x1024 .f32) (r : Fin 136) (n : Fin 1024) :
    out0_3 x0 x1 x2 (ix2 r n) = entry (fun k => x0 (ix2 r k)) (fun k => x1 (ix2 k n)) (x2 (ix2 0 n)) := by
  unfold out0_3
  frame_out
  pointwise [k0_pay1, entry, lgs]
  simp only [zero_sub]

/-- The result's column of a grid point's column `n`. -/
def col (t : Fin cfg0.N) (n : Fin 1024) : Fin 3072 := ⟨1024 * (grid0.coords t 0).val + n.val, by have h : (grid0.coords t 0).val < 3 := (grid0.coords t 0).isLt; omega⟩

theorem idx0 : ∀ t : Fin cfg0.N, win0_0.index t = ![0, 0] ∧ win0_1.index t = ![0, (grid0.coords t 0).val]
    ∧ win0_2.index t = ![0, (grid0.coords t 0).val] ∧ win0_3.index t = ![0, (grid0.coords t 0).val] :=
  (by decide +kernel : ∀ t : Fin grid0.N, _)

theorem emb0 (t : Fin cfg0.N) (r : Fin 136) (k : Fin 1024) : (win0_0.blk t).view.emb (ix2 r k) = ix2 r k := by
  funext a
  apply Fin.ext
  fin_cases a <;> blk_simp <;> rw [(idx0 t).1]
  · show 0 * 136 + r.val = r.val; omega
  · show 0 * 1024 + k.val = k.val; omega

theorem emb1 (t : Fin cfg0.N) (r n : Fin 1024) : (win0_1.blk t).view.emb (ix2 r n) = ix2 r (col t n) := by
  funext a
  apply Fin.ext
  fin_cases a <;> blk_simp <;> rw [(idx0 t).2.1]
  · show 0 * 1024 + r.val = r.val; omega
  · show (grid0.coords t 0).val * 1024 + n.val = 1024 * (grid0.coords t 0).val + n.val; omega

theorem emb2 (t : Fin cfg0.N) (n : Fin 1024) : (win0_2.blk t).view.emb (ix2 0 n) = ix2 0 (col t n) := by
  funext a
  apply Fin.ext
  fin_cases a <;> blk_simp <;> rw [(idx0 t).2.2.1]
  · rfl
  · show (grid0.coords t 0).val * 1024 + n.val = 1024 * (grid0.coords t 0).val + n.val; omega

theorem emb3 (t : Fin cfg0.N) (r : Fin 136) (n : Fin 1024) : (win0_3.blk t).view.emb (ix2 r n) = ix2 r (col t n) := by
  funext a
  apply Fin.ext
  fin_cases a <;> blk_simp <;> rw [(idx0 t).2.2.2]
  · show 0 * 136 + r.val = r.val; omega
  · show (grid0.coords t 0).val * 1024 + n.val = 1024 * (grid0.coords t 0).val + n.val; omega

theorem cat_lo (u : FVec Ideal S8x1024 .f32) (v : FVec Ideal S128x1024 .f32) (r : Fin 136) (h : r.val < 8) (n : Fin 1024) :
    concatenate S136x1024 0 [⟨S8x1024, u⟩, ⟨S128x1024, v⟩] concatenates_S8x1024_S128x1024_S136x1024_d0 (ix2 r n) = u (ix2 ⟨r.val, h⟩ n) := by
  refine (concatenate_apply S136x1024 0 [⟨S8x1024, u⟩, ⟨S128x1024, v⟩] concatenates_S8x1024_S128x1024_S136x1024_d0 _).trans ?_
  exact here _ _ _ _ _ _ _ h _ (by
    intro b
    match b with
    | ⟨0, _⟩ => rfl
    | ⟨1, _⟩ => rfl)

theorem cat_hi (u : FVec Ideal S8x1024 .f32) (v : FVec Ideal S128x1024 .f32) (r : Fin 136) (h : ¬ r.val < 8) (n : Fin 1024) :
    concatenate S136x1024 0 [⟨S8x1024, u⟩, ⟨S128x1024, v⟩] concatenates_S8x1024_S128x1024_S136x1024_d0 (ix2 r n) = v (ix2 ⟨r.val - 8, by omega⟩ n) := by
  refine (concatenate_apply S136x1024 0 [⟨S8x1024, u⟩, ⟨S128x1024, v⟩] concatenates_S8x1024_S128x1024_S136x1024_d0 _).trans ?_
  refine (skip _ _ _ _ _ _ _ _ (r.val - 8) (by show r.val = 8 + (r.val - 8); omega)).trans ?_
  exact here _ _ _ _ _ _ _ (by show r.val - 8 < 128; omega) _ (by
    intro b
    match b with
    | ⟨0, _⟩ => rfl
    | ⟨1, _⟩ => rfl)

/-- The joined conditioning. -/
theorem joined (c : Dev nD) (r : Fin 136) (k : Fin 1024) : V m c main_v0 (ix2 r k)
    = condAt (m ((c.tc : Thread nD τ).loc main_arg0)) (m ((c.tc : Thread nD τ).loc main_arg1)) r k := by
  have hV : V m c main_v0 = concatenate S136x1024 0 [⟨S8x1024, m ((c.tc : Thread nD τ).loc main_arg0)⟩, ⟨S128x1024, m ((c.tc : Thread nD τ).loc main_arg1)⟩]
      concatenates_S8x1024_S128x1024_S136x1024_d0 := by
    entry_read
    rfl
  rw [hV]
  by_cases h : r.val < 8
  · rw [cat_lo _ _ r h k]; unfold condAt; rw [dif_pos h]
  · rw [cat_hi _ _ r h k]; unfold condAt; rw [dif_neg h]

theorem blk0 (c : Dev nD) (t : Fin cfg0.N) (r : Fin 136) (k : Fin 1024) : iblk m c 0 t (ix2 r k)
    = condAt (m ((c.tc : Thread nD τ).loc main_arg0)) (m ((c.tc : Thread nD τ).loc main_arg1)) r k := by
  refine Eq.trans ?_ (joined m c r k)
  unfold iblk
  exact congrArg (V m c main_v0) (emb0 t r k)

theorem blk1 (c : Dev nD) (t : Fin cfg0.N) (r n : Fin 1024) : iblk m c 1 t (ix2 r n) = m ((c.tc : Thread nD τ).loc main_arg2) (ix2 r (col t n)) := by
  refine Eq.trans ?_ (congrFun (V_main_arg2 m c) _)
  unfold iblk
  exact congrArg (V m c main_arg2) (emb1 t r n)

theorem blk2 (c : Dev nD) (t : Fin cfg0.N) (n : Fin 1024) : iblk m c 2 t (ix2 0 n) = m ((c.tc : Thread nD τ).loc main_arg3) (ix1 (col t n)) := by
  have hV : V m c main_v1 (ix2 0 (col t n)) = m ((c.tc : Thread nD τ).loc main_arg3) (ix1 (col t n)) := by
    entry_read
    pointwise
  refine Eq.trans ?_ hV
  unfold iblk
  exact congrArg (V m c main_v1) (emb2 t n)

/-- The reference's result, of the kernel's argument arrays. -/
def want (c : Dev nD) : FVec Ideal Cert.ModReferenceIdeal.S136x3072 .f32 :=
  modAll (m ((c.tc : Thread nD τ).loc main_arg0)) (m ((c.tc : Thread nD τ).loc main_arg1)) (m ((c.tc : Thread nD τ).loc main_arg2))
    (m ((c.tc : Thread nD τ).loc main_arg3))

/-- One element of a grid point's output block. -/
theorem outAt_eq (c : Dev nD) (t : Fin cfg0.N) (r : Fin 136) (n : Fin 1024) :
    out0_3 (iblk m c 0 t) (iblk m c 1 t) (iblk m c 2 t) (ix2 r n) = want m c ((win0_3.blk t).view.emb (ix2 r n)) := by
  rw [emb3, out_at]
  unfold want
  rw [modAll_at]
  simp only [blk0, blk1, blk2]

/-- The result array of the launch. -/
theorem result (c : Dev nD) : (dats m 0 c).arrAt 3 cfg0.N = want m c := by
  refine (dats m 0 c).arrAt_eq_of_covers 3 _ (by decide +kernel) fun t hf y => ?_
  blk_simp
  have hy : y = ix2 (y 0) (y 1) := by
    funext a
    match a with
    | ⟨0, _⟩ => rfl
    | ⟨1, _⟩ => rfl
  rw [after0_3, hy]
  exact outAt_eq m c t (y 0) (y 1)

end Cert.ModIdeal.Cond

end
-- ==== Proof.Mod.Claims.lean ====
/-
  The claims of the modulation: its frames, and at exact arithmetic the kernel's result array is the reference's.
-/
module

public import proofs.«01_k».proof.Defs
public import proofs.«01_k».proof.Proof.Gen.Mod
public import proofs.«01_k».proof.Proof.Gen.Mod.Frame
public import proofs.«01_k».proof.Proof.Gen.ModReferenceIdeal
public import proofs.«01_k».proof.Proof.Mod.Value
public import Idealize.ShloMosaic.Lib.Quiescent

@[expose] public section

noncomputable section

namespace Cert.ModIdeal.Cond

open Idealize.ShloMosaic Idealize.SL.Sem

theorem frame_kernel : Cert.quiescent_Mod (hMod := Cert.Mod.Gen.facts) := fun m g _ => Cert.Mod.Gen.frame m g

theorem frame_ideal : Cert.quiescent_ModIdeal (hModIdeal := Cert.ModIdeal.Gen.facts) := fun m g _ => Cert.ModIdeal.Gen.frame m g

/-- The reference has no semaphore, so its counters are at zero. -/
theorem frame_reference : Cert.quiescent_ModReferenceIdeal (hModReferenceIdeal := Cert.ModReferenceIdeal.Gen.facts) := fun m g _ =>
  (θ_run _ _ _).mono (fun _ h => ⟨fun c => (h c).2, sem_eq_zero_of_no_sems (by decide) _⟩) (ModReferenceIdeal.Value.run m g)

/-- At exact arithmetic the kernel's result is the reference's. -/
theorem algebraic : Cert.algebraic_ModIdeal_ModReferenceIdeal (hModIdeal := Cert.ModIdeal.Gen.facts)
    (hModReferenceIdeal := Cert.ModReferenceIdeal.Gen.facts) := by
  intro m g m' g' _ hag
  refine ⟨want m, (θ_run _ _ _).mono (fun r h c => ⟨(h c).1.trans (result m c), (h c).2⟩) (ModIdeal.Value.run_blocks m g), ?_⟩
  refine (θ_run _ _ _).mono (fun r h c => ⟨((h c).1.trans ?_), (h c).2⟩) (ModReferenceIdeal.Value.run m' g')
  obtain ⟨h0, h1, h2, h3⟩ := hag c
  rw [h0, h1, h2, h3]
  rfl

end Cert.ModIdeal.Cond

end
-- ==== Proof.lean ====
/-
  The claims of the causal latent attention: the kernel's run leaves its arguments alone and its counters at zero
  (`Proof.P.Run` for the kernel as compiled, `Proof.PI.Run` for its idealization), the mask's constant is named, and at exact arithmetic the kernel's result array is the reference's (`Proof.Value`); and the claims of the layer's end (`Proof.Back.Claims`) of its front (`Proof.Front.Claims`) and of the modulation (`Proof.Mod.Claims`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.P.Run
public import proofs.«01_k».proof.Proof.PI.Run
public import proofs.«01_k».proof.Proof.Value
public import proofs.«01_k».proof.Proof.Gen.BackIdeal.Value
public import proofs.«01_k».proof.Proof.Gen.BackReferenceIdeal.Run
public import proofs.«01_k».proof.Proof.Back.Claims
public import proofs.«01_k».proof.Proof.Gen.FrontIdeal.Value
public import proofs.«01_k».proof.Proof.Gen.FrontReferenceIdeal.Run
public import proofs.«01_k».proof.Proof.Front.Claims
public import proofs.«01_k».proof.Proof.Gen.Mod
public import proofs.«01_k».proof.Proof.Gen.Mod.Frame
public import proofs.«01_k».proof.Proof.Gen.ModIdeal.Value
public import proofs.«01_k».proof.Proof.Gen.ModReferenceIdeal
public import proofs.«01_k».proof.Proof.Gen.ModReferenceIdeal.Run
public import proofs.«01_k».proof.Proof.Mod.Claims
public import Idealize.ShloMosaic.Lib.Quiescent
public import Idealize.ShloMosaic.Adequacy
public import Idealize.ShloMosaic.Init

@[expose] public section

noncomputable section

namespace Cert.Proof

open Idealize.ShloMosaic Idealize.SL.Sem

/-- The reference's program has no semaphore, so its counters are at zero. -/
theorem reference_frame (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩
      (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3)
        ∧ r.2.mem ((c.tc : Thread ReferenceIdeal.nD ReferenceIdeal.τ).loc ReferenceIdeal.main_arg4) = m ((c.tc : Thread ReferenceIdeal.nD ReferenceIdeal.τ).loc ReferenceIdeal.main_arg4))
      ∧ r.2.sem = fun _ => 0) :=
  (θ_run _ _ _).mono (fun _ h => ⟨fun c => (h c).2, sem_eq_zero_of_no_sems (by decide) _⟩) (ReferenceIdeal.Value.run m g)

/-- The precondition's side conditions. -/
theorem finite_facts : Cert.Pre_finite.Facts := ⟨by decide, by decide, by decide, by decide, by decide⟩

/-- At exact arithmetic the kernel's result is the reference's. -/
theorem algebraic : Cert.algebraic_KernelIdeal_ReferenceIdeal_pre_finite (hKernelIdeal := Cert.KernelIdeal.Gen.facts)
    (hReferenceIdeal := Cert.ReferenceIdeal.Gen.facts) (hPre_finite := finite_facts) := by
  intro m g m' g' hpre hag
  refine ⟨KernelIdeal.Att.want m, KernelIdeal.Att.run_value m g fun c => KernelIdeal.Att.finite_of_pre (hP := finite_facts) m hpre c, ?_⟩
  refine (θ_run _ _ _).mono (fun r h c => ⟨((h c).1.trans ?_), (h c).2⟩) (ReferenceIdeal.Value.run m' g')
  obtain ⟨h0, h1, h2, h3, h4⟩ := hag c
  rw [ReferenceIdeal.Att.res_eq, h0, h1, h2, h3, h4]
  rfl

theorem claim : Cert.Claim := ⟨Cert.Kernel.Gen.facts, Cert.KernelIdeal.Gen.facts, Cert.ReferenceIdeal.Gen.facts,
  Cert.Back.Gen.facts, Cert.BackIdeal.Gen.facts, Cert.BackReferenceIdeal.Gen.facts,
  Cert.Front.Gen.facts, Cert.FrontIdeal.Gen.facts, Cert.FrontReferenceIdeal.Gen.facts,
  Cert.Mod.Gen.facts, Cert.ModIdeal.Gen.facts, Cert.ModReferenceIdeal.Gen.facts, finite_facts, FrontIdeal.Start.finite_front_facts,
  fun m g _ => Cert.Kernel.Att.frame m g, fun m g _ => Cert.KernelIdeal.Att.frame m g, fun m g _ => Cert.KernelIdeal.Att.frame m g,
  fun m g _ => reference_frame m g, fun m g _ => reference_frame m g,
  BackIdeal.End.frame_kernel, BackIdeal.End.frame_ideal, BackIdeal.End.frame_reference,
  FrontIdeal.Start.frame_kernel, FrontIdeal.Start.frame_ideal, FrontIdeal.Start.frame_ideal_pre, FrontIdeal.Start.frame_reference,
  FrontIdeal.Start.frame_reference_pre, ModIdeal.Cond.frame_kernel, ModIdeal.Cond.frame_ideal, ModIdeal.Cond.frame_reference,
  IdealRules.named_const.statement _ _ _ _ _ rfl, algebraic, trivial, BackIdeal.End.algebraic, trivial,
  FrontIdeal.Start.algebraic, trivial, ModIdeal.Cond.algebraic⟩

end Cert.Proof

end
